-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_v57) = v1 c
          ∧ r.2.mem ((c.tc : Thread Cert.Reference7Ideal.nD Cert.Reference7Ideal.τ).loc Cert.Reference7Ideal.main_v58) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v41) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v19)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v19) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v42) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v16) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v9)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v9) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v26) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x5888 : Shape := ⟨2, ![4096, 5888]⟩
abbrev S4096x256 : Shape := ⟨2, ![4096, 256]⟩
abbrev S2x4x2048 : Shape := ⟨3, ![2, 4, 2048]⟩
abbrev S_ : Shape := ⟨0, ![]⟩

class Facts : Prop where
  bcast_S_S4096x5888 : S_.BroadcastsInDim S4096x5888 (![] : Fin 0 → Fin S4096x5888.rank)
  bcast_S_S4096x256 : S_.BroadcastsInDim S4096x256 (![] : Fin 0 → Fin S4096x256.rank)
  bcast_S_S2x4x2048 : S_.BroadcastsInDim S2x4x2048 (![] : Fin 0 → Fin S2x4x2048.rank)

variable [Facts]

def fn {F : FTy → Type} [FloatOps F] (main_arg0 : FVec F S4096x5888 .f32) (main_arg1 : FVec F S4096x256 .f32) (main_arg2 : FVec F S2x4x2048 .f32) : IVec S4096x5888 1 × IVec S4096x256 1 × IVec S2x4x2048 1 :=
  let main_v0 : FVec F S4096x5888 .f32 := Host.absf main_arg0
  let main_cst : FVec F S_ .f32 := constant S_ .f32 0x7F800000#32
  let main_v1 : FVec F S4096x5888 .f32 := broadcastInDim S4096x5888 ![] bcast_S_S4096x5888 main_cst
  let main_v2 : IVec S4096x5888 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S2x4x2048 .f32 := Host.absf main_arg2
  let main_cst_1 : FVec F S_ .f32 := constant S_ .f32 0x7F800000#32
  let main_v7 : FVec F S2x4x2048 .f32 := broadcastInDim S2x4x2048 ![] bcast_S_S2x4x2048 main_cst_1
  let main_v8 : IVec S2x4x2048 1 := cmpf .olt main_v6 main_v7
  (main_v2, main_v5, main_v8)
-- ==== Pre_finite5.lean ====
abbrev S4096x1024 : Shape := ⟨2, ![4096, 1024]⟩
abbrev S2816x1024 : Shape := ⟨2, ![2816, 1024]⟩
abbrev S4096x2816 : Shape := ⟨2, ![4096, 2816]⟩
abbrev S8x128 : Shape := ⟨2, ![8, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .f32) (main_arg3 : FVec F S4096x2816 .f32) (main_arg4 : FVec F S8x128 .f32) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := Host.absf main_arg3
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  (main_v3, main_v7, main_v10)
-- ==== Pre_finite6.lean ====
abbrev S4096x1024 : Shape := ⟨2, ![4096, 1024]⟩
abbrev S2x2816x1024 : Shape := ⟨3, ![2, 2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2x2816x1024 : S_.BroadcastsInDim S2x2816x1024 (![] : Fin 0 → Fin S2x2816x1024.rank)

variable [Facts]

def fn {F : FTy → Type} [FloatOps F] (main_arg0 : FVec F S4096x1024 .bf16) (main_arg1 : FVec F S2x2816x1024 .bf16) : IVec S4096x1024 1 × IVec S2x2816x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2x2816x1024 .f32 := (extf .f32 · bitsLt_bf16_f32) main_arg1
  let main_v5 : FVec F S2x2816x1024 .f32 := Host.absf main_v4
  let main_cst_0 : FVec F S_ .f32 := constant S_ .f32 0x7F800000#32
  let main_v6 : FVec F S2x2816x1024 .f32 := broadcastInDim S2x2816x1024 ![] bcast_S_S2x2816x1024 main_cst_0
  let main_v7 : IVec S2x2816x1024 1 := cmpf .olt main_v5 main_v6
  (main_v3, main_v7)
-- ==== Kernel.lean ====
abbrev S4096x5888 : Shape := ⟨2, ![4096, 5888]⟩
abbrev S4096x256 : Shape := ⟨2, ![4096, 256]⟩
abbrev S2x4x2048 : Shape := ⟨3, ![2, 4, 2048]⟩
abbrev S2x2048x4x64 : Shape := ⟨4, ![2, 2048, 4, 64]⟩
abbrev S2x4x2048x64 : Shape := ⟨4, ![2, 4, 2048, 64]⟩
abbrev S2x4x128x16x64 : Shape := ⟨5, ![2, 4, 128, 16, 64]⟩
abbrev S2x4x16x128x64 : Shape := ⟨5, ![2, 4, 16, 128, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S2x4x16x128x128 : Shape := ⟨5, ![2, 4, 16, 128, 128]⟩
abbrev S2x4x16x128 : Shape := ⟨4, ![2, 4, 16, 128]⟩
abbrev S2x4x16x128x1 : Shape := ⟨5, ![2, 4, 16, 128, 1]⟩
abbrev S2x4x128x16 : Shape := ⟨4, ![2, 4, 128, 16]⟩
abbrev S2x4x2048x1 : Shape := ⟨4, ![2, 4, 2048, 1]⟩
abbrev S2048x128 : Shape := ⟨2, ![2048, 128]⟩
abbrev S128x256 : Shape := ⟨2, ![128, 256]⟩
abbrev S256x128 : Shape := ⟨2, ![256, 128]⟩
abbrev S1x256 : Shape := ⟨2, ![1, 256]⟩

abbrev nBuf : Space → Nat
  | .hbm => 73
  | .vmem => 18
  | .smem => 0
  | _ => 0

abbrev bufTy : (tb : Table) → Fin (tcTables nBuf tb) → BufTy
  | .hbm, ⟨0, _⟩ => ⟨S4096x5888, .f32⟩
  | .hbm, ⟨1, _⟩ => ⟨S4096x256, .f32⟩
  | .hbm, ⟨2, _⟩ => ⟨S2x4x2048, .f32⟩
  | .hbm, ⟨3, _⟩ => ⟨S4096x256, .f32⟩
  | .hbm, ⟨4, _⟩ => ⟨S2x2048x4x64, .f32⟩
  | .hbm, ⟨5, _⟩ => ⟨S2x4x2048x64, .f32⟩
  | .hbm, ⟨6, _⟩ => ⟨S4096x256, .f32⟩
  | .hbm, ⟨7, _⟩ => ⟨S2x2048x4x64, .f32⟩
  | .hbm, ⟨8, _⟩ => ⟨S2x4x2048x64, .f32⟩
  | .hbm, ⟨9, _⟩ => ⟨S4096x256, .f32⟩
  | .hbm, ⟨10, _⟩ => ⟨S2x2048x4x64, .f32⟩
  | .hbm, ⟨11, _⟩ => ⟨S2x4x2048x64, .f32⟩
  | .hbm, ⟨12, _⟩ => ⟨S2x4x128x16x64, .f32⟩
  | .hbm, ⟨13, _⟩ => ⟨S2x4x16x128x64, .f32⟩
  | .hbm, ⟨14, _⟩ => ⟨S2x4x128x16x64, .f32⟩
  | .hbm, ⟨15, _⟩ => ⟨S2x4x16x128x64, .f32⟩
  | .hbm, ⟨16, _⟩ => ⟨S2x4x128x16x64, .f32⟩
  | .hbm, ⟨17, _⟩ => ⟨S2x4x16x128x64, .f32⟩
  | .hbm, ⟨18, _⟩ => ⟨S128, .i32⟩
  | .hbm, ⟨19, _⟩ => ⟨S1x128, .i32⟩
  | .hbm, ⟨20, _⟩ => ⟨S128x1, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S2x4x16x128x128, .f32⟩
  | .hbm, ⟨29, _⟩ => ⟨S_, .f32⟩
  | .hbm, ⟨30, _⟩ => ⟨S2x4x16x128x128, .f32⟩
  | .hbm, ⟨31, _⟩ => ⟨S2x4x16x128x128, .f32⟩
  | .hbm, ⟨32, _⟩ => ⟨S_, .f32⟩
  | .hbm, ⟨33, _⟩ => ⟨S_, .f32⟩
  | .hbm, ⟨34, _⟩ => ⟨S2x4x16x128x128, .i1⟩
  | .hbm, ⟨35, _⟩ => ⟨S2x4x16x128x128, .f32⟩
  | .hbm, ⟨36, _⟩ => ⟨S2x4x16x128x128, .f32⟩
  | .hbm, ⟨37, _⟩ => ⟨S_, .f32⟩
  | .hbm, ⟨38, _⟩ => ⟨S2x4x16x128, .f32⟩
  | .hbm, ⟨39, _⟩ => ⟨S2x4x16x128x1, .f32⟩
  | .hbm, ⟨40, _⟩ => ⟨S2x4x16x128x128, .f32⟩
  | .hbm, ⟨41, _⟩ => ⟨S2x4x16x128x128, .f32⟩
  | .hbm, ⟨42, _⟩ => ⟨S2x4x16x128x128, .f32⟩
  | .hbm, ⟨43, _⟩ => ⟨S_, .f32⟩
  | .hbm, ⟨44, _⟩ => ⟨S2x4x16x128, .f32⟩
  | .hbm, ⟨45, _⟩ => ⟨S2x4x16x128x64, .f32⟩
  | .hbm, ⟨46, _⟩ => ⟨S2x4x16x128x1, .f32⟩
  | .hbm, ⟨47, _⟩ => ⟨S2x4x16x128x64, .f32⟩
  | .hbm, ⟨48, _⟩ => ⟨S2x4x16x128x64, .f32⟩
  | .hbm, ⟨49, _⟩ => ⟨S2x4x16x128, .f32⟩
  | .hbm, ⟨50, _⟩ => ⟨S2x4x16x128, .f32⟩
  | .hbm, ⟨51, _⟩ => ⟨S2x4x16x128, .f32⟩
  | .hbm, ⟨52, _⟩ => ⟨S2x4x128x16x64, .f32⟩
  | .hbm, ⟨53, _⟩ => ⟨S2x4x2048x64, .f32⟩
  | .hbm, ⟨54, _⟩ => ⟨S2x4x128x16, .f32⟩
  | .hbm, ⟨55, _⟩ => ⟨S2x4x2048, .f32⟩
  | .hbm, ⟨56, _⟩ => ⟨S2x2048x4x64, .f32⟩
  | .hbm, ⟨57, _⟩ => ⟨S2x4x2048x64, .f32⟩
  | .hbm, ⟨58, _⟩ => ⟨S2x4x2048x64, .f32⟩
  | .hbm, ⟨59, _⟩ => ⟨S_, .f32⟩
  | .hbm, ⟨60, _⟩ => ⟨S2x4x2048, .f32⟩
  | .hbm, ⟨61, _⟩ => ⟨S2x4x2048, .f32⟩
  | .hbm, ⟨62, _⟩ => ⟨S2x4x2048x1, .f32⟩
  | .hbm, ⟨63, _⟩ => ⟨S2x4x2048x64, .f32⟩
  | .hbm, ⟨64, _⟩ => ⟨S2x2048x4x64, .f32⟩
  | .hbm, ⟨65, _⟩ => ⟨S4096x256, .f32⟩
  | .hbm, ⟨66, _⟩ => ⟨S2x4x2048x1, .f32⟩
  | .hbm, ⟨67, _⟩ => ⟨S2x4x2048x64, .f32⟩
  | .hbm, ⟨68, _⟩ => ⟨S2x2048x4x64, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S4096x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58_0 : Ref sig .tc := ⟨.hbm, 70, rfl⟩
abbrev main_v58_1 : Ref sig .tc := ⟨.hbm, 71, rfl⟩
abbrev main_v58_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_off1 (k0_t1 : Fin k0_t1_loop.trips) (c0_i32_7 : BitVec 32) : Fin 2 → Nat :=
  let c128_i32_24 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c1_i32_15 : BitVec 32 := 1#32
  let c0_i32_16 : BitVec 32 := 0#32
  let v31 : BitVec 1 := Scalar.cmpi .eq c1_i32_15 c0_i32_16
  let c1_i32_17 : BitVec 32 := 1#32
  let v32 : BitVec 32 := Scalar.select v31 c1_i32_17 c1_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v45 : BitVec 32 := Scalar.muli c128_i32_24 v40
  let c16_i32 : BitVec 32 := 16#32
  let v46 : BitVec 32 := Scalar.muli v45 c16_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c1_i32_8 : BitVec 32 := 1#32
  let c0_i32_11 : BitVec 32 := 0#32
  let v20 : BitVec 1 := Scalar.cmpi .sgt c1_i32_8 c0_i32_11
  let v21 : BitVec 32 := Scalar.extui v20
  let c0_i32_12 : BitVec 32 := 0#32
  let v22 : BitVec 1 := Scalar.cmpi .slt c1_i32_8 c0_i32_12
  let v23 : BitVec 32 := Scalar.extui v22
  let v24 : BitVec 32 := Scalar.subi v21 v23
  let v25 : BitVec 1 := Scalar.cmpi .ne v19 v24
  let v26 : BitVec 32 := Scalar.remsi v13 c1_i32_8
  let c0_i32_13 : BitVec 32 := 0#32
  let v27 : BitVec 1 := Scalar.cmpi .ne v26 c0_i32_13
  let v28 : BitVec 1 := Scalar.andi v25 v27
  let v14 : BitVec 32 := Scalar.divsi v13 c1_i32_8
  let c1_i32_14 : BitVec 32 := 1#32
  let v29 : BitVec 32 := Scalar.subi v14 c1_i32_14
  let v30 : BitVec 32 := Scalar.select v28 v29 v14
  let v47 : BitVec 32 := Scalar.addi v46 v30
  let v268 : Index := Scalar.indexCast v47
  let c0_122 : Index := 0#32
  ![v268.toNat, 0]
def k0_off2 (k0_t1 : Fin k0_t1_loop.trips) (c0_i32_7 : BitVec 32) : Fin 2 → Nat :=
  let c0_i32_23 : BitVec 32 := 0#32
  let c0_i32_22 : BitVec 32 := 0#32
  let c128_i32 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c1_i32_15 : BitVec 32 := 1#32
  let c0_i32_16 : BitVec 32 := 0#32
  let v31 : BitVec 1 := Scalar.cmpi .eq c1_i32_15 c0_i32_16
  let c1_i32_17 : BitVec 32 := 1#32
  let v32 : BitVec 32 := Scalar.select v31 c1_i32_17 c1_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v41 : BitVec 32 := Scalar.muli c128_i32 v40
  let c64_i32_21 : BitVec 32 := 64#32
  let v42 : BitVec 32 := Scalar.subi v41 c64_i32_21
  let v43 : BitVec 32 := Scalar.maxsi c0_i32_22 v42
  let v44 : BitVec 32 := Scalar.minsi c0_i32_23 v43
  let c16_i32_25 : BitVec 32 := 16#32
  let v48 : BitVec 32 := Scalar.muli v44 c16_i32_25
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c1_i32_8 : BitVec 32 := 1#32
  let c0_i32_11 : BitVec 32 := 0#32
  let v20 : BitVec 1 := Scalar.cmpi .sgt c1_i32_8 c0_i32_11
  let v21 : BitVec 32 := Scalar.extui v20
  let c0_i32_12 : BitVec 32 := 0#32
  let v22 : BitVec 1 := Scalar.cmpi .slt c1_i32_8 c0_i32_12
  let v23 : BitVec 32 := Scalar.extui v22
  let v24 : BitVec 32 := Scalar.subi v21 v23
  let v25 : BitVec 1 := Scalar.cmpi .ne v19 v24
  let v26 : BitVec 32 := Scalar.remsi v13 c1_i32_8
  let c0_i32_13 : BitVec 32 := 0#32
  let v27 : BitVec 1 := Scalar.cmpi .ne v26 c0_i32_13
  let v28 : BitVec 1 := Scalar.andi v25 v27
  let v14 : BitVec 32 := Scalar.divsi v13 c1_i32_8
  let c1_i32_14 : BitVec 32 := 1#32
  let v29 : BitVec 32 := Scalar.subi v14 c1_i32_14
  let v30 : BitVec 32 := Scalar.select v28 v29 v14
  let v49 : BitVec 32 := Scalar.addi v48 v30
  let v300 : Index := Scalar.indexCast v49
  let c0_126 : Index := 0#32
  ![v300.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x5888 : Shape := ⟨2, ![4096, 5888]⟩
abbrev S4096x256 : Shape := ⟨2, ![4096, 256]⟩
abbrev S2x4x2048 : Shape := ⟨3, ![2, 4, 2048]⟩
abbrev S2x2048x4x64 : Shape := ⟨4, ![2, 2048, 4, 64]⟩
abbrev S2x4x2048x64 : Shape := ⟨4, ![2, 4, 2048, 64]⟩
abbrev S2x4x128x16x64 : Shape := ⟨5, ![2, 4, 128, 16, 64]⟩
abbrev S2x4x16x128x64 : Shape := ⟨5, ![2, 4, 16, 128, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S2x4x16x128x128 : Shape := ⟨5, ![2, 4, 16, 128, 128]⟩
abbrev S2x4x16x128 : Shape := ⟨4, ![2, 4, 16, 128]⟩
abbrev S2x4x16x128x1 : Shape := ⟨5, ![2, 4, 16, 128, 1]⟩
abbrev S2x4x128x16 : Shape := ⟨4, ![2, 4, 128, 16]⟩
abbrev S2x4x16x64x128 : Shape := ⟨5, ![2, 4, 16, 64, 128]⟩

abbrev nBuf : Space → Nat
  | .hbm => 125
  | .vmem => 0
  | .smem => 0
  | _ => 0

abbrev bufTy : (tb : Table) → Fin (tcTables nBuf tb) → BufTy
  | .hbm, ⟨0, _⟩ => ⟨S4096x5888, .f32⟩
  | .hbm, ⟨1, _⟩ => ⟨S4096x256, .f32⟩
  | .hbm, ⟨2, _⟩ => ⟨S2x4x2048, .f32⟩
  | .hbm, ⟨3, _⟩ => ⟨S4096x256, .f32⟩
  | .hbm, ⟨4, _⟩ => ⟨S2x2048x4x64, .f32⟩
  | .hbm, ⟨5, _⟩ => ⟨S2x4x2048x64, .f32⟩
  | .hbm, ⟨6, _⟩ => ⟨S4096x256, .f32⟩
  | .hbm, ⟨7, _⟩ => ⟨S2x2048x4x64, .f32⟩
  | .hbm, ⟨8, _⟩ => ⟨S2x4x2048x64, .f32⟩
  | .hbm, ⟨9, _⟩ => ⟨S4096x256, .f32⟩
  | .hbm, ⟨10, _⟩ => ⟨S2x2048x4x64, .f32⟩
  | .hbm, ⟨11, _⟩ => ⟨S2x4x2048x64, .f32⟩
  | .hbm, ⟨12, _⟩ => ⟨S2x4x128x16x64, .f32⟩
  | .hbm, ⟨13, _⟩ => ⟨S2x4x16x128x64, .f32⟩
  | .hbm, ⟨14, _⟩ => ⟨S2x4x128x16x64, .f32⟩
  | .hbm, ⟨15, _⟩ => ⟨S2x4x16x128x64, .f32⟩
  | .hbm, ⟨16, _⟩ => ⟨S2x4x128x16x64, .f32⟩
  | .hbm, ⟨17, _⟩ => ⟨S2x4x16x128x64, .f32⟩
  | .hbm, ⟨18, _⟩ => ⟨S128, .i32⟩
  | .hbm, ⟨19, _⟩ => ⟨S1x128, .i32⟩
  | .hbm, ⟨20, _⟩ => ⟨S128x1, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S2x4x16x128x128, .f32⟩
  | .hbm, ⟨29, _⟩ => ⟨S_, .f32⟩
  | .hbm, ⟨30, _⟩ => ⟨S2x4x16x128x128, .f32⟩
  | .hbm, ⟨31, _⟩ => ⟨S2x4x16x128x128, .f32⟩
  | .hbm, ⟨32, _⟩ => ⟨S_, .f32⟩
  | .hbm, ⟨33, _⟩ => ⟨S_, .f32⟩
  | .hbm, ⟨34, _⟩ => ⟨S2x4x16x128x128, .i1⟩
  | .hbm, ⟨35, _⟩ => ⟨S2x4x16x128x128, .f32⟩
  | .hbm, ⟨36, _⟩ => ⟨S2x4x16x128x128, .f32⟩
  | .hbm, ⟨37, _⟩ => ⟨S_, .f32⟩
  | .hbm, ⟨38, _⟩ => ⟨S2x4x16x128x128, .f32⟩
  | .hbm, ⟨39, _⟩ => ⟨S_, .f32⟩
  | .hbm, ⟨40, _⟩ => ⟨S2x4x16x128, .f32⟩
  | .hbm, ⟨41, _⟩ => ⟨S2x4x16x128x1, .f32⟩
  | .hbm, ⟨42, _⟩ => ⟨S2x4x16x128x128, .f32⟩
  | .hbm, ⟨43, _⟩ => ⟨S2x4x16x128x128, .i1⟩
  | .hbm, ⟨44, _⟩ => ⟨S2x4x16x128x128, .f32⟩
  | .hbm, ⟨45, _⟩ => ⟨S_, .f32⟩
  | .hbm, ⟨46, _⟩ => ⟨S2x4x16x128, .f32⟩
  | .hbm, ⟨47, _⟩ => ⟨S2x4x16x128x1, .f32⟩
  | .hbm, ⟨48, _⟩ => ⟨S2x4x16x128x128, .f32⟩
  | .hbm, ⟨49, _⟩ => ⟨S2x4x16x128x128, .f32⟩
  | .hbm, ⟨50, _⟩ => ⟨S2x4x16x128x128, .f32⟩
  | .hbm, ⟨51, _⟩ => ⟨S_, .f32⟩
  | .hbm, ⟨52, _⟩ => ⟨S2x4x16x128, .f32⟩
  | .hbm, ⟨53, _⟩ => ⟨S2x4x16x128x64, .f32⟩
  | .hbm, ⟨54, _⟩ => ⟨S2x4x16x128x1, .f32⟩
  | .hbm, ⟨55, _⟩ => ⟨S2x4x16x128x64, .f32⟩
  | .hbm, ⟨56, _⟩ => ⟨S2x4x16x128x64, .f32⟩
  | .hbm, ⟨57, _⟩ => ⟨S2x4x16x128x1, .f32⟩
  | .hbm, ⟨58, _⟩ => ⟨S_, .f32⟩
  | .hbm, ⟨59, _⟩ => ⟨S2x4x16x128x1, .f32⟩
  | .hbm, ⟨60, _⟩ => ⟨S2x4x16x128x1, .f32⟩
  | .hbm, ⟨61, _⟩ => ⟨S2x4x16x128, .f32⟩
  | .hbm, ⟨62, _⟩ => ⟨S2x4x16x128, .f32⟩
  | .hbm, ⟨63, _⟩ => ⟨S2x4x16x128, .f32⟩
  | .hbm, ⟨64, _⟩ => ⟨S2x4x128x16x64, .f32⟩
  | .hbm, ⟨65, _⟩ => ⟨S2x4x2048x64, .f32⟩
  | .hbm, ⟨66, _⟩ => ⟨S2x4x128x16, .f32⟩
  | .hbm, ⟨67, _⟩ => ⟨S2x4x2048, .f32⟩
  | .hbm, ⟨68, _⟩ => ⟨S2x2048x4x64, .f32⟩
  | .hbm, ⟨69, _⟩ => ⟨S2x4x2048x64, .f32⟩
  | .hbm, ⟨70, _⟩ => ⟨S2x4x128x16, .f32⟩
  | .hbm, ⟨71, _⟩ => ⟨S2x4x16x128, .f32⟩
  | .hbm, ⟨72, _⟩ => ⟨S2x4x128x16x64, .f32⟩
  | .hbm, ⟨73, _⟩ => ⟨S2x4x16x128x64, .f32⟩
  | .hbm, ⟨74, _⟩ => ⟨S2x4x16x128, .f32⟩
  | .hbm, ⟨75, _⟩ => ⟨S2x4x16x128x1, .f32⟩
  | .hbm, ⟨76, _⟩ => ⟨S2x4x16x128x64, .f32⟩
  | .hbm, ⟨77, _⟩ => ⟨S2x4x16x128x64, .f32⟩
  | .hbm, ⟨78, _⟩ => ⟨S2x4x16x128x64, .f32⟩
  | .hbm, ⟨79, _⟩ => ⟨S_, .f32⟩
  | .hbm, ⟨80, _⟩ => ⟨S2x4x16x128, .f32⟩
  | .hbm, ⟨81, _⟩ => ⟨S2x4x16x128x1, .f32⟩
  | .hbm, ⟨82, _⟩ => ⟨S2x4x16x128x1, .f32⟩
  | .hbm, ⟨83, _⟩ => ⟨S2x4x16x128x64, .f32⟩
  | .hbm, ⟨84, _⟩ => ⟨S2x4x16x128x64, .f32⟩
  | .hbm, ⟨85, _⟩ => ⟨S_, .f32⟩
  | .hbm, ⟨86, _⟩ => ⟨S2x4x16x128, .f32⟩
  | .hbm, ⟨87, _⟩ => ⟨S2x4x16x128, .f32⟩
  | .hbm, ⟨88, _⟩ => ⟨S2x4x16x64x128, .f32⟩
  | .hbm, ⟨89, _⟩ => ⟨S2x4x16x128x64, .f32⟩
  | .hbm, ⟨90, _⟩ => ⟨S2x4x16x128x128, .f32⟩
  | .hbm, ⟨91, _⟩ => ⟨S2x4x16x128x128, .f32⟩
  | .hbm, ⟨92, _⟩ => ⟨S2x4x16x128x128, .f32⟩
  | .hbm, ⟨93, _⟩ => ⟨S2x4x16x128x128, .f32⟩
  | .hbm, ⟨94, _⟩ => ⟨S2x4x16x128x128, .f32⟩
  | .hbm, ⟨95, _⟩ => ⟨S_, .f32⟩
  | .hbm, ⟨96, _⟩ => ⟨S2x4x16x128, .f32⟩
  | .hbm, ⟨97, _⟩ => ⟨S2x4x16x128x1, .f32⟩
  | .hbm, ⟨98, _⟩ => ⟨S2x4x16x128x1, .f32⟩
  | .hbm, ⟨99, _⟩ => ⟨S_, .f32⟩
  | .hbm, ⟨100, _⟩ => ⟨S2x4x16x128, .f32⟩
  | .hbm, ⟨101, _⟩ => ⟨S2x4x16x128, .f32⟩
  | .hbm, ⟨102, _⟩ => ⟨S2x4x16x128x128, .f32⟩
  | .hbm, ⟨103, _⟩ => ⟨S2x4x16x128x128, .f32⟩
  | .hbm, ⟨104, _⟩ => ⟨S2x4x16x128x128, .f32⟩
  | .hbm, ⟨105, _⟩ => ⟨S_, .f32⟩
  | .hbm, ⟨106, _⟩ => ⟨S2x4x16x128x128, .f32⟩
  | .hbm, ⟨107, _⟩ => ⟨S2x4x16x128x128, .f32⟩
  | .hbm, ⟨108, _⟩ => ⟨S_, .f32⟩
  | .hbm, ⟨109, _⟩ => ⟨S2x4x16x128x128, .f32⟩
  | .hbm, ⟨110, _⟩ => ⟨S2x4x16x128x128, .f32⟩
  | .hbm, ⟨111, _⟩ => ⟨S2x4x16x128x64, .f32⟩
  | .hbm, ⟨112, _⟩ => ⟨S2x4x16x128x64, .f32⟩
  | .hbm, ⟨113, _⟩ => ⟨S2x4x128x16x64, .f32⟩
  | .hbm, ⟨114, _⟩ => ⟨S2x4x2048x64, .f32⟩
  | .hbm, ⟨115, _⟩ => ⟨S2x4x128x16x64, .f32⟩
  | .hbm, ⟨116, _⟩ => ⟨S2x4x2048x64, .f32⟩
  | .hbm, ⟨117, _⟩ => ⟨S2x4x128x16x64, .f32⟩
  | .hbm, ⟨118, _⟩ => ⟨S2x4x2048x64, .f32⟩
  | .hbm, ⟨119, _⟩ => ⟨S2x2048x4x64, .f32⟩
  | .hbm, ⟨120, _⟩ => ⟨S4096x256, .f32⟩
  | .hbm, ⟨121, _⟩ => ⟨S2x2048x4x64, .f32⟩
  | .hbm, ⟨122, _⟩ => ⟨S4096x256, .f32⟩
  | .hbm, ⟨123, _⟩ => ⟨S2x2048x4x64, .f32⟩
  | .hbm, ⟨124, _⟩ => ⟨S4096x256, .f32⟩
  | _, _ => ⟨S4096x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_v27_1 : Ref sig .tc := ⟨.hbm, 34, rfl⟩
abbrev main_call0_v2 : Ref sig .tc := ⟨.hbm, 35, rfl⟩
abbrev main_v27_0 : Ref sig .tc := ⟨.hbm, 36, rfl⟩
abbrev main_call0_cst : Ref sig .tc := ⟨.hbm, 37, rfl⟩
abbrev main_v27_2 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_call1_cst : Ref sig .tc := ⟨.hbm, 105, rfl⟩
abbrev main_call1_v0 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩

abbrev nD : Nat := 1
abbrev τ : Topo := Topo.v7x

variable {F : FTy → Type} [FloatOps F]
-- ==== Kernel2.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1x1024 : Shape := ⟨2, ![1, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S1x4096x2816, .bf16⟩
  | .hbm, ⟨29, _⟩ => ⟨S4096x2816, .bf16⟩
  | .hbm, ⟨30, _⟩ => ⟨S1x4096x2816, .bf16⟩
  | .hbm, ⟨31, _⟩ => ⟨S4096x2816, .bf16⟩
  | .hbm, ⟨32, _⟩ => ⟨S4096x5632, .bf16⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel3.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4096x2816 : Shape := ⟨3, ![2, 4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S1x4096x2816, .bf16⟩
  | .hbm, ⟨7, _⟩ => ⟨S4096x2816, .bf16⟩
  | .hbm, ⟨8, _⟩ => ⟨S1x4096x2816, .bf16⟩
  | .hbm, ⟨9, _⟩ => ⟨S4096x2816, .bf16⟩
  | .hbm, ⟨10, _⟩ => ⟨S4096x5632, .bf16⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S1x4096x2816 : Shape := ⟨3, ![1, 4096, 2816]⟩
abbrev S2816x1024 : Shape := ⟨2, ![2816, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x2816, .bf16⟩
  | .hbm, ⟨3, _⟩ => ⟨S2816x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S8x128 : Shape := ⟨2, ![8, 128]⟩
abbrev S_ : Shape := ⟨0, ![]⟩
abbrev S1x4096x2816 : Shape := ⟨3, ![1, 4096, 2816]⟩
abbrev S2x4096x2816 : Shape := ⟨3, ![2, 4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 32
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S8x128, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x4096x2816, .f32⟩
  | .hbm, ⟨28, _⟩ => ⟨S1x4096x2816, .f32⟩
  | .hbm, ⟨29, _⟩ => ⟨S2x4096x2816, .f32⟩
  | .hbm, ⟨30, _⟩ => ⟨S2x4096x2816, .bf16⟩
  | .hbm, ⟨31, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S8x128, .f32⟩
  | .local _ .vmem, ⟨7, _⟩ => ⟨S2x1024x1408, .bf16⟩
  | .local _ .vmem, ⟨8, _⟩ => ⟨S2x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4096x1024 : Shape := ⟨2, ![4096, 1024]⟩
abbrev S2816x1024 : Shape := ⟨2, ![2816, 1024]⟩
abbrev S4096x2816 : Shape := ⟨2, ![4096, 2816]⟩
abbrev S8x128 : Shape := ⟨2, ![8, 128]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S8x128, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S2816x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S1024x1024 : Shape := ⟨2, ![1024, 1024]⟩
abbrev S2x1408x1024 : Shape := ⟨3, ![2, 1408, 1024]⟩
abbrev S2x1024x1408 : Shape := ⟨3, ![2, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S2x4096x2816, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x1408, .bf16⟩
  | .local _ .vmem, ⟨7, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x1024 : Shape := ⟨2, ![4096, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S1x2816x1024, .bf16⟩
  | .hbm, ⟨5, _⟩ => ⟨S2816x1024, .bf16⟩
  | .hbm, ⟨6, _⟩ => ⟨S4096x1024, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x1024, .f32⟩
  | .hbm, ⟨11, _⟩ => ⟨S2816x1024, .f32⟩
  | .hbm, ⟨12, _⟩ => ⟨S1024x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1x4096x2816, .f32⟩
  | .hbm, ⟨37, _⟩ => ⟨S1x4096x2816, .f32⟩
  | .hbm, ⟨38, _⟩ => ⟨S2x4096x2816, .f32⟩
  | .hbm, ⟨39, _⟩ => ⟨S2x4096x2816, .bf16⟩
  | .hbm, ⟨40, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v12_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v12_1 : Ref sig .tc := ⟨.hbm, 25, rfl⟩
abbrev main_v12_0 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel7.lean ====
abbrev S1x4096x2304 : Shape := ⟨3, ![1, 4096, 2304]⟩
abbrev S3x4096x512 : Shape := ⟨3, ![3, 4096, 512]⟩
abbrev S2x4096x1024 : Shape := ⟨3, ![2, 4096, 1024]⟩
abbrev S5888x1024 : Shape := ⟨2, ![5888, 1024]⟩
abbrev S4096x1024 : Shape := ⟨2, ![4096, 1024]⟩
abbrev S1024 : Shape := ⟨1, ![1024]⟩
abbrev S1x1024 : Shape := ⟨2, ![1, 1024]⟩
abbrev S1x512x2304 : Shape := ⟨3, ![1, 512, 2304]⟩
abbrev S3x512x512 : Shape := ⟨3, ![3, 512, 512]⟩
abbrev S2x512x1024 : Shape := ⟨3, ![2, 512, 1024]⟩
abbrev S512x1024 : Shape := ⟨2, ![512, 1024]⟩
abbrev S512x2304 : Shape := ⟨2, ![512, 2304]⟩
abbrev S2304x1024 : Shape := ⟨2, ![2304, 1024]⟩
abbrev S1x512x512 : Shape := ⟨3, ![1, 512, 512]⟩
abbrev S512x512 : Shape := ⟨2, ![512, 512]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S1x4096x2304, .bf16⟩
  | .hbm, ⟨1, _⟩ => ⟨S3x4096x512, .f32⟩
  | .hbm, ⟨2, _⟩ => ⟨S2x4096x1024, .bf16⟩
  | .hbm, ⟨3, _⟩ => ⟨S5888x1024, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1x512x2304, .bf16⟩
  | .local _ .vmem, ⟨1, _⟩ => ⟨S1x512x2304, .bf16⟩
  | .local _ .vmem, ⟨2, _⟩ => ⟨S3x512x512, .f32⟩
  | .local _ .vmem, ⟨3, _⟩ => ⟨S3x512x512, .f32⟩
  | .local _ .vmem, ⟨4, _⟩ => ⟨S2x512x1024, .bf16⟩
  | .local _ .vmem, ⟨5, _⟩ => ⟨S2x512x1024, .bf16⟩
  | .local _ .vmem, ⟨6, _⟩ => ⟨S5888x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S1x4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5888x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S1x4096x2304 : Shape := ⟨3, ![1, 4096, 2304]⟩
abbrev S3x4096x512 : Shape := ⟨3, ![3, 4096, 512]⟩
abbrev S2x4096x1024 : Shape := ⟨3, ![2, 4096, 1024]⟩
abbrev S5888x1024 : Shape := ⟨2, ![5888, 1024]⟩
abbrev S4096x1024 : Shape := ⟨2, ![4096, 1024]⟩
abbrev S1024 : Shape := ⟨1, ![1024]⟩
abbrev S1024x5888 : Shape := ⟨2, ![1024, 5888]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5888 : Shape := ⟨2, ![4096, 5888]⟩
abbrev S4096x2304 : Shape := ⟨2, ![4096, 2304]⟩
abbrev S1x4096x512 : Shape := ⟨3, ![1, 4096, 512]⟩
abbrev S4096x512 : Shape := ⟨2, ![4096, 512]⟩
abbrev S1x4096x1024 : Shape := ⟨3, ![1, 4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x2304, .bf16⟩
  | .hbm, ⟨1, _⟩ => ⟨S3x4096x512, .f32⟩
  | .hbm, ⟨2, _⟩ => ⟨S2x4096x1024, .bf16⟩
  | .hbm, ⟨3, _⟩ => ⟨S5888x1024, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S5888x1024, .f32⟩
  | .hbm, ⟨8, _⟩ => ⟨S1024x5888, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5888, .f32⟩
  | .hbm, ⟨30, _⟩ => ⟨S1x4096x2304, .bf16⟩
  | .hbm, ⟨31, _⟩ => ⟨S4096x2304, .bf16⟩
  | .hbm, ⟨32, _⟩ => ⟨S4096x2304, .f32⟩
  | .hbm, ⟨33, _⟩ => ⟨S1x4096x512, .f32⟩
  | .hbm, ⟨34, _⟩ => ⟨S4096x512, .f32⟩
  | .hbm, ⟨35, _⟩ => ⟨S1x4096x512, .f32⟩
  | .hbm, ⟨36, _⟩ => ⟨S4096x512, .f32⟩
  | .hbm, ⟨37, _⟩ => ⟨S1x4096x512, .f32⟩
  | .hbm, ⟨38, _⟩ => ⟨S4096x512, .f32⟩
  | .hbm, ⟨39, _⟩ => ⟨S1x4096x1024, .bf16⟩
  | .hbm, ⟨40, _⟩ => ⟨S4096x1024, .bf16⟩
  | .hbm, ⟨41, _⟩ => ⟨S1x4096x1024, .bf16⟩
  | .hbm, ⟨42, _⟩ => ⟨S4096x1024, .bf16⟩
  | .hbm, ⟨43, _⟩ => ⟨S4096x1024, .f32⟩
  | .hbm, ⟨44, _⟩ => ⟨S4096x1024, .f32⟩
  | .hbm, ⟨45, _⟩ => ⟨S4096x5888, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x1024, .f32⟩
  | _, _ => ⟨S1x4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x4096x2816 : Shape := ⟨3, ![1, 4096, 2816]⟩
abbrev S1x2816x1024 : Shape := ⟨3, ![1, 2816, 1024]⟩
abbrev S1x1024 : Shape := ⟨2, ![1, 1024]⟩
abbrev S1x512x2816 : Shape := ⟨3, ![1, 512, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x4096x2816, .bf16⟩
  | .hbm, ⟨5, _⟩ => ⟨S1x2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x5888 : Shape := ⟨2, ![4096, 5888]⟩
abbrev S2x4096x1024 : Shape := ⟨3, ![2, 4096, 1024]⟩
abbrev S2048x1024 : Shape := ⟨2, ![2048, 1024]⟩
abbrev S256x1024 : Shape := ⟨2, ![256, 1024]⟩
abbrev S2048x256 : Shape := ⟨2, ![2048, 256]⟩
abbrev S2x2048x256 : Shape := ⟨3, ![2, 2048, 256]⟩
abbrev S1x2048x256 : Shape := ⟨3, ![1, 2048, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5888, .f32⟩
  | .hbm, ⟨5, _⟩ => ⟨S4096x1024, .bf16⟩
  | .hbm, ⟨6, _⟩ => ⟨S4096x1024, .bf16⟩
  | .hbm, ⟨7, _⟩ => ⟨S2x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2x2048x256, .bf16⟩
  | .local _ .vmem, ⟨17, _⟩ => ⟨S2x2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S4096x1024 : Shape := ⟨2, ![4096, 1024]⟩
abbrev S1024x1024 : Shape := ⟨2, ![1024, 1024]⟩
abbrev S4096x5888 : Shape := ⟨2, ![4096, 5888]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5888, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S1x4096x1024, .f32⟩
  | .hbm, ⟨50, _⟩ => ⟨S1x4096x1024, .f32⟩
  | .hbm, ⟨51, _⟩ => ⟨S2x4096x1024, .f32⟩
  | .hbm, ⟨52, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel10.lean ====
abbrev S4096x1024 : Shape := ⟨2, ![4096, 1024]⟩
abbrev S1x4096x1024 : Shape := ⟨3, ![1, 4096, 1024]⟩
abbrev S1024x1024 : Shape := ⟨2, ![1024, 1024]⟩
abbrev S1x4096x512 : Shape := ⟨3, ![1, 4096, 512]⟩
abbrev S512x1024 : Shape := ⟨2, ![512, 1024]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1024x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024 : Shape := ⟨1, ![1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x4096x1024, .bf16⟩
  | .hbm, ⟨5, _⟩ => ⟨S1x1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S4096x256 : Shape := ⟨2, ![4096, 256]⟩
abbrev S4096x512 : Shape := ⟨2, ![4096, 512]⟩
abbrev S4096x5888 : Shape := ⟨2, ![4096, 5888]⟩
abbrev S1024x256 : Shape := ⟨2, ![1024, 256]⟩
abbrev S1024x512 : Shape := ⟨2, ![1024, 512]⟩
abbrev S4096x1024 : Shape := ⟨2, ![4096, 1024]⟩
abbrev S2048x256 : Shape := ⟨2, ![2048, 256]⟩
abbrev S2048x512 : Shape := ⟨2, ![2048, 512]⟩
abbrev S256x256 : Shape := ⟨2, ![256, 256]⟩
abbrev S256x512 : Shape := ⟨2, ![256, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x5888, .f32⟩
  | .hbm, ⟨3, _⟩ => ⟨S1024x256, .bf16⟩
  | .hbm, ⟨4, _⟩ => ⟨S1024x512, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x512, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S4096x256 : Shape := ⟨2, ![4096, 256]⟩
abbrev S4096x512 : Shape := ⟨2, ![4096, 512]⟩
abbrev S4096x5888 : Shape := ⟨2, ![4096, 5888]⟩
abbrev S1024x256 : Shape := ⟨2, ![1024, 256]⟩
abbrev S1024x512 : Shape := ⟨2, ![1024, 512]⟩
abbrev S256x1024 : Shape := ⟨2, ![256, 1024]⟩
abbrev S4096x1024 : Shape := ⟨2, ![4096, 1024]⟩
abbrev S512x1024 : Shape := ⟨2, ![512, 1024]⟩
abbrev S4096x2048 : Shape := ⟨2, ![4096, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x5888, .f32⟩
  | .hbm, ⟨3, _⟩ => ⟨S1024x256, .bf16⟩
  | .hbm, ⟨4, _⟩ => ⟨S1024x512, .bf16⟩
  | .hbm, ⟨5, _⟩ => ⟨S1024x256, .f32⟩
  | .hbm, ⟨6, _⟩ => ⟨S256x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S4096x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel13.lean ====
abbrev S4096x1024 : Shape := ⟨2, ![4096, 1024]⟩
abbrev S5888x1024 : Shape := ⟨2, ![5888, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S4096x5888 : Shape := ⟨2, ![4096, 5888]⟩
abbrev S1024x1024 : Shape := ⟨2, ![1024, 1024]⟩
abbrev S2944x1024 : Shape := ⟨2, ![2944, 1024]⟩
abbrev S1024x128 : Shape := ⟨2, ![1024, 128]⟩
abbrev S1024x2944 : Shape := ⟨2, ![1024, 2944]⟩

abbrev nBuf : Space → Nat
  | .hbm => 24
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S5888x1024, .bf16⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S2048, .i32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x128, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S4096x5888, .f32⟩
  | .local _ .vmem, ⟨0, _⟩ => ⟨S1024x1024, .bf16⟩
  | .local _ .vmem, ⟨1, _⟩ => ⟨S1024x1024, .bf16⟩
  | .local _ .vmem, ⟨2, _⟩ => ⟨S2944x1024, .bf16⟩
  | .local _ .vmem, ⟨3, _⟩ => ⟨S2944x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2944, .f32⟩
  | .local _ .vmem, ⟨9, _⟩ => ⟨S1024x2944, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x1024 : Shape := ⟨2, ![4096, 1024]⟩
abbrev S5888x1024 : Shape := ⟨2, ![5888, 1024]⟩
abbrev S1024x5888 : Shape := ⟨2, ![1024, 5888]⟩
abbrev S4096x5888 : Shape := ⟨2, ![4096, 5888]⟩
abbrev S4096x1536 : Shape := ⟨2, ![4096, 1536]⟩
abbrev S2x2048x24x64 : Shape := ⟨4, ![2, 2048, 24, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2x2048x24x32 : Shape := ⟨4, ![2, 2048, 24, 32]⟩
abbrev S1x2048x1x32 : Shape := ⟨4, ![1, 2048, 1, 32]⟩
abbrev S4096x4352 : Shape := ⟨2, ![4096, 4352]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5888x1024, .bf16⟩
  | .hbm, ⟨2, _⟩ => ⟨S4096x1024, .f32⟩
  | .hbm, ⟨3, _⟩ => ⟨S5888x1024, .f32⟩
  | .hbm, ⟨4, _⟩ => ⟨S1024x5888, .f32⟩
  | .hbm, ⟨5, _⟩ => ⟨S4096x5888, .f32⟩
  | .hbm, ⟨6, _⟩ => ⟨S4096x1536, .f32⟩
  | .hbm, ⟨7, _⟩ => ⟨S2x2048x24x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x1x32, .f32⟩
  | .hbm, ⟨25, _⟩ => ⟨S2048x32, .f32⟩
  | .hbm, ⟨26, _⟩ => ⟨S2048x1x32, .f32⟩
  | .hbm, ⟨27, _⟩ => ⟨S2x2048x24x32, .f32⟩
  | .hbm, ⟨28, _⟩ => ⟨S2x2048x24x32, .f32⟩
  | .hbm, ⟨29, _⟩ => ⟨S1x2048x1x32, .f32⟩
  | .hbm, ⟨30, _⟩ => ⟨S2x2048x24x32, .f32⟩
  | .hbm, ⟨31, _⟩ => ⟨S2x2048x24x32, .f32⟩
  | .hbm, ⟨32, _⟩ => ⟨S1x2048x1x32, .f32⟩
  | .hbm, ⟨33, _⟩ => ⟨S2x2048x24x32, .f32⟩
  | .hbm, ⟨34, _⟩ => ⟨S2x2048x24x32, .f32⟩
  | .hbm, ⟨35, _⟩ => ⟨S2x2048x24x32, .f32⟩
  | .hbm, ⟨36, _⟩ => ⟨S1x2048x1x32, .f32⟩
  | .hbm, ⟨37, _⟩ => ⟨S2x2048x24x32, .f32⟩
  | .hbm, ⟨38, _⟩ => ⟨S2x2048x24x32, .f32⟩
  | .hbm, ⟨39, _⟩ => ⟨S1x2048x1x32, .f32⟩
  | .hbm, ⟨40, _⟩ => ⟨S2x2048x24x32, .f32⟩
  | .hbm, ⟨41, _⟩ => ⟨S2x2048x24x32, .f32⟩
  | .hbm, ⟨42, _⟩ => ⟨S2x2048x24x32, .f32⟩
  | .hbm, ⟨43, _⟩ => ⟨S2x2048x24x64, .f32⟩
  | .hbm, ⟨44, _⟩ => ⟨S4096x1536, .f32⟩
  | .hbm, ⟨45, _⟩ => ⟨S4096x4352, .f32⟩
  | .hbm, ⟨46, _⟩ => ⟨S4096x5888, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== Kernel14.lean ====
abbrev S4096x1024 : Shape := ⟨2, ![4096, 1024]⟩
abbrev S1024x256 : Shape := ⟨2, ![1024, 256]⟩
abbrev S1x4096x1024 : Shape := ⟨3, ![1, 4096, 1024]⟩
abbrev S1x1024x256 : Shape := ⟨3, ![1, 1024, 256]⟩
abbrev S4096x256 : Shape := ⟨2, ![4096, 256]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S1x4096x1024, .bf16⟩
  | .hbm, ⟨3, _⟩ => ⟨S1x1024x256, .bf16⟩
  | .hbm, ⟨4, _⟩ => ⟨S4096x256, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x256, .bf16⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x256 : Shape := ⟨2, ![1024, 256]⟩
abbrev S_ : Shape := ⟨0, ![]⟩
abbrev S4096x256 : Shape := ⟨2, ![4096, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S_, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x512 : Shape := ⟨2, ![1024, 512]⟩
abbrev S1x4096x1024 : Shape := ⟨3, ![1, 4096, 1024]⟩
abbrev S1x1024x512 : Shape := ⟨3, ![1, 1024, 512]⟩
abbrev S4096x512 : Shape := ⟨2, ![4096, 512]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S1x4096x1024, .bf16⟩
  | .hbm, ⟨3, _⟩ => ⟨S1x1024x512, .bf16⟩
  | .hbm, ⟨4, _⟩ => ⟨S4096x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S_, .f32⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S4096x256 : Shape := ⟨2, ![4096, 256]⟩
abbrev S1x4096x1024 : Shape := ⟨3, ![1, 4096, 1024]⟩
abbrev S1024x256 : Shape := ⟨2, ![1024, 256]⟩
abbrev S1x4096x512 : Shape := ⟨3, ![1, 4096, 512]⟩
abbrev S512x256 : Shape := ⟨2, ![512, 256]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1x4096x1024, .bf16⟩
  | .hbm, ⟨3, _⟩ => ⟨S1024x256, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x256, .f32⟩
  | .local _ .vmem, ⟨3, _⟩ => ⟨S512x256, .bf16⟩
  | .local _ .vmem, ⟨4, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S_, .f32⟩
  | .hbm, ⟨3, _⟩ => ⟨S1024x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x1024 : Shape := ⟨2, ![4096, 1024]⟩
abbrev S4096x512 : Shape := ⟨2, ![4096, 512]⟩
abbrev S1x4096x1024 : Shape := ⟨3, ![1, 4096, 1024]⟩
abbrev S1024x512 : Shape := ⟨2, ![1024, 512]⟩
abbrev S1x4096x512 : Shape := ⟨3, ![1, 4096, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1x4096x1024, .bf16⟩
  | .hbm, ⟨3, _⟩ => ⟨S1024x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S3x4096x512 : Shape := ⟨3, ![3, 4096, 512]⟩
abbrev S4096x1024 : Shape := ⟨2, ![4096, 1024]⟩
abbrev S5888x1024 : Shape := ⟨2, ![5888, 1024]⟩
abbrev S1x4096x256 : Shape := ⟨3, ![1, 4096, 256]⟩
abbrev S256x1024 : Shape := ⟨2, ![256, 1024]⟩
abbrev S4096x256 : Shape := ⟨2, ![4096, 256]⟩

abbrev nBuf : Space → Nat
  | .hbm => 4
  | .vmem => 5
  | .smem => 0
  | _ => 0

abbrev bufTy : (tb : Table) → Fin (tcTables nBuf tb) → BufTy
  | .hbm, ⟨0, _⟩ => ⟨S3x4096x512, .f32⟩
  | .hbm, ⟨1, _⟩ => ⟨S4096x1024, .bf16⟩
  | .hbm, ⟨2, _⟩ => ⟨S5888x1024, .bf16⟩
  | .hbm, ⟨3, _⟩ => ⟨S5888x1024, .bf16⟩
  | .local _ .vmem, ⟨0, _⟩ => ⟨S1x4096x256, .f32⟩
  | .local _ .vmem, ⟨1, _⟩ => ⟨S1x4096x256, .f32⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S3x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c9_i32 : BitVec 32 := 9#32
  let v1 : BitVec 32 := Scalar.addi c9_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S3x4096x512 : Shape := ⟨3, ![3, 4096, 512]⟩
abbrev S4096x1024 : Shape := ⟨2, ![4096, 1024]⟩
abbrev S5888x1024 : Shape := ⟨2, ![5888, 1024]⟩
abbrev S_ : Shape := ⟨0, ![]⟩
abbrev S1024x1536 : Shape := ⟨2, ![1024, 1536]⟩
abbrev S4096x1536 : Shape := ⟨2, ![4096, 1536]⟩
abbrev S1x4096x512 : Shape := ⟨3, ![1, 4096, 512]⟩
abbrev S4096x512 : Shape := ⟨2, ![4096, 512]⟩
abbrev S1536x1024 : Shape := ⟨2, ![1536, 1024]⟩
abbrev S2304x1024 : Shape := ⟨2, ![2304, 1024]⟩
abbrev S2048x1024 : Shape := ⟨2, ![2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S3x4096x512, .f32⟩
  | .hbm, ⟨1, _⟩ => ⟨S4096x1024, .bf16⟩
  | .hbm, ⟨2, _⟩ => ⟨S5888x1024, .bf16⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S1x4096x512, .f32⟩
  | .hbm, ⟨8, _⟩ => ⟨S4096x512, .f32⟩
  | .hbm, ⟨9, _⟩ => ⟨S1x4096x512, .f32⟩
  | .hbm, ⟨10, _⟩ => ⟨S4096x512, .f32⟩
  | .hbm, ⟨11, _⟩ => ⟨S1x4096x512, .f32⟩
  | .hbm, ⟨12, _⟩ => ⟨S4096x512, .f32⟩
  | .hbm, ⟨13, _⟩ => ⟨S4096x1536, .f32⟩
  | .hbm, ⟨14, _⟩ => ⟨S1536x1024, .f32⟩
  | .hbm, ⟨15, _⟩ => ⟨S1024x1536, .f32⟩
  | .hbm, ⟨16, _⟩ => ⟨S1536x1024, .f32⟩
  | .hbm, ⟨17, _⟩ => ⟨S1536x1024, .bf16⟩
  | .hbm, ⟨18, _⟩ => ⟨S2304x1024, .bf16⟩
  | .hbm, ⟨19, _⟩ => ⟨S2048x1024, .bf16⟩
  | .hbm, ⟨20, _⟩ => ⟨S5888x1024, .bf16⟩
  | _, _ => ⟨S3x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel19.lean ====
abbrev S2x4096x1024 : Shape := ⟨3, ![2, 4096, 1024]⟩
abbrev S4096x1024 : Shape := ⟨2, ![4096, 1024]⟩
abbrev S5888x1024 : Shape := ⟨2, ![5888, 1024]⟩
abbrev S1x4096x256 : Shape := ⟨3, ![1, 4096, 256]⟩
abbrev S256x1024 : Shape := ⟨2, ![256, 1024]⟩
abbrev S4096x256 : Shape := ⟨2, ![4096, 256]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x1024, .bf16⟩
  | .hbm, ⟨1, _⟩ => ⟨S4096x1024, .bf16⟩
  | .hbm, ⟨2, _⟩ => ⟨S5888x1024, .bf16⟩
  | .hbm, ⟨3, _⟩ => ⟨S5888x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c15_i32 : BitVec 32 := 15#32
  let v1 : BitVec 32 := Scalar.addi c15_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2x4096x1024 : Shape := ⟨3, ![2, 4096, 1024]⟩
abbrev S4096x1024 : Shape := ⟨2, ![4096, 1024]⟩
abbrev S5888x1024 : Shape := ⟨2, ![5888, 1024]⟩
abbrev S_ : Shape := ⟨0, ![]⟩
abbrev S1024x2048 : Shape := ⟨2, ![1024, 2048]⟩
abbrev S4096x2048 : Shape := ⟨2, ![4096, 2048]⟩
abbrev S1x4096x1024 : Shape := ⟨3, ![1, 4096, 1024]⟩
abbrev S2048x1024 : Shape := ⟨2, ![2048, 1024]⟩
abbrev S3840x1024 : Shape := ⟨2, ![3840, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S4096x1024, .bf16⟩
  | .hbm, ⟨2, _⟩ => ⟨S5888x1024, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .hbm, ⟨11, _⟩ => ⟨S4096x2048, .bf16⟩
  | .hbm, ⟨12, _⟩ => ⟨S4096x2048, .f32⟩
  | .hbm, ⟨13, _⟩ => ⟨S2048x1024, .f32⟩
  | .hbm, ⟨14, _⟩ => ⟨S1024x2048, .f32⟩
  | .hbm, ⟨15, _⟩ => ⟨S2048x1024, .f32⟩
  | .hbm, ⟨16, _⟩ => ⟨S2048x1024, .bf16⟩
  | .hbm, ⟨17, _⟩ => ⟨S3840x1024, .bf16⟩
  | .hbm, ⟨18, _⟩ => ⟨S5888x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel20.lean ====
abbrev S1x4096x2304 : Shape := ⟨3, ![1, 4096, 2304]⟩
abbrev S4096x1024 : Shape := ⟨2, ![4096, 1024]⟩
abbrev S5888x1024 : Shape := ⟨2, ![5888, 1024]⟩
abbrev S1x4096x768 : Shape := ⟨3, ![1, 4096, 768]⟩
abbrev S768x1024 : Shape := ⟨2, ![768, 1024]⟩
abbrev S4096x768 : Shape := ⟨2, ![4096, 768]⟩
abbrev S2304x1024 : Shape := ⟨2, ![2304, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x2304, .bf16⟩
  | .hbm, ⟨1, _⟩ => ⟨S4096x1024, .bf16⟩
  | .hbm, ⟨2, _⟩ => ⟨S5888x1024, .bf16⟩
  | .hbm, ⟨3, _⟩ => ⟨S2304x1024, .bf16⟩
  | .local _ .vmem, ⟨0, _⟩ => ⟨S1x4096x768, .bf16⟩
  | .local _ .vmem, ⟨1, _⟩ => ⟨S1x4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S1x4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S1x4096x2304 : Shape := ⟨3, ![1, 4096, 2304]⟩
abbrev S4096x1024 : Shape := ⟨2, ![4096, 1024]⟩
abbrev S_ : Shape := ⟨0, ![]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x2304, .bf16⟩
  | .hbm, ⟨1, _⟩ => ⟨S4096x1024, .bf16⟩
  | .hbm, ⟨2, _⟩ => ⟨S_, .f32⟩
  | .hbm, ⟨3, _⟩ => ⟨S1024x2304, .f32⟩
  | .hbm, ⟨4, _⟩ => ⟨S4096x1024, .f32⟩
  | .hbm, ⟨5, _⟩ => ⟨S4096x2304, .f32⟩
  | .hbm, ⟨6, _⟩ => ⟨S4096x2304, .bf16⟩
  | .hbm, ⟨7, _⟩ => ⟨S4096x2304, .f32⟩
  | .hbm, ⟨8, _⟩ => ⟨S2304x1024, .f32⟩
  | .hbm, ⟨9, _⟩ => ⟨S1024x2304, .f32⟩
  | .hbm, ⟨10, _⟩ => ⟨S2304x1024, .f32⟩
  | .hbm, ⟨11, _⟩ => ⟨S2304x1024, .bf16⟩
  | _, _ => ⟨S1x4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S4096x256 : Shape := ⟨2, ![4096, 256]⟩
abbrev S4096x4 : Shape := ⟨2, ![4096, 4]⟩
abbrev S4096x4x1 : Shape := ⟨3, ![4096, 4, 1]⟩
abbrev S4096x4x64 : Shape := ⟨3, ![4096, 4, 64]⟩
abbrev S1024x256 : Shape := ⟨2, ![1024, 256]⟩

abbrev nBuf : Space → Nat
  | .hbm => 16
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x4x1, .f32⟩
  | .hbm, ⟨7, _⟩ => ⟨S4096x4x64, .f32⟩
  | .hbm, ⟨8, _⟩ => ⟨S4096x256, .f32⟩
  | .hbm, ⟨9, _⟩ => ⟨S4096x4x1, .f32⟩
  | .hbm, ⟨10, _⟩ => ⟨S4096x4x64, .f32⟩
  | .hbm, ⟨11, _⟩ => ⟨S4096x256, .f32⟩
  | .hbm, ⟨12, _⟩ => ⟨S4096x4x1, .f32⟩
  | .hbm, ⟨13, _⟩ => ⟨S4096x4x64, .f32⟩
  | .hbm, ⟨14, _⟩ => ⟨S4096x256, .f32⟩
  | .hbm, ⟨15, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x256 : Shape := ⟨2, ![4096, 256]⟩
abbrev S4096x4 : Shape := ⟨2, ![4096, 4]⟩
abbrev S1x4096x4 : Shape := ⟨3, ![1, 4096, 4]⟩
abbrev S3x4096x4 : Shape := ⟨3, ![3, 4096, 4]⟩
abbrev S_ : Shape := ⟨0, ![]⟩
abbrev S4096x4x64 : Shape := ⟨3, ![4096, 4, 64]⟩
abbrev S1x4096x4x64 : Shape := ⟨4, ![1, 4096, 4, 64]⟩
abbrev S3x4096x4x64 : Shape := ⟨4, ![3, 4096, 4, 64]⟩
abbrev S3x4096x4x1 : Shape := ⟨4, ![3, 4096, 4, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S1x4096x4, .f32⟩
  | .hbm, ⟨7, _⟩ => ⟨S1x4096x4, .f32⟩
  | .hbm, ⟨8, _⟩ => ⟨S1x4096x4, .f32⟩
  | .hbm, ⟨9, _⟩ => ⟨S3x4096x4, .f32⟩
  | .hbm, ⟨10, _⟩ => ⟨S_, .f32⟩
  | .hbm, ⟨11, _⟩ => ⟨S4096x4, .f32⟩
  | .hbm, ⟨12, _⟩ => ⟨S_, .f32⟩
  | .hbm, ⟨13, _⟩ => ⟨S4096x4, .f32⟩
  | .hbm, ⟨14, _⟩ => ⟨S4096x4, .f32⟩
  | .hbm, ⟨15, _⟩ => ⟨S1x4096x4, .f32⟩
  | .hbm, ⟨16, _⟩ => ⟨S3x4096x4, .f32⟩
  | .hbm, ⟨17, _⟩ => ⟨S3x4096x4, .f32⟩
  | .hbm, ⟨18, _⟩ => ⟨S3x4096x4, .f32⟩
  | .hbm, ⟨19, _⟩ => ⟨S_, .f32⟩
  | .hbm, ⟨20, _⟩ => ⟨S4096x4, .f32⟩
  | .hbm, ⟨21, _⟩ => ⟨S1x4096x4, .f32⟩
  | .hbm, ⟨22, _⟩ => ⟨S3x4096x4, .f32⟩
  | .hbm, ⟨23, _⟩ => ⟨S3x4096x4, .f32⟩
  | .hbm, ⟨24, _⟩ => ⟨S4096x4x64, .f32⟩
  | .hbm, ⟨25, _⟩ => ⟨S4096x4x64, .f32⟩
  | .hbm, ⟨26, _⟩ => ⟨S4096x4x64, .f32⟩
  | .hbm, ⟨27, _⟩ => ⟨S1x4096x4x64, .f32⟩
  | .hbm, ⟨28, _⟩ => ⟨S1x4096x4x64, .f32⟩
  | .hbm, ⟨29, _⟩ => ⟨S1x4096x4x64, .f32⟩
  | .hbm, ⟨30, _⟩ => ⟨S3x4096x4x64, .f32⟩
  | .hbm, ⟨31, _⟩ => ⟨S3x4096x4x1, .f32⟩
  | .hbm, ⟨32, _⟩ => ⟨S3x4096x4x64, .f32⟩
  | .hbm, ⟨33, _⟩ => ⟨S3x4096x4x64, .f32⟩
  | .hbm, ⟨34, _⟩ => ⟨S_, .f32⟩
  | .hbm, ⟨35, _⟩ => ⟨S4096x4x64, .f32⟩
  | .hbm, ⟨36, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Tile.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.Pipeline.Kit

/-! One tile of the kernel: what it computes from the six tiles it reads. A tile is the 128 rows of one residue class
    modulo 16 of a block of 2048 rows, by the 128 lanes of two heads. -/

@[expose] public section

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

theorem cls_inb (r : Fin 16) : ∀ a, S128x128.size a = 0 ∨ (![r.val, 0] : Fin 2 → ℕ) a + (![16, 1] : Fin 2 → ℕ) a * (S128x128.size a - 1) < S2048x128.size a := by
  revert r; decide +kernel

/-- The rows `r, r + 16, r + 32, …` of a block of 2048 rows: one residue class of the dilation. -/
def cls (r : Fin 16) : Rect S2048x128 := ⟨⟨![r.val, 0], S128x128.size, ![16, 1], cls_inb r⟩, spos_16_1⟩

/-- A block read at one residue class. -/
def tl {α : Type} (r : Fin 16) (X : S2048x128.Idx → α) : S128x128.Idx → α := fun j => X ((cls r).idx j)

/-- A tile with the second head's lanes cleared, above the tile with the first head's lanes cleared. -/
def both (x : FVec F S128x128 .f32) : FVec F S256x128 .bf16 :=
  truncf .bf16 (concatenate S256x128 0
    [⟨S128x128, mulf x (broadcastTo S128x128 (k0_pay1 (F := F)) broadcasts_S1x128_S128x128)⟩,
     ⟨S128x128, mulf x (broadcastTo S128x128 (k0_pay2 (F := F)) broadcasts_S1x128_S128x128)⟩]
    concatenates_S128x128_S128x128_S256x128_d0) bitsLt_bf16_f32

/-- One number per row and head, laid out as one row of 256: the first head's 128, then the second's. -/
def asRow (x : FVec F S128x128 .f32) : FVec F S1x256 .f32 :=
  concatenate S1x256 1
    [⟨S1x128, extractStridedSlice S1x128 ![0, 0] (transpose S128x128 [1, 0] (shapeCast S128x128 x shapeCasts_S128x128_S128x128) transposes_S128x128_p1_0_S128x128) slices_S128x128_o0_0_S1x128⟩,
     ⟨S1x128, extractStridedSlice S1x128 ![64, 0] (transpose S128x128 [1, 0] (shapeCast S128x128 x shapeCasts_S128x128_S128x128) transposes_S128x128_p1_0_S128x128) slices_S128x128_o64_0_S1x128⟩]
    concatenates_S1x128_S1x128_S1x256_d1

/-- The products of a tile's rows with both heads' rows of another: rows by twice the rows. -/
def dots (x : FVec F S128x128 .f32) (y : FVec F S256x128 .bf16) : FVec F S128x256 .f32 :=
  matmul dot_S128x128_S256x128_S128x256_1_1_0_0_n_n none (truncf .bf16 x bitsLt_bf16_f32) y (constant S128x256 .f32 0x00000000#32)

/-- The weights: the exponential of the scaled score less the row's logarithm of the sum, where the mask lets it. -/
def wts (msk : IVec S128x256 1) (q k l : FVec F S128x128 .f32) : FVec F S128x256 .f32 :=
  exp (subf (select msk (mulf (dots k (both q)) (broadcast S128x256 (Scalar.ofBits .f32 0x3E000000#32)))
    (broadcast S128x256 (Named.named κ "mask" 0xF149F2CA#32))) (broadcastTo S128x256 (asRow l) broadcasts_S1x256_S128x256))

/-- The gradient of the scores. -/
def dsc (msk : IVec S128x256 1) (q k v g d l : FVec F S128x128 .f32) : FVec F S128x256 .bf16 :=
  truncf .bf16 (mulf (wts msk q k l) (subf (dots v (both g)) (broadcastTo S128x256 (asRow d) broadcasts_S1x256_S128x256))) bitsLt_bf16_f32

/-- The tile's part of the gradient of `k`, before its scale. -/
def gk (msk : IVec S128x256 1) (q k v g d l : FVec F S128x128 .f32) : FVec F S128x128 .f32 :=
  matmul dot_S128x256_S256x128_S128x128_1_0_0_1_n_n none (dsc msk q k v g d l) (both q) (constant S128x128 .f32 0x00000000#32)

/-- The tile's part of the gradient of `v`. -/
def gv (msk : IVec S128x256 1) (q k g l : FVec F S128x128 .f32) : FVec F S128x128 .f32 :=
  matmul dot_S128x256_S256x128_S128x128_1_0_0_1_n_n none (truncf .bf16 (wts msk q k l) bitsLt_bf16_f32) (both g) (constant S128x128 .f32 0x00000000#32)

/-- Both heads' gradients of `q`, one above the other, before their scale. -/
def gqs (msk : IVec S128x256 1) (q k v g d l : FVec F S128x128 .f32) : FVec F S256x128 .f32 :=
  matmul dot_S128x256_S128x128_S256x128_0_0_1_1_n_n none (dsc msk q k v g d l) (truncf .bf16 k bitsLt_bf16_f32) (constant S256x128 .f32 0x00000000#32)

/-- The tile's gradient of `q`, before its scale: each head's lanes from its own rows. -/
def gq (msk : IVec S128x256 1) (q k v g d l : FVec F S128x128 .f32) : FVec F S128x128 .f32 :=
  addf (mulf (extractStridedSlice S128x128 ![0, 0] (gqs msk q k v g d l) slices_S256x128_o0_0_S128x128)
      (broadcastTo S128x128 (k0_pay1 (F := F)) broadcasts_S1x128_S128x128))
    (mulf (extractStridedSlice S128x128 ![128, 0] (gqs msk q k v g d l) slices_S256x128_o128_0_S128x128)
      (broadcastTo S128x128 (k0_pay2 (F := F)) broadcasts_S1x128_S128x128))

/-- A tile times the scale of the scores. -/
def scl (x : FVec F S128x128 .f32) : FVec F S128x128 .f32 := mulf x (broadcast S128x128 (Scalar.ofBits .f32 0x3E000000#32))

/-- A tile added to what the block held. -/
def more (x y : FVec F S128x128 .f32) : FVec F S128x128 .f32 := addf (shapeCast S128x128 x shapeCasts_S128x128_S128x128) y

/-- The band: keys at most 64 positions of the residue class from the query, for both heads side by side. -/
def band : IVec S128x256 1 := k0_pay5 0#32 0#32

end Cert.KernelIdeal.Body
end
-- ==== Proof.Trip.lean ====
module

public import proofs.«01_k».proof.Proof.Tile

/-! One trip of the kernel's loop: four residue classes, one after the other. -/

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

/-- What a staging buffer holds. -/
abbrev Bf (c : Dev nD) (M : Memref sig .tc .vmem S2048x128 .f32) : Type := Buf (Elt F) (M.view.loc (c : Thread nD τ))
/-- A staging buffer owned whole, with its contents. -/
abbrev pt (c : Dev nD) (M : Memref sig .tc .vmem S2048x128 .f32) (f : Bf (F := F) c M) : sProp 𝕄 :=
  M.view.loc (c : Thread nD τ) ↦{fullShare} f

theorem off1_eq : ∀ (k : Fin k0_t1_loop.trips) (r : Fin 4), k0_off1 k (BitVec.ofNat 32 r.val) = ![4 * k.val + r.val, 0] :=
  (by decide +kernel : ∀ (k : Fin 4) (r : Fin 4), k0_off1 k (BitVec.ofNat 32 r.val) = ![4 * k.val + r.val, 0])
theorem off2_eq : ∀ (k : Fin k0_t1_loop.trips) (r : Fin 4), k0_off2 k (BitVec.ofNat 32 r.val) = ![4 * k.val + r.val, 0] :=
  (by decide +kernel : ∀ (k : Fin 4) (r : Fin 4), k0_off2 k (BitVec.ofNat 32 r.val) = ![4 * k.val + r.val, 0])

instance (k : Fin k0_t1_loop.trips) : ClosedOff (k0_off1 k 0#32) := ⟨![4 * k.val, 0], off1_eq k 0⟩
instance (k : Fin k0_t1_loop.trips) : ClosedOff (k0_off1 k 1#32) := ⟨![4 * k.val + 1, 0], off1_eq k 1⟩
instance (k : Fin k0_t1_loop.trips) : ClosedOff (k0_off1 k 2#32) := ⟨![4 * k.val + 2, 0], off1_eq k 2⟩
instance (k : Fin k0_t1_loop.trips) : ClosedOff (k0_off1 k 3#32) := ⟨![4 * k.val + 3, 0], off1_eq k 3⟩
instance (k : Fin k0_t1_loop.trips) : ClosedOff (k0_off2 k 0#32) := ⟨![4 * k.val, 0], off2_eq k 0⟩
instance (k : Fin k0_t1_loop.trips) : ClosedOff (k0_off2 k 1#32) := ⟨![4 * k.val + 1, 0], off2_eq k 1⟩
instance (k : Fin k0_t1_loop.trips) : ClosedOff (k0_off2 k 2#32) := ⟨![4 * k.val + 2, 0], off2_eq k 2⟩
instance (k : Fin k0_t1_loop.trips) : ClosedOff (k0_off2 k 3#32) := ⟨![4 * k.val + 3, 0], off2_eq k 3⟩

/-- A block's contents after a trip: the classes of the trip hold `w`, the others what they held. -/
def Upd (k : Fin k0_t1_loop.trips) (X Y : FVec F S2048x128 .f32) (w : Fin 16 → FVec F S128x128 .f32) : Prop :=
  ∀ r : Fin 16, tl r Y = if r.val / 4 = k.val then w r else tl r X

theorem cls_disjoint {r r' : Fin 16} (h : r.val ≠ r'.val) (j : S128x128.Idx) : (cls r).idx j ∉ (cls r').set := by
  intro hm
  obtain ⟨t, -, e⟩ := LoadRect.mem_set _ |>.mp hm 0
  have e' : r.val + 16 * (j 0).val = r'.val + 16 * t := e
  omega

/-- A load of a residue class, its rectangle's offset written any way. -/
theorem readAt_cls (v : View sig .tc .vmem S2048x128 .f32) (f : v.ty.Contents (Elt F)) {off : Fin 2 → ℕ} (r : Fin 16) (e : off = ![r.val, 0])
    (inb : ∀ a, S128x128.size a = 0 ∨ off a + (![16, 1] : Fin 2 → ℕ) a * (S128x128.size a - 1) < S2048x128.size a) :
    v.readAt (Elt F) ⟨off, S128x128.size, ![16, 1], inb⟩ f = tl r (v.read (Elt F) f) := by
  subst e; rfl

/-- A write of another residue class is not seen. -/
theorem tl_writes_miss (v : View sig .tc .vmem S2048x128 .f32) (f : v.ty.Contents (Elt F)) (r r' : Fin 16) (w : S128x128.Idx → Elt F .f32)
    (L : List (View.Piece (Elt F) S2048x128 .f32)) (h : r.val ≠ r'.val) :
    tl r (v.read (Elt F) (v.writes (Elt F) f (⟨cls r', w⟩ :: L))) = tl r (v.read (Elt F) (v.writes (Elt F) f L)) := by
  funext j
  exact View.read_writes_cons_miss v f _ L _ fun hm => cls_disjoint h j hm

theorem tl_writes_miss1 (v : View sig .tc .vmem S2048x128 .f32) (f : v.ty.Contents (Elt F)) (r r0 : Fin 16) (w0 : S128x128.Idx → Elt F .f32)
    (h0 : r.val ≠ r0.val) :
    tl r (v.read (Elt F) (v.writes (Elt F) f [⟨cls r0, w0⟩])) = tl r (v.read (Elt F) f) := tl_writes_miss v f r r0 w0 [] h0

theorem tl_writes_miss2 (v : View sig .tc .vmem S2048x128 .f32) (f : v.ty.Contents (Elt F)) (r r0 r1 : Fin 16) (w0 w1 : S128x128.Idx → Elt F .f32)
    (h0 : r.val ≠ r0.val) (h1 : r.val ≠ r1.val) :
    tl r (v.read (Elt F) (v.writes (Elt F) f [⟨cls r1, w1⟩, ⟨cls r0, w0⟩])) = tl r (v.read (Elt F) f) :=
  (tl_writes_miss v f r r1 w1 _ h1).trans (tl_writes_miss1 v f r r0 w0 h0)

theorem tl_writes_miss3 (v : View sig .tc .vmem S2048x128 .f32) (f : v.ty.Contents (Elt F)) (r r0 r1 r2 : Fin 16) (w0 w1 w2 : S128x128.Idx → Elt F .f32)
    (h0 : r.val ≠ r0.val) (h1 : r.val ≠ r1.val) (h2 : r.val ≠ r2.val) :
    tl r (v.read (Elt F) (v.writes (Elt F) f [⟨cls r2, w2⟩, ⟨cls r1, w1⟩, ⟨cls r0, w0⟩])) = tl r (v.read (Elt F) f) :=
  (tl_writes_miss v f r r2 w2 _ h2).trans (tl_writes_miss2 v f r r0 r1 w0 w1 h0 h1)

/-- A write of a residue class, read there. -/
theorem tl_writes_hit (v : View sig .tc .vmem S2048x128 .f32) (f : v.ty.Contents (Elt F)) (L : List (View.Piece (Elt F) S2048x128 .f32)) (r : Fin 16)
    (w : S128x128.Idx → Elt F .f32) :
    tl r (v.read (Elt F) (v.writes (Elt F) f (⟨cls r, w⟩ :: L))) = w := by
  funext j
  exact View.read_writes_cons_emb v f (cls r) w L j

/-- The writes of one trip: the four classes `4 k + j`, from the last to the first. -/
theorem upd_writes (v : View sig .tc .vmem S2048x128 .f32) (f : v.ty.Contents (Elt F)) (k : Fin k0_t1_loop.trips)
    (w : Fin 16 → FVec F S128x128 .f32) (w0 w1 w2 w3 : FVec F S128x128 .f32)
    (b0 : 4 * k.val < 16) (b1 : 4 * k.val + 1 < 16) (b2 : 4 * k.val + 2 < 16) (b3 : 4 * k.val + 3 < 16)
    (e0 : w0 = w ⟨4 * k.val, b0⟩) (e1 : w1 = w ⟨4 * k.val + 1, b1⟩) (e2 : w2 = w ⟨4 * k.val + 2, b2⟩) (e3 : w3 = w ⟨4 * k.val + 3, b3⟩) :
    Upd k (v.read (Elt F) f) (v.read (Elt F) (v.writes (Elt F) f
      [⟨cls ⟨4 * k.val + 3, b3⟩, w3⟩, ⟨cls ⟨4 * k.val + 2, b2⟩, w2⟩, ⟨cls ⟨4 * k.val + 1, b1⟩, w1⟩, ⟨cls ⟨4 * k.val, b0⟩, w0⟩])) w := by
  intro r
  by_cases hr : r.val / 4 = k.val
  · rw [if_pos hr]
    have h4 : r.val = 4 * k.val ∨ r.val = 4 * k.val + 1 ∨ r.val = 4 * k.val + 2 ∨ r.val = 4 * k.val + 3 := by omega
    rcases h4 with h | h | h | h
    · obtain rfl : r = ⟨4 * k.val, b0⟩ := Fin.ext h
      rw [tl_writes_miss _ _ _ _ _ _ (by simp), tl_writes_miss _ _ _ _ _ _ (by simp), tl_writes_miss _ _ _ _ _ _ (by simp), tl_writes_hit, e0]
    · obtain rfl : r = ⟨4 * k.val + 1, b1⟩ := Fin.ext h
      rw [tl_writes_miss _ _ _ _ _ _ (by simp), tl_writes_miss _ _ _ _ _ _ (by simp), tl_writes_hit, e1]
    · obtain rfl : r = ⟨4 * k.val + 2, b2⟩ := Fin.ext h
      rw [tl_writes_miss _ _ _ _ _ _ (by simp), tl_writes_hit, e2]
    · obtain rfl : r = ⟨4 * k.val + 3, b3⟩ := Fin.ext h
      rw [tl_writes_hit, e3]
  · rw [if_neg hr, tl_writes_miss _ _ _ ⟨4 * k.val + 3, b3⟩ _ _ (by simp; omega), tl_writes_miss _ _ _ ⟨4 * k.val + 2, b2⟩ _ _ (by simp; omega),
      tl_writes_miss _ _ _ ⟨4 * k.val + 1, b1⟩ _ _ (by simp; omega), tl_writes_miss _ _ _ ⟨4 * k.val, b0⟩ _ _ (by simp; omega)]
    rfl

set_option sl_exec.closedPieces true in
set_option maxHeartbeats 4000000 in
theorem trip (c : Dev nD) (i : grid0.Coords)
    (a2 : Memref sig .tc .vmem S2048x128 .f32) (h2 : a2.IsWhole) (a3 : Memref sig .tc .vmem S2048x128 .f32) (h3 : a3.IsWhole)
    (a4 : Memref sig .tc .vmem S2048x128 .f32) (h4 : a4.IsWhole) (a5 : Memref sig .tc .vmem S2048x128 .f32) (h5 : a5.IsWhole)
    (a6 : Memref sig .tc .vmem S2048x128 .f32) (h6 : a6.IsWhole) (a7 : Memref sig .tc .vmem S2048x128 .f32) (h7 : a7.IsWhole)
    (a8 : Memref sig .tc .vmem S2048x128 .f32) (h8 : a8.IsWhole) (a9 : Memref sig .tc .vmem S2048x128 .f32) (h9 : a9.IsWhole)
    (a10 : Memref sig .tc .vmem S2048x128 .f32) (h10 : a10.IsWhole)
    (k : Fin k0_t1_loop.trips)
    (f2 : Bf (F := F) c a2) (f3 : Bf (F := F) c a3) (f4 : Bf (F := F) c a4) (f5 : Bf (F := F) c a5)
    (f6 : Bf (F := F) c a6) (f7 : Bf (F := F) c a7) (f8 : Bf (F := F) c a8) (f9 : Bf (F := F) c a9) (f10 : Bf (F := F) c a10)
    (Q : Unit → sProp 𝕄) :
    iprop(pt c a2 f2 ∗ pt c a3 f3 ∗ pt c a4 f4 ∗ pt c a5 f5 ∗ pt c a6 f6 ∗ pt c a7 f7 ∗ pt c a8 f8 ∗ pt c a9 f9 ∗ pt c a10 f10
      ∗ (iprop(pt c a2 f2 ∗ pt c a3 f3 ∗ pt c a4 f4 ∗ pt c a5 f5 ∗ pt c a6 f6 ∗ pt c a7 f7
        ∗ (∃ g8, pt c a8 g8 ∗ ⌜Upd k (a8.view.read (Elt F) f8) (a8.view.read (Elt F) g8) fun r => scl (gq band (tl r (a2.view.read (Elt F) f2)) (tl r (a3.view.read (Elt F) f3)) (tl r (a4.view.read (Elt F) f4))
            (tl r (a5.view.read (Elt F) f5)) (tl r (a6.view.read (Elt F) f6)) (tl r (a7.view.read (Elt F) f7)))⌝)
        ∗ (∃ g9, pt c a9 g9 ∗ ⌜Upd k (a9.view.read (Elt F) f9) (a9.view.read (Elt F) g9) fun r => more (tl r (a9.view.read (Elt F) f9)) (scl (gk band (tl r (a2.view.read (Elt F) f2)) (tl r (a3.view.read (Elt F) f3)) (tl r (a4.view.read (Elt F) f4))
            (tl r (a5.view.read (Elt F) f5)) (tl r (a6.view.read (Elt F) f6)) (tl r (a7.view.read (Elt F) f7))))⌝)
        ∗ (∃ g10, pt c a10 g10 ∗ ⌜Upd k (a10.view.read (Elt F) f10) (a10.view.read (Elt F) g10) fun r => more (tl r (a10.view.read (Elt F) f10)) (gv band (tl r (a2.view.read (Elt F) f2)) (tl r (a3.view.read (Elt F) f3))
            (tl r (a5.view.read (Elt F) f5)) (tl r (a7.view.read (Elt F) f7)))⌝)) -∗ Q ⟨⟩))
    ⊢ wp frame (wpE (defs₀ (F := F)) 𝒱₀ (c : Thread nD τ) none) Set.univ
        (k0_t1_body i a2 h2 a3 h3 a4 h4 a5 h5 a6 h6 a7 h7 a8 h8 a9 h9 a10 h10 k ⟨⟩) Q := by
  have hk : k.val < 4 := k.isLt
  unfold k0_t1_body
  iintro ⟨H2, H3, H4, H5, H6, H7, H8, H9, H10, Hk⟩
  sl_exec
  sl_step
  iapply Hk
  iframe H2; iframe H3; iframe H4; iframe H5; iframe H6; iframe H7
  isplitl [H8]
  · iexists _
    iframe H8
    ipureintro
    refine upd_writes a8.view f8 k _ _ _ _ _ (by omega) (by omega) (by omega) (by omega) ?_ ?_ ?_ ?_
    · beta_reduce
      rw [← readAt_cls a2.view f2 ⟨4 * k.val, by omega⟩ (off1_eq k 0) (k0_off1_inb k 0), ← readAt_cls a3.view f3 ⟨4 * k.val, by omega⟩ (off2_eq k 0) (k0_off2_inb k 0), ← readAt_cls a4.view f4 ⟨4 * k.val, by omega⟩ (off2_eq k 0) (k0_off2_inb k 0), ← readAt_cls a5.view f5 ⟨4 * k.val, by omega⟩ (off1_eq k 0) (k0_off1_inb k 0), ← readAt_cls a6.view f6 ⟨4 * k.val, by omega⟩ (off1_eq k 0) (k0_off1_inb k 0), ← readAt_cls a7.view f7 ⟨4 * k.val, by omega⟩ (off1_eq k 0) (k0_off1_inb k 0)]; rfl
    · beta_reduce
      rw [← readAt_cls a2.view f2 ⟨4 * k.val + 1, by omega⟩ (off1_eq k 1) (k0_off1_inb k 1), ← readAt_cls a3.view f3 ⟨4 * k.val + 1, by omega⟩ (off2_eq k 1) (k0_off2_inb k 1), ← readAt_cls a4.view f4 ⟨4 * k.val + 1, by omega⟩ (off2_eq k 1) (k0_off2_inb k 1), ← readAt_cls a5.view f5 ⟨4 * k.val + 1, by omega⟩ (off1_eq k 1) (k0_off1_inb k 1), ← readAt_cls a6.view f6 ⟨4 * k.val + 1, by omega⟩ (off1_eq k 1) (k0_off1_inb k 1), ← readAt_cls a7.view f7 ⟨4 * k.val + 1, by omega⟩ (off1_eq k 1) (k0_off1_inb k 1)]; rfl
    · beta_reduce
      rw [← readAt_cls a2.view f2 ⟨4 * k.val + 2, by omega⟩ (off1_eq k 2) (k0_off1_inb k 2), ← readAt_cls a3.view f3 ⟨4 * k.val + 2, by omega⟩ (off2_eq k 2) (k0_off2_inb k 2), ← readAt_cls a4.view f4 ⟨4 * k.val + 2, by omega⟩ (off2_eq k 2) (k0_off2_inb k 2), ← readAt_cls a5.view f5 ⟨4 * k.val + 2, by omega⟩ (off1_eq k 2) (k0_off1_inb k 2), ← readAt_cls a6.view f6 ⟨4 * k.val + 2, by omega⟩ (off1_eq k 2) (k0_off1_inb k 2), ← readAt_cls a7.view f7 ⟨4 * k.val + 2, by omega⟩ (off1_eq k 2) (k0_off1_inb k 2)]; rfl
    · beta_reduce
      rw [← readAt_cls a2.view f2 ⟨4 * k.val + 3, by omega⟩ (off1_eq k 3) (k0_off1_inb k 3), ← readAt_cls a3.view f3 ⟨4 * k.val + 3, by omega⟩ (off2_eq k 3) (k0_off2_inb k 3), ← readAt_cls a4.view f4 ⟨4 * k.val + 3, by omega⟩ (off2_eq k 3) (k0_off2_inb k 3), ← readAt_cls a5.view f5 ⟨4 * k.val + 3, by omega⟩ (off1_eq k 3) (k0_off1_inb k 3), ← readAt_cls a6.view f6 ⟨4 * k.val + 3, by omega⟩ (off1_eq k 3) (k0_off1_inb k 3), ← readAt_cls a7.view f7 ⟨4 * k.val + 3, by omega⟩ (off1_eq k 3) (k0_off1_inb k 3)]; rfl
  isplitl [H9]
  · iexists _
    iframe H9
    ipureintro
    refine upd_writes a9.view f9 k _ _ _ _ _ (by omega) (by omega) (by omega) (by omega) ?_ ?_ ?_ ?_
    · beta_reduce
      rw [← readAt_cls a2.view f2 ⟨4 * k.val, by omega⟩ (off1_eq k 0) (k0_off1_inb k 0), ← readAt_cls a3.view f3 ⟨4 * k.val, by omega⟩ (off2_eq k 0) (k0_off2_inb k 0), ← readAt_cls a4.view f4 ⟨4 * k.val, by omega⟩ (off2_eq k 0) (k0_off2_inb k 0), ← readAt_cls a5.view f5 ⟨4 * k.val, by omega⟩ (off1_eq k 0) (k0_off1_inb k 0), ← readAt_cls a6.view f6 ⟨4 * k.val, by omega⟩ (off1_eq k 0) (k0_off1_inb k 0), ← readAt_cls a7.view f7 ⟨4 * k.val, by omega⟩ (off1_eq k 0) (k0_off1_inb k 0), ← readAt_cls a9.view f9 ⟨4 * k.val, by omega⟩ (off2_eq k 0) (k0_off2_inb k 0)]; rfl
    · beta_reduce
      rw [← readAt_cls a2.view f2 ⟨4 * k.val + 1, by omega⟩ (off1_eq k 1) (k0_off1_inb k 1), ← readAt_cls a3.view f3 ⟨4 * k.val + 1, by omega⟩ (off2_eq k 1) (k0_off2_inb k 1), ← readAt_cls a4.view f4 ⟨4 * k.val + 1, by omega⟩ (off2_eq k 1) (k0_off2_inb k 1), ← readAt_cls a5.view f5 ⟨4 * k.val + 1, by omega⟩ (off1_eq k 1) (k0_off1_inb k 1), ← readAt_cls a6.view f6 ⟨4 * k.val + 1, by omega⟩ (off1_eq k 1) (k0_off1_inb k 1), ← readAt_cls a7.view f7 ⟨4 * k.val + 1, by omega⟩ (off1_eq k 1) (k0_off1_inb k 1), ← tl_writes_miss1 a9.view f9 ⟨4 * k.val + 1, by omega⟩ ⟨4 * k.val, by omega⟩ _ (by simp), ← readAt_cls a9.view _ ⟨4 * k.val + 1, by omega⟩ (off2_eq k 1) (k0_off2_inb k 1)]
      rfl
    · beta_reduce
      rw [← readAt_cls a2.view f2 ⟨4 * k.val + 2, by omega⟩ (off1_eq k 2) (k0_off1_inb k 2), ← readAt_cls a3.view f3 ⟨4 * k.val + 2, by omega⟩ (off2_eq k 2) (k0_off2_inb k 2), ← readAt_cls a4.view f4 ⟨4 * k.val + 2, by omega⟩ (off2_eq k 2) (k0_off2_inb k 2), ← readAt_cls a5.view f5 ⟨4 * k.val + 2, by omega⟩ (off1_eq k 2) (k0_off1_inb k 2), ← readAt_cls a6.view f6 ⟨4 * k.val + 2, by omega⟩ (off1_eq k 2) (k0_off1_inb k 2), ← readAt_cls a7.view f7 ⟨4 * k.val + 2, by omega⟩ (off1_eq k 2) (k0_off1_inb k 2), ← tl_writes_miss2 a9.view f9 ⟨4 * k.val + 2, by omega⟩ ⟨4 * k.val, by omega⟩ ⟨4 * k.val + 1, by omega⟩ _ _ (by simp) (by simp), ← readAt_cls a9.view _ ⟨4 * k.val + 2, by omega⟩ (off2_eq k 2) (k0_off2_inb k 2)]
      rfl
    · beta_reduce
      rw [← readAt_cls a2.view f2 ⟨4 * k.val + 3, by omega⟩ (off1_eq k 3) (k0_off1_inb k 3), ← readAt_cls a3.view f3 ⟨4 * k.val + 3, by omega⟩ (off2_eq k 3) (k0_off2_inb k 3), ← readAt_cls a4.view f4 ⟨4 * k.val + 3, by omega⟩ (off2_eq k 3) (k0_off2_inb k 3), ← readAt_cls a5.view f5 ⟨4 * k.val + 3, by omega⟩ (off1_eq k 3) (k0_off1_inb k 3), ← readAt_cls a6.view f6 ⟨4 * k.val + 3, by omega⟩ (off1_eq k 3) (k0_off1_inb k 3), ← readAt_cls a7.view f7 ⟨4 * k.val + 3, by omega⟩ (off1_eq k 3) (k0_off1_inb k 3), ← tl_writes_miss3 a9.view f9 ⟨4 * k.val + 3, by omega⟩ ⟨4 * k.val, by omega⟩ ⟨4 * k.val + 1, by omega⟩ ⟨4 * k.val + 2, by omega⟩ _ _ _ (by simp) (by simp) (by simp), ← readAt_cls a9.view _ ⟨4 * k.val + 3, by omega⟩ (off2_eq k 3) (k0_off2_inb k 3)]
      rfl
  · iexists _
    iframe H10
    ipureintro
    refine upd_writes a10.view f10 k _ _ _ _ _ (by omega) (by omega) (by omega) (by omega) ?_ ?_ ?_ ?_
    · beta_reduce
      rw [← readAt_cls a2.view f2 ⟨4 * k.val, by omega⟩ (off1_eq k 0) (k0_off1_inb k 0), ← readAt_cls a3.view f3 ⟨4 * k.val, by omega⟩ (off2_eq k 0) (k0_off2_inb k 0), ← readAt_cls a5.view f5 ⟨4 * k.val, by omega⟩ (off1_eq k 0) (k0_off1_inb k 0), ← readAt_cls a7.view f7 ⟨4 * k.val, by omega⟩ (off1_eq k 0) (k0_off1_inb k 0), ← readAt_cls a10.view f10 ⟨4 * k.val, by omega⟩ (off2_eq k 0) (k0_off2_inb k 0)]; rfl
    · beta_reduce
      rw [← readAt_cls a2.view f2 ⟨4 * k.val + 1, by omega⟩ (off1_eq k 1) (k0_off1_inb k 1), ← readAt_cls a3.view f3 ⟨4 * k.val + 1, by omega⟩ (off2_eq k 1) (k0_off2_inb k 1), ← readAt_cls a5.view f5 ⟨4 * k.val + 1, by omega⟩ (off1_eq k 1) (k0_off1_inb k 1), ← readAt_cls a7.view f7 ⟨4 * k.val + 1, by omega⟩ (off1_eq k 1) (k0_off1_inb k 1), ← tl_writes_miss1 a10.view f10 ⟨4 * k.val + 1, by omega⟩ ⟨4 * k.val, by omega⟩ _ (by simp), ← readAt_cls a10.view _ ⟨4 * k.val + 1, by omega⟩ (off2_eq k 1) (k0_off2_inb k 1)]
      rfl
    · beta_reduce
      rw [← readAt_cls a2.view f2 ⟨4 * k.val + 2, by omega⟩ (off1_eq k 2) (k0_off1_inb k 2), ← readAt_cls a3.view f3 ⟨4 * k.val + 2, by omega⟩ (off2_eq k 2) (k0_off2_inb k 2), ← readAt_cls a5.view f5 ⟨4 * k.val + 2, by omega⟩ (off1_eq k 2) (k0_off1_inb k 2), ← readAt_cls a7.view f7 ⟨4 * k.val + 2, by omega⟩ (off1_eq k 2) (k0_off1_inb k 2), ← tl_writes_miss2 a10.view f10 ⟨4 * k.val + 2, by omega⟩ ⟨4 * k.val, by omega⟩ ⟨4 * k.val + 1, by omega⟩ _ _ (by simp) (by simp), ← readAt_cls a10.view _ ⟨4 * k.val + 2, by omega⟩ (off2_eq k 2) (k0_off2_inb k 2)]
      rfl
    · beta_reduce
      rw [← readAt_cls a2.view f2 ⟨4 * k.val + 3, by omega⟩ (off1_eq k 3) (k0_off1_inb k 3), ← readAt_cls a3.view f3 ⟨4 * k.val + 3, by omega⟩ (off2_eq k 3) (k0_off2_inb k 3), ← readAt_cls a5.view f5 ⟨4 * k.val + 3, by omega⟩ (off1_eq k 3) (k0_off1_inb k 3), ← readAt_cls a7.view f7 ⟨4 * k.val + 3, by omega⟩ (off1_eq k 3) (k0_off1_inb k 3), ← tl_writes_miss3 a10.view f10 ⟨4 * k.val + 3, by omega⟩ ⟨4 * k.val, by omega⟩ ⟨4 * k.val + 1, by omega⟩ ⟨4 * k.val + 2, by omega⟩ _ _ _ (by simp) (by simp) (by simp), ← readAt_cls a10.view _ ⟨4 * k.val + 3, by omega⟩ (off2_eq k 3) (k0_off2_inb k 3)]
      rfl

end Cert.KernelIdeal.Body
end
-- ==== Proof.Body.lean ====
module

public import proofs.«01_k».proof.Proof.Trip
public import Idealize.ShloMosaic.Lib.Scf
public import Idealize.ShloMosaic.Lib.ValueIdx
public import Idealize.ShloMosaic.Lib.VecWindow

/-! The kernel's body: zeros stored in two of its results, then the loop over the residue classes. -/

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- A block from its sixteen residue classes. -/
def glue (w : Fin 16 → FVec F S128x128 .f32) : FVec F S2048x128 .f32 := fun x =>
  w ⟨(x 0).val % 16, Nat.mod_lt _ (by norm_num)⟩
    (ValueIdx.ix2 ⟨(x 0).val / 16, by have : (x 0).val < 2048 := (x 0).isLt; omega⟩ (x 1))

theorem eq_glue {X : FVec F S2048x128 .f32} {w : Fin 16 → FVec F S128x128 .f32} (h : ∀ r, tl r X = w r) : X = glue w := by
  funext x
  have hx : (x 0).val < 2048 := (x 0).isLt
  unfold glue
  rw [← h]
  unfold tl
  congr 1
  funext a
  apply Fin.ext
  match a with
  | ⟨0, _⟩ =>
    show (x 0).val = (x 0).val % 16 + 16 * ((x 0).val / 16)
    omega
  | ⟨1, _⟩ =>
    show (x 1).val = 0 + 1 * (x 1).val
    omega

/-- The zero tile. -/
def zt : FVec F S128x128 .f32 := broadcast S128x128 (Scalar.ofBits .f32 0x00000000#32)

theorem tl_pay3 (r : Fin 16) : tl r (k0_pay3 (F := F)) = zt := rfl
theorem tl_pay4 (r : Fin 16) : tl r (k0_pay4 (F := F)) = zt := rfl

/-- The three results' classes, from the six inputs' blocks. -/
def wq (X2 X3 X4 X5 X6 X7 : FVec F S2048x128 .f32) (r : Fin 16) : FVec F S128x128 .f32 :=
  scl (gq band (tl r X2) (tl r X3) (tl r X4) (tl r X5) (tl r X6) (tl r X7))
def wk (X2 X3 X4 X5 X6 X7 : FVec F S2048x128 .f32) (r : Fin 16) : FVec F S128x128 .f32 :=
  more zt (scl (gk band (tl r X2) (tl r X3) (tl r X4) (tl r X5) (tl r X6) (tl r X7)))
def wv (X2 X3 X5 X7 : FVec F S2048x128 .f32) (r : Fin 16) : FVec F S128x128 .f32 :=
  more zt (gv band (tl r X2) (tl r X3) (tl r X5) (tl r X7))

/-- Before trip `k`: the classes below `4 k` are done, the others of the last two results still zero. -/
def Done (X2 X3 X4 X5 X6 X7 : FVec F S2048x128 .f32) (k : ℕ) (Y8 Y9 Y10 : FVec F S2048x128 .f32) : Prop :=
  ∀ r : Fin 16,
    (r.val / 4 < k → tl r Y8 = wq X2 X3 X4 X5 X6 X7 r ∧ tl r Y9 = wk X2 X3 X4 X5 X6 X7 r ∧ tl r Y10 = wv X2 X3 X5 X7 r)
    ∧ (¬ r.val / 4 < k → tl r Y9 = zt ∧ tl r Y10 = zt)

theorem Done.next {X2 X3 X4 X5 X6 X7 : FVec F S2048x128 .f32} {k : Fin k0_t1_loop.trips} {Y8 Y9 Y10 Z8 Z9 Z10 : FVec F S2048x128 .f32}
    (h : Done X2 X3 X4 X5 X6 X7 k.val Y8 Y9 Y10)
    (e8 : Upd k Y8 Z8 fun r => scl (gq band (tl r X2) (tl r X3) (tl r X4) (tl r X5) (tl r X6) (tl r X7)))
    (e9 : Upd k Y9 Z9 fun r => more (tl r Y9) (scl (gk band (tl r X2) (tl r X3) (tl r X4) (tl r X5) (tl r X6) (tl r X7))))
    (e10 : Upd k Y10 Z10 fun r => more (tl r Y10) (gv band (tl r X2) (tl r X3) (tl r X5) (tl r X7))) :
    Done X2 X3 X4 X5 X6 X7 (k.val + 1) Z8 Z9 Z10 := by
  intro r
  have a8 := e8 r; have a9 := e9 r; have a10 := e10 r
  obtain ⟨h1, h2⟩ := h r
  by_cases hr : r.val / 4 = k.val
  · rw [if_pos hr] at a8 a9 a10
    obtain ⟨z9, z10⟩ := h2 (by omega)
    refine ⟨fun _ => ⟨a8, ?_, ?_⟩, fun hn => absurd (by omega) hn⟩
    · rw [a9]; beta_reduce; rw [z9]; rfl
    · rw [a10]; beta_reduce; rw [z10]; rfl
  · rw [if_neg hr] at a8 a9 a10
    rw [a8, a9, a10]
    exact ⟨fun hl => h1 (by omega), fun hl => h2 (by omega)⟩

theorem Done.all {X2 X3 X4 X5 X6 X7 Y8 Y9 Y10 : FVec F S2048x128 .f32} (h : Done X2 X3 X4 X5 X6 X7 4 Y8 Y9 Y10) :
    Y8 = glue (wq X2 X3 X4 X5 X6 X7) ∧ Y9 = glue (wk X2 X3 X4 X5 X6 X7) ∧ Y10 = glue (wv X2 X3 X5 X7) :=
  ⟨eq_glue fun r => ((h r).1 (by omega)).1, eq_glue fun r => ((h r).1 (by omega)).2.1, eq_glue fun r => ((h r).1 (by omega)).2.2⟩

section Loop

variable (c : Dev nD) (i : grid0.Coords)
    (a2 : Memref sig .tc .vmem S2048x128 .f32) (h2 : a2.IsWhole) (a3 : Memref sig .tc .vmem S2048x128 .f32) (h3 : a3.IsWhole)
    (a4 : Memref sig .tc .vmem S2048x128 .f32) (h4 : a4.IsWhole) (a5 : Memref sig .tc .vmem S2048x128 .f32) (h5 : a5.IsWhole)
    (a6 : Memref sig .tc .vmem S2048x128 .f32) (h6 : a6.IsWhole) (a7 : Memref sig .tc .vmem S2048x128 .f32) (h7 : a7.IsWhole)
    (a8 : Memref sig .tc .vmem S2048x128 .f32) (h8 : a8.IsWhole) (a9 : Memref sig .tc .vmem S2048x128 .f32) (h9 : a9.IsWhole)
    (a10 : Memref sig .tc .vmem S2048x128 .f32) (h10 : a10.IsWhole)
    (f2 : Bf (F := F) c a2) (f3 : Bf (F := F) c a3) (f4 : Bf (F := F) c a4) (f5 : Bf (F := F) c a5)
    (f6 : Bf (F := F) c a6) (f7 : Bf (F := F) c a7)

/-- What the loop holds before trip `k`. -/
def held (k : ℕ) : sProp 𝕄 :=
  iprop(pt c a2 f2 ∗ pt c a3 f3 ∗ pt c a4 f4 ∗ pt c a5 f5 ∗ pt c a6 f6 ∗ pt c a7 f7
    ∗ ∃ g8 g9 g10, pt c a8 g8 ∗ pt c a9 g9 ∗ pt c a10 g10
      ∗ ⌜Done (a2.view.read (Elt F) f2) (a3.view.read (Elt F) f3) (a4.view.read (Elt F) f4) (a5.view.read (Elt F) f5)
          (a6.view.read (Elt F) f6) (a7.view.read (Elt F) f7) k (a8.view.read (Elt F) g8) (a9.view.read (Elt F) g9) (a10.view.read (Elt F) g10)⌝)

set_option warn.classDefReducibility false in
/-- The loop's invariant. -/
def inv : LoopInvTy_k0_t1 (F := F) Unit ℕ (UU nD τ) ℕ 𝒱₀ c none Set.univ i a2 h2 a3 h3 a4 h4 a5 h5 a6 h6 a7 h7 a8 h8 a9 h9 a10 h10 where
  inv k _ := held c a2 a3 a4 a5 a6 a7 a8 a9 a10 f2 f3 f4 f5 f6 f7 k
  step k _ := by
    unfold held
    iintro ⟨H2, H3, H4, H5, H6, H7, %g8, %g9, %g10, H8, H9, H10, %hd⟩
    iapply (trip c i a2 h2 a3 h3 a4 h4 a5 h5 a6 h6 a7 h7 a8 h8 a9 h9 a10 h10 k f2 f3 f4 f5 f6 f7 g8 g9 g10)
    iframe H2; iframe H3; iframe H4; iframe H5; iframe H6; iframe H7; iframe H8; iframe H9; iframe H10
    iintro ⟨H2, H3, H4, H5, H6, H7, ⟨%g8', H8, %e8⟩, ⟨%g9', H9, %e9⟩, %g10', H10, %e10⟩
    iframe H2; iframe H3; iframe H4; iframe H5; iframe H6; iframe H7
    iexists g8'; iexists g9'; iexists g10'
    iframe H8; iframe H9; iframe H10
    ipureintro
    exact hd.next e8 e9 e10

set_option maxHeartbeats 2000000 in
/-- The body's run: from the six inputs' blocks, the three results. -/
theorem run (X2 X3 X4 X5 X6 X7 : FVec F S2048x128 .f32) (Q : PUnit → sProp 𝕄) :
    iprop(owns (c : Thread nD τ) a2 fullShare X2 ∗ owns (c : Thread nD τ) a3 fullShare X3 ∗ owns (c : Thread nD τ) a4 fullShare X4
      ∗ owns (c : Thread nD τ) a5 fullShare X5 ∗ owns (c : Thread nD τ) a6 fullShare X6 ∗ owns (c : Thread nD τ) a7 fullShare X7
      ∗ (∃ d, owns (c : Thread nD τ) a8 fullShare d) ∗ (∃ d, owns (c : Thread nD τ) a9 fullShare d) ∗ (∃ d, owns (c : Thread nD τ) a10 fullShare d)
      ∗ (iprop(owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare X6 ∗ owns (c : Thread nD τ) a7 fullShare X7
        ∗ owns (c : Thread nD τ) a8 fullShare (glue (wq X2 X3 X4 X5 X6 X7)) ∗ owns (c : Thread nD τ) a9 fullShare (glue (wk X2 X3 X4 X5 X6 X7))
        ∗ owns (c : Thread nD τ) a10 fullShare (glue (wv X2 X3 X5 X7))) -∗ Q ⟨⟩))
    ⊢ wp frame (wpE (defs₀ (F := F)) 𝒱₀ (c : Thread nD τ) none) Set.univ
        (cc0_dil_bwd_2 i a2 h2 a3 h3 a4 h4 a5 h5 a6 h6 a7 h7 a8 h8 a9 h9 a10 h10) Q := by
  unfold owns
  rw [h2.set_eq_univ, h3.set_eq_univ, h4.set_eq_univ, h5.set_eq_univ, h6.set_eq_univ, h7.set_eq_univ, h8.set_eq_univ, h9.set_eq_univ, h10.set_eq_univ]
  iintro ⟨⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩, Hk⟩
  sl_unfold [cc0_dil_bwd_2]
  sl_exec
  iapply (exec_loop frame (wpE (defs₀ (F := F)) 𝒱₀ (c : Thread nD τ) none) Set.univ k0_t1_loop.lb k0_t1_loop.ub k0_t1_loop.st k0_t1_ok ⟨⟩ _
    (inv (F := F) c i a2 h2 a3 h3 a4 h4 a5 h5 a6 h6 a7 h7 a8 h8 a9 h9 a10 h10 f2 f3 f4 f5 f6 f7)) $$ [H2 H3 H4 H5 H6 H7 H8 H9 H10]
  · unfold inv held
    dsimp only
    iframe H2; iframe H3; iframe H4; iframe H5; iframe H6; iframe H7
    iexists _; iexists _; iexists _
    iframe H8; iframe H9; iframe H10
    ipureintro
    intro r
    refine ⟨fun h => absurd h (Nat.not_lt_zero _), fun _ => ⟨?_, ?_⟩⟩
    · exact (congrArg (tl r) (View.read_writes_full a9.view _ _ _ [])).trans (tl_pay3 r)
    · exact (congrArg (tl r) (View.read_writes_full a10.view _ _ _ [])).trans (tl_pay4 r)
  · iintro %_ HI
    unfold inv held
    dsimp only
    icases HI with ⟨H2, H3, H4, H5, H6, H7, %g8, %g9, %g10, H8, H9, H10, %hd⟩
    rw [e2, e3, e4, e5, e6, e7] at hd
    obtain ⟨r8, r9, r10⟩ := Done.all hd
    sl_step
    iapply Hk
    isplitl [H2]; · iexists f2; iframe H2; ipureintro; exact e2
    isplitl [H3]; · iexists f3; iframe H3; ipureintro; exact e3
    isplitl [H4]; · iexists f4; iframe H4; ipureintro; exact e4
    isplitl [H5]; · iexists f5; iframe H5; ipureintro; exact e5
    isplitl [H6]; · iexists f6; iframe H6; ipureintro; exact e6
    isplitl [H7]; · iexists f7; iframe H7; ipureintro; exact e7
    isplitl [H8]; · iexists g8; iframe H8; ipureintro; exact r8
    isplitl [H9]; · iexists g9; iframe H9; ipureintro; exact r9
    iexists g10; iframe H10; ipureintro; exact r10

end Loop

end Cert.KernelIdeal.Body
end
-- ==== Proof.Run.lean ====
module

public import proofs.«01_k».proof.Proof.Body
public import proofs.«01_k».proof.Proof.Gen.KernelIdeal.Launch
public import proofs.«01_k».proof.Proof.Gen.KernelIdeal.Points

/-! The kernel's run: the body at each point of the grid, the pipeline around it. -/

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

variable (m : (ℓ : Loc nD τ sig) → Buf (Elt F) ℓ) (ρ : Dev nD → PrngReg)

/-- What the body leaves in each result's staging buffer at a point. -/
def oq (c : Dev nD) (t : Fin cfg0.N) : FVec F S2048x128 .f32 :=
  glue (wq (iblk m c 0 t) (iblk m c 1 t) (iblk m c 2 t) (iblk m c 3 t) (iblk m c 4 t) (iblk m c 5 t))
def ok (c : Dev nD) (t : Fin cfg0.N) : FVec F S2048x128 .f32 :=
  glue (wk (iblk m c 0 t) (iblk m c 1 t) (iblk m c 2 t) (iblk m c 3 t) (iblk m c 4 t) (iblk m c 5 t))
def ov (c : Dev nD) (t : Fin cfg0.N) : FVec F S2048x128 .f32 :=
  glue (wv (iblk m c 0 t) (iblk m c 1 t) (iblk m c 3 t) (iblk m c 5 t))

/-- The pipeline's proof data: each input's buffer at its block after the body, the results' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oq m c t
    | ⟨7, _⟩ => ok m c t
    | ⟨8, _⟩ => ov m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = oq m c t := by dsimp only [dats]
theorem after7 (c : Dev nD) (t : Fin cfg0.N) : (dats m 0 c).after 7 t = ok m c t := by dsimp only [dats]
theorem after8 (c : Dev nD) (t : Fin cfg0.N) : (dats m 0 c).after 8 t = ov m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

set_option maxHeartbeats 1000000 in
/-- The body at a point: the inputs' blocks in their buffers, the results' values left in theirs. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  unfold oq ok ov
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every run terminates with each array at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- The arguments end as they began, and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Body
end
-- ==== Proof.Math.lean ====
module

public import Idealize.ShloMosaic.PureOps.Ideal

/-! The mathematics of one head of one residue class, over the reals: 128 queries and 128 keys, a query seeing the keys at most 64
    positions away. The forward pass, its gradient as the reference writes it, its gradient as the kernel writes it, and why the two
    are one. -/

@[expose] public section

noncomputable section

namespace Cert.Band

/-- A key `j` is within the band of a query `a`. -/
abbrev near (a j : Fin 128) : Prop := a.val ≤ j.val + 64 ∧ j.val ≤ a.val + 64

variable (q k v g : Fin 128 → Fin 64 → ℝ) (e : Fin 128 → ℝ)

/-- The scaled score of a query and a key. -/
def sc (a j : Fin 128) : ℝ := (∑ d, q a d * k j d) * 0.125

theorem self_near (a : Fin 128) : (Finset.univ.filter (near a)).Nonempty := ⟨a, by simp [near]⟩

/-- The greatest score of a query over its band. -/
def mx (a : Fin 128) : ℝ := (Finset.univ.filter (near a)).sup' (self_near a) (sc q k a)

/-- The unnormalised weight. -/
def ex (a j : Fin 128) : ℝ := if near a j then Real.exp (sc q k a j - mx q k a) else 0

/-- The sum of a query's weights. -/
def den (a : Fin 128) : ℝ := ∑ j, ex q k a j

/-- The weighted sum of the values. -/
def num (a : Fin 128) (d : Fin 64) : ℝ := ∑ j, ex q k a j * v j d

/-- The logarithm of a query's sum of exponentials. -/
def lse (a : Fin 128) : ℝ := mx q k a + Real.log (den q k a)

/-- The output's product with its gradient, less the gradient of `lse`: what the kernel takes from each row. -/
def dl (a : Fin 128) : ℝ := (∑ d, g a d * (num q k v a d / den q k a)) - e a

/-- The weight as the kernel recomputes it. -/
def wt (a j : Fin 128) : ℝ := if near a j then Real.exp (sc q k a j - lse q k a) else 0

/-- The gradient of the scores, the kernel's way. -/
def ds (a j : Fin 128) : ℝ := wt q k a j * ((∑ d, v j d * g a d) - dl q k v g e a)

/-- The gradient of the exponentials' arguments, the reference's way. -/
def rs (a j : Fin 128) : ℝ :=
  ((∑ d, g a d / den q k a * v j d) + (e a / den q k a + -(∑ d, g a d * (1 / (den q k a * den q k a)) * num q k v a d))) * ex q k a j

/-- The three gradients. -/
def dq (a : Fin 128) (d : Fin 64) : ℝ := (∑ j, ds q k v g e a j * k j d) * 0.125
def dk (j : Fin 128) (d : Fin 64) : ℝ := (∑ a, ds q k v g e a j * q a d) * 0.125
def dv (j : Fin 128) (d : Fin 64) : ℝ := ∑ a, wt q k a j * g a d

theorem sc_le_mx {a j : Fin 128} (h : near a j) : sc q k a j ≤ mx q k a :=
  Finset.le_sup' (sc q k a) (by simpa using h)

theorem exists_mx (a : Fin 128) : ∃ j, near a j ∧ sc q k a j = mx q k a := by
  obtain ⟨j, hj, h⟩ := Finset.exists_mem_eq_sup' (self_near a) (sc q k a)
  exact ⟨j, by simpa using hj, h.symm⟩

theorem ex_nonneg (a j : Fin 128) : 0 ≤ ex q k a j := by
  unfold ex; split
  · exact (Real.exp_pos _).le
  · exact le_rfl

theorem den_pos (a : Fin 128) : 0 < den q k a := by
  refine Finset.sum_pos' (fun j _ => ex_nonneg q k a j) ⟨a, Finset.mem_univ _, ?_⟩
  unfold ex
  rw [if_pos (by simp [near])]
  exact Real.exp_pos _

/-- The kernel's weight is the normalised weight. -/
theorem wt_eq (a j : Fin 128) : wt q k a j = ex q k a j / den q k a := by
  unfold wt ex lse
  split
  · rw [← sub_sub, Real.exp_sub, Real.exp_log (den_pos q k a)]
  · simp

/-- The reference's gradient of the exponentials' arguments is the kernel's gradient of the scores. -/
theorem rs_eq (a j : Fin 128) : rs q k v g e a j = ds q k v g e a j := by
  have hd := (den_pos q k a).ne'
  unfold rs ds dl
  rw [wt_eq]
  have h1 : (∑ d, g a d / den q k a * v j d) = (∑ d, v j d * g a d) / den q k a := by
    rw [Finset.sum_div]; exact Finset.sum_congr rfl fun d _ => by ring
  have h2 : (∑ d, g a d * (1 / (den q k a * den q k a)) * num q k v a d)
      = (∑ d, g a d * (num q k v a d / den q k a)) / den q k a := by
    rw [Finset.sum_div]; exact Finset.sum_congr rfl fun d _ => by field_simp
  rw [h1, h2]
  field_simp
  ring

/-- A row of that gradient sums to the gradient of `lse`, so that nothing is left for the row's maximum. -/
theorem sum_rs (a : Fin 128) : ∑ j, rs q k v g e a j = e a := by
  have hd := (den_pos q k a).ne'
  have h : ∑ j, rs q k v g e a j
      = (∑ j, (∑ d, g a d / den q k a * v j d) * ex q k a j)
        + (e a / den q k a + -(∑ d, g a d * (1 / (den q k a * den q k a)) * num q k v a d)) * den q k a := by
    unfold rs
    simp only [add_mul]
    rw [Finset.sum_add_distrib, Finset.sum_add_distrib, ← Finset.mul_sum, ← Finset.mul_sum]
    unfold den
    rfl
  have h1 : (∑ j, (∑ d, g a d / den q k a * v j d) * ex q k a j) = ∑ d, g a d / den q k a * num q k v a d := by
    simp only [Finset.sum_mul]
    rw [Finset.sum_comm]
    refine Finset.sum_congr rfl fun d _ => ?_
    unfold num
    rw [Finset.mul_sum]
    exact Finset.sum_congr rfl fun j _ => by ring
  rw [h, h1, add_mul, neg_mul, Finset.sum_mul]
  have h2 : ∀ d, g a d * (1 / (den q k a * den q k a)) * num q k v a d * den q k a = g a d / den q k a * num q k v a d := fun d => by
    field_simp
  simp only [h2]
  field_simp
  ring

end Cert.Band
end
-- ==== Proof.Coe.lean ====
module

public import proofs.«01_k».proof.Proof.Math
public import Idealize.ShloMosaic.PureOps.Ideal
public import Idealize.ShloMosaic.PureOps.Ideal.Laws
public import Idealize.ShloMosaic.Lib.IdealHost

/-! Real arithmetic among the extended reals: sums, products and quotients of real numbers, and the constants the program names. -/

@[expose] public section

noncomputable section

namespace Cert.Band

open Idealize.ShloMosaic

theorem coe_sum {ι : Type} (s : Finset ι) (f : ι → ℝ) : (∑ i ∈ s, ((f i : ℝ) : EReal)) = ((∑ i ∈ s, f i : ℝ) : EReal) := by
  classical
  induction s using Finset.induction with
  | empty => simp
  | insert a s ha ih => rw [Finset.sum_insert ha, Finset.sum_insert ha, ih, EReal.coe_add]

/-- A sum of products of real numbers. -/
theorem coe_dot {ι : Type} [Fintype ι] {u v : ι → EReal} {f g : ι → ℝ} (hu : ∀ i, u i = ((f i : ℝ) : EReal)) (hv : ∀ i, v i = ((g i : ℝ) : EReal)) :
    (∑ i, u i * v i) = ((∑ i, f i * g i : ℝ) : EReal) := by
  rw [← coe_sum]
  refine Finset.sum_congr rfl fun i _ => ?_
  rw [hu, hv, EReal.coe_mul]

/-- A sum of real numbers, from an initial zero. -/
theorem coe_tot {ι : Type} [Fintype ι] {z : EReal} {u : ι → EReal} {f : ι → ℝ} (hz : z = 0) (hu : ∀ i, u i = ((f i : ℝ) : EReal)) :
    (z + ∑ i, u i) = ((∑ i, f i : ℝ) : EReal) := by
  rw [hz, zero_add, ← coe_sum]
  exact Finset.sum_congr rfl fun i _ => hu i

theorem coe_div {x y : ℝ} (h : y ≠ 0) : Ideal.div (x : EReal) (y : EReal) = ((x / y : ℝ) : EReal) := by
  rw [Ideal.div_coe h, ← EReal.coe_mul, mul_one_div]

theorem eighth : FloatOps.ofBits (F := Ideal) .f32 0x3E000000#32 = ((0.125 : ℝ) : EReal) := by
  rw [Ideal.ofBits_def]
  simp [Ideal.ofBits, Ideal.ieee, -EReal.coe_mul]; norm_num

theorem one_word : FloatOps.ofBits (F := Ideal) .f32 0x3F800000#32 = ((1 : ℝ) : EReal) := by
  rw [Ideal.ofBits_def]
  simp [Ideal.ofBits, Ideal.ieee, -EReal.coe_mul]; norm_num

theorem zero_word : FloatOps.ofBits (F := Ideal) .f32 0x00000000#32 = (0 : EReal) := by
  rw [Ideal.ofBits_def]
  simp [Ideal.ofBits, Ideal.ieee, -EReal.coe_mul]

theorem bot_word : FloatOps.ofBits (F := Ideal) .f32 0xFF800000#32 = (⊥ : EReal) := by
  rw [Ideal.ofBits_def]
  simp [Ideal.ofBits, Ideal.ieee]

variable (q k : Fin 128 → Fin 64 → ℝ)

/-- The greatest of the scores, minus infinity standing outside the band. -/
theorem fold_mx (a : Fin 128) {f : Fin 128 → EReal} (hf : ∀ j, f j = if near a j then ((sc q k a j : ℝ) : EReal) else ⊥) :
    (Finset.univ : Finset (Fin 128)).fold max (⊥ : EReal) f = ((mx q k a : ℝ) : EReal) := by
  apply le_antisymm
  · rw [Finset.fold_max_le]
    refine ⟨bot_le, fun j _ => ?_⟩
    rw [hf]
    split
    · rename_i h; exact EReal.coe_le_coe_iff.mpr (sc_le_mx q k h)
    · exact bot_le
  · rw [Finset.le_fold_max]
    obtain ⟨j, hj, h⟩ := exists_mx q k a
    exact Or.inr ⟨j, Finset.mem_univ _, by rw [hf, if_pos hj, h]⟩

end Cert.Band
end
-- ==== Proof.TileValue.lean ====
module

public import proofs.«01_k».proof.Proof.Tile
public import proofs.«01_k».proof.Proof.Body
public import proofs.«01_k».proof.Proof.Coe
public import Idealize.ShloMosaic.Lib.ValueIdx
public import Idealize.ShloMosaic.Lib.ValueLayout
public import Idealize.ShloMosaic.Lib.MatmulPlain
public import Idealize.ShloMosaic.Lib.Pipeline.Value

/-! What one tile of the kernel computes from real inputs: each head's gradients. -/

@[expose] public section

noncomputable section

namespace Cert.KernelIdeal.Body

open Cert.KernelIdeal Cert.KernelIdeal.Gen Cert.Band
open Idealize.ShloMosaic Idealize.ShloMosaic.ValueIdx

/-- A head's lane among a tile's 128, and a head's row among a tile's 256 columns. -/
def hl (e : Fin 2) (d : Fin 64) : Fin 128 := ⟨64 * e.val + d.val, by omega⟩
def hc (e : Fin 2) (a : Fin 128) : Fin 256 := ⟨128 * e.val + a.val, by omega⟩

theorem sum_lanes (f : Fin 128 → EReal) : (∑ l, f l) = ∑ e, ∑ d, f (hl e d) := by
  rw [Fin.sum_univ_two]
  refine (Fin.sum_univ_add (a := 64) (b := 64) f).trans ?_
  congr 1

theorem sum_cols (f : Fin 256 → EReal) : (∑ l, f l) = ∑ e, ∑ a, f (hc e a) := by
  rw [Fin.sum_univ_two]
  refine (Fin.sum_univ_add (a := 128) (b := 128) f).trans ?_
  congr 1

/-- The first head's lanes are one below lane 64. -/
theorem mask1 (e : Fin 2) (d : Fin 64) : k0_pay1 (F := Ideal) (ix2 0 (hl e d)) = if e = 0 then (1 : EReal) else 0 := by
  have hw : ∀ (e : Fin 2) (d : Fin 64), extui 32 (cmpi .slt (iota .tc S1x128 32 [1] iota_S1x128_d1_w32) (broadcast S1x128 64#32)) natLt_1_32 (ix2 0 (hl e d))
      = if e = 0 then 1#32 else 0#32 := by decide +kernel
  show (((extui 32 (cmpi .slt (iota .tc S1x128 32 [1] iota_S1x128_d1_w32) (broadcast S1x128 64#32)) natLt_1_32 (ix2 0 (hl e d))).toInt : ℝ) : EReal) = _
  rw [hw]
  split <;> simp

theorem mask2 (e : Fin 2) (d : Fin 64) : k0_pay2 (F := Ideal) (ix2 0 (hl e d)) = if e = 1 then (1 : EReal) else 0 := by
  show FloatOps.ofBits (F := Ideal) .f32 0x3F800000#32 - k0_pay1 (F := Ideal) (ix2 0 (hl e d)) = _
  rw [mask1, one_word]
  match e with
  | ⟨0, _⟩ => show ((1 : ℝ) : EReal) - 1 = 0; rw [← EReal.coe_one, ← EReal.coe_sub]; simp
  | ⟨1, _⟩ => show ((1 : ℝ) : EReal) - 0 = 1; simp

variable {X Y : Fin 2 → Fin 128 → Fin 64 → ℝ} {x : FVec Ideal S128x128 .f32}

/-- A tile of real numbers, by head. -/
def Tiled (x : FVec Ideal S128x128 .f32) (X : Fin 2 → Fin 128 → Fin 64 → ℝ) : Prop :=
  ∀ e a d, x (ix2 a (hl e d)) = ((X e a d : ℝ) : EReal)

/-- A tile with a number for each row and head on all that head's lanes. -/
def Rowed (x : FVec Ideal S128x128 .f32) (D : Fin 2 → Fin 128 → ℝ) : Prop :=
  ∀ e a d, x (ix2 a (hl e d)) = ((D e a : ℝ) : EReal)

theorem both_apply (hx : Tiled x X) (e e' : Fin 2) (a : Fin 128) (d : Fin 64) :
    both x (ix2 (hc e a) (hl e' d)) = if e' = e then ((X e a d : ℝ) : EReal) else 0 := by
  unfold both
  obtain rfl | rfl : e = 0 ∨ e = 1 := by omega
  · refine (concatenate_pair_apply_left (t := S256x128) (s₁ := S128x128) (s₂ := S128x128) 0 _ _ concatenates_S128x128_S128x128_S256x128_d0
      (ix2 (hc 0 a) (hl e' d)) rfl (ix2 a (hl e' d))
      (fun b => by match b with | ⟨0, _⟩ => show a.val = 128 * 0 + a.val; omega | ⟨1, _⟩ => rfl)).trans ?_
    show x (ix2 a (hl e' d)) * broadcastTo S128x128 (k0_pay1 (F := Ideal)) broadcasts_S1x128_S128x128 (ix2 a (hl e' d)) = _
    rw [broadcastTo_1b_ab_apply, mask1, hx]
    split
    · rename_i h; subst h; rw [mul_one]
    · rw [mul_zero]
  · refine (concatenate_pair_apply_right (t := S256x128) (s₁ := S128x128) (s₂ := S128x128) 0 _ _ concatenates_S128x128_S128x128_S256x128_d0
      (ix2 (hc 1 a) (hl e' d)) rfl rfl (ix2 a (hl e' d))
      (fun b hb => by match b with | ⟨0, _⟩ => exact absurd rfl hb | ⟨1, _⟩ => rfl)
      (by show a.val + 128 = 128 * 1 + a.val; omega)).trans ?_
    show x (ix2 a (hl e' d)) * broadcastTo S128x128 (k0_pay2 (F := Ideal)) broadcasts_S1x128_S128x128 (ix2 a (hl e' d)) = _
    rw [broadcastTo_1b_ab_apply, mask2, hx]
    split
    · rename_i h; subst h; rw [mul_one]
    · rw [mul_zero]

theorem asRow_apply {D : Fin 2 → Fin 128 → ℝ} (hx : Rowed x D) (e : Fin 2) (a : Fin 128) :
    asRow x (ix2 0 (hc e a)) = ((D e a : ℝ) : EReal) := by
  unfold asRow
  rw [shapeCast_self]
  obtain rfl | rfl : e = 0 ∨ e = 1 := by omega
  · refine (concatenate_pair_apply_left (t := S1x256) (s₁ := S1x128) (s₂ := S1x128) 1 _ _ concatenates_S1x128_S1x128_S1x256_d1
      (ix2 0 (hc 0 a)) rfl (ix2 0 a)
      (fun b => by match b with | ⟨0, _⟩ => rfl | ⟨1, _⟩ => show a.val = 128 * 0 + a.val; omega)).trans ?_
    refine (slice2_axis0_apply (n0 := 128) (n1 := 128) (m := 1) 0 _ slices_S128x128_o0_0_S1x128 0 a (hl 0 0) rfl).trans ?_
    exact (transpose_ix2_apply x transposes_S128x128_p1_0_S128x128 (hl 0 0) a).trans (hx 0 a 0)
  · refine (concatenate_pair_apply_right (t := S1x256) (s₁ := S1x128) (s₂ := S1x128) 1 _ _ concatenates_S1x128_S1x128_S1x256_d1
      (ix2 0 (hc 1 a)) rfl rfl (ix2 0 a)
      (fun b hb => by match b with | ⟨0, _⟩ => rfl | ⟨1, _⟩ => exact absurd rfl hb)
      (by show a.val + 128 = 128 * 1 + a.val; omega)).trans ?_
    refine (slice2_axis0_apply (n0 := 128) (n1 := 128) (m := 1) 64 _ slices_S128x128_o64_0_S1x128 0 a (hl 1 0) rfl).trans ?_
    exact (transpose_ix2_apply x transposes_S128x128_p1_0_S128x128 (hl 1 0) a).trans (hx 1 a 0)

theorem dots_apply (x : FVec Ideal S128x128 .f32) (y : FVec Ideal S256x128 .bf16) (j : Fin 128) (c : Fin 256) :
    dots x y (ix2 j c) = ∑ l : Fin 128, x (ix2 j l) * y (ix2 c l) := by
  refine (Ideal.matmul_transposedRhs_apply (M := 128) (K := 128) (N := 256) none (truncf .bf16 x bitsLt_bf16_f32) y
    (constant S128x256 .f32 0x00000000#32) j c).trans ?_
  show FloatOps.ofBits (F := Ideal) .f32 0x00000000#32 + _ = _
  rw [zero_word, zero_add]
  rfl

/-- The products of one head's rows. -/
theorem dots_both {y : FVec Ideal S128x128 .f32} (hx : Tiled x X) (hy : Tiled y Y) (e : Fin 2) (j a : Fin 128) :
    dots x (both y) (ix2 j (hc e a)) = ((∑ d, X e j d * Y e a d : ℝ) : EReal) := by
  rw [dots_apply, sum_lanes, Finset.sum_eq_single e]
  · refine coe_dot (fun d => hx e j d) (fun d => ?_)
    rw [both_apply hy, if_pos rfl]
  · intro e' _ he
    refine Finset.sum_eq_zero fun d _ => ?_
    rw [both_apply hy, if_neg he, mul_zero]
  · exact fun h => absurd (Finset.mem_univ _) h

/-- The query of each of the 256 columns, as the kernel reckons it: the column modulo 128. -/
def query : IVec S128x256 32 :=
  select (andi (xori k0_pay11 (broadcastTo S128x256 k0_pay12 broadcasts_S128x256_S128x256)) k0_pay10)
    (addi k0_pay9 (broadcast S128x256 (Scalar.select (Scalar.cmpi .eq 128#32 0#32) 1#32 128#32))) k0_pay9

theorem query_apply (e : Fin 2) (a j : Fin 128) : query (ix2 j (hc e a)) = BitVec.ofNat 32 a.val := by
  have h0 : ∀ (e : Fin 2) (a : Fin 128), query (ix2 0 (hc e a)) = BitVec.ofNat 32 a.val := by decide +kernel
  exact (show query (ix2 j (hc e a)) = query (ix2 0 (hc e a)) from rfl).trans (h0 e a)

theorem band_apply (e : Fin 2) (a j : Fin 128) : band (ix2 j (hc e a)) = if near a j then 1#1 else 0#1 := by
  have hb : band = cmpi .sle (absi (addi (subi (iota .tc S128x256 32 [0] iota_S128x256_d0_w32) query)
      (broadcast S128x256 (Scalar.subi 0#32 (Scalar.muli 128#32 0#32))))) (broadcast S128x256 64#32) := rfl
  have h0 : band (ix2 j (hc e a)) = Scalar.cmpi .sle (Scalar.absi
      (Scalar.addi (Scalar.subi (iota .tc S128x256 32 [0] iota_S128x256_d0_w32 (ix2 j (hc e a))) (query (ix2 j (hc e a)))) (Scalar.subi 0#32 (Scalar.muli 128#32 0#32)))) 64#32 := by
    rw [hb]; rfl
  rw [h0, query_apply, show iota .tc S128x256 32 [0] iota_S128x256_d0_w32 (ix2 j (hc e a)) = BitVec.ofNat 32 j.val from ?_]
  · clear h0 hb
    revert a j
    decide +kernel
  · show BitVec.ofNat 32 (0 * 128 + j.val) = _
    rw [Nat.zero_mul, Nat.zero_add]

variable {Q K V G : Fin 2 → Fin 128 → Fin 64 → ℝ} {E : Fin 2 → Fin 128 → ℝ}
  {q k v g dl ls : FVec Ideal S128x128 .f32}

theorem mask_word : Named.named (F := Ideal) (φ := .f32) κ "mask" 0xF149F2CA#32 = (⊥ : EReal) := IdealRules.named_const.ideal_named_scalar _ _ _ _ rfl

theorem wts_apply (hq : Tiled q Q) (hk : Tiled k K) (hl' : Rowed ls fun e => lse (Q e) (K e)) (e : Fin 2) (a j : Fin 128) :
    wts band q k ls (ix2 j (hc e a)) = ((wt (Q e) (K e) a j : ℝ) : EReal) := by
  show Ideal.exp (Scalar.select (band (ix2 j (hc e a))) (dots k (both q) (ix2 j (hc e a)) * FloatOps.ofBits (F := Ideal) .f32 0x3E000000#32)
      (Named.named (F := Ideal) (φ := .f32) κ "mask" 0xF149F2CA#32)
    - broadcastTo S128x256 (asRow ls) broadcasts_S1x256_S128x256 (ix2 j (hc e a))) = _
  rw [band_apply, dots_both hk hq, eighth, mask_word, broadcastTo_1b_ab_apply, asRow_apply hl', ← EReal.coe_mul]
  unfold wt
  split
  · rw [select_one, ← EReal.coe_sub, Ideal.exp_coe]
    unfold sc
    rw [Finset.sum_congr rfl fun d _ => mul_comm (K e j d) (Q e a d)]
  · rw [select_zero, EReal.bot_sub, Ideal.exp_bot, EReal.coe_zero]

theorem dsc_apply (hq : Tiled q Q) (hk : Tiled k K) (hv : Tiled v V) (hg : Tiled g G)
    (hd : Rowed dl fun e => Band.dl (Q e) (K e) (V e) (G e) (E e)) (hl' : Rowed ls fun e => lse (Q e) (K e)) (e : Fin 2) (a j : Fin 128) :
    dsc band q k v g dl ls (ix2 j (hc e a)) = ((ds (Q e) (K e) (V e) (G e) (E e) a j : ℝ) : EReal) := by
  show wts band q k ls (ix2 j (hc e a)) * (dots v (both g) (ix2 j (hc e a))
    - broadcastTo S128x256 (asRow dl) broadcasts_S1x256_S128x256 (ix2 j (hc e a))) = _
  rw [wts_apply hq hk hl', dots_both hv hg, broadcastTo_1b_ab_apply, asRow_apply hd, ← EReal.coe_sub, ← EReal.coe_mul]
  rfl

theorem prod_apply {φ : FTy} (x : FVec Ideal S128x256 .bf16) (y : FVec Ideal S256x128 .bf16) (j l : Fin 128) :
    matmul dot_S128x256_S256x128_S128x128_1_0_0_1_n_n none x y (constant S128x128 .f32 0x00000000#32) (ix2 j l)
      = ∑ c : Fin 256, x (ix2 j c) * y (ix2 c l) := by
  refine (Ideal.matmul_plain_apply (M := 128) (K := 256) (N := 128) none x y (constant S128x128 .f32 0x00000000#32) j l).trans ?_
  show FloatOps.ofBits (F := Ideal) .f32 0x00000000#32 + _ = _
  rw [zero_word, zero_add]

/-- A product over both heads' rows, on one head's lanes: that head's rows only. -/
theorem prod_both {x : FVec Ideal S128x256 .bf16} {f : Fin 2 → Fin 128 → Fin 128 → ℝ} {y : FVec Ideal S128x128 .f32}
    (hx : ∀ e a j, x (ix2 j (hc e a)) = ((f e a j : ℝ) : EReal)) (hy : Tiled y Y) (e : Fin 2) (j : Fin 128) (d : Fin 64) :
    matmul dot_S128x256_S256x128_S128x128_1_0_0_1_n_n none x (both y) (constant S128x128 .f32 0x00000000#32) (ix2 j (hl e d))
      = ((∑ a, f e a j * Y e a d : ℝ) : EReal) := by
  rw [prod_apply (φ := .f32), sum_cols, Finset.sum_eq_single e]
  · refine coe_dot (fun a => hx e a j) (fun a => ?_)
    rw [both_apply hy, if_pos rfl]
  · intro e' _ he
    refine Finset.sum_eq_zero fun d _ => ?_
    rw [both_apply hy, if_neg (Ne.symm he), mul_zero]
  · exact fun h => absurd (Finset.mem_univ _) h

theorem gv_apply (hq : Tiled q Q) (hk : Tiled k K) (hg : Tiled g G) (hl' : Rowed ls fun e => lse (Q e) (K e)) (e : Fin 2) (j : Fin 128) (d : Fin 64) :
    gv band q k g ls (ix2 j (hl e d)) = ((dv (Q e) (K e) (G e) j d : ℝ) : EReal) :=
  prod_both (f := fun e a j => wt (Q e) (K e) a j) (fun e a j => wts_apply hq hk hl' e a j) hg e j d

theorem gk_apply (hq : Tiled q Q) (hk : Tiled k K) (hv : Tiled v V) (hg : Tiled g G)
    (hd : Rowed dl fun e => Band.dl (Q e) (K e) (V e) (G e) (E e)) (hl' : Rowed ls fun e => lse (Q e) (K e)) (e : Fin 2) (j : Fin 128) (d : Fin 64) :
    gk band q k v g dl ls (ix2 j (hl e d)) = ((∑ a, ds (Q e) (K e) (V e) (G e) (E e) a j * Q e a d : ℝ) : EReal) :=
  prod_both (f := fun e a j => ds (Q e) (K e) (V e) (G e) (E e) a j) (fun e a j => dsc_apply hq hk hv hg hd hl' e a j) hq e j d

/-- Columns of one operand by columns of the other: the products summed over the rows. -/
theorem cross_apply (x : FVec Ideal S128x256 .bf16) (y : FVec Ideal S128x128 .bf16) (c : Fin 256) (l : Fin 128) :
    matmul dot_S128x256_S128x128_S256x128_0_0_1_1_n_n none x y (constant S256x128 .f32 0x00000000#32) (ix2 c l)
      = ∑ j : Fin 128, x (ix2 j c) * y (ix2 j l) := by
  refine (Ideal.matmul_constant_zero_apply dot_S128x256_S128x128_S256x128_0_0_1_1_n_n none x y (ix2 c l)).trans ?_
  rw [← Equiv.sum_comp (contrEquiv1 dot_S128x256_S128x128_S256x128_0_0_1_1_n_n 128 rfl rfl).symm]
  refine Finset.sum_congr rfl fun j _ => ?_
  have hj := contrEquiv1_symm_val dot_S128x256_S128x128_S256x128_0_0_1_1_n_n 128 rfl rfl j
  congr 1
  · refine congrArg x (funext fun a => Fin.ext ?_)
    match a with
    | ⟨0, _⟩ => exact hj
    | ⟨1, _⟩ => rfl
  · refine congrArg y (funext fun a => Fin.ext ?_)
    match a with
    | ⟨0, _⟩ => exact hj
    | ⟨1, _⟩ => rfl

theorem gqs_apply (hq : Tiled q Q) (hk : Tiled k K) (hv : Tiled v V) (hg : Tiled g G)
    (hd : Rowed dl fun e => Band.dl (Q e) (K e) (V e) (G e) (E e)) (hl' : Rowed ls fun e => lse (Q e) (K e)) (e : Fin 2) (a : Fin 128) (d : Fin 64) :
    gqs band q k v g dl ls (ix2 (hc e a) (hl e d)) = ((∑ j, ds (Q e) (K e) (V e) (G e) (E e) a j * K e j d : ℝ) : EReal) := by
  unfold gqs
  rw [cross_apply]
  exact coe_dot (fun j => dsc_apply hq hk hv hg hd hl' e a j) (fun j => hk e j d)

theorem gq_apply (hq : Tiled q Q) (hk : Tiled k K) (hv : Tiled v V) (hg : Tiled g G)
    (hd : Rowed dl fun e => Band.dl (Q e) (K e) (V e) (G e) (E e)) (hl' : Rowed ls fun e => lse (Q e) (K e)) (e : Fin 2) (a : Fin 128) (d : Fin 64) :
    gq band q k v g dl ls (ix2 a (hl e d)) = ((∑ j, ds (Q e) (K e) (V e) (G e) (E e) a j * K e j d : ℝ) : EReal) := by
  show extractStridedSlice S128x128 ![0, 0] (gqs band q k v g dl ls) slices_S256x128_o0_0_S128x128 (ix2 a (hl e d))
      * broadcastTo S128x128 (k0_pay1 (F := Ideal)) broadcasts_S1x128_S128x128 (ix2 a (hl e d))
    + extractStridedSlice S128x128 ![128, 0] (gqs band q k v g dl ls) slices_S256x128_o128_0_S128x128 (ix2 a (hl e d))
      * broadcastTo S128x128 (k0_pay2 (F := Ideal)) broadcasts_S1x128_S128x128 (ix2 a (hl e d)) = _
  rw [broadcastTo_1b_ab_apply, broadcastTo_1b_ab_apply, mask1, mask2]
  have h0 := slice2_axis0_apply (n0 := 256) (n1 := 128) (m := 128) 0 (gqs band q k v g dl ls) slices_S256x128_o0_0_S128x128 a (hl e d) (hc 0 a)
    (by show 128 * 0 + a.val = 0 + a.val; omega)
  have h1 := slice2_axis0_apply (n0 := 256) (n1 := 128) (m := 128) 128 (gqs band q k v g dl ls) slices_S256x128_o128_0_S128x128 a (hl e d) (hc 1 a)
    (by show 128 * 1 + a.val = 128 + a.val; omega)
  obtain rfl | rfl : e = 0 ∨ e = 1 := by omega
  · rw [if_pos rfl, if_neg (by decide), mul_zero, mul_one, add_zero]
    exact h0.trans (gqs_apply hq hk hv hg hd hl' 0 a d)
  · rw [if_neg (by decide), if_pos rfl, mul_zero, mul_one, zero_add]
    exact h1.trans (gqs_apply hq hk hv hg hd hl' 1 a d)

theorem scl_apply (x : FVec Ideal S128x128 .f32) (i : S128x128.Idx) : scl x i = x i * ((0.125 : ℝ) : EReal) := by
  show x i * FloatOps.ofBits (F := Ideal) .f32 0x3E000000#32 = _
  rw [eighth]

theorem more_apply (x : FVec Ideal S128x128 .f32) (i : S128x128.Idx) : more zt x i = x i := by
  unfold more
  rw [shapeCast_self]
  show FloatOps.ofBits (F := Ideal) .f32 0x00000000#32 + x i = x i
  rw [zero_word, zero_add]

variable {X2 X3 X4 X5 X6 X7 : FVec Ideal S2048x128 .f32} {r : Fin 16}

theorem wq_apply (hq : Tiled (tl r X2) Q) (hk : Tiled (tl r X3) K) (hv : Tiled (tl r X4) V) (hg : Tiled (tl r X5) G)
    (hd : Rowed (tl r X6) fun e => Band.dl (Q e) (K e) (V e) (G e) (E e)) (hl' : Rowed (tl r X7) fun e => lse (Q e) (K e))
    (e : Fin 2) (a : Fin 128) (d : Fin 64) :
    wq X2 X3 X4 X5 X6 X7 r (ix2 a (hl e d)) = ((dq (Q e) (K e) (V e) (G e) (E e) a d : ℝ) : EReal) := by
  unfold wq
  rw [scl_apply, gq_apply hq hk hv hg hd hl', ← EReal.coe_mul]
  rfl

theorem wk_apply (hq : Tiled (tl r X2) Q) (hk : Tiled (tl r X3) K) (hv : Tiled (tl r X4) V) (hg : Tiled (tl r X5) G)
    (hd : Rowed (tl r X6) fun e => Band.dl (Q e) (K e) (V e) (G e) (E e)) (hl' : Rowed (tl r X7) fun e => lse (Q e) (K e))
    (e : Fin 2) (a : Fin 128) (d : Fin 64) :
    wk X2 X3 X4 X5 X6 X7 r (ix2 a (hl e d)) = ((dk (Q e) (K e) (V e) (G e) (E e) a d : ℝ) : EReal) := by
  unfold wk
  rw [more_apply, scl_apply, gk_apply hq hk hv hg hd hl', ← EReal.coe_mul]
  rfl

theorem wv_apply (hq : Tiled (tl r X2) Q) (hk : Tiled (tl r X3) K) (hg : Tiled (tl r X5) G)
    (hl' : Rowed (tl r X7) fun e => lse (Q e) (K e)) (e : Fin 2) (a : Fin 128) (d : Fin 64) :
    wv X2 X3 X5 X7 r (ix2 a (hl e d)) = ((dv (Q e) (K e) (G e) a d : ℝ) : EReal) := by
  unfold wv
  rw [more_apply, gv_apply hq hk hg hl']

end Cert.KernelIdeal.Body
end
-- ==== Proof.HostPrefix.lean ====
module

public import proofs.«01_k».proof.Proof.Gen.KernelIdeal.Frame
public import proofs.«01_k».proof.Proof.Gen.ReferenceIdeal.Read
public import Idealize.ShloMosaic.Lib.StableHlo

/-! What the host hands the kernel besides the arguments: for each row and head a number laid on the head's 64 lanes, from the
    same forward pass as the reference's. -/

@[expose] public section

noncomputable section

namespace Cert.KernelIdeal.Prefix

open Cert.KernelIdeal Cert.KernelIdeal.Gen
open Idealize.ShloMosaic Idealize.ShloMosaic.TcCoe Idealize.ShloMosaic.Tactic Idealize.ShloMosaic.StableHlo

variable {F : FTy → Type} [FloatOps F] [Named F]

/-- A number for each batch, head and row, laid on the head's lanes of that row. -/
def spread (x : (⟨S2x4x2048, .f32⟩ : BufTy).Contents (Elt F)) : (⟨S4096x256, .f32⟩ : BufTy).Contents (Elt F) :=
  shapeCast S4096x256 (transpose S2x2048x4x64 [0, 2, 1, 3]
    (broadcastInDim S2x4x2048x64 ![0, 1, 2, 3] bcast_S2x4x2048x1_S2x4x2048x64_0_1_2_3
      (broadcastInDim S2x4x2048x1 ![0, 1, 2] bcast_S2x4x2048_S2x4x2048x1_0_1_2 x))
    transposes_S2x4x2048x64_S2x2048x4x64_0_2_1_3) shapeCasts_S2x2048x4x64_S4096x256

/-- A row's product of the output and its gradient, less the gradient of the logarithm of its sum. -/
def taken (x0 : (⟨S4096x5888, .f32⟩ : BufTy).Contents (Elt F)) (x1 : (⟨S4096x256, .f32⟩ : BufTy).Contents (Elt F))
    (x2 : (⟨S2x4x2048, .f32⟩ : BufTy).Contents (Elt F)) : (⟨S2x4x2048, .f32⟩ : BufTy).Contents (Elt F) :=
  subf (Host.reduceAdd (mulf (Cert.ReferenceIdeal.Read.val_main_v54 (F := F) x1) (Cert.ReferenceIdeal.Read.val_main_v50 (F := F) x0))
    (constant S_ .f32 0x00000000#32) reducesTo_S2x4x2048x64_S2x4x2048_d3 h_S_) x2

variable (m : (ℓ : Loc nD τ sig) → Buf (Elt F) ℓ)

set_option maxRecDepth 8192 in
set_option maxHeartbeats 16000000 in
theorem V_lse (c : Dev nD) : V m c main_v57 = spread (Cert.ReferenceIdeal.Read.val_main_v52 (F := F) (m ((c : Thread nD τ).loc main_arg0))) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxRecDepth 8192 in
set_option maxHeartbeats 16000000 in
theorem V_dl (c : Dev nD) : V m c main_v53 = spread (taken (F := F) (m ((c : Thread nD τ).loc main_arg0)) (m ((c : Thread nD τ).loc main_arg1))
    (m ((c : Thread nD τ).loc main_arg2))) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

end Cert.KernelIdeal.Prefix
end
-- ==== Proof.RefHeads.lean ====
module

public import proofs.«01_k».proof.Proof.Math
public import proofs.«01_k».proof.Proof.Gen.ReferenceIdeal.Read
public import Idealize.ShloMosaic.Lib.ValueIdx

/-! The reference's layout: which element of an argument each head, residue class, position and lane is. -/

@[expose] public section

noncomputable section

namespace Cert.ReferenceIdeal.Heads

open Cert.ReferenceIdeal Cert.ReferenceIdeal.Gen Cert.ReferenceIdeal.Read
open Idealize.ShloMosaic Idealize.ShloMosaic.ValueIdx

/-- The row of batch `b` that is position `a` of residue class `r`. -/
def row (b : Fin 2) (r : Fin 16) (a : Fin 128) : Fin 4096 := ⟨b.val * 2048 + (16 * a.val + r.val), by omega⟩

/-- A head's lane among the columns that start at `o`. -/
def col (o : ℕ) (ho : o + 256 ≤ 5888) (h : Fin 4) (d : Fin 64) : Fin 5888 := ⟨o + (64 * h.val + d.val), by omega⟩

/-- A head's lane in a results' row. -/
def lane (h : Fin 4) (d : Fin 64) : Fin 256 := ⟨64 * h.val + d.val, by omega⟩

/-- A position of a residue class among the 2048 rows of a batch. -/
def pos (r : Fin 16) (a : Fin 128) : Fin 2048 := ⟨16 * a.val + r.val, by omega⟩

variable (P : S4096x5888.Idx → ℝ) (P1 : S4096x256.Idx → ℝ) (P2 : S2x4x2048.Idx → ℝ)

/-- A head of a residue class: its queries, keys, values, the output's gradient, and the gradient of the logarithm of the sum. -/
def Q (b : Fin 2) (h : Fin 4) (r : Fin 16) (a : Fin 128) (d : Fin 64) : ℝ := P (ix2 (row b r a) (col 512 (by norm_num) h d))
def K (b : Fin 2) (h : Fin 4) (r : Fin 16) (a : Fin 128) (d : Fin 64) : ℝ := P (ix2 (row b r a) (col 1280 (by norm_num) h d))
def W (b : Fin 2) (h : Fin 4) (r : Fin 16) (a : Fin 128) (d : Fin 64) : ℝ := P (ix2 (row b r a) (col 2048 (by norm_num) h d))
def G (b : Fin 2) (h : Fin 4) (r : Fin 16) (a : Fin 128) (d : Fin 64) : ℝ := P1 (ix2 (row b r a) (lane h d))
def E (b : Fin 2) (h : Fin 4) (r : Fin 16) (a : Fin 128) : ℝ := P2 (ix3 b h (pos r a))

/-- An array of reals as an array of extended reals. -/
abbrev up {s : Shape} (X : s.Idx → ℝ) : (⟨s, .f32⟩ : BufTy).Contents (Elt Ideal) := fun i => ((X i : ℝ) : EReal)

variable (b : Fin 2) (h : Fin 4) (r : Fin 16) (a j : Fin 128) (d : Fin 64)

theorem split_pos (b : Fin 2) (h : Fin 4) (r : Fin 16) (a : Fin 128) (d : Fin 64) :
    idx_main_v9 (ix5 b h a r d) = ix4 b h (pos r a) d := by
  funext x
  match x with
  | ⟨0, _⟩ => apply Fin.ext; show ((((b.val * 4 + h.val) * 128 + a.val) * 16 + r.val) * 64 + d.val) / 524288 = b.val; omega
  | ⟨1, _⟩ => apply Fin.ext; show ((((b.val * 4 + h.val) * 128 + a.val) * 16 + r.val) * 64 + d.val) / 131072 % 4 = h.val; omega
  | ⟨2, _⟩ => apply Fin.ext; show ((((b.val * 4 + h.val) * 128 + a.val) * 16 + r.val) * 64 + d.val) / 64 % 2048 = 16 * a.val + r.val; omega
  | ⟨3, _⟩ => apply Fin.ext; show ((((b.val * 4 + h.val) * 128 + a.val) * 16 + r.val) * 64 + d.val) % 64 = d.val; omega

theorem split_head (b : Fin 2) (p : Fin 2048) (h : Fin 4) (d : Fin 64) :
    idx_main_v1 (ix4 b p h d) = ix2 ⟨b.val * 2048 + p.val, by omega⟩ (lane h d) := by
  funext x
  match x with
  | ⟨0, _⟩ => apply Fin.ext; show (((b.val * 2048 + p.val) * 4 + h.val) * 64 + d.val) / 256 = b.val * 2048 + p.val; omega
  | ⟨1, _⟩ => apply Fin.ext; show (((b.val * 2048 + p.val) * 4 + h.val) * 64 + d.val) % 256 = 64 * h.val + d.val; omega

theorem swap5 : idx_main_v10 (ix5 b h r a d) = ix5 b h a r d := by
  funext x; match x with | ⟨0, _⟩ => rfl | ⟨1, _⟩ => rfl | ⟨2, _⟩ => rfl | ⟨3, _⟩ => rfl | ⟨4, _⟩ => rfl

theorem swap4 (b : Fin 2) (p : Fin 2048) (h : Fin 4) (d : Fin 64) : idx_main_v2 (ix4 b h p d) = ix4 b p h d := by
  funext x; match x with | ⟨0, _⟩ => rfl | ⟨1, _⟩ => rfl | ⟨2, _⟩ => rfl | ⟨3, _⟩ => rfl

theorem val_q : val_main_v10 (F := Ideal) (up P) (ix5 b h r a d) = ((Q P b h r a d : ℝ) : EReal) := by
  rw [val_main_v10_apply, swap5, val_main_v9_apply, split_pos, val_main_v2_apply, swap4, val_main_v1_apply, split_head, val_main_v0_apply]
  show ((P _ : ℝ) : EReal) = ((P _ : ℝ) : EReal)
  congr 2
  funext x; match x with | ⟨0, _⟩ => rfl | ⟨1, _⟩ => rfl

theorem val_k : val_main_v12 (F := Ideal) (up P) (ix5 b h r a d) = ((K P b h r a d : ℝ) : EReal) := by
  rw [val_main_v12_apply, show idx_main_v12 (ix5 b h r a d) = ix5 b h a r d from swap5 b h r a d, val_main_v11_apply,
    show idx_main_v11 (ix5 b h a r d) = _ from split_pos b h r a d, val_main_v5_apply, show idx_main_v5 (ix4 b h (pos r a) d) = _ from swap4 b _ h d,
    val_main_v4_apply, show idx_main_v4 (ix4 b (pos r a) h d) = _ from split_head b _ h d, val_main_v3_apply]
  show ((P _ : ℝ) : EReal) = ((P _ : ℝ) : EReal)
  congr 2
  funext x; match x with | ⟨0, _⟩ => rfl | ⟨1, _⟩ => rfl

theorem val_v : val_main_v14 (F := Ideal) (up P) (ix5 b h r a d) = ((W P b h r a d : ℝ) : EReal) := by
  rw [val_main_v14_apply, show idx_main_v14 (ix5 b h r a d) = ix5 b h a r d from swap5 b h r a d, val_main_v13_apply,
    show idx_main_v13 (ix5 b h a r d) = _ from split_pos b h r a d, val_main_v8_apply, show idx_main_v8 (ix4 b h (pos r a) d) = _ from swap4 b _ h d,
    val_main_v7_apply, show idx_main_v7 (ix4 b (pos r a) h d) = _ from split_head b _ h d, val_main_v6_apply]
  show ((P _ : ℝ) : EReal) = ((P _ : ℝ) : EReal)
  congr 2
  funext x; match x with | ⟨0, _⟩ => rfl | ⟨1, _⟩ => rfl

theorem val_do (p : Fin 2048) : val_main_v54 (F := Ideal) (up P1) (ix4 b h p d) = up P1 (ix2 ⟨b.val * 2048 + p.val, by omega⟩ (lane h d)) := by
  rw [val_main_v54_apply, show idx_main_v54 (ix4 b h p d) = _ from swap4 b p h d, val_main_v53_apply,
    show idx_main_v53 (ix4 b p h d) = _ from split_head b p h d]

theorem val_g : val_main_v58 (F := Ideal) (up P1) (ix5 b h r a d) = ((G P1 b h r a d : ℝ) : EReal) := by
  rw [val_main_v58_apply, show idx_main_v58 (ix5 b h r a d) = ix5 b h a r d from swap5 b h r a d, val_main_v57_apply,
    show idx_main_v57 (ix5 b h a r d) = _ from split_pos b h r a d, val_do]
  rfl

theorem split_pos4 : idx_main_v55 (ix4 b h a r) = ix3 b h (pos r a) := by
  funext x
  match x with
  | ⟨0, _⟩ => apply Fin.ext; show (((b.val * 4 + h.val) * 128 + a.val) * 16 + r.val) / 8192 = b.val; omega
  | ⟨1, _⟩ => apply Fin.ext; show (((b.val * 4 + h.val) * 128 + a.val) * 16 + r.val) / 2048 % 4 = h.val; omega
  | ⟨2, _⟩ => apply Fin.ext; show (((b.val * 4 + h.val) * 128 + a.val) * 16 + r.val) % 2048 = 16 * a.val + r.val; omega

theorem val_e : val_main_v56 (F := Ideal) (up P2) (ix4 b h r a) = ((E P2 b h r a : ℝ) : EReal) := by
  rw [val_main_v56_apply, show idx_main_v56 (ix4 b h r a) = ix4 b h a r from ?_, val_main_v55_apply, split_pos4]
  · rfl
  · funext x; match x with | ⟨0, _⟩ => rfl | ⟨1, _⟩ => rfl | ⟨2, _⟩ => rfl | ⟨3, _⟩ => rfl

/-- The band's mask is one exactly within the band. -/
theorem val_band (a j : Fin 128) : val_main_v23 (F := Ideal) (ix2 a j) = if Band.near a j then 1#1 else 0#1 := by
  have hk : val_main_v20 (F := Ideal) (ix2 a j) = BitVec.ofNat 32 j.val - BitVec.ofNat 32 a.val := by
    rw [val_main_v20_apply, val_main_v18_apply, val_main_v19_apply, val_main_v16_apply, val_main_v17_apply]
    rfl
  rw [val_main_v23_apply, val_main_v21_apply, hk, val_main_v22_apply, val_main_c_apply]
  revert a j
  decide +kernel

end Cert.ReferenceIdeal.Heads
end
-- ==== Proof.RefIndex.lean ====
module

public import proofs.«01_k».proof.Proof.RefHeads

/-! Where each operation of the reference reads its operands, at a head of a residue class. -/

@[expose] public section

noncomputable section

namespace Cert.ReferenceIdeal.Heads

open Cert.ReferenceIdeal Cert.ReferenceIdeal.Gen Cert.ReferenceIdeal.Read
open Idealize.ShloMosaic Idealize.ShloMosaic.ValueIdx

theorem at_lidx_main_v24 (b : Fin 2) (h : Fin 4) (r : Fin 16) (a j : Fin 128) (k : Fin 64) : lidx_main_v24 (ix5 b h r a j) k = ix5 b h r a k := by
  funext x; match x with | ⟨0, _⟩ => rfl | ⟨1, _⟩ => rfl | ⟨2, _⟩ => rfl | ⟨3, _⟩ => rfl | ⟨4, _⟩ => rfl

theorem at_ridx_main_v24 (b : Fin 2) (h : Fin 4) (r : Fin 16) (a j : Fin 128) (k : Fin 64) : ridx_main_v24 (ix5 b h r a j) k = ix5 b h r j k := by
  funext x; match x with | ⟨0, _⟩ => rfl | ⟨1, _⟩ => rfl | ⟨2, _⟩ => rfl | ⟨3, _⟩ => rfl | ⟨4, _⟩ => rfl

theorem at_idx_main_v27_1 (b : Fin 2) (h : Fin 4) (r : Fin 16) (a j : Fin 128) : idx_main_v27_1 (ix5 b h r a j) = ix2 a j := by
  funext x; match x with | ⟨0, _⟩ => rfl | ⟨1, _⟩ => rfl

theorem at_idx_main_v30 (b : Fin 2) (h : Fin 4) (r : Fin 16) (a j : Fin 128) : idx_main_v30 (ix5 b h r a j) = ix5 b h r a 0 := by
  funext x; match x with | ⟨0, _⟩ => rfl | ⟨1, _⟩ => rfl | ⟨2, _⟩ => rfl | ⟨3, _⟩ => rfl | ⟨4, _⟩ => rfl

theorem at_idx_main_v34 (b : Fin 2) (h : Fin 4) (r : Fin 16) (a : Fin 128) (z : Fin 1) : idx_main_v34 (ix5 b h r a z) = ix4 b h r a := by
  funext x; match x with | ⟨0, _⟩ => rfl | ⟨1, _⟩ => rfl | ⟨2, _⟩ => rfl | ⟨3, _⟩ => rfl

theorem at_idx_main_v35 (b : Fin 2) (h : Fin 4) (r : Fin 16) (a j : Fin 128) : idx_main_v35 (ix5 b h r a j) = ix5 b h r a 0 := by
  funext x; match x with | ⟨0, _⟩ => rfl | ⟨1, _⟩ => rfl | ⟨2, _⟩ => rfl | ⟨3, _⟩ => rfl | ⟨4, _⟩ => rfl

theorem at_idx_main_v33 (b : Fin 2) (h : Fin 4) (r : Fin 16) (a : Fin 128) (k : Fin 128) : idx_main_v33 (ix4 b h r a) k = ix5 b h r a k := by
  funext x; match x with | ⟨0, _⟩ => rfl | ⟨1, _⟩ => rfl | ⟨2, _⟩ => rfl | ⟨3, _⟩ => rfl | ⟨4, _⟩ => rfl

theorem at_idx_main_v38 (b : Fin 2) (h : Fin 4) (r : Fin 16) (a : Fin 128) (k : Fin 128) : idx_main_v38 (ix4 b h r a) k = ix5 b h r a k := by
  funext x; match x with | ⟨0, _⟩ => rfl | ⟨1, _⟩ => rfl | ⟨2, _⟩ => rfl | ⟨3, _⟩ => rfl | ⟨4, _⟩ => rfl

theorem at_lidx_main_v39 (b : Fin 2) (h : Fin 4) (r : Fin 16) (a : Fin 128) (d : Fin 64) (k : Fin 128) : lidx_main_v39 (ix5 b h r a d) k = ix5 b h r a k := by
  funext x; match x with | ⟨0, _⟩ => rfl | ⟨1, _⟩ => rfl | ⟨2, _⟩ => rfl | ⟨3, _⟩ => rfl | ⟨4, _⟩ => rfl

theorem at_ridx_main_v39 (b : Fin 2) (h : Fin 4) (r : Fin 16) (a : Fin 128) (d : Fin 64) (k : Fin 128) : ridx_main_v39 (ix5 b h r a d) k = ix5 b h r k d := by
  funext x; match x with | ⟨0, _⟩ => rfl | ⟨1, _⟩ => rfl | ⟨2, _⟩ => rfl | ⟨3, _⟩ => rfl | ⟨4, _⟩ => rfl

theorem at_idx_main_v40 (b : Fin 2) (h : Fin 4) (r : Fin 16) (a : Fin 128) (z : Fin 1) : idx_main_v40 (ix5 b h r a z) = ix4 b h r a := by
  funext x; match x with | ⟨0, _⟩ => rfl | ⟨1, _⟩ => rfl | ⟨2, _⟩ => rfl | ⟨3, _⟩ => rfl

theorem at_idx_main_v41 (b : Fin 2) (h : Fin 4) (r : Fin 16) (a : Fin 128) (d : Fin 64) : idx_main_v41 (ix5 b h r a d) = ix5 b h r a 0 := by
  funext x; match x with | ⟨0, _⟩ => rfl | ⟨1, _⟩ => rfl | ⟨2, _⟩ => rfl | ⟨3, _⟩ => rfl | ⟨4, _⟩ => rfl

theorem at_idx_main_v60 (b : Fin 2) (h : Fin 4) (r : Fin 16) (a : Fin 128) (z : Fin 1) : idx_main_v60 (ix5 b h r a z) = ix4 b h r a := by
  funext x; match x with | ⟨0, _⟩ => rfl | ⟨1, _⟩ => rfl | ⟨2, _⟩ => rfl | ⟨3, _⟩ => rfl

theorem at_idx_main_v61 (b : Fin 2) (h : Fin 4) (r : Fin 16) (a : Fin 128) (d : Fin 64) : idx_main_v61 (ix5 b h r a d) = ix5 b h r a 0 := by
  funext x; match x with | ⟨0, _⟩ => rfl | ⟨1, _⟩ => rfl | ⟨2, _⟩ => rfl | ⟨3, _⟩ => rfl | ⟨4, _⟩ => rfl

theorem at_idx_main_v64 (b : Fin 2) (h : Fin 4) (r : Fin 16) (a : Fin 128) (k : Fin 64) : idx_main_v64 (ix4 b h r a) k = ix5 b h r a k := by
  funext x; match x with | ⟨0, _⟩ => rfl | ⟨1, _⟩ => rfl | ⟨2, _⟩ => rfl | ⟨3, _⟩ => rfl | ⟨4, _⟩ => rfl

theorem at_idx_main_v67 (b : Fin 2) (h : Fin 4) (r : Fin 16) (a : Fin 128) (d : Fin 64) : idx_main_v67 (ix5 b h r a d) = ix5 b h r a 0 := by
  funext x; match x with | ⟨0, _⟩ => rfl | ⟨1, _⟩ => rfl | ⟨2, _⟩ => rfl | ⟨3, _⟩ => rfl | ⟨4, _⟩ => rfl

theorem at_idx_main_v69 (b : Fin 2) (h : Fin 4) (r : Fin 16) (a : Fin 128) (k : Fin 1) : idx_main_v69 (ix4 b h r a) k = ix5 b h r a k := by
  funext x; match x with | ⟨0, _⟩ => rfl | ⟨1, _⟩ => rfl | ⟨2, _⟩ => rfl | ⟨3, _⟩ => rfl | ⟨4, _⟩ => rfl

theorem at_lidx_main_v73 (b : Fin 2) (h : Fin 4) (r : Fin 16) (a j : Fin 128) (k : Fin 64) : lidx_main_v73 (ix5 b h r a j) k = ix5 b h r a k := by
  funext x; match x with | ⟨0, _⟩ => rfl | ⟨1, _⟩ => rfl | ⟨2, _⟩ => rfl | ⟨3, _⟩ => rfl | ⟨4, _⟩ => rfl

theorem at_ridx_main_v73 (b : Fin 2) (h : Fin 4) (r : Fin 16) (a j : Fin 128) (k : Fin 64) : ridx_main_v73 (ix5 b h r a j) k = ix5 b h r j k := by
  funext x; match x with | ⟨0, _⟩ => rfl | ⟨1, _⟩ => rfl | ⟨2, _⟩ => rfl | ⟨3, _⟩ => rfl | ⟨4, _⟩ => rfl

theorem at_idx_main_v74 (b : Fin 2) (h : Fin 4) (r : Fin 16) (a j : Fin 128) : idx_main_v74 (ix5 b h r a j) = ix4 b h r a := by
  funext x; match x with | ⟨0, _⟩ => rfl | ⟨1, _⟩ => rfl | ⟨2, _⟩ => rfl | ⟨3, _⟩ => rfl

theorem at_idx_main_v78 (b : Fin 2) (h : Fin 4) (r : Fin 16) (a : Fin 128) (k : Fin 128) : idx_main_v78 (ix4 b h r a) k = ix5 b h r a k := by
  funext x; match x with | ⟨0, _⟩ => rfl | ⟨1, _⟩ => rfl | ⟨2, _⟩ => rfl | ⟨3, _⟩ => rfl | ⟨4, _⟩ => rfl

theorem at_idx_main_v81 (b : Fin 2) (h : Fin 4) (r : Fin 16) (a : Fin 128) (k : Fin 1) : idx_main_v81 (ix4 b h r a) k = ix5 b h r a k := by
  funext x; match x with | ⟨0, _⟩ => rfl | ⟨1, _⟩ => rfl | ⟨2, _⟩ => rfl | ⟨3, _⟩ => rfl | ⟨4, _⟩ => rfl

theorem at_idx_main_v83 (b : Fin 2) (h : Fin 4) (r : Fin 16) (a j : Fin 128) : idx_main_v83 (ix5 b h r a j) = ix4 b h r a := by
  funext x; match x with | ⟨0, _⟩ => rfl | ⟨1, _⟩ => rfl | ⟨2, _⟩ => rfl | ⟨3, _⟩ => rfl

theorem at_idx_main_v72 (b : Fin 2) (h : Fin 4) (r : Fin 16) (j : Fin 128) (d : Fin 64) : idx_main_v72 (ix5 b h r j d) = ix5 b h r d j := by
  funext x; match x with | ⟨0, _⟩ => rfl | ⟨1, _⟩ => rfl | ⟨2, _⟩ => rfl | ⟨3, _⟩ => rfl | ⟨4, _⟩ => rfl

theorem at_lidx_main_v71 (b : Fin 2) (h : Fin 4) (r : Fin 16) (j : Fin 128) (d : Fin 64) (k : Fin 128) : lidx_main_v71 (ix5 b h r d j) k = ix5 b h r k d := by
  funext x; match x with | ⟨0, _⟩ => rfl | ⟨1, _⟩ => rfl | ⟨2, _⟩ => rfl | ⟨3, _⟩ => rfl | ⟨4, _⟩ => rfl

theorem at_ridx_main_v71 (b : Fin 2) (h : Fin 4) (r : Fin 16) (j : Fin 128) (d : Fin 64) (k : Fin 128) : ridx_main_v71 (ix5 b h r d j) k = ix5 b h r k j := by
  funext x; match x with | ⟨0, _⟩ => rfl | ⟨1, _⟩ => rfl | ⟨2, _⟩ => rfl | ⟨3, _⟩ => rfl | ⟨4, _⟩ => rfl

theorem at_lidx_main_v89 (b : Fin 2) (h : Fin 4) (r : Fin 16) (j : Fin 128) (d : Fin 64) (k : Fin 128) : lidx_main_v89 (ix5 b h r j d) k = ix5 b h r k j := by
  funext x; match x with | ⟨0, _⟩ => rfl | ⟨1, _⟩ => rfl | ⟨2, _⟩ => rfl | ⟨3, _⟩ => rfl | ⟨4, _⟩ => rfl

theorem at_ridx_main_v89 (b : Fin 2) (h : Fin 4) (r : Fin 16) (j : Fin 128) (d : Fin 64) (k : Fin 128) : ridx_main_v89 (ix5 b h r j d) k = ix5 b h r k d := by
  funext x; match x with | ⟨0, _⟩ => rfl | ⟨1, _⟩ => rfl | ⟨2, _⟩ => rfl | ⟨3, _⟩ => rfl | ⟨4, _⟩ => rfl

theorem at_lidx_main_v90 (b : Fin 2) (h : Fin 4) (r : Fin 16) (a : Fin 128) (d : Fin 64) (k : Fin 128) : lidx_main_v90 (ix5 b h r a d) k = ix5 b h r a k := by
  funext x; match x with | ⟨0, _⟩ => rfl | ⟨1, _⟩ => rfl | ⟨2, _⟩ => rfl | ⟨3, _⟩ => rfl | ⟨4, _⟩ => rfl

theorem at_ridx_main_v90 (b : Fin 2) (h : Fin 4) (r : Fin 16) (a : Fin 128) (d : Fin 64) (k : Fin 128) : ridx_main_v90 (ix5 b h r a d) k = ix5 b h r k d := by
  funext x; match x with | ⟨0, _⟩ => rfl | ⟨1, _⟩ => rfl | ⟨2, _⟩ => rfl | ⟨3, _⟩ => rfl | ⟨4, _⟩ => rfl

theorem at_idx_main_v49 (b : Fin 2) (h : Fin 4) (r : Fin 16) (a : Fin 128) (d : Fin 64) : idx_main_v49 (ix5 b h a r d) = ix5 b h r a d := by
  funext x; match x with | ⟨0, _⟩ => rfl | ⟨1, _⟩ => rfl | ⟨2, _⟩ => rfl | ⟨3, _⟩ => rfl | ⟨4, _⟩ => rfl

theorem at_idx_main_v51 (b : Fin 2) (h : Fin 4) (r : Fin 16) (a : Fin 128) : idx_main_v51 (ix4 b h a r) = ix4 b h r a := by
  funext x; match x with | ⟨0, _⟩ => rfl | ⟨1, _⟩ => rfl | ⟨2, _⟩ => rfl | ⟨3, _⟩ => rfl

theorem at_idx_main_v97 (b : Fin 2) (h : Fin 4) (p : Fin 2048) (d : Fin 64) : idx_main_v97 (ix4 b p h d) = ix4 b h p d := by
  funext x; match x with | ⟨0, _⟩ => rfl | ⟨1, _⟩ => rfl | ⟨2, _⟩ => rfl | ⟨3, _⟩ => rfl

theorem at_idx_main_v29 (b : Fin 2) (h : Fin 4) (r : Fin 16) (a : Fin 128) (z : Fin 1) : idx_main_v29 (ix5 b h r a z) = ix4 b h r a := by
  funext x
  match x with
  | ⟨0, _⟩ => apply Fin.ext; show (((((b.val * 4 + h.val) * 16 + r.val) * 128 + a.val) * 1 + z.val)) / 8192 = b.val; omega
  | ⟨1, _⟩ => apply Fin.ext; show (((((b.val * 4 + h.val) * 16 + r.val) * 128 + a.val) * 1 + z.val)) / 2048 % 4 = h.val; omega
  | ⟨2, _⟩ => apply Fin.ext; show (((((b.val * 4 + h.val) * 16 + r.val) * 128 + a.val) * 1 + z.val)) / 128 % 16 = r.val; omega
  | ⟨3, _⟩ => apply Fin.ext; show (((((b.val * 4 + h.val) * 16 + r.val) * 128 + a.val) * 1 + z.val)) % 128 = a.val; omega

theorem at_idx_main_v65 (b : Fin 2) (h : Fin 4) (r : Fin 16) (a : Fin 128) (z : Fin 1) : idx_main_v65 (ix5 b h r a z) = ix4 b h r a := by
  funext x
  match x with
  | ⟨0, _⟩ => apply Fin.ext; show (((((b.val * 4 + h.val) * 16 + r.val) * 128 + a.val) * 1 + z.val)) / 8192 = b.val; omega
  | ⟨1, _⟩ => apply Fin.ext; show (((((b.val * 4 + h.val) * 16 + r.val) * 128 + a.val) * 1 + z.val)) / 2048 % 4 = h.val; omega
  | ⟨2, _⟩ => apply Fin.ext; show (((((b.val * 4 + h.val) * 16 + r.val) * 128 + a.val) * 1 + z.val)) / 128 % 16 = r.val; omega
  | ⟨3, _⟩ => apply Fin.ext; show (((((b.val * 4 + h.val) * 16 + r.val) * 128 + a.val) * 1 + z.val)) % 128 = a.val; omega

theorem at_idx_main_v79 (b : Fin 2) (h : Fin 4) (r : Fin 16) (a : Fin 128) (z : Fin 1) : idx_main_v79 (ix5 b h r a z) = ix4 b h r a := by
  funext x
  match x with
  | ⟨0, _⟩ => apply Fin.ext; show (((((b.val * 4 + h.val) * 16 + r.val) * 128 + a.val) * 1 + z.val)) / 8192 = b.val; omega
  | ⟨1, _⟩ => apply Fin.ext; show (((((b.val * 4 + h.val) * 16 + r.val) * 128 + a.val) * 1 + z.val)) / 2048 % 4 = h.val; omega
  | ⟨2, _⟩ => apply Fin.ext; show (((((b.val * 4 + h.val) * 16 + r.val) * 128 + a.val) * 1 + z.val)) / 128 % 16 = r.val; omega
  | ⟨3, _⟩ => apply Fin.ext; show (((((b.val * 4 + h.val) * 16 + r.val) * 128 + a.val) * 1 + z.val)) % 128 = a.val; omega

theorem at_idx_main_v46 (b : Fin 2) (h : Fin 4) (r : Fin 16) (a : Fin 128) : idx_main_v46 (ix4 b h r a) = ix5 b h r a 0 := by
  funext x
  match x with
  | ⟨0, _⟩ => apply Fin.ext; show ((((b.val * 4 + h.val) * 16 + r.val) * 128 + a.val)) / 8192 = b.val; omega
  | ⟨1, _⟩ => apply Fin.ext; show ((((b.val * 4 + h.val) * 16 + r.val) * 128 + a.val)) / 2048 % 4 = h.val; omega
  | ⟨2, _⟩ => apply Fin.ext; show ((((b.val * 4 + h.val) * 16 + r.val) * 128 + a.val)) / 128 % 16 = r.val; omega
  | ⟨3, _⟩ => apply Fin.ext; show ((((b.val * 4 + h.val) * 16 + r.val) * 128 + a.val)) / 1 % 128 = a.val; omega
  | ⟨4, _⟩ => rfl

theorem at_idx_main_v50 (b : Fin 2) (h : Fin 4) (r : Fin 16) (a : Fin 128) (d : Fin 64) : idx_main_v50 (ix4 b h (pos r a) d) = ix5 b h a r d := by
  funext x
  match x with
  | ⟨0, _⟩ => apply Fin.ext; show (((b.val * 4 + h.val) * 2048 + (16 * a.val + r.val)) * 64 + d.val) / 524288 = b.val; omega
  | ⟨1, _⟩ => apply Fin.ext; show (((b.val * 4 + h.val) * 2048 + (16 * a.val + r.val)) * 64 + d.val) / 131072 % 4 = h.val; omega
  | ⟨2, _⟩ => apply Fin.ext; show (((b.val * 4 + h.val) * 2048 + (16 * a.val + r.val)) * 64 + d.val) / 1024 % 128 = a.val; omega
  | ⟨3, _⟩ => apply Fin.ext; show (((b.val * 4 + h.val) * 2048 + (16 * a.val + r.val)) * 64 + d.val) / 64 % 16 = r.val; omega
  | ⟨4, _⟩ => apply Fin.ext; show (((b.val * 4 + h.val) * 2048 + (16 * a.val + r.val)) * 64 + d.val) % 64 = d.val; omega

theorem at_idx_main_v52 (b : Fin 2) (h : Fin 4) (r : Fin 16) (a : Fin 128) : idx_main_v52 (ix3 b h (pos r a)) = ix4 b h a r := by
  funext x
  match x with
  | ⟨0, _⟩ => apply Fin.ext; show ((b.val * 4 + h.val) * 2048 + (16 * a.val + r.val)) / 8192 = b.val; omega
  | ⟨1, _⟩ => apply Fin.ext; show ((b.val * 4 + h.val) * 2048 + (16 * a.val + r.val)) / 2048 % 4 = h.val; omega
  | ⟨2, _⟩ => apply Fin.ext; show ((b.val * 4 + h.val) * 2048 + (16 * a.val + r.val)) / 16 % 128 = a.val; omega
  | ⟨3, _⟩ => apply Fin.ext; show ((b.val * 4 + h.val) * 2048 + (16 * a.val + r.val)) % 16 = r.val; omega

theorem at_idx_main_v98 (b : Fin 2) (h : Fin 4) (r : Fin 16) (a : Fin 128) (d : Fin 64) : idx_main_v98 (ix2 (row b r a) (lane h d)) = ix4 b (pos r a) h d := by
  funext x
  match x with
  | ⟨0, _⟩ => apply Fin.ext; show ((b.val * 2048 + (16 * a.val + r.val)) * 256 + (64 * h.val + d.val)) / 524288 = b.val; omega
  | ⟨1, _⟩ => apply Fin.ext; show ((b.val * 2048 + (16 * a.val + r.val)) * 256 + (64 * h.val + d.val)) / 256 % 2048 = 16 * a.val + r.val; omega
  | ⟨2, _⟩ => apply Fin.ext; show ((b.val * 2048 + (16 * a.val + r.val)) * 256 + (64 * h.val + d.val)) / 64 % 4 = h.val; omega
  | ⟨3, _⟩ => apply Fin.ext; show ((b.val * 2048 + (16 * a.val + r.val)) * 256 + (64 * h.val + d.val)) % 64 = d.val; omega

end Cert.ReferenceIdeal.Heads
end
-- ==== Proof.RefForward.lean ====
module

public import proofs.«01_k».proof.Proof.RefIndex
public import proofs.«01_k».proof.Proof.Coe
public import Idealize.ShloMosaic.Lib.KernelVsHost

/-! The reference's forward pass, at one head of one residue class, on real arguments. -/

@[expose] public section

noncomputable section

namespace Cert.ReferenceIdeal.Heads

open Cert.ReferenceIdeal Cert.ReferenceIdeal.Gen Cert.ReferenceIdeal.Read Cert.Band
open Idealize.ShloMosaic Idealize.ShloMosaic.ValueIdx

variable (P : S4096x5888.Idx → ℝ) (b : Fin 2) (h : Fin 4) (r : Fin 16) (a j : Fin 128) (d : Fin 64)

theorem val_sc : val_main_v26 (F := Ideal) (up P) (ix5 b h r a j) = ((sc (Q P b h r) (K P b h r) a j : ℝ) : EReal) := by
  rw [val_main_v26_apply, val_main_v24_apply, val_main_v25_apply, val_main_cst_apply, eighth, Ideal.mulf_def,
    coe_dot (f := fun k => Q P b h r a k) (g := fun k => K P b h r j k), ← EReal.coe_mul]
  · rfl
  · intro k; rw [at_lidx_main_v24, val_q]
  · intro k; rw [at_ridx_main_v24, val_k]

theorem val_masked : val_main_v27_0 (F := Ideal) (up P) (ix5 b h r a j)
    = if near a j then ((sc (Q P b h r) (K P b h r) a j : ℝ) : EReal) else ⊥ := by
  rw [val_main_v27_0_apply, val_main_v27_1_apply, at_idx_main_v27_1, val_band, val_sc, val_main_call0_v2_apply, val_main_call0_v0_apply,
    val_main_cst_0_apply, bot_word]
  split
  · exact select_one _ _
  · exact select_zero _ _

theorem red5 : S2x4x16x128x128.Reduces [4] S2x4x16x128 := by decide

theorem val_mx : val_main_v28 (F := Ideal) (up P) (ix4 b h r a) = ((mx (Q P b h r) (K P b h r) a : ℝ) : EReal) := by
  have hf : FKind.Formats .f32 := by decide
  have ha : (0xFF800000#32 : BitVec 32) = FKind.maximumf.neutral .f32 hf := rfl
  unfold val_main_v28 val_main_cst_1
  refine (congrFun (hostReduce_maximumf_eq_multiReduction (F := Ideal) (φ := .f32) (val_main_v27_0 (F := Ideal) (up P)) 0xFF800000#32
    reducesTo_S2x4x16x128x128_S2x4x16x128_d4 h_S_ red5 hf ha) _).trans ?_
  refine (Ideal.multiReduction_maximumf_single (φ := .f32) _ 0xFF800000#32 red5 hf ha _).trans ?_
  rw [bot_word]
  refine fold_mx _ _ a (f := _) fun k => ?_
  rw [← val_masked]
  show val_main_v27_0 (F := Ideal) (up P) _ = _
  congr 1
  funext x; match x with | ⟨0, _⟩ => rfl | ⟨1, _⟩ => rfl | ⟨2, _⟩ => rfl | ⟨3, _⟩ => rfl | ⟨4, _⟩ => rfl

/-- Whether a score is its row's greatest. -/
def top (q k : Fin 128 → Fin 64 → ℝ) (a j : Fin 128) : ℝ := if near a j ∧ sc q k a j = mx q k a then 1 else 0

theorem val_top : val_main_v32 (F := Ideal) (up P) (ix5 b h r a j) = ((top (Q P b h r) (K P b h r) a j : ℝ) : EReal) := by
  rw [val_main_v32_apply, val_main_v31_apply, val_masked, val_main_v30_apply, at_idx_main_v30, val_main_v29_apply, at_idx_main_v29, val_mx]
  show (((BitVec.ofBool (decide (_ = _))).toNat : ℝ) : EReal) = _
  unfold top
  by_cases hn : near a j
  · by_cases hs : sc (Q P b h r) (K P b h r) a j = mx (Q P b h r) (K P b h r) a
    · rw [if_pos hn, if_pos ⟨hn, hs⟩, hs]; simp
    · rw [if_pos hn, if_neg (fun x => hs x.2), decide_eq_false (fun x => hs (EReal.coe_eq_coe_iff.mp x))]; simp
  · rw [if_neg hn, if_neg (fun x => hn x.1), decide_eq_false (EReal.bot_ne_coe _)]; simp

/-- How many of a row's scores are its greatest. -/
def tops (q k : Fin 128 → Fin 64 → ℝ) (a : Fin 128) : ℝ := ∑ j, top q k a j

theorem tops_pos (q k : Fin 128 → Fin 64 → ℝ) (a : Fin 128) : 0 < tops q k a := by
  obtain ⟨j, hj⟩ := exists_mx q k a
  refine Finset.sum_pos' (fun i _ => ?_) ⟨j, Finset.mem_univ _, ?_⟩
  · unfold top; split <;> norm_num
  · unfold top; rw [if_pos hj]; norm_num

theorem val_tops : val_main_v33 (F := Ideal) (up P) (ix4 b h r a) = ((tops (Q P b h r) (K P b h r) a : ℝ) : EReal) := by
  rw [val_main_v33_apply]
  refine coe_tot (by rw [val_main_cst_2_apply, zero_word]) fun k => ?_
  rw [at_idx_main_v33, val_top]

theorem val_ex : val_main_v37 (F := Ideal) (up P) (ix5 b h r a j) = ((ex (Q P b h r) (K P b h r) a j : ℝ) : EReal) := by
  rw [val_main_v37_apply, val_main_v36_apply, val_masked, val_main_v35_apply, at_idx_main_v35, val_main_v34_apply, at_idx_main_v34, val_mx,
    Ideal.subf_def, Ideal.hostUnary_exp_def]
  unfold ex
  split
  · rw [← EReal.coe_sub, Ideal.exp_coe]
  · rw [EReal.bot_sub, Ideal.exp_bot, EReal.coe_zero]

theorem val_den : val_main_v38 (F := Ideal) (up P) (ix4 b h r a) = ((den (Q P b h r) (K P b h r) a : ℝ) : EReal) := by
  rw [val_main_v38_apply]
  refine coe_tot (by rw [val_main_cst_3_apply, zero_word]) fun k => ?_
  rw [at_idx_main_v38, val_ex]

theorem val_num : val_main_v39 (F := Ideal) (up P) (ix5 b h r a d) = ((num (Q P b h r) (K P b h r) (W P b h r) a d : ℝ) : EReal) := by
  rw [val_main_v39_apply]
  refine coe_dot (fun k => ?_) (fun k => ?_)
  · rw [at_lidx_main_v39, val_ex]
  · rw [at_ridx_main_v39, val_v]

theorem val_den1 (z : Fin 1) : val_main_v40 (F := Ideal) (up P) (ix5 b h r a z) = ((den (Q P b h r) (K P b h r) a : ℝ) : EReal) := by
  rw [val_main_v40_apply, at_idx_main_v40, val_den]

theorem val_quot : val_main_v42 (F := Ideal) (up P) (ix5 b h r a d)
    = ((num (Q P b h r) (K P b h r) (W P b h r) a d / den (Q P b h r) (K P b h r) a : ℝ) : EReal) := by
  rw [val_main_v42_apply, val_num, val_main_v41_apply, at_idx_main_v41, val_den1, Ideal.hostDivf_def, coe_div (den_pos _ _ _).ne']

theorem val_lse : val_main_v48 (F := Ideal) (up P) (ix4 b h r a) = ((lse (Q P b h r) (K P b h r) a : ℝ) : EReal) := by
  rw [val_main_v48_apply, val_main_v46_apply, at_idx_main_v46, val_main_v34_apply, at_idx_main_v34, val_mx, val_main_v47_apply, val_den,
    Ideal.hostUnary_log_def, Ideal.log_coe, if_neg (not_le.mpr (den_pos _ _ _)), Ideal.addf_def, ← EReal.coe_add]
  rfl

theorem val_inv (z : Fin 1) : val_main_v45 (F := Ideal) (up P) (ix5 b h r a z)
    = ((1 / (den (Q P b h r) (K P b h r) a * den (Q P b h r) (K P b h r) a) : ℝ) : EReal) := by
  rw [val_main_v45_apply, val_main_v44_apply, val_main_cst_4_apply, one_word, val_main_v43_apply, val_den1, Ideal.mulf_def, ← EReal.coe_mul,
    Ideal.hostDivf_def, coe_div (mul_pos (den_pos _ _ _) (den_pos _ _ _)).ne']

/-- The forward pass's output, back among the rows of a batch. -/
theorem val_out : val_main_v50 (F := Ideal) (up P) (ix4 b h (pos r a) d)
    = ((num (Q P b h r) (K P b h r) (W P b h r) a d / den (Q P b h r) (K P b h r) a : ℝ) : EReal) := by
  rw [val_main_v50_apply, at_idx_main_v50, val_main_v49_apply, at_idx_main_v49, val_quot]

theorem val_lse_out : val_main_v52 (F := Ideal) (up P) (ix3 b h (pos r a)) = ((lse (Q P b h r) (K P b h r) a : ℝ) : EReal) := by
  rw [val_main_v52_apply, at_idx_main_v52, val_main_v51_apply, at_idx_main_v51, val_lse]

end Cert.ReferenceIdeal.Heads
end
-- ==== Proof.HostValue.lean ====
module

public import proofs.«01_k».proof.Proof.HostPrefix
public import proofs.«01_k».proof.Proof.RefForward
public import Idealize.ShloMosaic.Lib.ValueIdx
public import Idealize.ShloMosaic.Lib.Pipeline.Value

/-! The numbers the host lays on the lanes, on real arguments: the logarithm of each row's sum, and what is taken from each row. -/

@[expose] public section

noncomputable section

namespace Cert.KernelIdeal.Prefix

open Cert.KernelIdeal Cert.KernelIdeal.Gen Cert.Band Cert.ReferenceIdeal.Heads
open Idealize.ShloMosaic Idealize.ShloMosaic.ValueIdx

theorem spread_apply (x : (⟨S2x4x2048, .f32⟩ : BufTy).Contents (Elt Ideal)) (b : Fin 2) (h : Fin 4) (r : Fin 16) (a : Fin 128) (d : Fin 64) :
    spread x (ix2 (row b r a) (lane h d)) = x (ix3 b h (pos r a)) := by
  unfold spread
  refine (shapeCast_apply _ shapeCasts_S2x2048x4x64_S4096x256 (ix2 (row b r a) (lane h d)) (ix4 b (pos r a) h d) ?_).trans ?_
  · rewrite [Shape.rowMajor_val_four, Shape.rowMajor_val_two]
    show ((b.val * 2048 + (16 * a.val + r.val)) * 4 + h.val) * 64 + d.val = (b.val * 2048 + (16 * a.val + r.val)) * 256 + (64 * h.val + d.val)
    omega
  refine (transpose_apply [0, 2, 1, 3] _ transposes_S2x4x2048x64_S2x2048x4x64_0_2_1_3 (ix4 b (pos r a) h d) (ix4 b h (pos r a) d) (fun c => match c with
    | ⟨0, _⟩ => rfl
    | ⟨1, _⟩ => rfl
    | ⟨2, _⟩ => rfl
    | ⟨3, _⟩ => rfl)).trans ?_
  refine (broadcastInDim_apply _ bcast_S2x4x2048x1_S2x4x2048x64_0_1_2_3 _ (ix4 b h (pos r a) d) (ix4 b h (pos r a) 0) (fun c => match c with
    | ⟨0, _⟩ => by show b.val = if (2 : Nat) = 1 then 0 else b.val; rw [if_neg (by decide)]
    | ⟨1, _⟩ => by show h.val = if (4 : Nat) = 1 then 0 else h.val; rw [if_neg (by decide)]
    | ⟨2, _⟩ => by show (pos r a).val = if (2048 : Nat) = 1 then 0 else (pos r a).val; rw [if_neg (by decide)]
    | ⟨3, _⟩ => by show 0 = if (1 : Nat) = 1 then 0 else d.val; rw [if_pos rfl])).trans ?_
  exact broadcastInDim_apply _ bcast_S2x4x2048_S2x4x2048x1_0_1_2 x (ix4 b h (pos r a) 0) (ix3 b h (pos r a)) (fun c => match c with
    | ⟨0, _⟩ => by show b.val = if (2 : Nat) = 1 then 0 else b.val; rw [if_neg (by decide)]
    | ⟨1, _⟩ => by show h.val = if (4 : Nat) = 1 then 0 else h.val; rw [if_neg (by decide)]
    | ⟨2, _⟩ => by show (pos r a).val = if (2048 : Nat) = 1 then 0 else (pos r a).val; rw [if_neg (by decide)])

variable (P : Cert.ReferenceIdeal.S4096x5888.Idx → ℝ) (P1 : Cert.ReferenceIdeal.S4096x256.Idx → ℝ) (P2 : Cert.ReferenceIdeal.S2x4x2048.Idx → ℝ)
  (b : Fin 2) (h : Fin 4) (r : Fin 16) (a : Fin 128) (d : Fin 64)

theorem taken_apply : taken (F := Ideal) (up P) (up P1) (up P2) (ix3 b h (pos r a))
    = ((dl (Q P b h r) (K P b h r) (W P b h r) (G P1 b h r) (E P2 b h r) a : ℝ) : EReal) := by
  unfold taken
  show Host.reduceAdd (F := Ideal) (φ := .f32) (mulf (F := Ideal) (φ := .f32) (Cert.ReferenceIdeal.Read.val_main_v54 (F := Ideal) (up P1)) (Cert.ReferenceIdeal.Read.val_main_v50 (F := Ideal) (up P)))
    (constant (F := Ideal) S_ .f32 0x00000000#32) reducesTo_S2x4x2048x64_S2x4x2048_d3 h_S_ (ix3 b h (pos r a)) - ((E P2 b h r a : ℝ) : EReal) = _
  simp only [Host.reduceAdd, Ideal.hostReduceAdd_def]
  rw [Ideal.hostReduceAdd_single reducesTo_S2x4x2048x64_S2x4x2048_d3 (by decide)]
  refine (congrArg (fun z : EReal => z - ((E P2 b h r a : ℝ) : EReal)) (coe_tot (f := fun d => G P1 b h r a d * (num (Q P b h r) (K P b h r) (W P b h r) a d / den (Q P b h r) (K P b h r) a)) zero_word fun k => ?_)).trans ?_
  · have hi : ∀ x : S2x4x2048x64.Idx, (∀ c, (x c).val = ((ix4 b h (pos r a) k : S2x4x2048x64.Idx) c).val) → x = ix4 b h (pos r a) k :=
      fun x hx => funext fun c => Fin.ext (hx c)
    refine (congrArg (mulf (F := Ideal) (φ := .f32) (Cert.ReferenceIdeal.Read.val_main_v54 (F := Ideal) (up P1)) (Cert.ReferenceIdeal.Read.val_main_v50 (F := Ideal) (up P)))
      (hi _ (fun c => by match c with | ⟨0, _⟩ => rfl | ⟨1, _⟩ => rfl | ⟨2, _⟩ => rfl | ⟨3, _⟩ => rfl))).trans ?_
    show Cert.ReferenceIdeal.Read.val_main_v54 (F := Ideal) (up P1) (ix4 b h (pos r a) k)
      * Cert.ReferenceIdeal.Read.val_main_v50 (F := Ideal) (up P) (ix4 b h (pos r a) k) = _
    rw [val_do, val_out, EReal.coe_mul]
    rfl
  · show ((_ : ℝ) : EReal) - _ = _
    rw [← EReal.coe_sub]
    rfl

/-- What the kernel finds on the lanes. -/
theorem lse_lanes : spread (Cert.ReferenceIdeal.Read.val_main_v52 (F := Ideal) (up P)) (ix2 (row b r a) (lane h d))
    = ((lse (Q P b h r) (K P b h r) a : ℝ) : EReal) := by
  rw [spread_apply, val_lse_out]

theorem dl_lanes : spread (taken (F := Ideal) (up P) (up P1) (up P2)) (ix2 (row b r a) (lane h d))
    = ((dl (Q P b h r) (K P b h r) (W P b h r) (G P1 b h r) (E P2 b h r) a : ℝ) : EReal) := by
  rw [spread_apply, taken_apply]

end Cert.KernelIdeal.Prefix
end
-- ==== Proof.RefBackward.lean ====
module

public import proofs.«01_k».proof.Proof.RefForward

/-! The reference's backward pass, at one head of one residue class, on real arguments, and its three results. -/

@[expose] public section

noncomputable section

namespace Cert.ReferenceIdeal.Heads

open Cert.ReferenceIdeal Cert.ReferenceIdeal.Gen Cert.ReferenceIdeal.Read Cert.Band
open Idealize.ShloMosaic Idealize.ShloMosaic.ValueIdx

variable (P : S4096x5888.Idx → ℝ) (P1 : S4096x256.Idx → ℝ) (P2 : S2x4x2048.Idx → ℝ)
  (b : Fin 2) (h : Fin 4) (r : Fin 16) (a j : Fin 128) (d : Fin 64)

theorem val_outer : val_main_v63 (F := Ideal) (up P) (up P1) (ix5 b h r a d)
    = ((G P1 b h r a d * (1 / (den (Q P b h r) (K P b h r) a * den (Q P b h r) (K P b h r) a))
        * num (Q P b h r) (K P b h r) (W P b h r) a d : ℝ) : EReal) := by
  rw [val_main_v63_apply, val_main_v62_apply, val_g, val_main_v61_apply, at_idx_main_v61, val_inv, val_num, Ideal.mulf_def, Ideal.mulf_def,
    ← EReal.coe_mul, ← EReal.coe_mul]

theorem val_neg (z : Fin 1) : val_main_v66 (F := Ideal) (up P) (up P1) (ix5 b h r a z)
    = ((-(∑ d, G P1 b h r a d * (1 / (den (Q P b h r) (K P b h r) a * den (Q P b h r) (K P b h r) a))
        * num (Q P b h r) (K P b h r) (W P b h r) a d) : ℝ) : EReal) := by
  rw [val_main_v66_apply, val_main_v65_apply, at_idx_main_v65, val_main_v64_apply]
  rw [coe_tot (f := fun d => G P1 b h r a d * (1 / (den (Q P b h r) (K P b h r) a * den (Q P b h r) (K P b h r) a))
        * num (Q P b h r) (K P b h r) (W P b h r) a d)]
  · rw [Ideal.hostNegf_def, Ideal.negf_def, EReal.coe_neg]
  · rw [val_main_cst_5_apply, zero_word]
  · intro k; rw [at_idx_main_v64, val_outer]

/-- The gradient of a row's sum of exponentials. -/
theorem val_dden : val_main_v70 (F := Ideal) (up P) (up P1) (up P2) (ix4 b h r a)
    = ((E P2 b h r a / den (Q P b h r) (K P b h r) a
        + -(∑ d, G P1 b h r a d * (1 / (den (Q P b h r) (K P b h r) a * den (Q P b h r) (K P b h r) a))
        * num (Q P b h r) (K P b h r) (W P b h r) a d) : ℝ) : EReal) := by
  rw [val_main_v70_apply, val_main_v59_apply, val_e, val_den, Ideal.hostDivf_def, coe_div (den_pos _ _ _).ne', val_main_v69_apply,
    val_main_cst_6_apply, zero_word, zero_add, Fin.sum_univ_one, at_idx_main_v69, val_neg, Ideal.addf_def, ← EReal.coe_add]

theorem val_gd : val_main_v68 (F := Ideal) (up P) (up P1) (ix5 b h r a d)
    = ((G P1 b h r a d / den (Q P b h r) (K P b h r) a : ℝ) : EReal) := by
  rw [val_main_v68_apply, val_g, val_main_v67_apply, at_idx_main_v67, val_den1, Ideal.hostDivf_def, coe_div (den_pos _ _ _).ne']

theorem val_rs : val_main_v76 (F := Ideal) (up P) (up P1) (up P2) (ix5 b h r a j)
    = ((rs (Q P b h r) (K P b h r) (W P b h r) (G P1 b h r) (E P2 b h r) a j : ℝ) : EReal) := by
  rw [val_main_v76_apply, val_main_v75_apply, val_main_v73_apply, val_main_v74_apply, at_idx_main_v74, val_dden, val_ex,
    coe_dot (f := fun d => G P1 b h r a d / den (Q P b h r) (K P b h r) a) (g := fun d => W P b h r j d), Ideal.addf_def, Ideal.mulf_def,
    ← EReal.coe_add, ← EReal.coe_mul]
  · rfl
  · intro k; rw [at_lidx_main_v73, val_gd]
  · intro k; rw [at_ridx_main_v73, val_v]

/-- Nothing is left for a row's greatest score. -/
theorem val_dmx : val_main_v81 (F := Ideal) (up P) (up P1) (up P2) (ix4 b h r a) = 0 := by
  rw [val_main_v81_apply, val_main_cst_8_apply, zero_word, zero_add, Fin.sum_univ_one, at_idx_main_v81, val_main_v80_apply,
    val_main_v60_apply, at_idx_main_v60, val_e, val_main_v79_apply, at_idx_main_v79, val_main_v78_apply,
    coe_tot (f := fun k => -(rs (Q P b h r) (K P b h r) (W P b h r) (G P1 b h r) (E P2 b h r) a k)), Finset.sum_neg_distrib, sum_rs,
    Ideal.addf_def, ← EReal.coe_add, add_neg_cancel, EReal.coe_zero]
  · rw [val_main_cst_7_apply, zero_word]
  · intro k; rw [at_idx_main_v78, val_main_v77_apply, val_rs, Ideal.hostNegf_def, Ideal.negf_def, EReal.coe_neg]

theorem val_ds : val_main_v88 (F := Ideal) (up P) (up P1) (up P2) (ix5 b h r a j)
    = ((ds (Q P b h r) (K P b h r) (W P b h r) (G P1 b h r) (E P2 b h r) a j * 0.125 : ℝ) : EReal) := by
  rw [val_main_v88_apply, val_main_v87_apply, val_main_cst_9_apply, eighth, val_main_v86_apply, val_main_v27_1_apply, at_idx_main_v27_1, val_band,
    val_main_v85_apply, val_rs, val_main_v84_apply, val_main_v83_apply, at_idx_main_v83, val_main_v82_apply, val_dmx, val_tops, val_top,
    Ideal.hostDivf_def, Ideal.div_coe (tops_pos _ _ _).ne', zero_mul, Ideal.mulf_def, Ideal.mulf_def, zero_mul, Ideal.addf_def, add_zero, rs_eq,
    val_main_call1_v0_apply, val_main_call1_cst_apply, zero_word, EReal.coe_mul]
  congr 1
  split
  · exact select_one _ _
  · rename_i hn
    rw [select_zero]
    unfold ds wt
    rw [if_neg hn, zero_mul, EReal.coe_zero]

theorem val_dq : val_main_v90 (F := Ideal) (up P) (up P1) (up P2) (ix5 b h r a d)
    = ((dq (Q P b h r) (K P b h r) (W P b h r) (G P1 b h r) (E P2 b h r) a d : ℝ) : EReal) := by
  rw [val_main_v90_apply, coe_dot (f := fun k => ds (Q P b h r) (K P b h r) (W P b h r) (G P1 b h r) (E P2 b h r) a k * 0.125)
    (g := fun k => K P b h r k d)]
  · unfold dq
    rw [Finset.sum_mul]
    exact congrArg _ (Finset.sum_congr rfl fun k _ => by ring)
  · intro k; rw [at_lidx_main_v90, val_ds]
  · intro k; rw [at_ridx_main_v90, val_k]

theorem val_dk : val_main_v89 (F := Ideal) (up P) (up P1) (up P2) (ix5 b h r j d)
    = ((dk (Q P b h r) (K P b h r) (W P b h r) (G P1 b h r) (E P2 b h r) j d : ℝ) : EReal) := by
  rw [val_main_v89_apply, coe_dot (f := fun k => ds (Q P b h r) (K P b h r) (W P b h r) (G P1 b h r) (E P2 b h r) k j * 0.125)
    (g := fun k => Q P b h r k d)]
  · unfold dk
    rw [Finset.sum_mul]
    exact congrArg _ (Finset.sum_congr rfl fun k _ => by ring)
  · intro k; rw [at_lidx_main_v89, val_ds]
  · intro k; rw [at_ridx_main_v89, val_q]

theorem val_dv : val_main_v72 (F := Ideal) (up P) (up P1) (ix5 b h r j d)
    = ((dv (Q P b h r) (K P b h r) (G P1 b h r) j d : ℝ) : EReal) := by
  rw [val_main_v72_apply, at_idx_main_v72, val_main_v71_apply, coe_dot (f := fun k => G P1 b h r k d / den (Q P b h r) (K P b h r) k)
    (g := fun k => ex (Q P b h r) (K P b h r) k j)]
  · unfold dv
    refine congrArg _ (Finset.sum_congr rfl fun k _ => ?_)
    rw [wt_eq]; ring
  · intro k; rw [at_lidx_main_v71, val_gd]
  · intro k; rw [at_ridx_main_v71, val_ex]

/-- The three results. -/
theorem res_dq : val_main_v98 (F := Ideal) (up P) (up P1) (up P2) (ix2 (row b r a) (lane h d))
    = ((dq (Q P b h r) (K P b h r) (W P b h r) (G P1 b h r) (E P2 b h r) a d : ℝ) : EReal) := by
  rw [val_main_v98_apply, at_idx_main_v98, val_main_v97_apply, at_idx_main_v97, val_main_v96_apply,
    show idx_main_v96 (ix4 b h (pos r a) d) = _ from at_idx_main_v50 b h r a d, val_main_v95_apply,
    show idx_main_v95 (ix5 b h a r d) = _ from at_idx_main_v49 b h r a d, val_dq]

theorem res_dk : val_main_v100 (F := Ideal) (up P) (up P1) (up P2) (ix2 (row b r a) (lane h d))
    = ((dk (Q P b h r) (K P b h r) (W P b h r) (G P1 b h r) (E P2 b h r) a d : ℝ) : EReal) := by
  rw [val_main_v100_apply, show idx_main_v100 (ix2 (row b r a) (lane h d)) = _ from at_idx_main_v98 b h r a d, val_main_v99_apply,
    show idx_main_v99 (ix4 b (pos r a) h d) = _ from at_idx_main_v97 b h (pos r a) d, val_main_v94_apply,
    show idx_main_v94 (ix4 b h (pos r a) d) = _ from at_idx_main_v50 b h r a d, val_main_v93_apply,
    show idx_main_v93 (ix5 b h a r d) = _ from at_idx_main_v49 b h r a d, val_dk]

theorem res_dv : val_main_v102 (F := Ideal) (up P) (up P1) (ix2 (row b r a) (lane h d))
    = ((dv (Q P b h r) (K P b h r) (G P1 b h r) a d : ℝ) : EReal) := by
  rw [val_main_v102_apply, show idx_main_v102 (ix2 (row b r a) (lane h d)) = _ from at_idx_main_v98 b h r a d, val_main_v101_apply,
    show idx_main_v101 (ix4 b (pos r a) h d) = _ from at_idx_main_v97 b h (pos r a) d, val_main_v92_apply,
    show idx_main_v92 (ix4 b h (pos r a) d) = _ from at_idx_main_v50 b h r a d, val_main_v91_apply,
    show idx_main_v91 (ix5 b h a r d) = _ from at_idx_main_v49 b h r a d, val_dv]

end Cert.ReferenceIdeal.Heads
end
-- ==== Proof.Final.lean ====
module

public import proofs.«01_k».proof.Proof.Run
public import proofs.«01_k».proof.Proof.TileValue
public import proofs.«01_k».proof.Proof.HostValue
public import proofs.«01_k».proof.Proof.RefBackward
public import Idealize.ShloMosaic.Lib.Pipeline.Value

/-! The kernel's three result arrays on real arguments: they are the reference's. -/

@[expose] public section

noncomputable section

namespace Cert.KernelIdeal.Final

open Cert.KernelIdeal Cert.KernelIdeal.Gen Cert.KernelIdeal.Body Cert.KernelIdeal.Prefix Cert.ReferenceIdeal.Heads Cert.ReferenceIdeal.Read
open Idealize.ShloMosaic Idealize.ShloMosaic.TcCoe Idealize.ShloMosaic.ValueIdx Idealize.SL.Sem
open Idealize.ShloMosaic.Pipeline (Dat)

/-! ## The grid: a batch and a pair of heads at each point -/

def bat (t : Fin cfg0.N) : Fin 2 := ⟨t.val / 2, by have := t.isLt; have : cfg0.N = 4 := N_0; omega⟩
def two (t : Fin cfg0.N) : Fin 2 := ⟨t.val % 2, by omega⟩
/-- The head in the lanes `64 e …` of point `t`'s blocks. -/
def hd (t : Fin cfg0.N) (e : Fin 2) : Fin 4 := ⟨2 * (t.val % 2) + e.val, by omega⟩

theorem at0 : ∀ t : Fin cfg0.N, win0_0.index t 0 = t.val / 2 ∧ win0_0.index t 1 = 4 + t.val % 2 := (by decide +kernel : ∀ t : Fin grid0.N, _)
theorem at1 : ∀ t : Fin cfg0.N, win0_1.index t 0 = t.val / 2 ∧ win0_1.index t 1 = 10 + t.val % 2 := (by decide +kernel : ∀ t : Fin grid0.N, _)
theorem at2 : ∀ t : Fin cfg0.N, win0_2.index t 0 = t.val / 2 ∧ win0_2.index t 1 = 16 + t.val % 2 := (by decide +kernel : ∀ t : Fin grid0.N, _)
theorem at3 : ∀ t : Fin cfg0.N, win0_3.index t 0 = t.val / 2 ∧ win0_3.index t 1 = t.val % 2 := (by decide +kernel : ∀ t : Fin grid0.N, _)
theorem at4 : ∀ t : Fin cfg0.N, win0_4.index t 0 = t.val / 2 ∧ win0_4.index t 1 = t.val % 2 := (by decide +kernel : ∀ t : Fin grid0.N, _)
theorem at5 : ∀ t : Fin cfg0.N, win0_5.index t 0 = t.val / 2 ∧ win0_5.index t 1 = t.val % 2 := (by decide +kernel : ∀ t : Fin grid0.N, _)
theorem at6 : ∀ t : Fin cfg0.N, win0_6.index t 0 = t.val / 2 ∧ win0_6.index t 1 = t.val % 2 := (by decide +kernel : ∀ t : Fin grid0.N, _)
theorem at7 : ∀ t : Fin cfg0.N, win0_7.index t 0 = t.val / 2 ∧ win0_7.index t 1 = t.val % 2 := (by decide +kernel : ∀ t : Fin grid0.N, _)
theorem at8 : ∀ t : Fin cfg0.N, win0_8.index t 0 = t.val / 2 ∧ win0_8.index t 1 = t.val % 2 := (by decide +kernel : ∀ t : Fin grid0.N, _)

theorem emb0 (t : Fin cfg0.N) (r : Fin 16) (a : Fin 128) (e : Fin 2) (d : Fin 64) :
    (win0_0.rect t).emb ((ix2 (pos r a) (hl e d) : S2048x128.Idx)) = (ix2 (row (bat t) r a) (col 512 (by norm_num) (hd t e) d) : S4096x5888.Idx) := by
  refine Shape.idx_ext₂ ?_ ?_
  · refine (Pipeline.Window.rect_emb_val win0_0 t (ix2 (pos r a) (hl e d) : S2048x128.Idx) 0).trans ?_
    rw [(at0 t).1]; rfl
  · refine (Pipeline.Window.rect_emb_val win0_0 t (ix2 (pos r a) (hl e d) : S2048x128.Idx) 1).trans ?_
    rw [(at0 t).2]
    show (4 + t.val % 2) * 128 + (64 * e.val + d.val) = 512 + (64 * (2 * (t.val % 2) + e.val) + d.val)
    omega

theorem emb1 (t : Fin cfg0.N) (r : Fin 16) (a : Fin 128) (e : Fin 2) (d : Fin 64) :
    (win0_1.rect t).emb ((ix2 (pos r a) (hl e d) : S2048x128.Idx)) = (ix2 (row (bat t) r a) (col 1280 (by norm_num) (hd t e) d) : S4096x5888.Idx) := by
  refine Shape.idx_ext₂ ?_ ?_
  · refine (Pipeline.Window.rect_emb_val win0_1 t (ix2 (pos r a) (hl e d) : S2048x128.Idx) 0).trans ?_
    rw [(at1 t).1]; rfl
  · refine (Pipeline.Window.rect_emb_val win0_1 t (ix2 (pos r a) (hl e d) : S2048x128.Idx) 1).trans ?_
    rw [(at1 t).2]
    show (10 + t.val % 2) * 128 + (64 * e.val + d.val) = 1280 + (64 * (2 * (t.val % 2) + e.val) + d.val)
    omega

theorem emb2 (t : Fin cfg0.N) (r : Fin 16) (a : Fin 128) (e : Fin 2) (d : Fin 64) :
    (win0_2.rect t).emb ((ix2 (pos r a) (hl e d) : S2048x128.Idx)) = (ix2 (row (bat t) r a) (col 2048 (by norm_num) (hd t e) d) : S4096x5888.Idx) := by
  refine Shape.idx_ext₂ ?_ ?_
  · refine (Pipeline.Window.rect_emb_val win0_2 t (ix2 (pos r a) (hl e d) : S2048x128.Idx) 0).trans ?_
    rw [(at2 t).1]; rfl
  · refine (Pipeline.Window.rect_emb_val win0_2 t (ix2 (pos r a) (hl e d) : S2048x128.Idx) 1).trans ?_
    rw [(at2 t).2]
    show (16 + t.val % 2) * 128 + (64 * e.val + d.val) = 2048 + (64 * (2 * (t.val % 2) + e.val) + d.val)
    omega

theorem emb3 (t : Fin cfg0.N) (r : Fin 16) (a : Fin 128) (e : Fin 2) (d : Fin 64) :
    (win0_3.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_3 t (ix2 (pos r a) (hl e d) : S2048x128.Idx) 0).trans ?_
    rw [(at3 t).1]; rfl
  · refine (Pipeline.Window.rect_emb_val win0_3 t (ix2 (pos r a) (hl e d) : S2048x128.Idx) 1).trans ?_
    rw [(at3 t).2]
    show (t.val % 2) * 128 + (64 * e.val + d.val) = 64 * (2 * (t.val % 2) + e.val) + d.val
    omega

theorem emb4 (t : Fin cfg0.N) (r : Fin 16) (a : Fin 128) (e : Fin 2) (d : Fin 64) :
    (win0_4.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_4 t (ix2 (pos r a) (hl e d) : S2048x128.Idx) 0).trans ?_
    rw [(at4 t).1]; rfl
  · refine (Pipeline.Window.rect_emb_val win0_4 t (ix2 (pos r a) (hl e d) : S2048x128.Idx) 1).trans ?_
    rw [(at4 t).2]
    show (t.val % 2) * 128 + (64 * e.val + d.val) = 64 * (2 * (t.val % 2) + e.val) + d.val
    omega

theorem emb5 (t : Fin cfg0.N) (r : Fin 16) (a : Fin 128) (e : Fin 2) (d : Fin 64) :
    (win0_5.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_5 t (ix2 (pos r a) (hl e d) : S2048x128.Idx) 0).trans ?_
    rw [(at5 t).1]; rfl
  · refine (Pipeline.Window.rect_emb_val win0_5 t (ix2 (pos r a) (hl e d) : S2048x128.Idx) 1).trans ?_
    rw [(at5 t).2]
    show (t.val % 2) * 128 + (64 * e.val + d.val) = 64 * (2 * (t.val % 2) + e.val) + d.val
    omega

theorem emb6 (t : Fin cfg0.N) (r : Fin 16) (a : Fin 128) (e : Fin 2) (d : Fin 64) :
    (win0_6.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_6 t (ix2 (pos r a) (hl e d) : S2048x128.Idx) 0).trans ?_
    rw [(at6 t).1]; rfl
  · refine (Pipeline.Window.rect_emb_val win0_6 t (ix2 (pos r a) (hl e d) : S2048x128.Idx) 1).trans ?_
    rw [(at6 t).2]
    show (t.val % 2) * 128 + (64 * e.val + d.val) = 64 * (2 * (t.val % 2) + e.val) + d.val
    omega

theorem emb7 (t : Fin cfg0.N) (r : Fin 16) (a : Fin 128) (e : Fin 2) (d : Fin 64) :
    (win0_7.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_7 t (ix2 (pos r a) (hl e d) : S2048x128.Idx) 0).trans ?_
    rw [(at7 t).1]; rfl
  · refine (Pipeline.Window.rect_emb_val win0_7 t (ix2 (pos r a) (hl e d) : S2048x128.Idx) 1).trans ?_
    rw [(at7 t).2]
    show (t.val % 2) * 128 + (64 * e.val + d.val) = 64 * (2 * (t.val % 2) + e.val) + d.val
    omega

theorem emb8 (t : Fin cfg0.N) (r : Fin 16) (a : Fin 128) (e : Fin 2) (d : Fin 64) :
    (win0_8.rect t).emb ((ix2 (pos r a) (hl e d) : S2048x128.Idx)) = (ix2 (row (bat t) r a) (lane (hd t e) d) : S4096x256.Idx) := by
  refine Shape.idx_ext₂ ?_ ?_
  · refine (Pipeline.Window.rect_emb_val win0_8 t (ix2 (pos r a) (hl e d) : S2048x128.Idx) 0).trans ?_
    rw [(at8 t).1]; rfl
  · refine (Pipeline.Window.rect_emb_val win0_8 t (ix2 (pos r a) (hl e d) : S2048x128.Idx) 1).trans ?_
    rw [(at8 t).2]
    show (t.val % 2) * 128 + (64 * e.val + d.val) = 64 * (2 * (t.val % 2) + e.val) + d.val
    omega

/-- Every element of a block is in some residue class and some head. -/
theorem split (y : S2048x128.Idx) : ∃ r a e d, y = ix2 (pos r a) (hl e d) := by
  have h0 : (y 0).val < 2048 := (y 0).isLt
  have h1 : (y 1).val < 128 := (y 1).isLt
  refine ⟨⟨(y 0).val % 16, by omega⟩, ⟨(y 0).val / 16, by omega⟩, ⟨(y 1).val / 64, by omega⟩, ⟨(y 1).val % 64, by omega⟩, Shape.idx_ext₂ ?_ ?_⟩
  · show (y 0).val = 16 * ((y 0).val / 16) + (y 0).val % 16
    omega
  · show (y 1).val = 64 * ((y 1).val / 64) + (y 1).val % 64
    omega

/-- A block's tile, and a glued block, at an element. -/
theorem tl_apply {α : Type} (X : S2048x128.Idx → α) (r : Fin 16) (a : Fin 128) (e : Fin 2) (d : Fin 64) :
    tl r X (ix2 a (hl e d)) = X (ix2 (pos r a) (hl e d)) := by
  refine congrArg X (Shape.idx_ext₂ ?_ ?_)
  · show r.val + 16 * a.val = 16 * a.val + r.val
    omega
  · show 0 + 1 * (hl e d).val = (hl e d).val
    omega

theorem glue_apply (w : Fin 16 → FVec Ideal S128x128 .f32) (r : Fin 16) (a : Fin 128) (e : Fin 2) (d : Fin 64) :
    glue w (ix2 (pos r a) (hl e d)) = w r (ix2 a (hl e d)) := by
  unfold glue
  have hr : (⟨(pos r a).val % 16, Nat.mod_lt _ (by norm_num)⟩ : Fin 16) = r := Fin.ext (by show (16 * a.val + r.val) % 16 = r.val; omega)
  have ha : (⟨(pos r a).val / 16, by have := (pos r a).isLt; omega⟩ : Fin 128) = a := Fin.ext (by show (16 * a.val + r.val) / 16 = a.val; omega)
  exact congrArg₂ (fun r' a' => w r' (ix2 a' (hl e d))) hr ha

variable (m : (ℓ : Loc nD τ sig) → Buf (Elt Ideal) ℓ) (c : Dev nD)
  (P : S4096x5888.Idx → ℝ) (P1 : S4096x256.Idx → ℝ) (P2 : S2x4x2048.Idx → ℝ)
  (t : Fin cfg0.N) (r : Fin 16)

/-! ## The inputs' tiles -/

theorem read0 (X : main_arg0.ty.Contents (Elt Ideal)) (a : Fin 128) (e : Fin 2) (d : Fin 64) :
    tl r (((cfg0.win 0).blk t).view.read (Elt Ideal) X) (ix2 a (hl e d)) = X (ix2 (row (bat t) r a) (col 512 (by norm_num) (hd t e) d)) :=
  (tl_apply _ r a e d).trans (congrArg X (emb0 t r a e d))
theorem blk0 : iblk m c 0 t = ((cfg0.win 0).blk t).view.read (Elt Ideal) (V m c main_arg0) := rfl

theorem read1 (X : main_arg0.ty.Contents (Elt Ideal)) (a : Fin 128) (e : Fin 2) (d : Fin 64) :
    tl r (((cfg0.win 1).blk t).view.read (Elt Ideal) X) (ix2 a (hl e d)) = X (ix2 (row (bat t) r a) (col 1280 (by norm_num) (hd t e) d)) :=
  (tl_apply _ r a e d).trans (congrArg X (emb1 t r a e d))
theorem blk1 : iblk m c 1 t = ((cfg0.win 1).blk t).view.read (Elt Ideal) (V m c main_arg0) := rfl

theorem read2 (X : main_arg0.ty.Contents (Elt Ideal)) (a : Fin 128) (e : Fin 2) (d : Fin 64) :
    tl r (((cfg0.win 2).blk t).view.read (Elt Ideal) X) (ix2 a (hl e d)) = X (ix2 (row (bat t) r a) (col 2048 (by norm_num) (hd t e) d)) :=
  (tl_apply _ r a e d).trans (congrArg X (emb2 t r a e d))
theorem blk2 : iblk m c 2 t = ((cfg0.win 2).blk t).view.read (Elt Ideal) (V m c main_arg0) := rfl

theorem read3 (X : main_arg1.ty.Contents (Elt Ideal)) (a : Fin 128) (e : Fin 2) (d : Fin 64) :
    tl r (((cfg0.win 3).blk t).view.read (Elt Ideal) X) (ix2 a (hl e d)) = X (ix2 (row (bat t) r a) (lane (hd t e) d)) :=
  (tl_apply _ r a e d).trans (congrArg X (emb3 t r a e d))
theorem blk3 : iblk m c 3 t = ((cfg0.win 3).blk t).view.read (Elt Ideal) (V m c main_arg1) := rfl

theorem read4 (X : main_v53.ty.Contents (Elt Ideal)) (a : Fin 128) (e : Fin 2) (d : Fin 64) :
    tl r (((cfg0.win 4).blk t).view.read (Elt Ideal) X) (ix2 a (hl e d)) = X (ix2 (row (bat t) r a) (lane (hd t e) d)) :=
  (tl_apply _ r a e d).trans (congrArg X (emb4 t r a e d))
theorem blk4 : iblk m c 4 t = ((cfg0.win 4).blk t).view.read (Elt Ideal) (V m c main_v53) := rfl

theorem read5 (X : main_v57.ty.Contents (Elt Ideal)) (a : Fin 128) (e : Fin 2) (d : Fin 64) :
    tl r (((cfg0.win 5).blk t).view.read (Elt Ideal) X) (ix2 a (hl e d)) = X (ix2 (row (bat t) r a) (lane (hd t e) d)) :=
  (tl_apply _ r a e d).trans (congrArg X (emb5 t r a e d))
theorem blk5 : iblk m c 5 t = ((cfg0.win 5).blk t).view.read (Elt Ideal) (V m c main_v57) := rfl

section inputs
variable (h0 : m ((c : Thread nD τ).loc main_arg0) = up P) (h1 : m ((c : Thread nD τ).loc main_arg1) = up P1) (h2 : m ((c : Thread nD τ).loc main_arg2) = up P2)

include h0 in
theorem in0 : Tiled (tl r (iblk m c 0 t)) fun e => Q P (bat t) (hd t e) r := fun e a d => by
  rw [blk0, V_main_arg0, h0]
  exact read0 t r _ a e d

include h0 in
theorem in1 : Tiled (tl r (iblk m c 1 t)) fun e => K P (bat t) (hd t e) r := fun e a d => by
  rw [blk1, V_main_arg0, h0]
  exact read1 t r _ a e d

include h0 in
theorem in2 : Tiled (tl r (iblk m c 2 t)) fun e => W P (bat t) (hd t e) r := fun e a d => by
  rw [blk2, V_main_arg0, h0]
  exact read2 t r _ a e d

include h1 in
theorem in3 : Tiled (tl r (iblk m c 3 t)) fun e => G P1 (bat t) (hd t e) r := fun e a d => by
  rw [blk3, V_main_arg1, h1]
  exact read3 t r _ a e d

include h0 h1 h2 in
theorem in4 : Rowed (tl r (iblk m c 4 t)) fun e => Band.dl (Q P (bat t) (hd t e) r) (K P (bat t) (hd t e) r) (W P (bat t) (hd t e) r)
    (G P1 (bat t) (hd t e) r) (E P2 (bat t) (hd t e) r) := fun e a d => by
  rw [blk4, V_dl, h0, h1, h2]
  exact (read4 t r _ a e d).trans (dl_lanes P P1 P2 _ _ _ _ _)

include h0 in
theorem in5 : Rowed (tl r (iblk m c 5 t)) fun e => Band.lse (Q P (bat t) (hd t e) r) (K P (bat t) (hd t e) r) := fun e a d => by
  rw [blk5, V_lse, h0]
  exact (read5 t r _ a e d).trans (lse_lanes P _ _ _ _ _)

end inputs

/-- What the reference's three results are, as the kernel's arrays hold them. -/
def dqs : S4096x256.Idx → EReal := val_main_v98 (F := Ideal) (up P) (up P1) (up P2)
def dks : S4096x256.Idx → EReal := val_main_v100 (F := Ideal) (up P) (up P1) (up P2)
def dvs : S4096x256.Idx → EReal := val_main_v102 (F := Ideal) (up P) (up P1)

theorem covered (t : Fin cfg0.N → Fin 2 → ℕ) (ht : ∀ s, t s 0 = s.val / 2 ∧ t s 1 = s.val % 2) (i : S4096x256.Idx) :
    ∃ s : Fin cfg0.N, (t s 0 * 2048 ≤ (i 0).val ∧ (i 0).val < t s 0 * 2048 + 2048) ∧ (t s 1 * 128 ≤ (i 1).val ∧ (i 1).val < t s 1 * 128 + 128) := by
  have h0 : (i 0).val < 4096 := (i 0).isLt
  have h1 : (i 1).val < 256 := (i 1).isLt
  have hN : cfg0.N = 4 := N_0
  refine ⟨⟨2 * ((i 0).val / 2048) + (i 1).val / 128, by omega⟩, ?_⟩
  rw [(ht _).1, (ht _).2]
  dsimp only
  omega

theorem put6 (X : S4096x256.Idx → EReal) (a : Fin 128) (e : Fin 2) (d : Fin 64) :
    ((cfg0.win 6).blk t).view.read (Elt Ideal) X (ix2 (pos r a) (hl e d) : S2048x128.Idx) = X (ix2 (row (bat t) r a) (lane (hd t e) d)) :=
  congrArg X (emb6 t r a e d)
theorem cut6 (x : FVec Ideal S2048x128 .f32) : (cfg0.win 6).cut (grid0.coords t) x = x := rfl

theorem put7 (X : S4096x256.Idx → EReal) (a : Fin 128) (e : Fin 2) (d : Fin 64) :
    ((cfg0.win 7).blk t).view.read (Elt Ideal) X (ix2 (pos r a) (hl e d) : S2048x128.Idx) = X (ix2 (row (bat t) r a) (lane (hd t e) d)) :=
  congrArg X (emb7 t r a e d)
theorem cut7 (x : FVec Ideal S2048x128 .f32) : (cfg0.win 7).cut (grid0.coords t) x = x := rfl

theorem put8 (X : S4096x256.Idx → EReal) (a : Fin 128) (e : Fin 2) (d : Fin 64) :
    ((cfg0.win 8).blk t).view.read (Elt Ideal) X (ix2 (pos r a) (hl e d) : S2048x128.Idx) = X (ix2 (row (bat t) r a) (lane (hd t e) d)) :=
  congrArg X (emb8 t r a e d)
theorem cut8 (x : FVec Ideal S2048x128 .f32) : (cfg0.win 8).cut (grid0.coords t) x = x := rfl

section results
variable (h0 : m ((c : Thread nD τ).loc main_arg0) = up P) (h1 : m ((c : Thread nD τ).loc main_arg1) = up P1) (h2 : m ((c : Thread nD τ).loc main_arg2) = up P2)

include h0 h1 h2 in
theorem flushed6 (t : Fin cfg0.N) : (dats m 0 c).flushed 6 t = ((cfg0.win 6).blk t).view.read (Elt Ideal) (dqs P P1 P2) := by
  refine funext fun (y : S2048x128.Idx) => ?_
  obtain ⟨r, a, e, d, rfl⟩ := split y
  refine Eq.trans ?_ (put6 t r (dqs P P1 P2) a e d).symm
  refine (congrFun (cut6 t ((dats m 0 c).after 6 t)) _).trans ?_
  rw [after6]
  unfold oq
  refine (glue_apply _ r a e d).trans ?_
  refine (wq_apply (E := fun e => E P2 (bat t) (hd t e) r) (in0 m c P t r h0) (in1 m c P t r h0) (in2 m c P t r h0) (in3 m c P1 t r h1) (in4 m c P P1 P2 t r h0 h1 h2) (in5 m c P t r h0) e a d).trans ?_
  exact (res_dq P P1 P2 (bat t) (hd t e) r a d).symm

include h0 h1 h2 in
theorem final6 : (dats m 0 c).arrAt 6 cfg0.N = dqs P P1 P2 :=
  (dats m 0 c).arrAt_eq_of_cover 6 (dqs P P1 P2) (fun t _ => flushed6 m c P P1 P2 h0 h1 h2 t) fun i => by
    obtain ⟨s, hs⟩ := covered (fun s => win0_6.index s) at6 i
    refine ⟨s, flush0_6 s, ?_⟩
    show i ∈ ((View.whole main_v58_0).slice (win0_6.rect s)).set
    rw [View.set_slice_whole, Rect.mem_set_unit]
    intro a
    match a with
    | ⟨0, _⟩ => exact hs.1
    | ⟨1, _⟩ => exact hs.2

include h0 h1 h2 in
theorem flushed7 (t : Fin cfg0.N) : (dats m 0 c).flushed 7 t = ((cfg0.win 7).blk t).view.read (Elt Ideal) (dks P P1 P2) := by
  refine funext fun (y : S2048x128.Idx) => ?_
  obtain ⟨r, a, e, d, rfl⟩ := split y
  refine Eq.trans ?_ (put7 t r (dks P P1 P2) a e d).symm
  refine (congrFun (cut7 t ((dats m 0 c).after 7 t)) _).trans ?_
  rw [after7]
  unfold ok
  refine (glue_apply _ r a e d).trans ?_
  refine (wk_apply (E := fun e => E P2 (bat t) (hd t e) r) (in0 m c P t r h0) (in1 m c P t r h0) (in2 m c P t r h0) (in3 m c P1 t r h1) (in4 m c P P1 P2 t r h0 h1 h2) (in5 m c P t r h0) e a d).trans ?_
  exact (res_dk P P1 P2 (bat t) (hd t e) r a d).symm

include h0 h1 h2 in
theorem final7 : (dats m 0 c).arrAt 7 cfg0.N = dks P P1 P2 :=
  (dats m 0 c).arrAt_eq_of_cover 7 (dks P P1 P2) (fun t _ => flushed7 m c P P1 P2 h0 h1 h2 t) fun i => by
    obtain ⟨s, hs⟩ := covered (fun s => win0_7.index s) at7 i
    refine ⟨s, flush0_7 s, ?_⟩
    show i ∈ ((View.whole main_v58_1).slice (win0_7.rect s)).set
    rw [View.set_slice_whole, Rect.mem_set_unit]
    intro a
    match a with
    | ⟨0, _⟩ => exact hs.1
    | ⟨1, _⟩ => exact hs.2

include h0 h1 in
theorem flushed8 (t : Fin cfg0.N) : (dats m 0 c).flushed 8 t = ((cfg0.win 8).blk t).view.read (Elt Ideal) (dvs P P1) := by
  refine funext fun (y : S2048x128.Idx) => ?_
  obtain ⟨r, a, e, d, rfl⟩ := split y
  refine Eq.trans ?_ (put8 t r (dvs P P1) a e d).symm
  refine (congrFun (cut8 t ((dats m 0 c).after 8 t)) _).trans ?_
  rw [after8]
  unfold ov
  refine (glue_apply _ r a e d).trans ?_
  refine (wv_apply (in0 m c P t r h0) (in1 m c P t r h0) (in3 m c P1 t r h1) (in5 m c P t r h0) e a d).trans ?_
  exact (res_dv P P1 (bat t) (hd t e) r a d).symm

include h0 h1 in
theorem final8 : (dats m 0 c).arrAt 8 cfg0.N = dvs P P1 :=
  (dats m 0 c).arrAt_eq_of_cover 8 (dvs P P1) (fun t _ => flushed8 m c P P1 h0 h1 t) fun i => by
    obtain ⟨s, hs⟩ := covered (fun s => win0_8.index s) at8 i
    refine ⟨s, flush0_8 s, ?_⟩
    show i ∈ ((View.whole main_v58_2).slice (win0_8.rect s)).set
    rw [View.set_slice_whole, Rect.mem_set_unit]
    intro a
    match a with
    | ⟨0, _⟩ => exact hs.1
    | ⟨1, _⟩ => exact hs.2

end results

/-- The kernel's run on real arguments. -/
theorem run (g : Dev nD → PrngReg) (P : Dev nD → S4096x5888.Idx → ℝ) (P1 : Dev nD → S4096x256.Idx → ℝ) (P2 : Dev nD → S2x4x2048.Idx → ℝ)
    (h0 : ∀ c : Dev nD, m ((c : Thread nD τ).loc main_arg0) = up (P c)) (h1 : ∀ c : Dev nD, m ((c : Thread nD τ).loc main_arg1) = up (P1 c))
    (h2 : ∀ c : Dev nD, m ((c : Thread nD τ).loc main_arg2) = up (P2 c)) :
    θ_run defs (onTc (τ := τ) (main (F := Ideal))) ⟨m, fun _ => 0, g⟩ (fun r => ∀ c : Dev nD,
      r.2.mem ((c.tc : Thread nD τ).loc main_v58_0) = dqs (P c) (P1 c) (P2 c)
      ∧ r.2.mem ((c.tc : Thread nD τ).loc main_v58_1) = dks (P c) (P1 c) (P2 c)
      ∧ r.2.mem ((c.tc : Thread nD τ).loc main_v58_2) = dvs (P c) (P1 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 6).trans (final6 m c _ _ _ (h0 c) (h1 c) (h2 c)), ((h.1 c).1 7).trans (final7 m c _ _ _ (h0 c) (h1 c) (h2 c)),
      ((h.1 c).1 8).trans (final8 m c _ _ (h0 c) (h1 c)),
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).2 main_arg2 (Pipeline.mem_restRefs_of main_arg2 (by decide) (by decide))).trans (V_main_arg2 m c)⟩)
    (run_main m g)

end Cert.KernelIdeal.Final
end
-- ==== Proof.Algebraic.lean ====
module

public import proofs.«01_k».proof.Defs
public import proofs.«01_k».proof.Proof.Final
public import proofs.«01_k».proof.Proof.Gen.Pre_finite
public import proofs.«01_k».proof.Proof.Gen.ReferenceIdeal.Run
public import proofs.«01_k».proof.Proof.Gen.ReferenceIdeal.Read

/-! On finite arguments the kernel and the reference end with the same three gradients. -/

@[expose] public section

noncomputable section

namespace Cert.Algebraic

open Idealize.ShloMosaic Idealize.ShloMosaic.TcCoe Idealize.SL.Sem
open Cert.KernelIdeal.Final Cert.ReferenceIdeal.Heads

instance : Cert.ReferenceIdeal.Facts := Cert.ReferenceIdeal.Gen.facts
instance : Cert.Pre_finite.Facts := Cert.Pre_finite.Gen.facts
instance : Cert.KernelIdeal.Facts := Cert.KernelIdeal.Gen.facts

theorem top_word : FloatOps.ofBits (F := Ideal) .f32 0x7F800000#32 = (⊤ : EReal) := by
  rw [Ideal.ofBits_def]
  simp [Ideal.ofBits, Ideal.ieee]

/-- An element whose absolute value is below infinity is a real number. -/
theorem real_of_lt {x : Ideal .f32} (h : FloatOps.cmpf (F := Ideal) .olt (FloatOps.hostAbsf (F := Ideal) x) (FloatOps.ofBits (F := Ideal) .f32 0x7F800000#32) = 1#1) :
    x = ((EReal.toReal x : ℝ) : EReal) := by
  rw [top_word] at h
  have h' : Ideal.cmp .olt (FloatOps.absf (F := Ideal) x) (⊤ : EReal) = 1#1 := h
  rw [Ideal.absf_def] at h'
  unfold Ideal.cmp at h'
  induction x using EReal.rec with
  | bot => simp at h'
  | top => simp at h'
  | coe x => rfl

variable {m : (ℓ : Loc Cert.KernelIdeal.nD Cert.KernelIdeal.τ Cert.KernelIdeal.sig) → Buf (Elt Ideal) ℓ}

/-- The arguments of a finite launch are arrays of reals. -/
theorem reals (h : Cert.Pre_KernelIdeal_finite m) (c : Dev Cert.KernelIdeal.nD) :
    (∃ P : Cert.KernelIdeal.S4096x5888.Idx → ℝ, m ((c : Thread Cert.KernelIdeal.nD Cert.KernelIdeal.τ).loc Cert.KernelIdeal.main_arg0) = up P)
    ∧ (∃ P1 : Cert.KernelIdeal.S4096x256.Idx → ℝ, m ((c : Thread Cert.KernelIdeal.nD Cert.KernelIdeal.τ).loc Cert.KernelIdeal.main_arg1) = up P1)
    ∧ (∃ P2 : Cert.KernelIdeal.S2x4x2048.Idx → ℝ, m ((c : Thread Cert.KernelIdeal.nD Cert.KernelIdeal.τ).loc Cert.KernelIdeal.main_arg2) = up P2) := by
  obtain ⟨h0, h1, h2⟩ := h c
  exact ⟨⟨fun i => EReal.toReal _, funext fun i => real_of_lt (congrFun h0 i)⟩, ⟨fun i => EReal.toReal _, funext fun i => real_of_lt (congrFun h1 i)⟩,
    ⟨fun i => EReal.toReal _, funext fun i => real_of_lt (congrFun h2 i)⟩⟩

theorem algebraic : Cert.algebraic_KernelIdeal_ReferenceIdeal_pre_finite := by
  intro m g m' g' hpre hagree
  choose P hP using fun c => (reals hpre c).1
  choose P1 hP1 using fun c => (reals hpre c).2.1
  choose P2 hP2 using fun c => (reals hpre c).2.2
  refine ⟨fun c => dqs (P c) (P1 c) (P2 c), fun c => dks (P c) (P1 c) (P2 c), fun c => dvs (P c) (P1 c), ?_, ?_⟩
  · exact Cert.KernelIdeal.Final.run m g P P1 P2 hP hP1 hP2
  · refine (θ_run Cert.ReferenceIdeal.defs _ _).mono (fun r h c => ?_) (Cert.ReferenceIdeal.Value.run (F := Ideal) m' g')
    obtain ⟨e0, e1, e2⟩ := hagree c
    have e0 := e0.trans (hP c)
    have e1 := e1.trans (hP1 c)
    have e2 := e2.trans (hP2 c)
    refine ⟨(h c).1.trans ((Cert.ReferenceIdeal.Read.val_main_v98_eq m' c).trans ?_), (h c).2.1.trans ((Cert.ReferenceIdeal.Read.val_main_v100_eq m' c).trans ?_),
      (h c).2.2.1.trans ((Cert.ReferenceIdeal.Read.val_main_v102_eq m' c).trans ?_), (h c).2.2.2⟩
    · rw [e0, e1, e2]; rfl
    · rw [e0, e1, e2]; rfl
    · rw [e0, e1]; rfl

end Cert.Algebraic
end
-- ==== Proof.Stored.lean ====
/- The kernel as printed, over the stored floats. Its text is the ideal text but for the mask's constant, which the ideal text names;
   with a named constant read as its own bits the two programs are one, so the ideal text's run is the kernel's. -/
module

public import proofs.«01_k».proof.Proof.Run
public import proofs.«01_k».proof.Proof.Gen.Kernel
public import proofs.«01_k».proof.Defs

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts

/-- A named constant read over the stored floats: its own bits. -/
@[reducible] def storedNamed : Named Bits := ⟨fun _ _ {φ} bits => Scalar.ofBits φ bits⟩

attribute [local instance] storedNamed

set_option maxHeartbeats 1000000
set_option backward.isDefEq.respectTransparency.types false

/-- The two programs have the same bodies. -/
theorem bodies_eq : Cert.KernelIdeal.defs₀ (F := Bits) = Cert.Kernel.defs₀ (F := Bits) := by
  unfold Cert.KernelIdeal.defs₀ Cert.Kernel.defs₀
  refine congrArg (Defs.onTc (Λ := Cert.Kernel.Λ₀)) ?_
  funext l x
  match l, x with
  | 0, (t, s) => rfl

/-- The two programs have the same entry. -/
theorem main_eq : Cert.KernelIdeal.main (F := Bits) = Cert.Kernel.main (F := Bits) := by exact rfl

/-- `Cert.quiescent_Kernel`. -/
theorem frame_kernel : Cert.quiescent_Kernel := fun m ρ _ => by
  have h := Cert.KernelIdeal.Body.frame_run (F := Bits) m ρ
  unfold Cert.KernelIdeal.defs at h
  rw [bodies_eq, main_eq] at h
  exact h

end Cert.Proof
end
-- ==== Proof.NormMath.lean ====
module

public import proofs.«01_k».proof.Proof.Coe

/-! Arithmetic of the root mean square normalisation's gradient, among the extended reals. -/

@[expose] public section

noncomputable section

namespace Cert.Norm

open Idealize.ShloMosaic Cert.Band

/-- The small number added to the mean square. -/
def eps : ℝ := 8796093 / 2 ^ 43

theorem eps_pos : 0 < eps := by unfold eps; positivity

/-- The gradient that reaches the normalised row: a product with the weight, whose rows are in two halves. -/
def dh (d : Fin 2 → Fin 2816 → EReal) (w : Fin 2 → Fin 2816 → Fin 1024 → EReal) (k : Fin 1024) : EReal :=
  (∑ l, d 0 l * w 0 l k) + ∑ l, d 1 l * w 1 l k

variable (x g h q : Fin 1024 → EReal)

/-- The mean square, and the reciprocal of its root. -/
def ms : EReal := Ideal.div (∑ k, x k * x k) ((1024 : ℝ) : EReal) + ((eps : ℝ) : EReal)
def rs : EReal := Ideal.rsqrt (ms x)

/-- The row's gradient. -/
def dx (k : Fin 1024) : EReal := q k + rs x * (h k * g k - x k * rs x * Ideal.div (∑ j, x j * rs x * (h j * g j)) ((1024 : ℝ) : EReal))

/-- The mean square's part of it, and the row's gradient as differentiation gives it. -/
def part : EReal := Ideal.div ((∑ j, x j * (h j * g j)) * (((-(1 / 2) : ℝ) : EReal) * Ideal.div (rs x) (ms x))) ((1024 : ℝ) : EReal)
def dx' (k : Fin 1024) : EReal := q k + h k * g k * rs x + x k * part x g h + part x g h * x k

/-! ## A nonnegative number goes into a sum -/

theorem real_mul_add {r : ℝ} (hr : 0 ≤ r) (y z : EReal) : (r : EReal) * (y + z) = r * y + r * z :=
  EReal.left_distrib_of_nonneg_of_ne_top (EReal.coe_nonneg.mpr hr) (EReal.coe_ne_top r) y z

theorem real_mul_sum {ι : Type} {r : ℝ} (hr : 0 ≤ r) (s : Finset ι) (f : ι → EReal) : (r : EReal) * ∑ j ∈ s, f j = ∑ j ∈ s, r * f j := by
  classical
  induction s using Finset.induction with
  | empty => simp
  | insert a s ha ih => rw [Finset.sum_insert ha, Finset.sum_insert ha, real_mul_add hr, ih]

theorem square_nonneg (y : EReal) : 0 ≤ y * y := by
  rcases le_total 0 y with h | h
  · exact mul_nonneg h h
  · rw [← neg_mul_neg]
    exact mul_nonneg (EReal.neg_nonneg.mpr h) (EReal.neg_nonneg.mpr h)

theorem twice (y : EReal) : y + y = ((2 : ℝ) : EReal) * y := by
  induction y using EReal.rec with
  | bot => rw [EReal.coe_mul_bot_of_pos (by norm_num)]; rfl
  | top => rw [EReal.coe_mul_top_of_pos (by norm_num)]; rfl
  | coe r => rw [← EReal.coe_add, ← EReal.coe_mul, two_mul]

/-! ## The two gradients agree -/

/-- The mean square is infinite or a positive number. -/
theorem ms_cases : ms x = ⊤ ∨ ∃ M : ℝ, 0 < M ∧ ms x = (M : EReal) := by
  unfold ms
  have h0 : 0 ≤ ∑ k, x k * x k := Finset.sum_nonneg fun k _ => square_nonneg (x k)
  rw [Ideal.div_coe (by norm_num)]
  generalize (∑ k, x k * x k) = y at h0 ⊢
  induction y using EReal.rec with
  | bot => exact absurd h0 (by simp)
  | top => exact .inl (by rw [EReal.top_mul_coe_of_pos (by norm_num)]; rfl)
  | coe r =>
    refine .inr ⟨r * (1 / 1024) + eps, ?_, by rw [EReal.coe_add, EReal.coe_mul]⟩
    exact add_pos_of_nonneg_of_pos (mul_nonneg (EReal.coe_nonneg.mp h0) (by norm_num)) eps_pos

theorem dx_eq (k : Fin 1024) : dx' x g h q k = dx x g h q k := by
  rcases ms_cases x with hm | ⟨M, hM, hm⟩
  · have hr : rs x = 0 := by unfold rs; rw [hm]; rfl
    have hp : part x g h = 0 := by
      unfold part
      rw [hr, hm, Ideal.div_coe (by norm_num)]
      simp [Ideal.div]
    unfold dx' dx
    rw [hp, hr]
    simp
  · obtain ⟨R, hR, hr, hRM⟩ : ∃ R : ℝ, 0 < R ∧ rs x = (R : EReal) ∧ 1 / M = R * R := by
      refine ⟨(Real.sqrt M)⁻¹, inv_pos.mpr (Real.sqrt_pos.mpr hM), ?_, ?_⟩
      · unfold rs
        rw [hm, Ideal.rsqrt_coe, if_neg hM.le.not_gt, if_neg hM.ne']
      · rw [← mul_inv, Real.mul_self_sqrt hM.le, one_div]
    have hs : (∑ j, x j * rs x * (h j * g j)) = (R : EReal) * ∑ j, x j * (h j * g j) := by
      rw [real_mul_sum hR.le]
      refine Finset.sum_congr rfl fun j _ => ?_
      rw [hr, mul_comm (x j), mul_assoc]
    have hp : part x g h = (∑ j, x j * (h j * g j)) * ((-(1 / 2) * (R * (R * R)) * (1 / 1024) : ℝ) : EReal) := by
      unfold part
      rw [hr, hm, Ideal.div_coe hM.ne', Ideal.div_coe (by norm_num), hRM, mul_assoc]
      simp only [EReal.coe_mul, mul_assoc]
    unfold dx' dx
    rw [hs, hp, hr, Ideal.div_coe (by norm_num)]
    generalize (∑ j, x j * (h j * g j)) = S
    rw [sub_eq_add_neg, real_mul_add hR.le, add_assoc, add_assoc, mul_comm (S * _) (x k), twice, mul_comm (R : EReal) (h k * g k), ← add_assoc]
    rw [← add_assoc]
    refine congrArg (fun e => q k + h k * g k * (R : EReal) + e) ?_
    rw [show ((-(1 / 2) * (R * (R * R)) * (1 / 1024) : ℝ) : EReal) = -((1 / 2 * (R * (R * R)) * (1 / 1024) : ℝ) : EReal) by rw [← EReal.coe_neg]; congr 1; ring]
    rw [mul_neg, mul_neg, mul_neg, mul_neg]
    refine congrArg Neg.neg ?_
    rw [show ((2 : ℝ) : EReal) * (x k * (S * ((1 / 2 * (R * (R * R)) * (1 / 1024) : ℝ) : EReal))) = x k * S * (((2 : ℝ) : EReal) * ((1 / 2 * (R * (R * R)) * (1 / 1024) : ℝ) : EReal)) by ac_rfl,
      show (R : EReal) * (x k * (R : EReal) * ((R : EReal) * S * ((1 / 1024 : ℝ) : EReal))) = x k * S * ((R : EReal) * ((R : EReal) * (R : EReal)) * ((1 / 1024 : ℝ) : EReal)) by ac_rfl]
    rw [← EReal.coe_mul, ← EReal.coe_mul, ← EReal.coe_mul, ← EReal.coe_mul]
    refine congrArg (fun e : ℝ => x k * S * (e : EReal)) ?_
    ring

/-! ## The constants -/

theorem eps_word : FloatOps.ofBits (F := Ideal) .f32 0x358637BD#32 = ((eps : ℝ) : EReal) := by
  rw [Ideal.ofBits_def]
  unfold eps
  simp [Ideal.ofBits, Ideal.ieee, -EReal.coe_mul]; norm_num

theorem len_word : FloatOps.ofBits (F := Ideal) .f32 0x44800000#32 = ((1024 : ℝ) : EReal) := by
  rw [Ideal.ofBits_def]
  simp [Ideal.ofBits, Ideal.ieee, -EReal.coe_mul]; norm_num

theorem half_word : FloatOps.ofBits (F := Ideal) .f32 0xBF000000#32 = ((-(1 / 2) : ℝ) : EReal) := by
  rw [Ideal.ofBits_def]
  simp [Ideal.ofBits, Ideal.ieee, -EReal.coe_mul]; norm_num

end Cert.Norm
end
-- ==== Proof.NormBody.lean ====
module

public import proofs.«01_k».proof.Proof.Gen.Kernel2Ideal.Value
public import Idealize.ShloMosaic.Lib.Tactic

/-! What one grid point leaves in each result's block. -/

@[expose] public section

noncomputable section

namespace Cert.Kernel2Ideal.Body

open Cert.Kernel2Ideal Cert.Kernel2Ideal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The two halves of a block of the gradient, and of the weight. -/
def d0 (x : Vec F S2x256x2816 .bf16) : Vec F S1x256x2816 .bf16 := View.ld x (Rect.unit (s := S2x256x2816) ![0, 0, 0] S1x256x2816.size inb_S2x256x2816_S1x256x2816_0_0_0)
def d1 (x : Vec F S2x256x2816 .bf16) : Vec F S1x256x2816 .bf16 := View.ld x (Rect.unit (s := S2x256x2816) ![1, 0, 0] S1x256x2816.size inb_S2x256x2816_S1x256x2816_1_0_0)
def w0 (x : Vec F S5632x1024 .bf16) : Vec F S2816x1024 .bf16 := View.ld x (Rect.unit (s := S5632x1024) ![0, 0] S2816x1024.size inb_S5632x1024_S2816x1024_0_0)
def w1 (x : Vec F S5632x1024 .bf16) : Vec F S2816x1024 .bf16 := View.ld x (Rect.unit (s := S5632x1024) ![2816, 0] S2816x1024.size inb_S5632x1024_S2816x1024_2816_0)

variable (d : Vec F S2x256x2816 .bf16) (w : Vec F S5632x1024 .bf16) (x : Vec F S256x1024 .f32) (g : Vec F S1x1024 .f32) (q : Vec F S256x1024 .f32)
  (o : Vec F S1x1024 .f32)

/-- The rows' gradient, and the gain's gradient so far. -/
def rowsGrad : FVec F S256x1024 .f32 :=
  k0_pay1 (k0_pay6 x) (k0_pay7 x) (k0_pay8 (d0 d) (w0 w) (d1 d) (w1 w) g) q (k0_pay9 (d0 d) (w0 w) (d1 d) (w1 w) x g)
def gainGrad : FVec F S1x1024 .f32 := k0_pay3 (k0_pay5 (d0 d) (w0 w) (d1 d) (w1 w)) (k0_pay7 x) o

variable (c : Dev nD) (i : grid0.Coords) (a1 : Memref sig .tc .vmem S2x256x2816 .bf16) (h1 : a1.IsWhole) (a2 : Memref sig .tc .vmem S5632x1024 .bf16) (h2 : a2.IsWhole)
  (a3 : Memref sig .tc .vmem S256x1024 .f32) (h3 : a3.IsWhole) (a4 : Memref sig .tc .vmem S1x1024 .f32) (h4 : a4.IsWhole) (a5 : Memref sig .tc .vmem S256x1024 .f32) (h5 : a5.IsWhole)
  (a6 : Memref sig .tc .vmem S256x1024 .f32) (h6 : a6.IsWhole) (a7 : Memref sig .tc .vmem S256x1024 .bf16) (h7 : a7.IsWhole) (a8 : Memref sig .tc .vmem S1x1024 .f32) (h8 : a8.IsWhole)

theorem out_B_5 (hc : ¬cond0_0 i) : out0_B_5 c i a1 h1 a2 h2 a3 h3 a4 h4 a5 h5 a6 h6 a7 h7 a8 h8 hc d w x g q o = rowsGrad d w x g q := by
  unfold out0_B_5
  rw [View.read_writes_eq_canon _ _ _ (cover0_B_5 c i a1 h1 a2 h2 a3 h3 a4 h4 a5 h5 a6 h6 a7 h7 a8 h8 hc d w x g q o)]
  unfold kernelRun0_B
  dsimp only
  sl_unfold_words
  rw [View.canon_unit_zero hz]
  simp only [View.readAt_eq_ld, h1.read_unread, h2.read_unread, h3.read_unread, h4.read_unread, h5.read_unread, View.ld_unit_zero (S := S256x1024) hz, View.ld_unit_zero (S := S1x1024) hz]
  rfl

theorem out_B_6 (hc : ¬cond0_0 i) : out0_B_6 c i a1 h1 a2 h2 a3 h3 a4 h4 a5 h5 a6 h6 a7 h7 a8 h8 hc d w x g q o = truncf .bf16 (rowsGrad d w x g q) bitsLt_bf16_f32 := by
  unfold out0_B_6
  rw [View.read_writes_eq_canon _ _ _ (cover0_B_6 c i a1 h1 a2 h2 a3 h3 a4 h4 a5 h5 a6 h6 a7 h7 a8 h8 hc d w x g q o)]
  unfold kernelRun0_B
  dsimp only
  sl_unfold_words
  rw [View.canon_unit_zero hz]
  simp only [View.readAt_eq_ld, h1.read_unread, h2.read_unread, h3.read_unread, h4.read_unread, h5.read_unread, View.ld_unit_zero (S := S256x1024) hz, View.ld_unit_zero (S := S1x1024) hz]
  rfl

theorem out_B_7 (hc : ¬cond0_0 i) : out0_B_7 c i a1 h1 a2 h2 a3 h3 a4 h4 a5 h5 a6 h6 a7 h7 a8 h8 hc d w x g q o = gainGrad d w x o := by
  unfold out0_B_7
  rw [View.read_writes_eq_canon _ _ _ (cover0_B_7 c i a1 h1 a2 h2 a3 h3 a4 h4 a5 h5 a6 h6 a7 h7 a8 h8 hc d w x g q o)]
  unfold kernelRun0_B
  dsimp only
  sl_unfold_words
  rw [View.canon_unit_zero hz]
  simp only [View.readAt_eq_ld, h1.read_unread, h2.read_unread, h3.read_unread, h4.read_unread, h5.read_unread, h8.read_unread, View.ld_unit_zero (S := S256x1024) hz, View.ld_unit_zero (S := S1x1024) hz]
  rfl

theorem out_A_5 (hc : cond0_0 i) : out0_A_5 c i a1 h1 a2 h2 a3 h3 a4 h4 a5 h5 a6 h6 a7 h7 a8 h8 hc d w x g q = rowsGrad d w x g q := by
  unfold out0_A_5
  rw [View.read_writes_eq_canon _ _ _ (cover0_A_5 c i a1 h1 a2 h2 a3 h3 a4 h4 a5 h5 a6 h6 a7 h7 a8 h8 hc d w x g q)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1024) hz, View.ld_unit_zero (S := S1x1024) hz]
  rfl

theorem out_A_6 (hc : cond0_0 i) : out0_A_6 c i a1 h1 a2 h2 a3 h3 a4 h4 a5 h5 a6 h6 a7 h7 a8 h8 hc d w x g q = truncf .bf16 (rowsGrad d w x g q) bitsLt_bf16_f32 := by
  unfold out0_A_6
  rw [View.read_writes_eq_canon _ _ _ (cover0_A_6 c i a1 h1 a2 h2 a3 h3 a4 h4 a5 h5 a6 h6 a7 h7 a8 h8 hc d w x g q)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1024) hz, View.ld_unit_zero (S := S1x1024) hz]
  rfl

theorem out_A_7 (hc : cond0_0 i) : out0_A_7 c i a1 h1 a2 h2 a3 h3 a4 h4 a5 h5 a6 h6 a7 h7 a8 h8 hc d w x g q = gainGrad d w x k0_pay4 := by
  unfold out0_A_7
  rw [View.read_writes_eq_canon _ _ _ (cover0_A_7 c i a1 h1 a2 h2 a3 h3 a4 h4 a5 h5 a6 h6 a7 h7 a8 h8 hc d w x g q)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, View.ld_unit_zero (S := S256x1024) hz, View.ld_unit_zero (S := S1x1024) hz]
  rfl

end Cert.Kernel2Ideal.Body
end
-- ==== Proof.NormTile.lean ====
module

public import proofs.«01_k».proof.Proof.NormMath
public import proofs.«01_k».proof.Proof.NormBody
public import Idealize.ShloMosaic.Lib.ValueIdx
public import Idealize.ShloMosaic.Lib.ValueLayout
public import Idealize.ShloMosaic.Lib.MatmulPlain
public import Idealize.ShloMosaic.Lib.Pipeline.ValueKit.Tiles
public import Idealize.ShloMosaic.PureOps.Ideal.Laws

/-! What one grid point computes. -/

@[expose] public section

noncomputable section

namespace Cert.Kernel2Ideal.Body

open Cert.Kernel2Ideal Cert.Kernel2Ideal.Gen Cert.Norm Cert.Band
open Idealize.ShloMosaic Idealize.ShloMosaic.ValueIdx

/-- A row of a half of the weight. -/
def row (s : Fin 2) (l : Fin 2816) : Fin 5632 := ⟨s.val * 2816 + l.val, by omega⟩

variable {d : Vec Ideal S2x256x2816 .bf16} {w : Vec Ideal S5632x1024 .bf16} {x : Vec Ideal S256x1024 .f32} {g : Vec Ideal S1x1024 .f32} {q : Vec Ideal S256x1024 .f32}
  {o : Vec Ideal S1x1024 .f32}
variable {D : Fin 256 → Fin 2 → Fin 2816 → EReal} {W : Fin 2 → Fin 2816 → Fin 1024 → EReal} {X Q : Fin 256 → Fin 1024 → EReal} {G : Fin 1024 → EReal}
variable (hd : ∀ s p l, d (ix3 s p l) = D p s l) (hw : ∀ s l k, w (ix2 (row s l) k) = W s l k)
  (hx : ∀ p k, x (ix2 p k) = X p k) (hg : ∀ k, g (ix2 0 k) = G k) (hq : ∀ p k, q (ix2 p k) = Q p k)

theorem d0_apply (p : Fin 256) (l : Fin 2816) : d0 d (ix3 0 p l) = d (ix3 0 p l) :=
  View.ld_unit_apply_of _ _ _ _ _ _ fun a => by
    match a with
    | ⟨0, _⟩ => rfl
    | ⟨1, _⟩ => show p.val = 0 + p.val; omega
    | ⟨2, _⟩ => show l.val = 0 + l.val; omega

theorem d1_apply (p : Fin 256) (l : Fin 2816) : d1 d (ix3 0 p l) = d (ix3 1 p l) :=
  View.ld_unit_apply_of _ _ _ _ _ _ fun a => by
    match a with
    | ⟨0, _⟩ => rfl
    | ⟨1, _⟩ => show p.val = 0 + p.val; omega
    | ⟨2, _⟩ => show l.val = 0 + l.val; omega

theorem w0_apply (l : Fin 2816) (k : Fin 1024) : w0 w (ix2 l k) = w (ix2 (row 0 l) k) :=
  View.ld_unit_apply_of _ _ _ _ _ _ fun a => by
    match a with
    | ⟨0, _⟩ => show 0 * 2816 + l.val = 0 + l.val; omega
    | ⟨1, _⟩ => show k.val = 0 + k.val; omega

theorem w1_apply (l : Fin 2816) (k : Fin 1024) : w1 w (ix2 l k) = w (ix2 (row 1 l) k) :=
  View.ld_unit_apply_of _ _ _ _ _ _ fun a => by
    match a with
    | ⟨0, _⟩ => show 1 * 2816 + l.val = 2816 + l.val; omega
    | ⟨1, _⟩ => show k.val = 0 + k.val; omega

theorem half_dot {u : Vec Ideal S1x256x2816 .bf16} {v : Vec Ideal S2816x1024 .bf16} {U : Fin 256 → Fin 2816 → EReal} {Y : Fin 2816 → Fin 1024 → EReal}
    (hu : ∀ p l, u (ix3 0 p l) = U p l) (hv : ∀ l k, v (ix2 l k) = Y l k) (p : Fin 256) (k : Fin 1024) :
    matmul (F := Ideal) (φ₁ := .bf16) (φ₂ := .bf16) dot_S256x2816_S2816x1024_S256x1024_1_0_0_1_n_n none (shapeCast S256x2816 u shapeCasts_S1x256x2816_S256x2816 : FVec Ideal S256x2816 .bf16) (v : FVec Ideal S2816x1024 .bf16)
      (constant S256x1024 .f32 0x00000000#32) (ix2 p k) = ∑ l, U p l * Y l k := by
  refine (Ideal.matmul_plain_apply (M := 256) (K := 2816) (N := 1024) none _ _ _ p k).trans ?_
  refine (congrArg (· + _) zero_word).trans ?_
  rw [zero_add]
  refine Finset.sum_congr rfl fun l _ => congrArg₂ (fun a b : EReal => a * b) ?_ (hv l k)
  rw [shapeCast_1ab_ab_apply]
  exact hu p l

/-- A column of one number for each row. -/
theorem col_apply (u : FVec Ideal S256x1 .f32) (p : Fin 256) (k : Fin 1024) : broadcastTo S256x1024 u broadcasts_S256x1_S256x1024 (ix2 p k) = u (ix2 p 0) :=
  broadcastTo_apply u _ (ix2 p k) (ix2 p 0) fun a => by
    match a with
    | ⟨0, _⟩ => rfl
    | ⟨1, _⟩ => rfl

theorem stand_apply (u : FVec Ideal S256 .f32) (p : Fin 256) : shapeCast S256x1 u shapeCasts_S256_S256x1 (ix2 p 0) = u (ix1 p) :=
  shapeCast_apply u _ (ix2 p 0) (ix1 p) (by rw [Shape.rowMajor_val_one, Shape.rowMajor_val_two]; show p.val = p.val * 1 + 0; omega)

theorem add_cols {m n : ℕ} (v : FVec Ideal ⟨2, ![m, n]⟩ .f32) (h : Shape.Reduces ⟨2, ![m, n]⟩ [1] ⟨1, ![m]⟩) (hφ : FKind.Formats .f32)
    (hacc : (0x00000000#32 : BitVec 32) = FKind.add.neutral .f32 hφ) (p : Fin m) :
    multiReduction .add [1] ⟨1, ![m]⟩ v 0x00000000#32 h hφ hacc (ix1 p) = ∑ k : Fin n, v (ix2 p k) :=
  (Ideal.multiReduction_add_single v _ h hφ hacc (ix1 p)).trans (Finset.sum_congr rfl fun k _ => congrArg v
    (funext fun b => Fin.ext (by match b with | ⟨0, _⟩ => rfl | ⟨1, _⟩ => rfl)))

theorem add_rows {m n : ℕ} (v : FVec Ideal ⟨2, ![m, n]⟩ .f32) (h : Shape.Reduces ⟨2, ![m, n]⟩ [0] ⟨1, ![n]⟩) (hφ : FKind.Formats .f32)
    (hacc : (0x00000000#32 : BitVec 32) = FKind.add.neutral .f32 hφ) (k : Fin n) :
    multiReduction .add [0] ⟨1, ![n]⟩ v 0x00000000#32 h hφ hacc (ix1 k) = ∑ p : Fin m, v (ix2 p k) :=
  (Ideal.multiReduction_add_single v _ h hφ hacc (ix1 k)).trans (Finset.sum_congr rfl fun p _ => congrArg v
    (funext fun b => Fin.ext (by match b with | ⟨0, _⟩ => rfl | ⟨1, _⟩ => rfl)))

/-- A row's sum. -/
theorem rowSum {u : FVec Ideal S256x1024 .f32} {U : Fin 256 → Fin 1024 → EReal} (hu : ∀ p k, u (ix2 p k) = U p k) (p : Fin 256) :
    multiReduction .add [1] S256 u 0x00000000#32 reduces_S256x1024_S256 (.inl rfl) rfl (ix1 p) = ∑ k, U p k :=
  (add_cols (m := 256) (n := 1024) u _ _ _ p).trans (Finset.sum_congr rfl fun k _ => hu p k)

/-- A column's sum. -/
theorem colSum {u : FVec Ideal S256x1024 .f32} {U : Fin 256 → Fin 1024 → EReal} (hu : ∀ p k, u (ix2 p k) = U p k) (k : Fin 1024) :
    multiReduction .add [0] S1024 u 0x00000000#32 reduces_S256x1024_S1024 (.inl rfl) rfl (ix1 k) = ∑ p, U p k :=
  (add_rows (m := 256) (n := 1024) u _ _ _ k).trans (Finset.sum_congr rfl fun p _ => hu p k)

include hd hw in
theorem pay5 (p : Fin 256) (k : Fin 1024) : k0_pay5 (d0 d) (w0 w) (d1 d) (w1 w) (ix2 p k) = dh (D p) W k := by
  unfold k0_pay5 dh
  exact congrArg₂ (fun a b : EReal => a + b)
    (half_dot (U := fun p l => D p 0 l) (Y := W 0) (fun p l => (d0_apply p l).trans (hd 0 p l)) (fun l k => (w0_apply l k).trans (hw 0 l k)) p k)
    (half_dot (U := fun p l => D p 1 l) (Y := W 1) (fun p l => (d1_apply p l).trans (hd 1 p l)) (fun l k => (w1_apply l k).trans (hw 1 l k)) p k)

include hx in
theorem pay6 (p : Fin 256) : k0_pay6 x (ix2 p 0) = rs (X p) := by
  unfold Norm.rs Norm.ms
  refine congrArg Ideal.rsqrt ?_
  refine congrArg₂ (fun a b : EReal => a + b) ?_ eps_word
  refine congrArg₂ Ideal.div ((stand_apply _ p).trans (rowSum (U := fun p k => X p k * X p k) (fun p k => ?_) p)) len_word
  rw [← hx]
  rfl

include hx in
theorem pay7 (p : Fin 256) (k : Fin 1024) : k0_pay7 x (ix2 p k) = X p k * rs (X p) := by
  rw [← pay6 hx, ← hx]
  exact congrArg (x (ix2 p k) * ·) (col_apply _ p k)

include hd hw hg in
theorem pay8 (p : Fin 256) (k : Fin 1024) : k0_pay8 (d0 d) (w0 w) (d1 d) (w1 w) g (ix2 p k) = dh (D p) W k * G k := by
  rw [← pay5 hd hw, ← hg]
  refine congrArg (k0_pay5 (d0 d) (w0 w) (d1 d) (w1 w) (ix2 p k) * ·) ?_
  rw [shapeCast_self]
  exact broadcastTo_1b_ab_apply g _ p k

include hd hw hx hg in
theorem pay9 (p : Fin 256) : k0_pay9 (d0 d) (w0 w) (d1 d) (w1 w) x g (ix2 p 0) = Ideal.div (∑ j, X p j * rs (X p) * (dh (D p) W j * G j)) ((1024 : ℝ) : EReal) := by
  refine congrArg₂ Ideal.div ((stand_apply _ p).trans (rowSum (U := fun p k => X p k * rs (X p) * (dh (D p) W k * G k)) (fun p k => ?_) p)) len_word
  rw [← pay7 hx, ← pay8 hd hw hg]
  rfl

include hd hw hx hg hq in
theorem rowsGrad_apply (p : Fin 256) (k : Fin 1024) : rowsGrad d w x g q (ix2 p k) = dx (X p) G (dh (D p) W) (Q p) k := by
  unfold dx
  rw [← hq, ← pay9 hd hw hx hg, ← pay7 hx, ← pay8 hd hw hg, ← pay6 hx]
  unfold rowsGrad k0_pay1
  refine congrArg (q (ix2 p k) + ·) ?_
  refine congrArg₂ (fun a b : EReal => a * b) (col_apply _ p k) ?_
  refine congrArg (k0_pay8 (d0 d) (w0 w) (d1 d) (w1 w) g (ix2 p k) - ·) ?_
  exact congrArg (k0_pay7 x (ix2 p k) * ·) (col_apply _ p k)

include hd hw hx in
theorem gainGrad_apply (k : Fin 1024) : gainGrad d w x o (ix2 0 k) = o (ix2 0 k) + ∑ p, dh (D p) W k * (X p k * rs (X p)) := by
  unfold gainGrad k0_pay3
  refine congrArg₂ (fun a b : EReal => a + b) (by rw [shapeCast_self]) ?_
  refine (shapeCast_a_1a_apply _ _ 0 k).trans ?_
  refine colSum (U := fun p k => dh (D p) W k * (X p k * rs (X p))) (fun p k => ?_) k
  rw [← pay5 hd hw, ← pay7 hx]
  rfl

end Cert.Kernel2Ideal.Body
end
-- ==== Proof.NormRef.lean ====
module

public import proofs.«01_k».proof.Proof.NormMath
public import proofs.«01_k».proof.Proof.Gen.Reference2Ideal.Read
public import Idealize.ShloMosaic.Lib.ValueIdx
public import Idealize.ShloMosaic.Lib.ValueLayout

/-! The reference's gradients at an element, as products and sums. -/

@[expose] public section

noncomputable section

namespace Cert.Reference2Ideal.Norm

open Cert.Reference2Ideal Cert.Reference2Ideal.Gen Cert.Reference2Ideal.Read Cert.Norm Cert.Band
open Idealize.ShloMosaic Idealize.ShloMosaic.ValueIdx

/-- A row of a half of the weight. -/
def row (s : Fin 2) (l : Fin 2816) : Fin 5632 := ⟨s.val * 2816 + l.val, by omega⟩

theorem sum_halves (f : Fin 5632 → EReal) : (∑ k, f k) = (∑ l, f (row 0 l)) + ∑ l, f (row 1 l) := by
  refine (Fin.sum_univ_add (a := 2816) (b := 2816) f).trans ?_
  refine congrArg₂ (fun a b : EReal => a + b) (Finset.sum_congr rfl fun l _ => congrArg f (Fin.ext ?_)) (Finset.sum_congr rfl fun l _ => congrArg f (Fin.ext ?_))
  · show l.val = 0 * 2816 + l.val; omega
  · show 2816 + l.val = 1 * 2816 + l.val; omega

variable {x0 : (⟨S2x4096x2816, .bf16⟩ : BufTy).Contents (Elt Ideal)} {x1 : (⟨S5632x1024, .bf16⟩ : BufTy).Contents (Elt Ideal)}
  {x2 : (⟨S4096x1024, .f32⟩ : BufTy).Contents (Elt Ideal)} {x3 : (⟨S1024, .f32⟩ : BufTy).Contents (Elt Ideal)} {x4 : (⟨S4096x1024, .f32⟩ : BufTy).Contents (Elt Ideal)}
variable {D : Fin 4096 → Fin 2 → Fin 2816 → EReal} {W : Fin 2 → Fin 2816 → Fin 1024 → EReal} {X Q : Fin 4096 → Fin 1024 → EReal} {G : Fin 1024 → EReal}
variable (hd : ∀ s i l, x0 (ix3 s i l) = (D i s l)) (hw : ∀ s l k, x1 (ix2 (row s l) k) = (W s l k))
  (hx : ∀ i k, x2 (ix2 i k) = (X i k)) (hg : ∀ k, x3 (ix1 k) = (G k)) (hq : ∀ i k, x4 (ix2 i k) = (Q i k))

theorem one_axis {n : ℕ} {i j : (⟨1, ![n]⟩ : Shape).Idx} (h : (i 0).val = (j 0).val) : i = j := funext fun a => Fin.ext (by match a with | ⟨0, _⟩ => exact h)

theorem total {ι : Type} [Fintype ι] {z : EReal} {u v : ι → EReal} (hz : z = 0) (hu : ∀ i, u i = v i) : (z + ∑ i, u i) = ∑ i, v i := by
  rw [hz, zero_add]
  exact Finset.sum_congr rfl fun i _ => hu i

include hx in
theorem mean (i : Fin 4096) : val_main_v8 (F := Ideal) x2 (ix2 i 0) = (ms (X i)) := by
  rw [val_main_v8_apply, val_main_v6_apply, val_main_v4_apply, val_main_v5_apply, val_main_v7_apply, val_main_cst_0_apply, val_main_cst_1_apply, val_main_v3_apply, val_main_cst_apply]
  unfold ms
  refine congrArg₂ (fun a b : EReal => a + b) ?_ eps_word
  refine congrArg₂ Ideal.div (total zero_word fun k => ?_) len_word
  rw [val_main_v2_apply, ← hx]
  exact congrArg (fun j => x2 j * x2 j) (Shape.idx_ext₂ rfl rfl)

include hx in
theorem scale (i : Fin 4096) : val_main_v9 (F := Ideal) x2 (ix2 i 0) = (rs (X i)) := by
  rw [val_main_v9_apply, mean hx]
  rfl

include hx in
theorem normed (i : Fin 4096) (k : Fin 1024) : val_main_v14 (F := Ideal) x2 (ix2 i k) = (X i k * rs (X i)) := by
  rw [val_main_v14_apply, val_main_v13_apply, ← scale hx, ← hx]
  exact congrArg (fun j => x2 (ix2 i k) * val_main_v9 (F := Ideal) x2 j) (Shape.idx_ext₂ rfl rfl)

include hx in
theorem slope (i : Fin 4096) : val_main_v12 (F := Ideal) x2 (ix2 i 0) = ((-(1 / 2) : ℝ) : EReal) * Ideal.div (rs (X i)) (ms (X i)) := by
  rw [val_main_v12_apply, val_main_v11_apply, val_main_cst_2_apply, val_main_v10_apply, scale hx, mean hx]
  exact congrArg (· * _) half_word

theorem beside_apply (i : Fin 4096) (s : Fin 2) (l : Fin 2816) : val_main_v23 (F := Ideal) x0 (ix2 i (row s l)) = x0 (ix3 s i l) := by
  unfold val_main_v23
  obtain rfl | rfl : s = 0 ∨ s = 1 := by omega
  · refine (concatenate_pair_apply_left (t := S4096x5632) (s₁ := S4096x2816) (s₂ := S4096x2816) 1 _ _
      _ (ix2 i (row 0 l)) rfl (ix2 i l)
      (fun b => by match b with | ⟨0, _⟩ => rfl | ⟨1, _⟩ => show l.val = 0 * 2816 + l.val; omega)).trans ?_
    rw [val_main_v20_apply, val_main_v19_apply]
    refine congrArg x0 (funext fun a => Fin.ext ?_)
    match a with
    | ⟨0, _⟩ => rfl
    | ⟨1, _⟩ => show (i.val * 2816 + l.val) / 2816 % 4096 = i.val; omega
    | ⟨2, _⟩ => show (i.val * 2816 + l.val) % 2816 = l.val; omega
  · refine (concatenate_pair_apply_right (t := S4096x5632) (s₁ := S4096x2816) (s₂ := S4096x2816) 1 _ _
      _ (ix2 i (row 1 l)) rfl rfl (ix2 i l)
      (fun b hb => by match b with | ⟨0, _⟩ => rfl | ⟨1, _⟩ => exact absurd rfl hb)
      (by show l.val + 2816 = 1 * 2816 + l.val; omega)).trans ?_
    rw [val_main_v22_apply, val_main_v21_apply]
    refine congrArg x0 (funext fun a => Fin.ext ?_)
    match a with
    | ⟨0, _⟩ => rfl
    | ⟨1, _⟩ => show (i.val * 2816 + l.val) / 2816 % 4096 = i.val; omega
    | ⟨2, _⟩ => show (i.val * 2816 + l.val) % 2816 = l.val; omega

include hd hw in
theorem inner (i : Fin 4096) (k : Fin 1024) : val_main_v25 (F := Ideal) x0 x1 (ix2 i k) = (dh (D i) W k) := by
  have hl : ∀ s l, val_main_v24 (F := Ideal) x0 (lidx_main_v25 (ix2 i k) (row s l)) = (D i s l) := fun s l => by
    rw [val_main_v24_apply]
    refine Eq.trans ?_ (hd s i l)
    refine Eq.trans ?_ (beside_apply i s l)
    exact congrArg (val_main_v23 (F := Ideal) x0) (Shape.idx_ext₂ rfl rfl)
  have hr : ∀ s l, val_main_v1 (F := Ideal) x1 (ridx_main_v25 (ix2 i k) (row s l)) = (W s l k) := fun s l => by
    rw [val_main_v1_apply, val_main_v0_apply]
    refine Eq.trans ?_ (hw s l k)
    exact congrArg x1 (Shape.idx_ext₂ rfl rfl)
  rw [val_main_v25_apply, sum_halves]
  unfold dh
  exact congrArg₂ (fun a b : EReal => a + b) (Finset.sum_congr rfl fun l _ => congrArg₂ (fun a b : EReal => a * b) (hl 0 l) (hr 0 l))
    (Finset.sum_congr rfl fun l _ => congrArg₂ (fun a b : EReal => a * b) (hl 1 l) (hr 1 l))

include hd hw hg in
theorem gained (i : Fin 4096) (k : Fin 1024) : val_main_v30 (F := Ideal) x0 x1 x3 (ix2 i k) = (dh (D i) W k * G k) := by
  rw [val_main_v30_apply, inner hd hw, val_main_v29_apply, val_main_v15_apply, ← hg]
  exact congrArg (fun j => dh (D i) W k * x3 j) (one_axis rfl)

include hd hw hx hg in
theorem mixed (i : Fin 4096) : val_main_v34 (F := Ideal) x0 x1 x2 x3 (ix2 i 0) = ∑ j, X i j * (dh (D i) W j * G j) := by
  rw [val_main_v34_apply, val_main_v33_apply, val_main_cst_5_apply]
  refine total zero_word fun j => ?_
  rw [val_main_v32_apply, ← gained hd hw hg, ← hx]
  exact congrArg (fun y => x2 y * val_main_v30 (F := Ideal) x0 x1 x3 y) (Shape.idx_ext₂ (by show i.val * 1 + 0 = i.val; omega) rfl)

include hd hw hx hg in
theorem partial_ (i : Fin 4096) (k : Fin 1024) : val_main_v42 (F := Ideal) x0 x1 x2 x3 (ix2 i k) = (part (X i) G (dh (D i) W)) := by
  rw [val_main_v42_apply, val_main_v41_apply, val_main_cst_7_apply, zero_word, zero_add, Fin.sum_univ_one, val_main_v40_apply, val_main_v39_apply, val_main_cst_6_apply, val_main_v38_apply]
  unfold part
  refine congrArg₂ Ideal.div ?_ len_word
  rw [← mixed hd hw hx hg, ← slope hx]
  exact congrArg (fun j => val_main_v34 (F := Ideal) x0 x1 x2 x3 j * val_main_v12 (F := Ideal) x2 j) (Shape.idx_ext₂ rfl rfl)

include hd hw hx hg hq in
theorem rows_apply (i : Fin 4096) (k : Fin 1024) : val_main_v46 (F := Ideal) x0 x1 x2 x3 x4 (ix2 i k) = (dx (X i) G (dh (D i) W) (Q i) k) := by
  rw [← dx_eq]
  unfold dx'
  rw [val_main_v46_apply, val_main_v44_apply, val_main_v45_apply, val_main_v37_apply, val_main_v43_apply, val_main_v36_apply, gained hd hw hg, partial_ hd hw hx hg,
    val_main_v35_apply, hx, hq, ← scale hx]
  refine congrArg (fun j => Q i k + dh (D i) W k * G k * val_main_v9 (F := Ideal) x2 j
    + X i k * part (X i) G (dh (D i) W) + part (X i) G (dh (D i) W) * X i k) ?_
  exact Shape.idx_ext₂ rfl rfl

include hd hw hx in
theorem gain_apply (k : Fin 1024) : val_main_v48 (F := Ideal) x0 x1 x2 (ix2 0 k) = ∑ i, X i k * rs (X i) * dh (D i) W k := by
  rw [val_main_v48_apply, val_main_v31_apply, val_main_cst_4_apply, zero_word, zero_add, Fin.sum_univ_one, val_main_v28_apply, val_main_v27_apply, val_main_cst_3_apply]
  refine total zero_word fun i => ?_
  rw [val_main_v26_apply, ← normed hx, ← inner hd hw]
  refine congrArg (fun y => val_main_v14 (F := Ideal) x2 y * val_main_v25 (F := Ideal) x0 x1 y) (Shape.idx_ext₂ rfl ?_)
  show _ = k.val
  simp

end Cert.Reference2Ideal.Norm
end
-- ==== Proof.Norm.lean ====
module

public import proofs.«01_k».proof.Proof.NormTile
public import proofs.«01_k».proof.Proof.NormRef

/-! The normalisation's gradient: every block of the kernel's results is the reference's. -/

@[expose] public section

noncomputable section

namespace Cert.Kernel2Ideal.Norm

open Cert.Kernel2Ideal Cert.Kernel2Ideal.Gen Cert.Kernel2Ideal.Body Cert.Norm Cert.Band
open Idealize.ShloMosaic Idealize.ShloMosaic.TcCoe Idealize.ShloMosaic.ValueIdx Idealize.SL.Sem
open Idealize.ShloMosaic.Pipeline (Dat)

/-- Row `p` of the block numbered `t`. -/
def at_ (t : ℕ) (p : Fin 256) : Fin 4096 := ⟨(t * 256 + p.val) % 4096, by omega⟩

theorem at_val (t : Fin cfg0.N) (p : Fin 256) : (at_ t.val p).val = t.val * 256 + p.val := by
  have := t.isLt
  have : cfg0.N = 16 := N_0
  show (t.val * 256 + p.val) % 4096 = _
  omega

theorem index0 : ∀ t : Fin cfg0.N, win0_0.index t 0 = 0 ∧ win0_0.index t 1 = t.val ∧ win0_0.index t 2 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)

theorem emb0 (t : Fin cfg0.N) (s : Fin 2) (p : Fin 256) (l : Fin 2816) :
    (win0_0.rect t).emb ((ix3 s p l : S2x256x2816.Idx)) = (ix3 s (at_ t.val p) l : S2x4096x2816.Idx) := by
  refine funext fun a => Fin.ext ?_
  refine (Pipeline.Window.rect_emb_val win0_0 t (ix3 s p l : S2x256x2816.Idx) a).trans ?_
  match a with
  | ⟨0, _⟩ => rw [show win0_0.index t ⟨0, _⟩ = _ from (index0 t).1]; show 0 * 2 + s.val = s.val; omega
  | ⟨1, _⟩ => rw [show win0_0.index t ⟨1, _⟩ = _ from (index0 t).2.1]; exact (at_val t p).symm
  | ⟨2, _⟩ => rw [show win0_0.index t ⟨2, _⟩ = _ from (index0 t).2.2]; show 0 * 2816 + l.val = l.val; omega

theorem emb1 (t : Fin cfg0.N) (r : Fin 5632) (k : Fin 1024) : (win0_1.rect t).emb ((ix2 r k : S5632x1024.Idx)) = (ix2 r k : S5632x1024.Idx) := by
  refine Shape.idx_ext₂ ?_ ?_
  · refine (Pipeline.Window.rect_emb_val win0_1 t (ix2 r k : S5632x1024.Idx) 0).trans ?_
    rw [(index1 t).1]; show 0 * 5632 + r.val = r.val; omega
  · refine (Pipeline.Window.rect_emb_val win0_1 t (ix2 r k : S5632x1024.Idx) 1).trans ?_
    rw [(index1 t).2]; show 0 * 1024 + k.val = k.val; omega

theorem emb2 (t : Fin cfg0.N) (p : Fin 256) (k : Fin 1024) : (win0_2.rect t).emb ((ix2 p k : S256x1024.Idx)) = (ix2 (at_ t.val p) k : S4096x1024.Idx) := by
  refine Shape.idx_ext₂ ?_ ?_
  · refine (Pipeline.Window.rect_emb_val win0_2 t (ix2 p k : S256x1024.Idx) 0).trans ?_
    rw [(index2 t).1]; exact (at_val t p).symm
  · refine (Pipeline.Window.rect_emb_val win0_2 t (ix2 p k : S256x1024.Idx) 1).trans ?_
    rw [(index2 t).2]; show 0 * 1024 + k.val = k.val; omega

theorem emb3 (t : Fin cfg0.N) (k : Fin 1024) : (win0_3.rect t).emb ((ix2 0 k : S1x1024.Idx)) = (ix2 0 k : S1x1024.Idx) := by
  refine Shape.idx_ext₂ ?_ ?_
  · refine (Pipeline.Window.rect_emb_val win0_3 t (ix2 0 k : S1x1024.Idx) 0).trans ?_
    rw [(index3 t).1]; rfl
  · refine (Pipeline.Window.rect_emb_val win0_3 t (ix2 0 k : S1x1024.Idx) 1).trans ?_
    rw [(index3 t).2]; show 0 * 1024 + k.val = k.val; omega

theorem emb4 (t : Fin cfg0.N) (p : Fin 256) (k : Fin 1024) : (win0_4.rect t).emb ((ix2 p k : S256x1024.Idx)) = (ix2 (at_ t.val p) k : S4096x1024.Idx) := by
  refine Shape.idx_ext₂ ?_ ?_
  · refine (Pipeline.Window.rect_emb_val win0_4 t (ix2 p k : S256x1024.Idx) 0).trans ?_
    rw [(index4 t).1]; exact (at_val t p).symm
  · refine (Pipeline.Window.rect_emb_val win0_4 t (ix2 p k : S256x1024.Idx) 1).trans ?_
    rw [(index4 t).2]; show 0 * 1024 + k.val = k.val; omega

theorem emb5 (t : Fin cfg0.N) (p : Fin 256) (k : Fin 1024) : (win0_5.rect t).emb ((ix2 p k : S256x1024.Idx)) = (ix2 (at_ t.val p) k : S4096x1024.Idx) := by
  refine Shape.idx_ext₂ ?_ ?_
  · refine (Pipeline.Window.rect_emb_val win0_5 t (ix2 p k : S256x1024.Idx) 0).trans ?_
    rw [(index5 t).1]; exact (at_val t p).symm
  · refine (Pipeline.Window.rect_emb_val win0_5 t (ix2 p k : S256x1024.Idx) 1).trans ?_
    rw [(index5 t).2]; show 0 * 1024 + k.val = k.val; omega

theorem emb6 (t : Fin cfg0.N) (p : Fin 256) (k : Fin 1024) : (win0_6.rect t).emb ((ix2 p k : S256x1024.Idx)) = (ix2 (at_ t.val p) k : S4096x1024.Idx) := by
  refine Shape.idx_ext₂ ?_ ?_
  · refine (Pipeline.Window.rect_emb_val win0_6 t (ix2 p k : S256x1024.Idx) 0).trans ?_
    rw [(index6 t).1]; exact (at_val t p).symm
  · refine (Pipeline.Window.rect_emb_val win0_6 t (ix2 p k : S256x1024.Idx) 1).trans ?_
    rw [(index6 t).2]; show 0 * 1024 + k.val = k.val; omega

theorem emb7 (t : Fin cfg0.N) (k : Fin 1024) : (win0_7.rect t).emb ((ix2 0 k : S1x1024.Idx)) = (ix2 0 k : S1x1024.Idx) := by
  refine Shape.idx_ext₂ ?_ ?_
  · refine (Pipeline.Window.rect_emb_val win0_7 t (ix2 0 k : S1x1024.Idx) 0).trans ?_
    rw [(index7 t).1]; rfl
  · refine (Pipeline.Window.rect_emb_val win0_7 t (ix2 0 k : S1x1024.Idx) 1).trans ?_
    rw [(index7 t).2]; show 0 * 1024 + k.val = k.val; omega

theorem read0 (t : Fin cfg0.N) (Z : S2x4096x2816.Idx → EReal) (s : Fin 2) (p : Fin 256) (l : Fin 2816) :
    ((cfg0.win 0).blk t).view.read (Elt Ideal) Z (ix3 s p l : S2x256x2816.Idx) = Z (ix3 s (at_ t.val p) l) := congrArg Z (emb0 t s p l)
theorem read1 (t : Fin cfg0.N) (Z : S5632x1024.Idx → EReal) (r : Fin 5632) (k : Fin 1024) :
    ((cfg0.win 1).blk t).view.read (Elt Ideal) Z (ix2 r k : S5632x1024.Idx) = Z (ix2 r k) := congrArg Z (emb1 t r k)
theorem read2 (t : Fin cfg0.N) (Z : S4096x1024.Idx → EReal) (p : Fin 256) (k : Fin 1024) :
    ((cfg0.win 2).blk t).view.read (Elt Ideal) Z (ix2 p k : S256x1024.Idx) = Z (ix2 (at_ t.val p) k) := congrArg Z (emb2 t p k)
theorem read3 (t : Fin cfg0.N) (Z : S1x1024.Idx → EReal) (k : Fin 1024) :
    ((cfg0.win 3).blk t).view.read (Elt Ideal) Z (ix2 0 k : S1x1024.Idx) = Z (ix2 0 k) := congrArg Z (emb3 t k)
theorem read4 (t : Fin cfg0.N) (Z : S4096x1024.Idx → EReal) (p : Fin 256) (k : Fin 1024) :
    ((cfg0.win 4).blk t).view.read (Elt Ideal) Z (ix2 p k : S256x1024.Idx) = Z (ix2 (at_ t.val p) k) := congrArg Z (emb4 t p k)
theorem put5 (t : Fin cfg0.N) (Z : S4096x1024.Idx → EReal) (p : Fin 256) (k : Fin 1024) :
    ((cfg0.win 5).blk t).view.read (Elt Ideal) Z (ix2 p k : S256x1024.Idx) = Z (ix2 (at_ t.val p) k) := congrArg Z (emb5 t p k)
theorem put6 (t : Fin cfg0.N) (Z : S4096x1024.Idx → EReal) (p : Fin 256) (k : Fin 1024) :
    ((cfg0.win 6).blk t).view.read (Elt Ideal) Z (ix2 p k : S256x1024.Idx) = Z (ix2 (at_ t.val p) k) := congrArg Z (emb6 t p k)
theorem put7 (t : Fin cfg0.N) (Z : S1x1024.Idx → EReal) (k : Fin 1024) :
    ((cfg0.win 7).blk t).view.read (Elt Ideal) Z (ix2 0 k : S1x1024.Idx) = Z (ix2 0 k) := congrArg Z (emb7 t k)
theorem cut5 (t : Fin cfg0.N) (x : Vec Ideal S256x1024 .f32) : (cfg0.win 5).cut (grid0.coords t) x = x := rfl
theorem cut6 (t : Fin cfg0.N) (x : Vec Ideal S256x1024 .bf16) : (cfg0.win 6).cut (grid0.coords t) x = x := rfl
theorem cut7 (t : Fin cfg0.N) (x : Vec Ideal S1x1024 .f32) : (cfg0.win 7).cut (grid0.coords t) x = x := rfl

variable (m : (ℓ : Loc nD τ sig) → Buf (Elt Ideal) ℓ) (c : Dev nD)

theorem V_gain : V m c main_v0 = shapeCast S1x1024 (m ((c : Thread nD τ).loc main_arg3)) shapeCasts_S1024_S1x1024 := by
  unfold V
  simp only [hostOps0]
  after_results_simp <;> rfl

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl
theorem blk2 (t : Fin cfg0.N) : iblk m c 2 t = ((cfg0.win 2).blk t).view.read (Elt Ideal) (m ((c : Thread nD τ).loc main_arg2)) := by
  rw [← V_main_arg2 m c]; rfl
theorem blk3 (t : Fin cfg0.N) : iblk m c 3 t = ((cfg0.win 3).blk t).view.read (Elt Ideal) (shapeCast S1x1024 (m ((c : Thread nD τ).loc main_arg3)) shapeCasts_S1024_S1x1024) := by
  rw [← V_gain m c]; rfl
theorem blk4 (t : Fin cfg0.N) : iblk m c 4 t = ((cfg0.win 4).blk t).view.read (Elt Ideal) (m ((c : Thread nD τ).loc main_arg4)) := by
  rw [← V_main_arg4 m c]; rfl

/-! ## What the blocks hold after each point -/

theorem outs5 (t : Fin cfg0.N) : (outsAt0 m c t.val t.isLt).1 = rowsGrad (iblk m c 0 t) (iblk m c 1 t) (iblk m c 2 t) (iblk m c 3 t) (iblk m c 4 t) := by
  by_cases h : t.val % 16 = 0
  · rw [outsAt0_A m c t h]; dsimp only; rw [out_A_5]
  · rw [outsAt0_B m c t h]; dsimp only; rw [out_B_5]

theorem outs6 (t : Fin cfg0.N) : (outsAt0 m c t.val t.isLt).2.1
    = truncf .bf16 (rowsGrad (iblk m c 0 t) (iblk m c 1 t) (iblk m c 2 t) (iblk m c 3 t) (iblk m c 4 t)) bitsLt_bf16_f32 := by
  by_cases h : t.val % 16 = 0
  · rw [outsAt0_A m c t h]; dsimp only; rw [out_A_6]
  · rw [outsAt0_B m c t h]; dsimp only; rw [out_B_6]

theorem outs7_zero (h : 0 < cfg0.N) : (outsAt0 m c 0 h).2.2 = gainGrad (iblk m c 0 ⟨0, h⟩) (iblk m c 1 ⟨0, h⟩) (iblk m c 2 ⟨0, h⟩) (k0_pay4 (F := Ideal)) :=
  by rw [show outsAt0 m c 0 h = _ from outsAt0_A m c ⟨0, h⟩ rfl]; dsimp only; rw [out_A_7]

theorem outs7_succ (n : ℕ) (h : n + 1 < cfg0.N) : (outsAt0 m c (n + 1) h).2.2
    = gainGrad (iblk m c 0 ⟨n + 1, h⟩) (iblk m c 1 ⟨n + 1, h⟩) (iblk m c 2 ⟨n + 1, h⟩) (outsAt0 m c n (Nat.lt_of_succ_lt h)).2.2 := by
  have hN : cfg0.N = 16 := N_0
  have hB : ¬(⟨n + 1, h⟩ : Fin cfg0.N).val % 16 = 0 := by dsimp only; omega
  rw [show outsAt0 m c (n + 1) h = _ from outsAt0_B m c ⟨n + 1, h⟩ hB]; dsimp only; rw [out_B_7]; rfl

/-- Every row is a row of one block. -/
theorem sum_blocks (f : Fin 4096 → EReal) : (∑ s ∈ Finset.range 16, ∑ p : Fin 256, f (at_ s p)) = ∑ i, f i := by
  rw [Finset.sum_range]
  refine (Fintype.sum_prod_type' (fun (s : Fin 16) (p : Fin 256) => f (at_ s.val p))).symm.trans ?_
  refine Fintype.sum_equiv (finProdFinEquiv (m := 16) (n := 256)) _ (fun i : Fin 4096 => f i) fun sp => congrArg f (Fin.ext ?_)
  show (sp.1.val * 256 + sp.2.val) % 4096 = sp.2.val + 256 * sp.1.val
  omega

/-- The arguments by their indices. -/
def D (i : Fin 4096) (s : Fin 2) (l : Fin 2816) : EReal := m ((c : Thread nD τ).loc main_arg0) (ix3 s i l : S2x4096x2816.Idx)
def W (s : Fin 2) (l : Fin 2816) (k : Fin 1024) : EReal := m ((c : Thread nD τ).loc main_arg1) (ix2 (row s l) k : S5632x1024.Idx)
def X (i : Fin 4096) (k : Fin 1024) : EReal := m ((c : Thread nD τ).loc main_arg2) (ix2 i k : S4096x1024.Idx)
def G (k : Fin 1024) : EReal := m ((c : Thread nD τ).loc main_arg3) (ix1 k : S1024.Idx)
def Q (i : Fin 4096) (k : Fin 1024) : EReal := m ((c : Thread nD τ).loc main_arg4) (ix2 i k : S4096x1024.Idx)

theorem entry0 (t : Fin cfg0.N) (s : Fin 2) (p : Fin 256) (l : Fin 2816) : iblk m c 0 t (ix3 s p l : S2x256x2816.Idx) = D m c (at_ t.val p) s l :=
  (congrFun (blk0 m c t) _).trans (read0 t _ s p l)
theorem entry1 (t : Fin cfg0.N) (s : Fin 2) (l : Fin 2816) (k : Fin 1024) : iblk m c 1 t (ix2 (row s l) k : S5632x1024.Idx) = W m c s l k :=
  (congrFun (blk1 m c t) _).trans (read1 t _ _ k)
theorem entry2 (t : Fin cfg0.N) (p : Fin 256) (k : Fin 1024) : iblk m c 2 t (ix2 p k : S256x1024.Idx) = X m c (at_ t.val p) k :=
  (congrFun (blk2 m c t) _).trans (read2 t _ p k)
theorem entry3 (t : Fin cfg0.N) (k : Fin 1024) : iblk m c 3 t (ix2 0 k : S1x1024.Idx) = G m c k :=
  (congrFun (blk3 m c t) _).trans ((read3 t _ k).trans (shapeCast_a_1a_apply _ _ 0 k))
theorem entry4 (t : Fin cfg0.N) (p : Fin 256) (k : Fin 1024) : iblk m c 4 t (ix2 p k : S256x1024.Idx) = Q m c (at_ t.val p) k :=
  (congrFun (blk4 m c t) _).trans (read4 t _ p k)

theorem tile (t : Fin cfg0.N) (p : Fin 256) (k : Fin 1024) :
    rowsGrad (iblk m c 0 t) (iblk m c 1 t) (iblk m c 2 t) (iblk m c 3 t) (iblk m c 4 t) (ix2 p k)
      = dx (X m c (at_ t.val p)) (G m c) (dh (D m c (at_ t.val p)) (W m c)) (Q m c (at_ t.val p)) k :=
  rowsGrad_apply (D := fun p => D m c (at_ t.val p)) (X := fun p => X m c (at_ t.val p)) (Q := fun p => Q m c (at_ t.val p))
    (entry0 m c t) (entry1 m c t) (entry2 m c t) (entry3 m c t) (entry4 m c t) p k

theorem chain (k : Fin 1024) : ∀ (n : ℕ) (h : n < cfg0.N), (outsAt0 m c n h).2.2 (ix2 0 k)
    = ∑ s ∈ Finset.range (n + 1), ∑ p, dh (D m c (at_ s p)) (W m c) k * (X m c (at_ s p) k * Norm.rs (X m c (at_ s p)))
  | 0, h => by
    rw [outs7_zero m c h]
    refine (gainGrad_apply (D := fun p => D m c (at_ 0 p)) (X := fun p => X m c (at_ 0 p)) (entry0 m c ⟨0, h⟩) (entry1 m c ⟨0, h⟩) (entry2 m c ⟨0, h⟩) k).trans ?_
    rw [Finset.sum_range_one]
    refine (congrArg (· + _) zero_word).trans ?_
    rw [zero_add]
  | n + 1, h => by
    rw [outs7_succ m c n h]
    refine (gainGrad_apply (D := fun p => D m c (at_ (n + 1) p)) (X := fun p => X m c (at_ (n + 1) p)) (entry0 m c ⟨n + 1, h⟩) (entry1 m c ⟨n + 1, h⟩) (entry2 m c ⟨n + 1, h⟩) k).trans ?_
    rw [chain k n, Finset.sum_range_succ _ (n + 1)]

/-! ## The arrays -/

/-- The reference's results. -/
def rows : S4096x1024.Idx → EReal := Cert.Reference2Ideal.Read.val_main_v46 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
def rows' : S4096x1024.Idx → EReal := Cert.Reference2Ideal.Read.val_main_v47 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
def gain : S1x1024.Idx → EReal := Cert.Reference2Ideal.Read.val_main_v48 (F := Ideal) (m ((c : Thread nD τ).loc main_arg0)) (m ((c : Thread nD τ).loc main_arg1))
  (m ((c : Thread nD τ).loc main_arg2))

theorem rows_apply (i : Fin 4096) (k : Fin 1024) : rows m c (ix2 i k) = dx (X m c i) (G m c) (dh (D m c i) (W m c)) (Q m c i) k :=
  Cert.Reference2Ideal.Norm.rows_apply (D := D m c) (W := W m c) (X := X m c) (G := G m c) (Q := Q m c) (fun _ _ _ => rfl) (fun _ _ _ => rfl) (fun _ _ => rfl) (fun _ => rfl) (fun _ _ => rfl) i k

theorem rows'_eq : rows' m c = rows m c := rfl

theorem gain_apply (k : Fin 1024) : gain m c (ix2 0 k) = ∑ i, X m c i k * Norm.rs (X m c i) * dh (D m c i) (W m c) k :=
  Cert.Reference2Ideal.Norm.gain_apply (D := D m c) (W := W m c) (X := X m c) (fun _ _ _ => rfl) (fun _ _ _ => rfl) (fun _ _ => rfl) k

theorem flushed5 (t : Fin cfg0.N) : (dats m 0 c).flushed 5 t = ((cfg0.win 5).blk t).view.read (Elt Ideal) (rows m c) := by
  rw [Value.flushed5, outs5]
  refine funext fun (y : S256x1024.Idx) => ?_
  obtain ⟨p, k, rfl⟩ : ∃ (p : Fin 256) (k : Fin 1024), y = ix2 p k := ⟨y 0, y 1, Shape.idx_ext₂ rfl rfl⟩
  refine Eq.trans ?_ (put5 t (rows m c) p k).symm
  refine (congrFun (cut5 t _) _).trans ?_
  rw [rows_apply]
  exact tile m c t p k

theorem flushed6 (t : Fin cfg0.N) : (dats m 0 c).flushed 6 t = ((cfg0.win 6).blk t).view.read (Elt Ideal) (rows' m c) := by
  rw [Value.flushed6, outs6, rows'_eq]
  refine funext fun (y : S256x1024.Idx) => ?_
  obtain ⟨p, k, rfl⟩ : ∃ (p : Fin 256) (k : Fin 1024), y = ix2 p k := ⟨y 0, y 1, Shape.idx_ext₂ rfl rfl⟩
  refine Eq.trans ?_ (put6 t (rows m c) p k).symm
  refine (congrFun (cut6 t _) _).trans ?_
  rw [rows_apply]
  exact tile m c t p k

theorem flushed7 (t : Fin cfg0.N) (hf : (cfg0.win 7).flush t = true) : (dats m 0 c).flushed 7 t = ((cfg0.win 7).blk t).view.read (Elt Ideal) (gain m c) := by
  have h15 : t.val = 15 := by
    have hN : cfg0.N = 16 := N_0
    have := (flush0_7 t).mp hf
    have := t.isLt
    omega
  rw [Value.flushed7]
  refine funext fun (y : S1x1024.Idx) => ?_
  obtain ⟨k, rfl⟩ : ∃ (k : Fin 1024), y = ix2 0 k := ⟨y 1, Shape.idx_ext₂ (by have : (y 0).val < 1 := (y 0).isLt; show (y 0).val = 0; omega) rfl⟩
  refine Eq.trans ?_ (put7 t (gain m c) k).symm
  refine (congrFun (cut7 t _) _).trans ?_
  rw [gain_apply, chain m c k t.val t.isLt, h15, sum_blocks fun i => dh (D m c i) (W m c) k * (X m c i k * Norm.rs (X m c i))]
  exact Finset.sum_congr rfl fun i _ => mul_comm _ _

theorem covered5 (i : S4096x1024.Idx) : ∃ s : Fin cfg0.N, (win0_5.index s 0 * 256 ≤ (i 0).val ∧ (i 0).val < win0_5.index s 0 * 256 + 256)
    ∧ (win0_5.index s 1 * 1024 ≤ (i 1).val ∧ (i 1).val < win0_5.index s 1 * 1024 + 1024) := by
  have h0 : (i 0).val < 4096 := (i 0).isLt
  have h1 : (i 1).val < 1024 := (i 1).isLt
  have hN : cfg0.N = 16 := N_0
  refine ⟨⟨(i 0).val / 256, by omega⟩, ?_⟩
  rw [(index5 _).1, (index5 _).2]
  dsimp only
  omega

theorem covered6 (i : S4096x1024.Idx) : ∃ s : Fin cfg0.N, (win0_6.index s 0 * 256 ≤ (i 0).val ∧ (i 0).val < win0_6.index s 0 * 256 + 256)
    ∧ (win0_6.index s 1 * 1024 ≤ (i 1).val ∧ (i 1).val < win0_6.index s 1 * 1024 + 1024) := by
  have h0 : (i 0).val < 4096 := (i 0).isLt
  have h1 : (i 1).val < 1024 := (i 1).isLt
  have hN : cfg0.N = 16 := N_0
  refine ⟨⟨(i 0).val / 256, by omega⟩, ?_⟩
  rw [(index6 _).1, (index6 _).2]
  dsimp only
  omega

theorem covered7 (i : S1x1024.Idx) : ∃ s : Fin cfg0.N, (cfg0.win 7).flush s = true ∧ (win0_7.index s 0 * 1 ≤ (i 0).val ∧ (i 0).val < win0_7.index s 0 * 1 + 1)
    ∧ (win0_7.index s 1 * 1024 ≤ (i 1).val ∧ (i 1).val < win0_7.index s 1 * 1024 + 1024) := by
  have h0 : (i 0).val < 1 := (i 0).isLt
  have h1 : (i 1).val < 1024 := (i 1).isLt
  have hN : cfg0.N = 16 := N_0
  refine ⟨⟨15, by omega⟩, (flush0_7 _).mpr rfl, ?_⟩
  rw [(index7 _).1, (index7 _).2]
  omega

theorem final5 : (dats m 0 c).arrAt 5 cfg0.N = rows m c :=
  (dats m 0 c).arrAt_eq_of_cover 5 (rows m c) (fun t _ => flushed5 m c t) fun i => by
    obtain ⟨s, hs⟩ := covered5 i
    refine ⟨s, flush0_5 s, ?_⟩
    show i ∈ ((View.whole main_v1_0).slice (win0_5.rect s)).set
    rw [View.set_slice_whole, Rect.mem_set_unit]
    intro a
    match a with
    | ⟨0, _⟩ => exact hs.1
    | ⟨1, _⟩ => exact hs.2

theorem final6 : (dats m 0 c).arrAt 6 cfg0.N = rows' m c :=
  (dats m 0 c).arrAt_eq_of_cover 6 (rows' m c) (fun t _ => flushed6 m c t) fun i => by
    obtain ⟨s, hs⟩ := covered6 i
    refine ⟨s, flush0_6 s, ?_⟩
    show i ∈ ((View.whole main_v1_1).slice (win0_6.rect s)).set
    rw [View.set_slice_whole, Rect.mem_set_unit]
    intro a
    match a with
    | ⟨0, _⟩ => exact hs.1
    | ⟨1, _⟩ => exact hs.2

theorem final7 : (dats m 0 c).arrAt 7 cfg0.N = gain m c :=
  (dats m 0 c).arrAt_eq_of_cover 7 (gain m c) (flushed7 m c) fun i => by
    obtain ⟨s, hf, hs⟩ := covered7 i
    refine ⟨s, hf, ?_⟩
    show i ∈ ((View.whole main_v1_2).slice (win0_7.rect s)).set
    rw [View.set_slice_whole, Rect.mem_set_unit]
    intro a
    match a with
    | ⟨0, _⟩ => exact hs.1
    | ⟨1, _⟩ => exact hs.2

end Cert.Kernel2Ideal.Norm
end
-- ==== Proof.NormClaim.lean ====
module

public import proofs.«01_k».proof.Defs
public import proofs.«01_k».proof.Proof.Norm
public import proofs.«01_k».proof.Proof.Gen.Reference2Ideal.Run

/-! The normalisation's gradient and its reference end with the same arrays. -/

@[expose] public section

noncomputable section

namespace Cert.NormClaim

open Idealize.ShloMosaic Idealize.ShloMosaic.TcCoe Idealize.ShloMosaic.ValueIdx Idealize.SL.Sem
open Cert.Kernel2Ideal Cert.Kernel2Ideal.Gen Cert.Kernel2Ideal.Norm Cert.Kernel2Ideal.Body

instance : Cert.Reference2Ideal.Facts := Cert.Reference2Ideal.Gen.facts
instance : Cert.Kernel2Ideal.Facts := Cert.Kernel2Ideal.Gen.facts

variable {m : (ℓ : Loc nD τ sig) → Buf (Elt Ideal) ℓ}

theorem run (g : Dev nD → PrngReg) :
    θ_run defs (onTc (τ := τ) (main (F := Ideal))) ⟨m, fun _ => 0, g⟩ (fun r => ∀ c : Dev nD,
      r.2.mem ((c.tc : Thread nD τ).loc main_v1_0) = rows m c
      ∧ r.2.mem ((c.tc : Thread nD τ).loc main_v1_1) = rows' m c
      ∧ r.2.mem ((c.tc : Thread nD τ).loc main_v1_2) = gain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(hr c).1.trans (final5 m c), (hr c).2.1.trans (final6 m c), (hr c).2.2.1.trans (final7 m c), (hr c).2.2.2⟩)
    (Value.run_blocks m g)

theorem algebraic : Cert.algebraic_Kernel2Ideal_Reference2Ideal := by
  intro m g m' g' _ hagree
  refine ⟨fun c => rows m c, fun c => rows' m c, fun c => gain m c, run g, ?_⟩
  refine (θ_run Cert.Reference2Ideal.defs _ _).mono (fun r h c => ?_) (Cert.Reference2Ideal.Value.run (F := Ideal) m' g')
  obtain ⟨e0, e1, e2, e3, e4⟩ := hagree c
  refine ⟨(h c).1.trans ((Cert.Reference2Ideal.Read.val_main_v46_eq m' c).trans ?_), (h c).2.1.trans ((Cert.Reference2Ideal.Read.val_main_v47_eq m' c).trans ?_),
    (h c).2.2.1.trans ((Cert.Reference2Ideal.Read.val_main_v48_eq _ _ _).trans ?_), (h c).2.2.2⟩
  · rw [e0, e1, e2, e3, e4]; rfl
  · rw [e0, e1, e2, e3, e4]; rfl
  · rw [e0, e1, e2]; rfl

end Cert.NormClaim
end
-- ==== Proof.UpWeight.lean ====
module

public import proofs.«01_k».proof.Proof.Coe
public import proofs.«01_k».proof.Proof.Gen.Kernel3Ideal.Value
public import proofs.«01_k».proof.Proof.Gen.Reference3Ideal.Run
public import proofs.«01_k».proof.Proof.Gen.Reference3Ideal.Read
public import Idealize.ShloMosaic.Lib.ValueIdx
public import Idealize.ShloMosaic.Lib.ValueLayout
public import Idealize.ShloMosaic.Lib.MatmulPlain

/-! The gradient of the up projection's weight: one product per block of its rows. -/

@[expose] public section

noncomputable section

namespace Cert.Band

open Idealize.ShloMosaic Idealize.ShloMosaic.ValueIdx

/-- A product over the first axis of both its operands. -/
def firsts {K M N : ℕ} (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

theorem firsts_apply {K M N : ℕ} (w : DotDims.WF ⟨2, ![K, M]⟩ ⟨2, ![K, N]⟩ ⟨2, ![M, N]⟩ [0] [0] [1] [1] [] []) {φ₁ φ₂ : FTy}
    (x : FVec Ideal ⟨2, ![K, M]⟩ φ₁) (y : FVec Ideal ⟨2, ![K, N]⟩ φ₂) (z : FVec Ideal ⟨2, ![M, N]⟩ .f32) (i : Fin M) (j : Fin N) :
    FloatOps.matmul (firsts w) none x y z (ix2 i j) = z (ix2 i j) + ∑ k : Fin K, x (ix2 k i) * y (ix2 k j) := by
  have hr : (firsts w).contr.rank = 1 := rfl
  have hs : (firsts w).contr.size ⟨0, by rw [hr]; exact Nat.one_pos⟩ = K := rfl
  rw [Ideal.matmul_apply, ← Equiv.sum_comp (contrEquiv1 (firsts w) K hr hs).symm]
  refine congrArg (z (ix2 i j) + ·) (Finset.sum_congr rfl fun k _ => ?_)
  have hk := contrEquiv1_symm_val (firsts w) K hr hs k
  refine congrArg₂ (fun a b => x a * y b) (Shape.idx_ext₂ hk rfl) (Shape.idx_ext₂ hk rfl)

end Cert.Band

namespace Cert.Kernel3Ideal.UpWeight

open Cert.Kernel3Ideal Cert.Kernel3Ideal.Gen Cert.Reference3Ideal.Read Cert.Band
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block, among the gradient's rows and among its half's. -/
def low (t : Fin cfg0.N) (p : Fin 1408) : Fin 2816 := ⟨t.val % 2 * 1408 + p.val, by omega⟩
def half (t : Fin cfg0.N) : Fin 2 := ⟨t.val / 2, by have := t.isLt; have : cfg0.N = 4 := N_0; omega⟩
def row (s : Fin 2) (l : Fin 2816) : Fin 5632 := ⟨s.val * 2816 + l.val, by omega⟩

theorem at0 : ∀ t : Fin cfg0.N, win0_0.index t 0 = t.val / 2 ∧ win0_0.index t 1 = 0 ∧ win0_0.index t 2 = t.val % 2 := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 1408) :
    (win0_0.rect t).emb ((ix3 0 k p : S1x4096x1408.Idx)) = (ix3 (half t) k (low t p) : S2x4096x2816.Idx) := by
  refine funext fun a => Fin.ext ?_
  refine (Pipeline.Window.rect_emb_val win0_0 t (ix3 0 k p : S1x4096x1408.Idx) a).trans ?_
  match a with
  | ⟨0, _⟩ => rw [show win0_0.index t ⟨0, _⟩ = _ from (at0 t).1]; show t.val / 2 * 1 + 0 = t.val / 2; omega
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

theorem emb2 (t : Fin cfg0.N) (p : Fin 1408) (j : Fin 1024) :
    (win0_2.rect t).emb ((ix2 p j : S1408x1024.Idx)) = (ix2 (row (half t) (low t p)) j : S5632x1024.Idx) := by
  refine Shape.idx_ext₂ ?_ ?_
  · refine (Pipeline.Window.rect_emb_val win0_2 t (ix2 p j : S1408x1024.Idx) 0).trans ?_
    rw [(at2 t).1]; show t.val * 1408 + p.val = t.val / 2 * 2816 + (t.val % 2 * 1408 + p.val); omega
  · refine (Pipeline.Window.rect_emb_val win0_2 t (ix2 p j : S1408x1024.Idx) 1).trans ?_
    rw [(at2 t).2]; show 0 * 1024 + j.val = j.val; omega

/-! ## What a block holds -/

theorem out_apply (x : Vec Ideal S1x4096x1408 .bf16) (y : Vec Ideal S4096x1024 .bf16) (p : Fin 1408) (j : Fin 1024) :
    out0_2 x y (ix2 p j) = ∑ k : Fin 4096, x (ix3 0 k p) * y (ix2 k j) := by
  unfold out0_2
  rw [View.canon_cons_unit_zero (S := S1408x1024) hz2, View.ld_unit_zero (S := S1x4096x1408) hz3, View.ld_unit_zero (S := S4096x1024) hz2]
  show FloatOps.matmul (F := Ideal) (firsts dot_S4096x1408_S4096x1024_S1408x1024_0_0_1_1_n_n_wf) none (shapeCast S4096x1408 x shapeCasts_S1x4096x1408_S4096x1408) y
    (constant S1408x1024 .f32 0x00000000#32) (ix2 p j) * FloatOps.ofBits (F := Ideal) .f32 0x3F800000#32 = _
  rw [firsts_apply, one_word, EReal.coe_one, mul_one]
  show FloatOps.ofBits (F := Ideal) .f32 0x00000000#32 + _ = _
  rw [zero_word, zero_add]
  refine Finset.sum_congr rfl fun k _ => ?_
  rw [shapeCast_1ab_ab_apply]

/-! ## The reference at an element -/

variable (X : (⟨S2x4096x2816, .bf16⟩ : BufTy).Contents (Elt Ideal)) (Y : (⟨S4096x1024, .bf16⟩ : BufTy).Contents (Elt Ideal))

theorem beside_apply (k : Fin 4096) (s : Fin 2) (l : Fin 2816) : val_main_v7 (F := Ideal) X (ix2 k (row s l)) = X (ix3 s k l) := by
  unfold val_main_v7
  obtain rfl | rfl : s = 0 ∨ s = 1 := by omega
  · refine (concatenate_pair_apply_left (t := Cert.Reference3Ideal.S4096x5632) (s₁ := Cert.Reference3Ideal.S4096x2816) (s₂ := Cert.Reference3Ideal.S4096x2816) 1 _ _
      _ (ix2 k (row 0 l)) rfl (ix2 k l)
      (fun b => by match b with | ⟨0, _⟩ => rfl | ⟨1, _⟩ => show l.val = 0 * 2816 + l.val; omega)).trans ?_
    rw [val_main_v4_apply, val_main_v3_apply]
    refine congrArg X (funext fun a => Fin.ext ?_)
    match a with
    | ⟨0, _⟩ => rfl
    | ⟨1, _⟩ => show (k.val * 2816 + l.val) / 2816 % 4096 = k.val; omega
    | ⟨2, _⟩ => show (k.val * 2816 + l.val) % 2816 = l.val; omega
  · refine (concatenate_pair_apply_right (t := Cert.Reference3Ideal.S4096x5632) (s₁ := Cert.Reference3Ideal.S4096x2816) (s₂ := Cert.Reference3Ideal.S4096x2816) 1 _ _
      _ (ix2 k (row 1 l)) rfl rfl (ix2 k l)
      (fun b hb => by match b with | ⟨0, _⟩ => rfl | ⟨1, _⟩ => exact absurd rfl hb)
      (by show l.val + 2816 = 1 * 2816 + l.val; omega)).trans ?_
    rw [val_main_v6_apply, val_main_v5_apply]
    refine congrArg X (funext fun a => Fin.ext ?_)
    match a with
    | ⟨0, _⟩ => rfl
    | ⟨1, _⟩ => show (k.val * 2816 + l.val) / 2816 % 4096 = k.val; omega
    | ⟨2, _⟩ => show (k.val * 2816 + l.val) % 2816 = l.val; omega

/-- The reference's result. -/
def dw : S5632x1024.Idx → EReal := val_main_v12 (F := Ideal) X Y

theorem dw_apply (s : Fin 2) (l : Fin 2816) (j : Fin 1024) : dw X Y (ix2 (row s l) j) = ∑ k : Fin 4096, X (ix3 s k l) * Y (ix2 k j) := by
  unfold dw
  rw [val_main_v12_apply, val_main_v11_apply, val_main_v10_apply]
  refine (val_main_v9_apply X Y _).trans (Finset.sum_congr rfl fun k _ => ?_)
  refine congrArg₂ (fun a b : EReal => a * b) ?_ ?_
  · refine Eq.trans ?_ (beside_apply X k s l)
    rw [val_main_v8_apply]
    exact congrArg (val_main_v7 (F := Ideal) X) (Shape.idx_ext₂ rfl rfl)
  · rw [val_main_v1_apply]
    exact congrArg Y (Shape.idx_ext₂ rfl rfl)

/-! ## The kernel's array is the reference's -/

theorem read0 (t : Fin cfg0.N) (k : Fin 4096) (p : Fin 1408) :
    ((cfg0.win 0).blk t).view.read (Elt Ideal) X (ix3 0 k p : S1x4096x1408.Idx) = X (ix3 (half t) k (low t p)) := congrArg X (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (Z : S5632x1024.Idx → EReal) (p : Fin 1408) (j : Fin 1024) :
    ((cfg0.win 2).blk t).view.read (Elt Ideal) Z (ix2 p j : S1408x1024.Idx) = Z (ix2 (row (half t) (low t p)) j) := congrArg Z (emb2 t p j)
theorem cut2 (t : Fin cfg0.N) (x : Vec Ideal S1408x1024 .bf16) : (cfg0.win 2).cut (grid0.coords t) x = x := rfl

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := rfl
theorem blk1 (t : Fin cfg0.N) : iblk m c 1 t = ((cfg0.win 1).blk t).view.read (Elt Ideal) (m ((c : Thread nD τ).loc main_arg1)) := rfl

theorem flushed (t : Fin cfg0.N) : (dats m 0 c).flushed 2 t
    = ((cfg0.win 2).blk t).view.read (Elt Ideal) (dw (m ((c : Thread nD τ).loc main_arg0)) (m ((c : Thread nD τ).loc main_arg1))) := by
  rw [Value.flushed2, blk0, blk1]
  generalize m ((c : Thread nD τ).loc main_arg0) = X
  generalize m ((c : Thread nD τ).loc main_arg1) = Y
  refine funext fun (y : S1408x1024.Idx) => ?_
  obtain ⟨p, j, rfl⟩ : ∃ (p : Fin 1408) (j : Fin 1024), y = ix2 p j := ⟨y 0, y 1, Shape.idx_ext₂ rfl rfl⟩
  refine Eq.trans ?_ (put2 t (dw X Y) p j).symm
  refine (congrFun (cut2 t _) _).trans ?_
  rw [dw_apply]
  refine (out_apply _ _ p j).trans (Finset.sum_congr rfl fun k _ => ?_)
  exact congrArg₂ (fun a b : EReal => a * b) (read0 X t k p) (read1 Y t k j)

theorem covered (i : S5632x1024.Idx) : ∃ s : Fin cfg0.N, (win0_2.index s 0 * 1408 ≤ (i 0).val ∧ (i 0).val < win0_2.index s 0 * 1408 + 1408)
    ∧ (win0_2.index s 1 * 1024 ≤ (i 1).val ∧ (i 1).val < win0_2.index s 1 * 1024 + 1024) := by
  have h0 : (i 0).val < 5632 := (i 0).isLt
  have h1 : (i 1).val < 1024 := (i 1).isLt
  have hN : cfg0.N = 4 := N_0
  refine ⟨⟨(i 0).val / 1408, by omega⟩, ?_⟩
  rw [(at2 _).1, (at2 _).2]
  dsimp only
  omega

theorem final : (dats m 0 c).arrAt 2 cfg0.N = dw (m ((c : Thread nD τ).loc main_arg0)) (m ((c : Thread nD τ).loc main_arg1)) :=
  (dats m 0 c).arrAt_eq_of_cover 2 (dw (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v0).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel3Ideal.UpWeight
end
-- ==== Proof.UpWeightClaim.lean ====
module

public import proofs.«01_k».proof.Defs
public import proofs.«01_k».proof.Proof.UpWeight
public import proofs.«01_k».proof.Proof.Gen.Kernel3Ideal.Frame

/-! The weight gradient's kernel and its reference end with the same array. -/

@[expose] public section

noncomputable section

namespace Cert.UpWeight

open Idealize.ShloMosaic Idealize.ShloMosaic.TcCoe Idealize.SL.Sem
open Cert.Kernel3Ideal.UpWeight

instance : Cert.Reference3Ideal.Facts := Cert.Reference3Ideal.Gen.facts
instance : Cert.Kernel3Ideal.Facts := Cert.Kernel3Ideal.Gen.facts

theorem algebraic : Cert.algebraic_Kernel3Ideal_Reference3Ideal := by
  intro m g m' g' _ hagree
  refine ⟨fun c => dw (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), Cert.Kernel3Ideal.UpWeight.run m g, ?_⟩
  refine (θ_run Cert.Reference3Ideal.defs _ _).mono (fun r h c => ?_) (Cert.Reference3Ideal.Value.run (F := Ideal) m' g')
  obtain ⟨e0, e1⟩ := hagree c
  refine ⟨(h c).1.trans ((Cert.Reference3Ideal.Read.val_main_v12_eq _ _).trans ?_), (h c).2⟩
  rw [e0, e1]; rfl

end Cert.UpWeight
end
-- ==== Proof.DownWeight.lean ====
module

public import proofs.«01_k».proof.Proof.UpWeight
public import proofs.«01_k».proof.Proof.NormMath
public import proofs.«01_k».proof.Proof.Gen.Kernel4Ideal.Value
public import proofs.«01_k».proof.Proof.Gen.Reference4Ideal.Run
public import proofs.«01_k».proof.Proof.Gen.Reference4Ideal.Read

/-! The gradient of the down projection's weight: half of one product per block of its rows. -/

@[expose] public section

noncomputable section

namespace Cert.Norm

open Idealize.ShloMosaic

theorem plus_half_word : FloatOps.ofBits (F := Ideal) .f32 0x3F000000#32 = ((1 / 2 : ℝ) : EReal) := by
  rw [Ideal.ofBits_def]
  simp [Ideal.ofBits, Ideal.ieee, -EReal.coe_mul]; norm_num

end Cert.Norm

namespace Cert.Kernel4Ideal.DownWeight

open Cert.Kernel4Ideal Cert.Kernel4Ideal.Gen Cert.Reference4Ideal.Read Cert.Band Cert.Norm
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def low (t : Fin cfg0.N) (p : Fin 1408) : Fin 2816 := ⟨t.val * 1408 + p.val, by have := t.isLt; have : cfg0.N = 2 := N_0; omega⟩

theorem at0 : ∀ t : Fin cfg0.N, win0_0.index t 0 = 0 ∧ win0_0.index t 1 = 0 ∧ win0_0.index t 2 = t.val := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 1408) :
    (win0_0.rect t).emb ((ix3 0 k p : S1x4096x1408.Idx)) = (ix3 0 k (low t p) : S1x4096x2816.Idx) := by
  refine funext fun a => Fin.ext ?_
  refine (Pipeline.Window.rect_emb_val win0_0 t (ix3 0 k p : S1x4096x1408.Idx) a).trans ?_
  match a with
  | ⟨0, _⟩ => rw [show win0_0.index t ⟨0, _⟩ = _ from (at0 t).1]; rfl
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

theorem emb2 (t : Fin cfg0.N) (p : Fin 1408) (j : Fin 1024) :
    (win0_2.rect t).emb ((ix2 p j : S1408x1024.Idx)) = (ix2 (low t p) j : S2816x1024.Idx) := by
  refine Shape.idx_ext₂ ?_ ?_
  · refine (Pipeline.Window.rect_emb_val win0_2 t (ix2 p j : S1408x1024.Idx) 0).trans ?_
    rw [(at2 t).1]; rfl
  · refine (Pipeline.Window.rect_emb_val win0_2 t (ix2 p j : S1408x1024.Idx) 1).trans ?_
    rw [(at2 t).2]; show 0 * 1024 + j.val = j.val; omega

/-! ## What a block holds -/

theorem out_apply (x : Vec Ideal S1x4096x1408 .bf16) (y : Vec Ideal S4096x1024 .bf16) (p : Fin 1408) (j : Fin 1024) :
    out0_2 x y (ix2 p j) = (∑ k : Fin 4096, x (ix3 0 k p) * y (ix2 k j)) * ((1 / 2 : ℝ) : EReal) := by
  unfold out0_2
  rw [View.canon_cons_unit_zero (S := S1408x1024) hz2, View.ld_unit_zero (S := S1x4096x1408) hz3, View.ld_unit_zero (S := S4096x1024) hz2]
  show FloatOps.matmul (F := Ideal) (firsts dot_S4096x1408_S4096x1024_S1408x1024_0_0_1_1_n_n_wf) none (shapeCast S4096x1408 x shapeCasts_S1x4096x1408_S4096x1408) y
    (constant S1408x1024 .f32 0x00000000#32) (ix2 p j) * FloatOps.ofBits (F := Ideal) .f32 0x3F000000#32 = _
  rw [firsts_apply, plus_half_word]
  refine congrArg (· * ((1 / 2 : ℝ) : EReal)) ?_
  show FloatOps.ofBits (F := Ideal) .f32 0x00000000#32 + _ = _
  rw [zero_word, zero_add]
  refine Finset.sum_congr rfl fun k _ => ?_
  rw [shapeCast_1ab_ab_apply]

/-! ## The reference at an element -/

variable (X : (⟨S4096x2816, .bf16⟩ : BufTy).Contents (Elt Ideal)) (Y : (⟨S4096x1024, .bf16⟩ : BufTy).Contents (Elt Ideal))

/-- The reference's result. -/
def dw : S2816x1024.Idx → EReal := val_main_v10 (F := Ideal) X Y

theorem dw_apply (l : Fin 2816) (j : Fin 1024) : dw X Y (ix2 l j) = (∑ k : Fin 4096, X (ix2 k l) * Y (ix2 k j)) * ((1 / 2 : ℝ) : EReal) := by
  unfold dw
  rw [val_main_v10_apply, val_main_v9_apply, mul_comm, real_mul_sum (by norm_num)]
  refine (val_main_v8_apply X Y _).trans (Finset.sum_congr rfl fun k _ => ?_)
  rw [val_main_v7_apply, val_main_v6_apply, val_main_cst_1_apply, val_main_v5_apply, val_main_v1_apply]
  rw [mul_comm (X _), ← mul_assoc]
  refine congrArg₂ (fun a b : EReal => a * b) (congrArg₂ (fun a b : EReal => a * b) plus_half_word ?_) ?_
  · exact congrArg Y (Shape.idx_ext₂ rfl rfl)
  · exact congrArg X (Shape.idx_ext₂ rfl rfl)

/-! ## The kernel's array is the reference's -/

theorem read0 (t : Fin cfg0.N) (Z : S1x4096x2816.Idx → EReal) (k : Fin 4096) (p : Fin 1408) :
    ((cfg0.win 0).blk t).view.read (Elt Ideal) Z (ix3 0 k p : S1x4096x1408.Idx) = Z (ix3 0 k (low t p)) := congrArg Z (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (Z : S2816x1024.Idx → EReal) (p : Fin 1408) (j : Fin 1024) :
    ((cfg0.win 2).blk t).view.read (Elt Ideal) Z (ix2 p j : S1408x1024.Idx) = Z (ix2 (low t p) j) := congrArg Z (emb2 t p j)
theorem cut2 (t : Fin cfg0.N) (x : Vec Ideal S1408x1024 .bf16) : (cfg0.win 2).cut (grid0.coords t) x = x := rfl

variable (m : (ℓ : Loc nD τ sig) → Buf (Elt Ideal) ℓ) (c : Dev nD)

theorem V_act : V m c main_v0 = broadcastInDim S1x4096x2816 ![1, 2] bcast_S4096x2816_S1x4096x2816_1_2 (m ((c : Thread nD τ).loc main_arg0)) := by
  unfold V
  simp only [hostOps0]
  after_results_simp <;> rfl

theorem blk0 (t : Fin cfg0.N) : iblk m c 0 t = ((cfg0.win 0).blk t).view.read (Elt Ideal) (broadcastInDim S1x4096x2816 ![1, 2] bcast_S4096x2816_S1x4096x2816_1_2 (m ((c : Thread nD τ).loc main_arg0))) := by
  rw [← V_act m c]; rfl
theorem blk1 (t : Fin cfg0.N) : iblk m c 1 t = ((cfg0.win 1).blk t).view.read (Elt Ideal) (m ((c : Thread nD τ).loc main_arg1)) := by
  rw [← V_main_arg1 m c]; rfl

theorem one_apply (Z : S4096x2816.Idx → EReal) (k : Fin 4096) (l : Fin 2816) :
    (broadcastInDim S1x4096x2816 ![1, 2] bcast_S4096x2816_S1x4096x2816_1_2 Z) (ix3 0 k l) = Z (ix2 k l) :=
  congrArg Z (Shape.idx_ext₂ rfl rfl)

theorem flushed (t : Fin cfg0.N) : (dats m 0 c).flushed 2 t
    = ((cfg0.win 2).blk t).view.read (Elt Ideal) (dw (m ((c : Thread nD τ).loc main_arg0)) (m ((c : Thread nD τ).loc main_arg1))) := by
  rw [Value.flushed2, blk0, blk1]
  generalize m ((c : Thread nD τ).loc main_arg0) = X
  generalize m ((c : Thread nD τ).loc main_arg1) = Y
  refine funext fun (y : S1408x1024.Idx) => ?_
  obtain ⟨p, j, rfl⟩ : ∃ (p : Fin 1408) (j : Fin 1024), y = ix2 p j := ⟨y 0, y 1, Shape.idx_ext₂ rfl rfl⟩
  refine Eq.trans ?_ (put2 t (dw X Y) p j).symm
  refine (congrFun (cut2 t _) _).trans ?_
  rw [dw_apply]
  refine (out_apply _ _ p j).trans (congrArg (· * ((1 / 2 : ℝ) : EReal)) (Finset.sum_congr rfl fun k _ => ?_))
  exact congrArg₂ (fun a b : EReal => a * b) ((read0 t _ k p).trans (one_apply X k _)) (read1 Y t k j)

theorem covered (i : S2816x1024.Idx) : ∃ s : Fin cfg0.N, (win0_2.index s 0 * 1408 ≤ (i 0).val ∧ (i 0).val < win0_2.index s 0 * 1408 + 1408)
    ∧ (win0_2.index s 1 * 1024 ≤ (i 1).val ∧ (i 1).val < win0_2.index s 1 * 1024 + 1024) := by
  have h0 : (i 0).val < 2816 := (i 0).isLt
  have h1 : (i 1).val < 1024 := (i 1).isLt
  have hN : cfg0.N = 2 := N_0
  refine ⟨⟨(i 0).val / 1408, by omega⟩, ?_⟩
  rw [(at2 _).1, (at2 _).2]
  dsimp only
  omega

theorem final : (dats m 0 c).arrAt 2 cfg0.N = dw (m ((c : Thread nD τ).loc main_arg0)) (m ((c : Thread nD τ).loc main_arg1)) :=
  (dats m 0 c).arrAt_eq_of_cover 2 (dw (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v1).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel4Ideal.DownWeight
end
-- ==== Proof.DownWeightClaim.lean ====
module

public import proofs.«01_k».proof.Defs
public import proofs.«01_k».proof.Proof.DownWeight
public import proofs.«01_k».proof.Proof.Gen.Kernel4Ideal.Frame

/-! The weight gradient's kernel and its reference end with the same array. -/

@[expose] public section

noncomputable section

namespace Cert.DownWeight

open Idealize.ShloMosaic Idealize.ShloMosaic.TcCoe Idealize.SL.Sem
open Cert.Kernel4Ideal.DownWeight

instance : Cert.Reference4Ideal.Facts := Cert.Reference4Ideal.Gen.facts
instance : Cert.Kernel4Ideal.Facts := Cert.Kernel4Ideal.Gen.facts

theorem algebraic : Cert.algebraic_Kernel4Ideal_Reference4Ideal := by
  intro m g m' g' _ hagree
  refine ⟨fun c => dw (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), Cert.Kernel4Ideal.DownWeight.run m g, ?_⟩
  refine (θ_run Cert.Reference4Ideal.defs _ _).mono (fun r h c => ?_) (Cert.Reference4Ideal.Value.run (F := Ideal) m' g')
  obtain ⟨e0, e1⟩ := hagree c
  refine ⟨(h c).1.trans ((Cert.Reference4Ideal.Read.val_main_v10_eq _ _).trans ?_), (h c).2⟩
  rw [e0, e1]; rfl

end Cert.DownWeight
end
-- ==== Proof.Gate.lean ====
module

public import proofs.«01_k».proof.Proof.DownWeight
public import Idealize.ShloMosaic.Lib.Pipeline.ValueKit.Tiles

/-! The gated activation's slopes at an element, and arrays of two slabs. -/

@[expose] public section

noncomputable section

namespace Cert.Gate

open Idealize.ShloMosaic Idealize.ShloMosaic.ValueIdx Cert.Band Cert.Norm

/-! ## Products over the last axis, and arrays stored slab by slab -/

/-- A product over the last axis of both its operands. -/
def lasts {M K N : ℕ} (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

theorem lasts_apply {M K N : ℕ} (w : DotDims.WF ⟨2, ![M, K]⟩ ⟨2, ![N, K]⟩ ⟨2, ![M, N]⟩ [1] [1] [0] [0] [] []) {φ₁ φ₂ : FTy}
    (x : FVec Ideal ⟨2, ![M, K]⟩ φ₁) (y : FVec Ideal ⟨2, ![N, K]⟩ φ₂) (z : FVec Ideal ⟨2, ![M, N]⟩ .f32) (i : Fin M) (j : Fin N) :
    FloatOps.matmul (lasts w) none x y z (ix2 i j) = z (ix2 i j) + ∑ k : Fin K, x (ix2 i k) * y (ix2 j k) := by
  have hr : (lasts w).contr.rank = 1 := rfl
  have hs : (lasts w).contr.size ⟨0, by rw [hr]; exact Nat.one_pos⟩ = K := rfl
  rw [Ideal.matmul_apply, ← Equiv.sum_comp (contrEquiv1 (lasts w) K hr hs).symm]
  refine congrArg (z (ix2 i j) + ·) (Finset.sum_congr rfl fun k _ => ?_)
  have hk := contrEquiv1_symm_val (lasts w) K hr hs k
  refine congrArg₂ (fun a b => x a * y b) (Shape.idx_ext₂ rfl hk) (Shape.idx_ext₂ rfl hk)

/-- Slab `s` of an array of two, read. -/
theorem slab {A B : ℕ} (X : Vec Ideal ⟨3, ![2, A, B]⟩ .bf16) (o : ℕ) (s : Fin 2) (ho : s.val = o) (inb) (i : Fin A) (j : Fin B) :
    View.ld X (Rect.unit (s := ⟨3, ![2, A, B]⟩) ![o, 0, 0] ![1, A, B] inb) (ix3 0 i j : (⟨3, ![1, A, B]⟩ : Shape).Idx) = X (ix3 s i j) :=
  View.ld_unit_apply_of X ![o, 0, 0] ![1, A, B] inb (ix3 0 i j : (⟨3, ![1, A, B]⟩ : Shape).Idx) (ix3 s i j) fun a => by
    match a with
    | ⟨0, _⟩ => show s.val = o + 0; omega
    | ⟨1, _⟩ => show i.val = 0 + i.val; omega
    | ⟨2, _⟩ => show j.val = 0 + j.val; omega

theorem slab_emb {A B : ℕ} (o : ℕ) (s : Fin 2) (ho : s.val = o) (inb) (i : Fin A) (j : Fin B) :
    (Rect.unit (s := ⟨3, ![2, A, B]⟩) ![o, 0, 0] ![1, A, B] inb).emb (ix3 0 i j : (⟨3, ![1, A, B]⟩ : Shape).Idx) = (ix3 s i j : (⟨3, ![2, A, B]⟩ : Shape).Idx) := by
  refine funext fun a => Fin.ext ?_
  refine (Rect.idx_unit_val (s := ⟨3, ![2, A, B]⟩) ![o, 0, 0] ![1, A, B] inb (ix3 0 i j : (⟨3, ![1, A, B]⟩ : Shape).Idx) a).trans ?_
  match a with
  | ⟨0, _⟩ => show o + 0 = s.val; omega
  | ⟨1, _⟩ => show 0 + i.val = i.val; omega
  | ⟨2, _⟩ => show 0 + j.val = j.val; omega

variable {A B : ℕ} (inb1 : ∀ a, (![1, 0, 0] : Fin 3 → Nat) a + (![1, A, B] : Fin 3 → Nat) a ≤ (⟨3, ![2, A, B]⟩ : Shape).size a)
  (inb0 : ∀ a, (![0, 0, 0] : Fin 3 → Nat) a + (![1, A, B] : Fin 3 → Nat) a ≤ (⟨3, ![2, A, B]⟩ : Shape).size a)
  (w1 w0 : Vec Ideal ⟨3, ![1, A, B]⟩ .bf16) (i : Fin A) (j : Fin B)

/-- Both slabs stored, the second last: the second, -/
theorem slabs_one : View.canon (Val := Elt Ideal) [⟨Rect.unit (s := ⟨3, ![2, A, B]⟩) ![1, 0, 0] ![1, A, B] inb1, w1⟩, ⟨Rect.unit (s := ⟨3, ![2, A, B]⟩) ![0, 0, 0] ![1, A, B] inb0, w0⟩]
    (ix3 1 i j : (⟨3, ![2, A, B]⟩ : Shape).Idx) = w1 (ix3 0 i j) := by
  rw [← slab_emb 1 1 rfl inb1 i j, View.canon_cons_emb]

/-- and the first. -/
theorem slabs_zero : View.canon (Val := Elt Ideal) [⟨Rect.unit (s := ⟨3, ![2, A, B]⟩) ![1, 0, 0] ![1, A, B] inb1, w1⟩, ⟨Rect.unit (s := ⟨3, ![2, A, B]⟩) ![0, 0, 0] ![1, A, B] inb0, w0⟩]
    (ix3 0 i j : (⟨3, ![2, A, B]⟩ : Shape).Idx) = w0 (ix3 0 i j) := by
  rw [View.canon_cons_of_not_mem]
  · rw [← slab_emb 0 0 rfl inb0 i j, View.canon_cons_emb]
  · intro h
    have h' := (Rect.mem_set_unit (s := ⟨3, ![2, A, B]⟩) (inb := inb1)).mp h (0 : Fin 3)
    exact absurd h'.1 (by show ¬ (1 ≤ 0); omega)

/-! ## The slopes -/

theorem half_bf16 : FloatOps.ofBits (F := Ideal) .bf16 0x3F00#16 = ((1 / 2 : ℝ) : EReal) := by
  rw [Ideal.ofBits_def]
  simp [Ideal.ofBits, Ideal.ieee, -EReal.coe_mul]; norm_num

theorem one_word' : FloatOps.ofBits (F := Ideal) .f32 0x3F800000#32 = (1 : EReal) := one_word.trans EReal.coe_one

/-- The sigmoid is a real number, and its derivative vanishes where the argument is infinite. -/
theorem sg_cases (g : EReal) : (∃ a b : ℝ, g = (a : EReal) ∧ Ideal.logistic g = (b : EReal)) ∨ Ideal.logistic g = 0 ∨ Ideal.logistic g = 1 := by
  induction g using EReal.rec with
  | bot => exact Or.inr (Or.inl Ideal.logistic_bot)
  | top => exact Or.inr (Or.inr Ideal.logistic_top)
  | coe a => exact Or.inl ⟨a, _, rfl, Ideal.logistic_coe a⟩

theorem one_sub_one : (1 : EReal) - 1 = 0 := by
  rw [← EReal.coe_one, ← EReal.coe_sub, sub_self, EReal.coe_zero]

/-- A real factor goes into the gate's slope. -/
theorem into_slope (p u : ℝ) (g : EReal) :
    (p : EReal) * (1 * u * Ideal.logistic g + g * (1 * u) * (Ideal.logistic g * (1 - Ideal.logistic g)))
      = (p : EReal) * u * Ideal.logistic g + g * ((p : EReal) * u) * (Ideal.logistic g * (1 - Ideal.logistic g)) := by
  rw [one_mul]
  rcases sg_cases g with ⟨a, b, rfl, h⟩ | h | h
  · rw [h, ← EReal.coe_one]
    simp only [← EReal.coe_mul, ← EReal.coe_sub, ← EReal.coe_add]
    exact congrArg _ (by ring)
  · rw [h]; simp only [zero_mul, mul_zero, add_zero]
  · rw [h, one_sub_one]; simp only [mul_zero, mul_one, add_zero]

/-- The gate's slope, written with one factor for the second operand. -/
theorem slope_eq (g u : ℝ) :
    (u : EReal) * (Ideal.logistic g + g * Ideal.logistic g * (1 - Ideal.logistic g))
      = 1 * u * Ideal.logistic g + g * (1 * u) * (Ideal.logistic g * (1 - Ideal.logistic g)) := by
  rw [Ideal.logistic_coe, one_mul, ← EReal.coe_one]
  simp only [← EReal.coe_mul, ← EReal.coe_sub, ← EReal.coe_add]
  exact congrArg _ (by ring)

end Cert.Gate
end
-- ==== Proof.Dact.lean ====
module

public import proofs.«01_k».proof.Proof.Gate
public import proofs.«01_k».proof.Proof.Gen.Kernel5Ideal.Value
public import proofs.«01_k».proof.Proof.Gen.Reference5Ideal.Run
public import proofs.«01_k».proof.Proof.Gen.Reference5Ideal.Read

/-! The gradient of the gate and of its partner: one product per block, times the activation's two slopes. -/

@[expose] public section

noncomputable section

namespace Cert.Kernel5Ideal.Dact

open Cert.Kernel5Ideal Cert.Kernel5Ideal.Gen Cert.Reference5Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Row `p` of point `t`'s block, and its column `l`. -/
def row (t : Fin cfg0.N) (p : Fin 1024) : Fin 4096 := ⟨t.val % 4 * 1024 + p.val, by omega⟩
def col (t : Fin cfg0.N) (l : Fin 1408) : Fin 2816 := ⟨t.val / 4 * 1408 + l.val, by have := t.isLt; have : cfg0.N = 8 := N_0; omega⟩

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val / 4 ∧ win0_1.index t 1 = 0 := (by decide +kernel : ∀ t : Fin grid0.N, _)
theorem at2 : ∀ t : Fin cfg0.N, win0_2.index t 0 = 0 ∧ win0_2.index t 1 = t.val % 4 ∧ win0_2.index t 2 = t.val / 4 := (by decide +kernel : ∀ t : Fin grid0.N, _)
theorem at4 : ∀ t : Fin cfg0.N, win0_4.index t 0 = 0 ∧ win0_4.index t 1 = t.val % 4 ∧ win0_4.index t 2 = t.val / 4 := (by decide +kernel : ∀ t : Fin grid0.N, _)

theorem emb0 (t : Fin cfg0.N) (p : Fin 1024) (k : Fin 1024) :
    (win0_0.rect t).emb ((ix2 p k : S1024x1024.Idx)) = (ix2 (row t p) k : S4096x1024.Idx) := by
  refine Shape.idx_ext₂ ?_ ?_
  · refine (Pipeline.Window.rect_emb_val win0_0 t (ix2 p k : S1024x1024.Idx) 0).trans ?_
    rw [(at0 t).1]; rfl
  · refine (Pipeline.Window.rect_emb_val win0_0 t (ix2 p k : S1024x1024.Idx) 1).trans ?_
    rw [(at0 t).2]; show 0 * 1024 + k.val = k.val; omega

theorem emb1 (t : Fin cfg0.N) (l : Fin 1408) (k : Fin 1024) :
    (win0_1.rect t).emb ((ix2 l k : S1408x1024.Idx)) = (ix2 (col t l) k : S2816x1024.Idx) := by
  refine Shape.idx_ext₂ ?_ ?_
  · refine (Pipeline.Window.rect_emb_val win0_1 t (ix2 l k : S1408x1024.Idx) 0).trans ?_
    rw [(at1 t).1]; rfl
  · refine (Pipeline.Window.rect_emb_val win0_1 t (ix2 l k : S1408x1024.Idx) 1).trans ?_
    rw [(at1 t).2]; show 0 * 1024 + k.val = k.val; omega

theorem emb2 (t : Fin cfg0.N) (s : Fin 2) (p : Fin 1024) (l : Fin 1408) :
    (win0_2.rect t).emb ((ix3 s p l : S2x1024x1408.Idx)) = (ix3 s (row t p) (col t l) : S2x4096x2816.Idx) := by
  refine funext fun a => Fin.ext ?_
  refine (Pipeline.Window.rect_emb_val win0_2 t (ix3 s p l : S2x1024x1408.Idx) a).trans ?_
  match a with
  | ⟨0, _⟩ => rw [show win0_2.index t ⟨0, _⟩ = _ from (at2 t).1]; show 0 * 2 + s.val = s.val; omega
  | ⟨1, _⟩ => rw [show win0_2.index t ⟨1, _⟩ = _ from (at2 t).2.1]; rfl
  | ⟨2, _⟩ => rw [show win0_2.index t ⟨2, _⟩ = _ from (at2 t).2.2]; rfl

theorem emb4 (t : Fin cfg0.N) (s : Fin 2) (p : Fin 1024) (l : Fin 1408) :
    (win0_4.rect t).emb ((ix3 s p l : S2x1024x1408.Idx)) = (ix3 s (row t p) (col t l) : S2x4096x2816.Idx) := by
  refine funext fun a => Fin.ext ?_
  refine (Pipeline.Window.rect_emb_val win0_4 t (ix3 s p l : S2x1024x1408.Idx) a).trans ?_
  match a with
  | ⟨0, _⟩ => rw [show win0_4.index t ⟨0, _⟩ = _ from (at4 t).1]; show 0 * 2 + s.val = s.val; omega
  | ⟨1, _⟩ => rw [show win0_4.index t ⟨1, _⟩ = _ from (at4 t).2.1]; rfl
  | ⟨2, _⟩ => rw [show win0_4.index t ⟨2, _⟩ = _ from (at4 t).2.2]; rfl

/-! ## What a block holds -/

theorem pay1_apply (x : Vec Ideal S1024x1024 .bf16) (y : Vec Ideal S1408x1024 .bf16) (p : Fin 1024) (l : Fin 1408) :
    k0_pay1 x y (ix2 p l) = ∑ k : Fin 1024, x (ix2 p k) * ((1 / 2 : ℝ) : EReal) * y (ix2 l k) := by
  show FloatOps.matmul (F := Ideal) (φ₁ := .bf16) (φ₂ := .bf16) (lasts dot_S1024x1024_S1408x1024_S1024x1408_1_1_0_0_n_n_wf) none (mulf x (broadcast S1024x1024 (Scalar.ofBits .bf16 0x3F00#16))) y
    (constant S1024x1408 .f32 0x00000000#32) (ix2 p l) = _
  rw [lasts_apply]
  show FloatOps.ofBits (F := Ideal) .f32 0x00000000#32 + _ = _
  rw [zero_word, zero_add]
  refine Finset.sum_congr rfl fun k _ => ?_
  exact congrArg (fun a => x (ix2 p k) * a * y (ix2 l k)) half_bf16

theorem out_apply (x : Vec Ideal S1024x1024 .bf16) (y : Vec Ideal S1408x1024 .bf16) (z : Vec Ideal S2x1024x1408 .bf16) (w : Vec Ideal S8x128 .f32) (s : Fin 2) (p : Fin 1024) (l : Fin 1408) :
    out0_4 x y z w (ix3 s p l) = (∑ k : Fin 1024, x (ix2 p k) * ((1 / 2 : ℝ) : EReal) * y (ix2 l k)) * z (ix3 s p l) := by
  unfold out0_4
  rw [View.ld_unit_zero (S := S1024x1024) hz2, View.ld_unit_zero (S := S1408x1024) hz2]
  obtain rfl | rfl : s = 0 ∨ s = 1 := by omega
  · refine (slabs_zero _ _ _ _ p l).trans ?_
    unfold k0_pay2
    refine (shapeCast_ab_1ab_apply _ _ 0 p l).trans ?_
    refine congrArg₂ (fun a b : EReal => a * b) (pay1_apply x y p l) ?_
    exact (shapeCast_1ab_ab_apply _ _ p l).trans (slab z 0 0 rfl _ p l)
  · refine (slabs_one _ _ _ _ p l).trans ?_
    unfold k0_pay3
    refine (shapeCast_ab_1ab_apply _ _ 0 p l).trans ?_
    refine congrArg₂ (fun a b : EReal => a * b) (pay1_apply x y p l) ?_
    exact (shapeCast_1ab_ab_apply _ _ p l).trans (slab z 1 1 rfl _ p l)

/-! ## The slopes the kernel is given -/

variable (X : (⟨S4096x1024, .bf16⟩ : BufTy).Contents (Elt Ideal)) (W : (⟨S2816x1024, .bf16⟩ : BufTy).Contents (Elt Ideal))
  (G U : (⟨S4096x2816, .f32⟩ : BufTy).Contents (Elt Ideal))

def ones : FVec Ideal S4096x2816 .f32 := broadcastInDim S4096x2816 ![] bcast_S_S4096x2816 (constant S_ .f32 0x3F800000#32)
def sgm : FVec Ideal S4096x2816 .f32 := Host.divf ones (addf ones (Host.exp (Host.negf G)))
def slope0 : FVec Ideal S4096x2816 .f32 :=
  addf (mulf (mulf ones U) (sgm G)) (mulf (mulf G (mulf ones U)) (mulf (sgm G) (subf ones (sgm G))))
def slope1 : FVec Ideal S4096x2816 .f32 := mulf (mulf G (sgm G)) ones

/-- Both slopes, one after the other. -/
def stacked : FVec Ideal S2x4096x2816 .f32 :=
  concatenate S2x4096x2816 0 [⟨S1x4096x2816, broadcastInDim S1x4096x2816 ![1, 2] bcast_S4096x2816_S1x4096x2816_1_2 (slope0 G U)⟩,
    ⟨S1x4096x2816, broadcastInDim S1x4096x2816 ![1, 2] bcast_S4096x2816_S1x4096x2816_1_2 (slope1 G)⟩] concatenates_S1x4096x2816_S1x4096x2816_S2x4096x2816_d0
def slopes : (⟨S2x4096x2816, .bf16⟩ : BufTy).Contents (Elt Ideal) := truncf .bf16 (stacked G U) bitsLt_bf16_f32

theorem ones_apply (i : S4096x2816.Idx) : ones i = (1 : EReal) := one_word'

theorem sgm_apply (i : S4096x2816.Idx) : sgm G i = Ideal.logistic (G i) := by
  show Ideal.div (ones i) (ones i + Ideal.exp (-(G i))) = _
  rw [ones_apply]; rfl

theorem slope0_apply (i : S4096x2816.Idx) :
    slope0 G U i = 1 * U i * Ideal.logistic (G i) + G i * (1 * U i) * (Ideal.logistic (G i) * (1 - Ideal.logistic (G i))) := by
  rw [← sgm_apply, ← ones_apply i]; rfl

theorem slope1_apply (i : S4096x2816.Idx) : slope1 G i = G i * Ideal.logistic (G i) := by
  rw [← sgm_apply]; exact (congrArg (G i * sgm G i * ·) (ones_apply i)).trans (mul_one _)

theorem lift_apply (Z : S4096x2816.Idx → EReal) (i : Fin 4096) (l : Fin 2816) :
    (broadcastInDim S1x4096x2816 ![1, 2] bcast_S4096x2816_S1x4096x2816_1_2 Z) (ix3 0 i l) = Z (ix2 i l) :=
  congrArg Z (Shape.idx_ext₂ rfl rfl)

theorem slopes_zero (i : Fin 4096) (l : Fin 2816) : slopes G U (ix3 0 i l) = slope0 G U (ix2 i l) := by
  show stacked G U (ix3 0 i l) = _
  unfold stacked
  refine (concatenate_pair_apply_left (t := S2x4096x2816) (s₁ := S1x4096x2816) (s₂ := S1x4096x2816) 0 _ _
    concatenates_S1x4096x2816_S1x4096x2816_S2x4096x2816_d0 (ix3 0 i l) rfl (ix3 0 i l)
    (fun b => by match b with | ⟨0, _⟩ => rfl | ⟨1, _⟩ => rfl | ⟨2, _⟩ => rfl)).trans ?_
  exact lift_apply _ i l

theorem slopes_one (i : Fin 4096) (l : Fin 2816) : slopes G U (ix3 1 i l) = slope1 G (ix2 i l) := by
  show stacked G U (ix3 1 i l) = _
  unfold stacked
  refine (concatenate_pair_apply_right (t := S2x4096x2816) (s₁ := S1x4096x2816) (s₂ := S1x4096x2816) 0 _ _
    concatenates_S1x4096x2816_S1x4096x2816_S2x4096x2816_d0 (ix3 1 i l) rfl rfl (ix3 0 i l)
    (fun b hb => by match b with | ⟨0, _⟩ => exact absurd rfl hb | ⟨1, _⟩ => rfl | ⟨2, _⟩ => rfl) rfl).trans ?_
  exact lift_apply _ i l

/-! ## The reference at an element -/

/-- The reference's result. -/
def dgu : S2x4096x2816.Idx → EReal := val_main_v16 (F := Ideal) X W G U

theorem ref_sig (i : S4096x2816.Idx) : val_main_v0_2 (F := Ideal) G i = Ideal.logistic (G i) := by
  rw [val_main_v0_2_apply, val_main_call0_v4_apply, val_main_call0_cst_0_apply, val_main_call0_v3_apply, val_main_call0_v2_apply, val_main_call0_cst_apply, one_word']
  rfl

theorem ref_slope (i : S4096x2816.Idx) : val_main_v0_1 (F := Ideal) G i = Ideal.logistic (G i) * (1 - Ideal.logistic (G i)) := by
  rw [val_main_v0_1_apply, val_main_call0_v7_apply, val_main_call0_v6_apply, val_main_call0_cst_1_apply, one_word', ref_sig]
  rfl

/-- The product with the transposed weight. -/
def prod (i : Fin 4096) (l : Fin 2816) : EReal := ∑ k : Fin 1024, X (ix2 i k) * ((1 / 2 : ℝ) : EReal) * W (ix2 l k)

theorem ref_prod (i : Fin 4096) (l : Fin 2816) : val_main_v9 (F := Ideal) X W (ix2 i l) = prod X W i l := by
  refine (val_main_v9_apply X W _).trans (Finset.sum_congr rfl fun k _ => ?_)
  rw [val_main_v8_apply, val_main_v7_apply, val_main_cst_0_apply, plus_half_word, val_main_v6_apply, val_main_v2_apply, mul_comm (X _)]
  refine congrArg₂ (fun a b : EReal => ((1 / 2 : ℝ) : EReal) * a * b) ?_ ?_
  · exact congrArg X (Shape.idx_ext₂ rfl rfl)
  · exact congrArg W (Shape.idx_ext₂ rfl rfl)

theorem dgu_zero (i : Fin 4096) (l : Fin 2816) : dgu X W G U (ix3 0 i l)
    = prod X W i l * U (ix2 i l) * Ideal.logistic (G (ix2 i l)) + G (ix2 i l) * (prod X W i l * U (ix2 i l)) * (Ideal.logistic (G (ix2 i l)) * (1 - Ideal.logistic (G (ix2 i l)))) := by
  unfold dgu
  rw [val_main_v16_apply]
  unfold val_main_v15
  refine (concatenate_pair_apply_left (t := S2x4096x2816) (s₁ := S1x4096x2816) (s₂ := S1x4096x2816) 0 _ _
    _ (ix3 0 i l) rfl (ix3 0 i l)
    (fun b => by match b with | ⟨0, _⟩ => rfl | ⟨1, _⟩ => rfl | ⟨2, _⟩ => rfl)).trans ?_
  rw [val_main_v13_apply, show idx_main_v13 (ix3 0 i l) = ix2 i l from Shape.idx_ext₂ rfl rfl, val_main_v12_apply, val_main_call1_v1_apply,
    val_main_call1_v2_apply, val_main_call1_v0_apply, val_main_v11_apply, ref_sig, ref_slope, ref_prod]
  rfl

theorem dgu_one (i : Fin 4096) (l : Fin 2816) : dgu X W G U (ix3 1 i l) = prod X W i l * (G (ix2 i l) * Ideal.logistic (G (ix2 i l))) := by
  unfold dgu
  rw [val_main_v16_apply]
  unfold val_main_v15
  refine (concatenate_pair_apply_right (t := S2x4096x2816) (s₁ := S1x4096x2816) (s₂ := S1x4096x2816) 0 _ _
    _ (ix3 1 i l) rfl rfl (ix3 0 i l)
    (fun b hb => by match b with | ⟨0, _⟩ => exact absurd rfl hb | ⟨1, _⟩ => rfl | ⟨2, _⟩ => rfl) rfl).trans ?_
  rw [val_main_v14_apply, show idx_main_v14 (ix3 0 i l) = ix2 i l from Shape.idx_ext₂ rfl rfl, val_main_v10_apply, val_main_v0_0_apply, ref_sig, ref_prod]
  exact mul_comm _ _

variable {X W U}

/-- On real arguments the product of the block with the slopes is the reference. -/
theorem meets (hX : ∀ i, ∃ a : ℝ, X i = (a : EReal)) (hW : ∀ i, ∃ a : ℝ, W i = (a : EReal)) (hU : ∀ i, ∃ a : ℝ, U i = (a : EReal)) (s : Fin 2) (i : Fin 4096) (l : Fin 2816) :
    prod X W i l * slopes G U (ix3 s i l) = dgu X W G U (ix3 s i l) := by
  obtain rfl | rfl : s = 0 ∨ s = 1 := by omega
  · choose f hf using hX
    choose g hg using hW
    obtain ⟨u, hu⟩ := hU (ix2 i l)
    have hp : prod X W i l = ((∑ k : Fin 1024, f (ix2 i k) * (1 / 2) * g (ix2 l k) : ℝ) : EReal) :=
      coe_dot (fun k => by rw [hf, ← EReal.coe_mul]) (fun k => hg _)
    rw [dgu_zero, slopes_zero, slope0_apply, hp, hu]
    exact into_slope _ _ _
  · rw [dgu_one, slopes_one, slope1_apply]

variable (X W U)

/-! ## The kernel's array is the reference's -/

theorem read0 (t : Fin cfg0.N) (p : Fin 1024) (k : Fin 1024) :
    ((cfg0.win 0).blk t).view.read (Elt Ideal) X (ix2 p k : S1024x1024.Idx) = X (ix2 (row t p) k) := congrArg X (emb0 t p k)
theorem read1 (t : Fin cfg0.N) (l : Fin 1408) (k : Fin 1024) :
    ((cfg0.win 1).blk t).view.read (Elt Ideal) W (ix2 l k : S1408x1024.Idx) = W (ix2 (col t l) k) := congrArg W (emb1 t l k)
theorem read2 (t : Fin cfg0.N) (Z : S2x4096x2816.Idx → EReal) (s : Fin 2) (p : Fin 1024) (l : Fin 1408) :
    ((cfg0.win 2).blk t).view.read (Elt Ideal) Z (ix3 s p l : S2x1024x1408.Idx) = Z (ix3 s (row t p) (col t l)) := congrArg Z (emb2 t s p l)
theorem put4 (t : Fin cfg0.N) (Z : S2x4096x2816.Idx → EReal) (s : Fin 2) (p : Fin 1024) (l : Fin 1408) :
    ((cfg0.win 4).blk t).view.read (Elt Ideal) Z (ix3 s p l : S2x1024x1408.Idx) = Z (ix3 s (row t p) (col t l)) := congrArg Z (emb4 t s p l)
theorem cut4 (t : Fin cfg0.N) (x : Vec Ideal S2x1024x1408 .bf16) : (cfg0.win 4).cut (grid0.coords t) x = x := rfl

variable (m : (ℓ : Loc nD τ sig) → Buf (Elt Ideal) ℓ) (c : Dev nD)

theorem V_slopes : V m c main_v9 = slopes (m ((c : Thread nD τ).loc main_arg2)) (m ((c : Thread nD τ).loc main_arg3)) := by
  unfold V
  simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl
theorem blk2 (t : Fin cfg0.N) : iblk m c 2 t = ((cfg0.win 2).blk t).view.read (Elt Ideal) (slopes (m ((c : Thread nD τ).loc main_arg2)) (m ((c : Thread nD τ).loc main_arg3))) := by
  rw [← V_slopes m c]; rfl

/-- Every element of an array is a real number. -/
def Numbers {ι : Type} (x : ι → EReal) : Prop := ∀ i, ∃ a : ℝ, x i = (a : EReal)

variable (hX : Numbers (m ((c : Thread nD τ).loc main_arg0))) (hW : Numbers (m ((c : Thread nD τ).loc main_arg1))) (hU : Numbers (m ((c : Thread nD τ).loc main_arg3)))

include hX hW hU in
theorem flushed (t : Fin cfg0.N) : (dats m 0 c).flushed 4 t
    = ((cfg0.win 4).blk t).view.read (Elt Ideal) (dgu (m ((c : Thread nD τ).loc main_arg0)) (m ((c : Thread nD τ).loc main_arg1)) (m ((c : Thread nD τ).loc main_arg2)) (m ((c : Thread nD τ).loc main_arg3))) := by
  rw [Value.flushed4, blk0, blk1, blk2]
  generalize iblk m c 3 t = T
  revert hX hW hU
  generalize m ((c : Thread nD τ).loc main_arg0) = X
  generalize m ((c : Thread nD τ).loc main_arg1) = W
  generalize m ((c : Thread nD τ).loc main_arg2) = G
  generalize m ((c : Thread nD τ).loc main_arg3) = U
  intro hX hW hU
  refine funext fun (y : S2x1024x1408.Idx) => ?_
  obtain ⟨s, p, l, rfl⟩ : ∃ (s : Fin 2) (p : Fin 1024) (l : Fin 1408), y = ix3 s p l :=
    ⟨y 0, y 1, y 2, funext fun a => by match a with | ⟨0, _⟩ => rfl | ⟨1, _⟩ => rfl | ⟨2, _⟩ => rfl⟩
  refine Eq.trans ?_ (put4 t (dgu X W G U) s p l).symm
  refine (congrFun (cut4 t _) _).trans ?_
  rw [← meets G hX hW hU]
  refine (out_apply _ _ _ _ s p l).trans (congrArg₂ (fun a b : EReal => a * b) (Finset.sum_congr rfl fun k _ => ?_) (read2 t _ s p l))
  exact congrArg₂ (fun a b : EReal => a * ((1 / 2 : ℝ) : EReal) * b) (read0 X t p k) (read1 W t l k)

theorem covered (i : S2x4096x2816.Idx) : ∃ s : Fin cfg0.N, (win0_4.index s 0 * 2 ≤ (i 0).val ∧ (i 0).val < win0_4.index s 0 * 2 + 2)
    ∧ (win0_4.index s 1 * 1024 ≤ (i 1).val ∧ (i 1).val < win0_4.index s 1 * 1024 + 1024)
    ∧ (win0_4.index s 2 * 1408 ≤ (i 2).val ∧ (i 2).val < win0_4.index s 2 * 1408 + 1408) := by
  have h0 : (i 0).val < 2 := (i 0).isLt
  have h1 : (i 1).val < 4096 := (i 1).isLt
  have h2 : (i 2).val < 2816 := (i 2).isLt
  have hN : cfg0.N = 8 := N_0
  refine ⟨⟨(i 2).val / 1408 * 4 + (i 1).val / 1024, by omega⟩, ?_⟩
  rw [(at4 _).1, (at4 _).2.1, (at4 _).2.2]
  dsimp only
  omega

include hX hW hU in
theorem final : (dats m 0 c).arrAt 4 cfg0.N
    = dgu (m ((c : Thread nD τ).loc main_arg0)) (m ((c : Thread nD τ).loc main_arg1)) (m ((c : Thread nD τ).loc main_arg2)) (m ((c : Thread nD τ).loc main_arg3)) :=
  (dats m 0 c).arrAt_eq_of_cover 4 (dgu (m ((c : Thread nD τ).loc main_arg0)) (m ((c : Thread nD τ).loc main_arg1)) (m ((c : Thread nD τ).loc main_arg2)) (m ((c : Thread nD τ).loc main_arg3)))
    (fun t _ => flushed m c hX hW hU t) fun i => by
    obtain ⟨s, hs⟩ := covered i
    refine ⟨s, flush0_4 s, ?_⟩
    show i ∈ ((View.whole main_v10).slice (win0_4.rect s)).set
    rw [View.set_slice_whole, Rect.mem_set_unit]
    intro a
    match a with
    | ⟨0, _⟩ => exact hs.1
    | ⟨1, _⟩ => exact hs.2.1
    | ⟨2, _⟩ => exact hs.2.2

end Cert.Kernel5Ideal.Dact
end
-- ==== Proof.DactClaim.lean ====
module

public import proofs.«01_k».proof.Defs
public import proofs.«01_k».proof.Proof.Dact
public import proofs.«01_k».proof.Proof.Algebraic
public import proofs.«01_k».proof.Proof.Gen.Pre_finite5
public import proofs.«01_k».proof.Proof.Gen.Kernel5Ideal.Frame

/-! The activation gradient's kernel and its reference end with the same array, where the gradient, the weight and `up` are numbers. -/

@[expose] public section

noncomputable section

namespace Cert.Dact

open Idealize.ShloMosaic Idealize.ShloMosaic.TcCoe Idealize.SL.Sem
open Cert.Kernel5Ideal.Dact
open Cert.Algebraic (real_of_lt)

instance : Cert.Reference5Ideal.Facts := Cert.Reference5Ideal.Gen.facts
instance : Cert.Kernel5Ideal.Facts := Cert.Kernel5Ideal.Gen.facts
instance : Cert.Pre_finite5.Facts := Cert.Pre_finite5.Gen.facts

theorem algebraic : Cert.algebraic_Kernel5Ideal_Reference5Ideal_pre_finite5 := by
  intro m g m' g' hpre hagree
  refine ⟨fun c => dgu (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · refine (θ_run Cert.Kernel5Ideal.defs _ _).mono (fun _ h c => ?_) (Cert.Kernel5Ideal.Value.run_blocks m g)
    obtain ⟨h0, h1, h2⟩ := hpre c
    exact ⟨(h c).1.trans (final m c (fun i => ⟨_, real_of_lt (congrFun h0 i)⟩) (fun i => ⟨_, real_of_lt (congrFun h1 i)⟩) (fun i => ⟨_, real_of_lt (congrFun h2 i)⟩)), (h c).2⟩
  · refine (θ_run Cert.Reference5Ideal.defs _ _).mono (fun r h c => ?_) (Cert.Reference5Ideal.Value.run (F := Ideal) m' g')
    obtain ⟨e0, e1, e2, e3, e4⟩ := hagree c
    refine ⟨(h c).1.trans ((Cert.Reference5Ideal.Read.val_main_v16_eq _ _ _ _).trans ?_), (h c).2⟩
    rw [e0, e1, e2, e3]; rfl

end Cert.Dact
end
-- ==== Proof.Gated.lean ====
module

public import proofs.«01_k».proof.Proof.Gate
public import proofs.«01_k».proof.Proof.Gen.Kernel6Ideal.Value
public import proofs.«01_k».proof.Proof.Gen.Reference6Ideal.Run
public import proofs.«01_k».proof.Proof.Gen.Reference6Ideal.Read

/-! The feed-forward layer's first half: two products per block, the gated activation of them and its slopes. -/

@[expose] public section

noncomputable section

namespace Cert.Kernel6Ideal.Gated

open Cert.Kernel6Ideal Cert.Kernel6Ideal.Gen Cert.Reference6Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Row `p` of point `t`'s block, and its column `l`. -/
def row (t : Fin cfg0.N) (p : Fin 1024) : Fin 4096 := ⟨t.val % 4 * 1024 + p.val, by omega⟩
def col (t : Fin cfg0.N) (l : Fin 1408) : Fin 2816 := ⟨t.val / 4 * 1408 + l.val, by have := t.isLt; have : cfg0.N = 8 := N_0; omega⟩

theorem at0 : ∀ t : Fin cfg0.N, win0_0.index t 0 = t.val % 4 ∧ win0_0.index t 1 = 0 := (by decide +kernel : ∀ t : Fin grid0.N, _)
theorem at1 : ∀ t : Fin cfg0.N, win0_1.index t 0 = 0 ∧ win0_1.index t 1 = t.val / 4 ∧ win0_1.index t 2 = 0 := (by decide +kernel : ∀ t : Fin grid0.N, _)
theorem at2 : ∀ t : Fin cfg0.N, win0_2.index t 0 = 0 ∧ win0_2.index t 1 = t.val % 4 ∧ win0_2.index t 2 = t.val / 4 := (by decide +kernel : ∀ t : Fin grid0.N, _)
theorem at3 : ∀ t : Fin cfg0.N, win0_3.index t 0 = t.val % 4 ∧ win0_3.index t 1 = t.val / 4 := (by decide +kernel : ∀ t : Fin grid0.N, _)

theorem emb0 (t : Fin cfg0.N) (p : Fin 1024) (k : Fin 1024) :
    (win0_0.rect t).emb ((ix2 p k : S1024x1024.Idx)) = (ix2 (row t p) k : S4096x1024.Idx) := by
  refine Shape.idx_ext₂ ?_ ?_
  · refine (Pipeline.Window.rect_emb_val win0_0 t (ix2 p k : S1024x1024.Idx) 0).trans ?_
    rw [(at0 t).1]; rfl
  · refine (Pipeline.Window.rect_emb_val win0_0 t (ix2 p k : S1024x1024.Idx) 1).trans ?_
    rw [(at0 t).2]; show 0 * 1024 + k.val = k.val; omega

theorem emb1 (t : Fin cfg0.N) (s : Fin 2) (l : Fin 1408) (k : Fin 1024) :
    (win0_1.rect t).emb ((ix3 s l k : S2x1408x1024.Idx)) = (ix3 s (col t l) k : S2x2816x1024.Idx) := by
  refine funext fun a => Fin.ext ?_
  refine (Pipeline.Window.rect_emb_val win0_1 t (ix3 s l k : S2x1408x1024.Idx) a).trans ?_
  match a with
  | ⟨0, _⟩ => rw [show win0_1.index t ⟨0, _⟩ = _ from (at1 t).1]; show 0 * 2 + s.val = s.val; omega
  | ⟨1, _⟩ => rw [show win0_1.index t ⟨1, _⟩ = _ from (at1 t).2.1]; rfl
  | ⟨2, _⟩ => rw [show win0_1.index t ⟨2, _⟩ = _ from (at1 t).2.2]; show 0 * 1024 + k.val = k.val; omega

theorem emb2 (t : Fin cfg0.N) (s : Fin 2) (p : Fin 1024) (l : Fin 1408) :
    (win0_2.rect t).emb ((ix3 s p l : S2x1024x1408.Idx)) = (ix3 s (row t p) (col t l) : S2x4096x2816.Idx) := by
  refine funext fun a => Fin.ext ?_
  refine (Pipeline.Window.rect_emb_val win0_2 t (ix3 s p l : S2x1024x1408.Idx) a).trans ?_
  match a with
  | ⟨0, _⟩ => rw [show win0_2.index t ⟨0, _⟩ = _ from (at2 t).1]; show 0 * 2 + s.val = s.val; omega
  | ⟨1, _⟩ => rw [show win0_2.index t ⟨1, _⟩ = _ from (at2 t).2.1]; rfl
  | ⟨2, _⟩ => rw [show win0_2.index t ⟨2, _⟩ = _ from (at2 t).2.2]; rfl

theorem emb3 (t : Fin cfg0.N) (p : Fin 1024) (l : Fin 1408) :
    (win0_3.rect t).emb ((ix2 p l : S1024x1408.Idx)) = (ix2 (row t p) (col t l) : S4096x2816.Idx) := by
  refine Shape.idx_ext₂ ?_ ?_
  · refine (Pipeline.Window.rect_emb_val win0_3 t (ix2 p l : S1024x1408.Idx) 0).trans ?_
    rw [(at3 t).1]; rfl
  · refine (Pipeline.Window.rect_emb_val win0_3 t (ix2 p l : S1024x1408.Idx) 1).trans ?_
    rw [(at3 t).2]; rfl

/-! ## What a block holds -/

section Block
variable (x : Vec Ideal S1024x1024 .bf16) (y : Vec Ideal S2x1408x1024 .bf16) (p : Fin 1024) (l : Fin 1408)

/-- A product of the block's rows with half `s` of the weights. -/
def half (s : Fin 2) : EReal := ∑ k : Fin 1024, x (ix2 p k) * y (ix3 s l k)

theorem gate_apply : k0_pay1 x (View.ld y r0_1) (ix2 p l) = half x y p l 0 := by
  show FloatOps.matmul (F := Ideal) (φ₁ := .bf16) (φ₂ := .bf16) (lasts dot_S1024x1024_S1408x1024_S1024x1408_1_1_0_0_n_n_wf) none x
    (shapeCast S1408x1024 (View.ld y r0_1) shapeCasts_S1x1408x1024_S1408x1024) (constant S1024x1408 .f32 0x00000000#32) (ix2 p l) = _
  rw [lasts_apply]
  show FloatOps.ofBits (F := Ideal) .f32 0x00000000#32 + _ = _
  rw [zero_word, zero_add]
  refine Finset.sum_congr rfl fun k _ => congrArg (x (ix2 p k) * ·) ?_
  exact (shapeCast_1ab_ab_apply _ _ l k).trans (slab y 0 0 rfl _ l k)

theorem up_apply : k0_pay2 x (View.ld y r0_2) (ix2 p l) = half x y p l 1 := by
  show FloatOps.matmul (F := Ideal) (φ₁ := .bf16) (φ₂ := .bf16) (lasts dot_S1024x1024_S1408x1024_S1024x1408_1_1_0_0_n_n_wf) none x
    (shapeCast S1408x1024 (View.ld y r0_2) shapeCasts_S1x1408x1024_S1408x1024) (constant S1024x1408 .f32 0x00000000#32) (ix2 p l) = _
  rw [lasts_apply]
  show FloatOps.ofBits (F := Ideal) .f32 0x00000000#32 + _ = _
  rw [zero_word, zero_add]
  refine Finset.sum_congr rfl fun k _ => congrArg (x (ix2 p k) * ·) ?_
  exact (shapeCast_1ab_ab_apply _ _ l k).trans (slab y 1 1 rfl _ l k)

theorem sg_apply : k0_pay3 x (View.ld y r0_1) (ix2 p l) = Ideal.logistic (half x y p l 0) := by
  rw [← gate_apply]; rfl

theorem silu_apply : k0_pay4 x (View.ld y r0_1) (ix2 p l) = half x y p l 0 * Ideal.logistic (half x y p l 0) := by
  rw [← sg_apply, ← gate_apply]; rfl

theorem out2_zero : out0_2 x y (ix3 0 p l)
    = half x y p l 1 * (Ideal.logistic (half x y p l 0) + half x y p l 0 * Ideal.logistic (half x y p l 0) * (1 - Ideal.logistic (half x y p l 0))) := by
  unfold out0_2
  rw [View.ld_unit_zero (S := S1024x1024) hz2]
  refine (slabs_zero _ _ _ _ p l).trans ?_
  unfold k0_pay5
  refine (shapeCast_ab_1ab_apply _ _ 0 p l).trans ?_
  rw [← up_apply, ← silu_apply, ← sg_apply, ← one_word']; rfl

theorem out2_one : out0_2 x y (ix3 1 p l) = half x y p l 0 * Ideal.logistic (half x y p l 0) := by
  unfold out0_2
  rw [View.ld_unit_zero (S := S1024x1024) hz2]
  refine (slabs_one _ _ _ _ p l).trans ?_
  unfold k0_pay6
  refine (shapeCast_ab_1ab_apply _ _ 0 p l).trans ?_
  rw [← silu_apply]; rfl

theorem out3_apply : out0_3 x y (ix2 p l) = half x y p l 0 * Ideal.logistic (half x y p l 0) * half x y p l 1 := by
  unfold out0_3
  rw [View.canon_cons_unit_zero (S := S1024x1408) hz2, View.ld_unit_zero (S := S1024x1024) hz2, ← silu_apply, ← up_apply]; rfl

end Block

/-! ## The reference at an element -/

variable (X : (⟨S4096x1024, .bf16⟩ : BufTy).Contents (Elt Ideal)) (W : (⟨S2x2816x1024, .bf16⟩ : BufTy).Contents (Elt Ideal))

/-- The reference's two results. -/
def gu : S2x4096x2816.Idx → EReal := val_main_v21 (F := Ideal) X W
def act : S4096x2816.Idx → EReal := val_main_v22 (F := Ideal) X W

/-- The product with half `s` of the weights. -/
def prod (s : Fin 2) (i : Fin 4096) (l : Fin 2816) : EReal := ∑ k : Fin 1024, X (ix2 i k) * W (ix3 s l k)

theorem ref_gate (i : Fin 4096) (l : Fin 2816) : val_main_v7 (F := Ideal) X W (ix2 i l) = prod X W 0 i l := by
  refine (val_main_v7_apply X W _).trans (Finset.sum_congr rfl fun k _ => ?_)
  rw [val_main_v4_apply, val_main_v6_apply, val_main_v5_apply, val_main_v1_apply, val_main_v0_apply]
  refine congrArg₂ (fun a b : EReal => a * b) (congrArg X (Shape.idx_ext₂ rfl rfl)) (congrArg W (funext fun a => Fin.ext ?_))
  match a with
  | ⟨0, _⟩ => rfl
  | ⟨1, _⟩ => show (l.val * 1024 + k.val) / 1024 % 2816 = l.val; omega
  | ⟨2, _⟩ => show (l.val * 1024 + k.val) % 1024 = k.val; omega

theorem ref_up (i : Fin 4096) (l : Fin 2816) : val_main_v11 (F := Ideal) X W (ix2 i l) = prod X W 1 i l := by
  refine (val_main_v11_apply X W _).trans (Finset.sum_congr rfl fun k _ => ?_)
  rw [val_main_v8_apply, val_main_v10_apply, val_main_v9_apply, val_main_v3_apply, val_main_v2_apply]
  refine congrArg₂ (fun a b : EReal => a * b) (congrArg X (Shape.idx_ext₂ rfl rfl)) (congrArg W (funext fun a => Fin.ext ?_))
  match a with
  | ⟨0, _⟩ => rfl
  | ⟨1, _⟩ => show (l.val * 1024 + k.val) / 1024 % 2816 = l.val; omega
  | ⟨2, _⟩ => show (l.val * 1024 + k.val) % 1024 = k.val; omega

theorem ref_sig (i : Fin 4096) (l : Fin 2816) : val_main_v12_2 (F := Ideal) X W (ix2 i l) = Ideal.logistic (prod X W 0 i l) := by
  rw [val_main_v12_2_apply, val_main_call0_v4_apply, val_main_call0_cst_0_apply, val_main_call0_v3_apply, val_main_call0_v2_apply, val_main_call0_cst_apply, one_word',
    val_main_call0_v1_apply, val_main_call0_v0_apply, ref_gate]
  rfl

theorem ref_slope (i : Fin 4096) (l : Fin 2816) : val_main_v12_1 (F := Ideal) X W (ix2 i l) = Ideal.logistic (prod X W 0 i l) * (1 - Ideal.logistic (prod X W 0 i l)) := by
  rw [val_main_v12_1_apply, val_main_call0_v7_apply, val_main_call0_v6_apply, val_main_call0_cst_1_apply, one_word', ref_sig]
  rfl

theorem ref_silu (i : Fin 4096) (l : Fin 2816) : val_main_v12_0 (F := Ideal) X W (ix2 i l) = prod X W 0 i l * Ideal.logistic (prod X W 0 i l) := by
  rw [val_main_v12_0_apply, ref_sig, ref_gate]; rfl

theorem ref_cot (i : Fin 4096) (l : Fin 2816) : val_main_v16 (F := Ideal) X W (ix2 i l) = 1 * prod X W 1 i l := by
  rw [val_main_v16_apply, val_main_v14_apply, val_main_cst_apply, one_word', ref_up]; rfl

theorem gu_zero (i : Fin 4096) (l : Fin 2816) : gu X W (ix3 0 i l)
    = 1 * prod X W 1 i l * Ideal.logistic (prod X W 0 i l) + prod X W 0 i l * (1 * prod X W 1 i l) * (Ideal.logistic (prod X W 0 i l) * (1 - Ideal.logistic (prod X W 0 i l))) := by
  unfold gu
  rw [val_main_v21_apply]
  unfold val_main_v20
  refine (concatenate_pair_apply_left (t := S2x4096x2816) (s₁ := Cert.Reference6Ideal.S1x4096x2816) (s₂ := Cert.Reference6Ideal.S1x4096x2816) 0 _ _
    _ (ix3 0 i l) rfl (ix3 0 i l)
    (fun b => by match b with | ⟨0, _⟩ => rfl | ⟨1, _⟩ => rfl | ⟨2, _⟩ => rfl)).trans ?_
  rw [val_main_v18_apply, show idx_main_v18 (ix3 0 i l) = ix2 i l from Shape.idx_ext₂ rfl rfl, val_main_v17_apply, val_main_call1_v1_apply,
    val_main_call1_v2_apply, val_main_call1_v0_apply, ref_cot, ref_sig, ref_slope, ref_gate]
  rfl

theorem gu_one (i : Fin 4096) (l : Fin 2816) : gu X W (ix3 1 i l) = prod X W 0 i l * Ideal.logistic (prod X W 0 i l) := by
  unfold gu
  rw [val_main_v21_apply]
  unfold val_main_v20
  refine (concatenate_pair_apply_right (t := S2x4096x2816) (s₁ := Cert.Reference6Ideal.S1x4096x2816) (s₂ := Cert.Reference6Ideal.S1x4096x2816) 0 _ _
    _ (ix3 1 i l) rfl rfl (ix3 0 i l)
    (fun b hb => by match b with | ⟨0, _⟩ => exact absurd rfl hb | ⟨1, _⟩ => rfl | ⟨2, _⟩ => rfl) rfl).trans ?_
  rw [val_main_v19_apply, show idx_main_v19 (ix3 0 i l) = ix2 i l from Shape.idx_ext₂ rfl rfl, val_main_v15_apply, val_main_v14_apply, val_main_cst_apply, one_word', ref_silu]
  exact mul_one _

theorem act_apply (i : Fin 4096) (l : Fin 2816) : act X W (ix2 i l) = prod X W 0 i l * Ideal.logistic (prod X W 0 i l) * prod X W 1 i l := by
  unfold act
  rw [val_main_v22_apply, val_main_v13_apply, ref_silu, ref_up]; rfl

/-- Every element of an array is a real number. -/
def Numbers {ι : Type} (x : ι → EReal) : Prop := ∀ i, ∃ a : ℝ, x i = (a : EReal)

variable {X W}

theorem prod_real (hX : Numbers X) (hW : Numbers W) (s : Fin 2) (i : Fin 4096) (l : Fin 2816) : ∃ a : ℝ, prod X W s i l = (a : EReal) := by
  choose f hf using hX
  choose g hg using hW
  exact ⟨_, coe_dot (fun k => hf _) (fun k => hg _)⟩

/-- On real arguments the kernel's way of writing the gate's slope is the reference's. -/
theorem meets (hX : Numbers X) (hW : Numbers W) (i : Fin 4096) (l : Fin 2816) :
    prod X W 1 i l * (Ideal.logistic (prod X W 0 i l) + prod X W 0 i l * Ideal.logistic (prod X W 0 i l) * (1 - Ideal.logistic (prod X W 0 i l))) = gu X W (ix3 0 i l) := by
  obtain ⟨g, hg⟩ := prod_real hX hW 0 i l
  obtain ⟨u, hu⟩ := prod_real hX hW 1 i l
  rw [gu_zero, hg, hu]
  exact slope_eq g u

variable (X W)

/-! ## The kernel's arrays are the reference's -/

theorem read0 (t : Fin cfg0.N) (p : Fin 1024) (k : Fin 1024) :
    ((cfg0.win 0).blk t).view.read (Elt Ideal) X (ix2 p k : S1024x1024.Idx) = X (ix2 (row t p) k) := congrArg X (emb0 t p k)
theorem read1 (t : Fin cfg0.N) (s : Fin 2) (l : Fin 1408) (k : Fin 1024) :
    ((cfg0.win 1).blk t).view.read (Elt Ideal) W (ix3 s l k : S2x1408x1024.Idx) = W (ix3 s (col t l) k) := congrArg W (emb1 t s l k)
theorem put2 (t : Fin cfg0.N) (Z : S2x4096x2816.Idx → EReal) (s : Fin 2) (p : Fin 1024) (l : Fin 1408) :
    ((cfg0.win 2).blk t).view.read (Elt Ideal) Z (ix3 s p l : S2x1024x1408.Idx) = Z (ix3 s (row t p) (col t l)) := congrArg Z (emb2 t s p l)
theorem put3 (t : Fin cfg0.N) (Z : S4096x2816.Idx → EReal) (p : Fin 1024) (l : Fin 1408) :
    ((cfg0.win 3).blk t).view.read (Elt Ideal) Z (ix2 p l : S1024x1408.Idx) = Z (ix2 (row t p) (col t l)) := congrArg Z (emb3 t p l)
theorem cut2 (t : Fin cfg0.N) (x : Vec Ideal S2x1024x1408 .bf16) : (cfg0.win 2).cut (grid0.coords t) x = x := rfl
theorem cut3 (t : Fin cfg0.N) (x : Vec Ideal S1024x1408 .bf16) : (cfg0.win 3).cut (grid0.coords t) x = x := rfl

theorem half_eq (t : Fin cfg0.N) (s : Fin 2) (p : Fin 1024) (l : Fin 1408) :
    half (((cfg0.win 0).blk t).view.read (Elt Ideal) X) (((cfg0.win 1).blk t).view.read (Elt Ideal) W) p l s = prod X W s (row t p) (col t l) :=
  Finset.sum_congr rfl fun k _ => congrArg₂ (fun a b : EReal => a * b) (read0 X t p k) (read1 W t s l k)

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := rfl
theorem blk1 (t : Fin cfg0.N) : iblk m c 1 t = ((cfg0.win 1).blk t).view.read (Elt Ideal) (m ((c : Thread nD τ).loc main_arg1)) := rfl

theorem flushed3 (t : Fin cfg0.N) : (dats m 0 c).flushed 3 t
    = ((cfg0.win 3).blk t).view.read (Elt Ideal) (act (m ((c : Thread nD τ).loc main_arg0)) (m ((c : Thread nD τ).loc main_arg1))) := by
  rw [Value.flushed3, blk0, blk1]
  generalize m ((c : Thread nD τ).loc main_arg0) = X
  generalize m ((c : Thread nD τ).loc main_arg1) = W
  refine funext fun (y : S1024x1408.Idx) => ?_
  obtain ⟨p, l, rfl⟩ : ∃ (p : Fin 1024) (l : Fin 1408), y = ix2 p l := ⟨y 0, y 1, Shape.idx_ext₂ rfl rfl⟩
  refine Eq.trans ?_ (put3 t (act X W) p l).symm
  refine (congrFun (cut3 t _) _).trans ?_
  rw [act_apply, ← half_eq, ← half_eq]
  exact out3_apply _ _ p l

variable (hX : Numbers (m ((c : Thread nD τ).loc main_arg0))) (hW : Numbers (m ((c : Thread nD τ).loc main_arg1)))

include hX hW in
theorem flushed2 (t : Fin cfg0.N) : (dats m 0 c).flushed 2 t
    = ((cfg0.win 2).blk t).view.read (Elt Ideal) (gu (m ((c : Thread nD τ).loc main_arg0)) (m ((c : Thread nD τ).loc main_arg1))) := by
  rw [Value.flushed2, blk0, blk1]
  revert hX hW
  generalize m ((c : Thread nD τ).loc main_arg0) = X
  generalize m ((c : Thread nD τ).loc main_arg1) = W
  intro hX hW
  refine funext fun (y : S2x1024x1408.Idx) => ?_
  obtain ⟨s, p, l, rfl⟩ : ∃ (s : Fin 2) (p : Fin 1024) (l : Fin 1408), y = ix3 s p l :=
    ⟨y 0, y 1, y 2, funext fun a => by match a with | ⟨0, _⟩ => rfl | ⟨1, _⟩ => rfl | ⟨2, _⟩ => rfl⟩
  refine Eq.trans ?_ (put2 t (gu X W) s p l).symm
  refine (congrFun (cut2 t _) _).trans ?_
  obtain rfl | rfl : s = 0 ∨ s = 1 := by omega
  · rw [← meets hX hW, ← half_eq, ← half_eq]
    exact out2_zero _ _ p l
  · rw [gu_one, ← half_eq]
    exact out2_one _ _ p l

theorem covered2 (i : S2x4096x2816.Idx) : ∃ s : Fin cfg0.N, (win0_2.index s 0 * 2 ≤ (i 0).val ∧ (i 0).val < win0_2.index s 0 * 2 + 2)
    ∧ (win0_2.index s 1 * 1024 ≤ (i 1).val ∧ (i 1).val < win0_2.index s 1 * 1024 + 1024)
    ∧ (win0_2.index s 2 * 1408 ≤ (i 2).val ∧ (i 2).val < win0_2.index s 2 * 1408 + 1408) := by
  have h0 : (i 0).val < 2 := (i 0).isLt
  have h1 : (i 1).val < 4096 := (i 1).isLt
  have h2 : (i 2).val < 2816 := (i 2).isLt
  have hN : cfg0.N = 8 := N_0
  refine ⟨⟨(i 2).val / 1408 * 4 + (i 1).val / 1024, by omega⟩, ?_⟩
  rw [(at2 _).1, (at2 _).2.1, (at2 _).2.2]
  dsimp only
  omega

theorem covered3 (i : S4096x2816.Idx) : ∃ s : Fin cfg0.N, (win0_3.index s 0 * 1024 ≤ (i 0).val ∧ (i 0).val < win0_3.index s 0 * 1024 + 1024)
    ∧ (win0_3.index s 1 * 1408 ≤ (i 1).val ∧ (i 1).val < win0_3.index s 1 * 1408 + 1408) := by
  have h0 : (i 0).val < 4096 := (i 0).isLt
  have h1 : (i 1).val < 2816 := (i 1).isLt
  have hN : cfg0.N = 8 := N_0
  refine ⟨⟨(i 1).val / 1408 * 4 + (i 0).val / 1024, by omega⟩, ?_⟩
  rw [(at3 _).1, (at3 _).2]
  dsimp only
  omega

include hX hW in
theorem final2 : (dats m 0 c).arrAt 2 cfg0.N = gu (m ((c : Thread nD τ).loc main_arg0)) (m ((c : Thread nD τ).loc main_arg1)) :=
  (dats m 0 c).arrAt_eq_of_cover 2 (gu (m ((c : Thread nD τ).loc main_arg0)) (m ((c : Thread nD τ).loc main_arg1))) (fun t _ => flushed2 m c hX hW t) fun i => by
    obtain ⟨s, hs⟩ := covered2 i
    refine ⟨s, flush0_2 s, ?_⟩
    show i ∈ ((View.whole main_v0_0).slice (win0_2.rect s)).set
    rw [View.set_slice_whole, Rect.mem_set_unit]
    intro a
    match a with
    | ⟨0, _⟩ => exact hs.1
    | ⟨1, _⟩ => exact hs.2.1
    | ⟨2, _⟩ => exact hs.2.2

theorem final3 : (dats m 0 c).arrAt 3 cfg0.N = act (m ((c : Thread nD τ).loc main_arg0)) (m ((c : Thread nD τ).loc main_arg1)) :=
  (dats m 0 c).arrAt_eq_of_cover 3 (act (m ((c : Thread nD τ).loc main_arg0)) (m ((c : Thread nD τ).loc main_arg1))) (fun t _ => flushed3 m c t) fun i => by
    obtain ⟨s, hs⟩ := covered3 i
    refine ⟨s, flush0_3 s, ?_⟩
    show i ∈ ((View.whole main_v0_1).slice (win0_3.rect s)).set
    rw [View.set_slice_whole, Rect.mem_set_unit]
    intro a
    match a with
    | ⟨0, _⟩ => exact hs.1
    | ⟨1, _⟩ => exact hs.2

end Cert.Kernel6Ideal.Gated
end
-- ==== Proof.GatedClaim.lean ====
module

public import proofs.«01_k».proof.Defs
public import proofs.«01_k».proof.Proof.Gated
public import proofs.«01_k».proof.Proof.Algebraic
public import proofs.«01_k».proof.Proof.Gen.Pre_finite6
public import proofs.«01_k».proof.Proof.Gen.Kernel6Ideal.Frame

/-! On finite arguments the gated layer's kernel and its reference end with the same two arrays. -/

@[expose] public section

noncomputable section

namespace Cert.Gated

open Idealize.ShloMosaic Idealize.ShloMosaic.TcCoe Idealize.SL.Sem
open Cert.Kernel6Ideal.Gated
open Cert.Algebraic (real_of_lt)

instance : Cert.Reference6Ideal.Facts := Cert.Reference6Ideal.Gen.facts
instance : Cert.Kernel6Ideal.Facts := Cert.Kernel6Ideal.Gen.facts
instance : Cert.Pre_finite6.Facts := Cert.Pre_finite6.Gen.facts

theorem algebraic : Cert.algebraic_Kernel6Ideal_Reference6Ideal_pre_finite6 := by
  intro m g m' g' hpre hagree
  refine ⟨fun c => gu (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)),
    fun c => act (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun _ h c => ?_) (Cert.Kernel6Ideal.Value.run_blocks m g)
    obtain ⟨h0, h1⟩ := hpre c
    exact ⟨(h c).1.trans (final2 m c (fun i => ⟨_, real_of_lt (congrFun h0 i)⟩) (fun i => ⟨_, real_of_lt (congrFun h1 i)⟩)), (h c).2.1.trans (final3 m c), (h c).2.2⟩
  · refine (θ_run Cert.Reference6Ideal.defs _ _).mono (fun r h c => ?_) (Cert.Reference6Ideal.Value.run (F := Ideal) m' g')
    obtain ⟨e0, e1⟩ := hagree c
    refine ⟨(h c).1.trans ((Cert.Reference6Ideal.Read.val_main_v21_eq m' c).trans ?_), (h c).2.1.trans ((Cert.Reference6Ideal.Read.val_main_v22_eq _ _).trans ?_), (h c).2.2⟩
    · rw [e0, e1]; rfl
    · rw [e0, e1]; rfl

end Cert.Gated
end
-- ==== Proof.MixMath.lean ====
module

public import proofs.«01_k».proof.Proof.NormMath

/-! The gradient that reaches a normalised row through the input weights: six products, one for each run of the weight's rows. -/

@[expose] public section

noncomputable section

namespace Cert.Mix

/-- Rows of the weight: the values' run, the three runs after it, the two gates' runs. -/
def ra (l : Fin 2304) : Fin 5888 := ⟨l.val, by omega⟩
def rb (s : Fin 3) (l : Fin 512) : Fin 5888 := ⟨2304 + s.val * 512 + l.val, by omega⟩
def re (s : Fin 2) (l : Fin 1024) : Fin 5888 := ⟨3840 + s.val * 1024 + l.val, by omega⟩

/-- The gradient that reaches the row. -/
def dh (a : Fin 2304 → EReal) (b : Fin 3 → Fin 512 → EReal) (e : Fin 2 → Fin 1024 → EReal) (w : Fin 5888 → Fin 1024 → EReal) (k : Fin 1024) : EReal :=
  (∑ l, a l * w (ra l) k) + (∑ l, b 0 l * w (rb 0 l) k) + (∑ l, b 1 l * w (rb 1 l) k) + (∑ l, b 2 l * w (rb 2 l) k)
    + (∑ l, e 0 l * w (re 0 l) k) + ∑ l, e 1 l * w (re 1 l) k

/-- A sum split before its last run. -/
theorem sum_split {N a b : ℕ} (h : N = a + b) (f : Fin N → EReal) : (∑ k, f k) = (∑ l : Fin a, f ⟨l.val, by omega⟩) + ∑ l : Fin b, f ⟨a + l.val, by omega⟩ := by
  subst h
  exact Fin.sum_univ_add f

theorem sum_runs (f : Fin 5888 → EReal) : (∑ k, f k) = (∑ l, f (ra l)) + (∑ l, f (rb 0 l)) + (∑ l, f (rb 1 l)) + (∑ l, f (rb 2 l)) + (∑ l, f (re 0 l)) + ∑ l, f (re 1 l) := by
  rw [sum_split (a := 4864) (b := 1024) rfl, sum_split (a := 3840) (b := 1024) rfl, sum_split (a := 3328) (b := 512) rfl, sum_split (a := 2816) (b := 512) rfl,
    sum_split (a := 2304) (b := 512) rfl]
  rfl

end Cert.Mix
end
-- ==== Proof.MixBody.lean ====
module

public import proofs.«01_k».proof.Proof.Gen.Kernel7Ideal.Value
public import Idealize.ShloMosaic.Lib.Tactic

/-! What one grid point leaves in each result's block. -/

@[expose] public section

noncomputable section

namespace Cert.Kernel7Ideal.Body

open Cert.Kernel7Ideal Cert.Kernel7Ideal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slabs of the second and third gradients, and the runs of the weight's rows. -/
def b0 (x : Vec F S3x512x512 .f32) : Vec F S1x512x512 .f32 := View.ld x (Rect.unit (s := S3x512x512) ![0, 0, 0] S1x512x512.size inb_S3x512x512_S1x512x512_0_0_0)
def b1 (x : Vec F S3x512x512 .f32) : Vec F S1x512x512 .f32 := View.ld x (Rect.unit (s := S3x512x512) ![1, 0, 0] S1x512x512.size inb_S3x512x512_S1x512x512_1_0_0)
def b2 (x : Vec F S3x512x512 .f32) : Vec F S1x512x512 .f32 := View.ld x (Rect.unit (s := S3x512x512) ![2, 0, 0] S1x512x512.size inb_S3x512x512_S1x512x512_2_0_0)
def e0 (x : Vec F S2x512x1024 .bf16) : Vec F S1x512x1024 .bf16 := View.ld x (Rect.unit (s := S2x512x1024) ![0, 0, 0] S1x512x1024.size inb_S2x512x1024_S1x512x1024_0_0_0)
def e1 (x : Vec F S2x512x1024 .bf16) : Vec F S1x512x1024 .bf16 := View.ld x (Rect.unit (s := S2x512x1024) ![1, 0, 0] S1x512x1024.size inb_S2x512x1024_S1x512x1024_1_0_0)
def w0 (x : Vec F S5888x1024 .bf16) : Vec F S2304x1024 .bf16 := View.ld x (Rect.unit (s := S5888x1024) ![0, 0] S2304x1024.size inb_S5888x1024_S2304x1024_0_0)
def w1 (x : Vec F S5888x1024 .bf16) : Vec F S512x1024 .bf16 := View.ld x (Rect.unit (s := S5888x1024) ![2304, 0] S512x1024.size inb_S5888x1024_S512x1024_2304_0)
def w2 (x : Vec F S5888x1024 .bf16) : Vec F S512x1024 .bf16 := View.ld x (Rect.unit (s := S5888x1024) ![2816, 0] S512x1024.size inb_S5888x1024_S512x1024_2816_0)
def w3 (x : Vec F S5888x1024 .bf16) : Vec F S512x1024 .bf16 := View.ld x (Rect.unit (s := S5888x1024) ![3328, 0] S512x1024.size inb_S5888x1024_S512x1024_3328_0)
def w4 (x : Vec F S5888x1024 .bf16) : Vec F S1024x1024 .bf16 := View.ld x (Rect.unit (s := S5888x1024) ![3840, 0] S1024x1024.size inb_S5888x1024_S1024x1024_3840_0)
def w5 (x : Vec F S5888x1024 .bf16) : Vec F S1024x1024 .bf16 := View.ld x (Rect.unit (s := S5888x1024) ![4864, 0] S1024x1024.size inb_S5888x1024_S1024x1024_4864_0)

variable (a : Vec F S1x512x2304 .bf16) (b : Vec F S3x512x512 .f32) (e : Vec F S2x512x1024 .bf16) (w : Vec F S5888x1024 .bf16) (x : Vec F S512x1024 .f32) (g : Vec F S1x1024 .f32)
  (q : Vec F S512x1024 .f32) (o : Vec F S1x1024 .f32)

/-- The first four products, all six, the rows' gradient, and the gain's gradient so far. -/
def four : FVec F S512x1024 .f32 := k0_pay3 a (w0 w) (b0 b) (w1 w) (b1 b) (w2 w) (b2 b) (w3 w)
def six : FVec F S512x1024 .f32 := k0_pay5 (four a b w) (k0_pay4 (e0 e)) (w4 w) (e1 e) (w5 w)
def rowsGrad : FVec F S512x1024 .f32 := k0_pay8 (four a b w) (k0_pay4 (e0 e)) (w4 w) (e1 e) (w5 w) x g q
def gainGrad : FVec F S1x1024 .f32 := k0_pay1 (six a b e w) (k0_pay7 x) o

variable (c : Dev nD) (i : grid0.Coords) (a1 : Memref sig .tc .vmem S1x512x2304 .bf16) (h1 : a1.IsWhole) (a2 : Memref sig .tc .vmem S3x512x512 .f32) (h2 : a2.IsWhole)
  (a3 : Memref sig .tc .vmem S2x512x1024 .bf16) (h3 : a3.IsWhole) (a4 : Memref sig .tc .vmem S5888x1024 .bf16) (h4 : a4.IsWhole)
  (a5 : Memref sig .tc .vmem S512x1024 .f32) (h5 : a5.IsWhole) (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole) (a10 : Memref sig .tc .vmem S1x1024 .f32) (h10 : a10.IsWhole)

theorem out_B_7 (hc : ¬cond0_0 i) : out0_B_7 c i a1 h1 a2 h2 a3 h3 a4 h4 a5 h5 a6 h6 a7 h7 a8 h8 a9 h9 a10 h10 hc a b e w x g q o = rowsGrad a b e w x g q := by
  unfold out0_B_7
  rw [View.read_writes_eq_canon _ _ _ (cover0_B_7 c i a1 h1 a2 h2 a3 h3 a4 h4 a5 h5 a6 h6 a7 h7 a8 h8 a9 h9 a10 h10 hc a b e w x g q o)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1x512x2304) hz3]
  rfl

theorem out_B_8 (hc : ¬cond0_0 i) : out0_B_8 c i a1 h1 a2 h2 a3 h3 a4 h4 a5 h5 a6 h6 a7 h7 a8 h8 a9 h9 a10 h10 hc a b e w x g q o = truncf .bf16 (rowsGrad a b e w x g q) bitsLt_bf16_f32 := by
  unfold out0_B_8
  rw [View.read_writes_eq_canon _ _ _ (cover0_B_8 c i a1 h1 a2 h2 a3 h3 a4 h4 a5 h5 a6 h6 a7 h7 a8 h8 a9 h9 a10 h10 hc a b e w x g q o)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1x512x2304) hz3]
  rfl

theorem out_B_9 (hc : ¬cond0_0 i) : out0_B_9 c i a1 h1 a2 h2 a3 h3 a4 h4 a5 h5 a6 h6 a7 h7 a8 h8 a9 h9 a10 h10 hc a b e w x g q o = gainGrad a b e w x o := by
  unfold out0_B_9
  rw [View.read_writes_eq_canon _ _ _ (cover0_B_9 c i a1 h1 a2 h2 a3 h3 a4 h4 a5 h5 a6 h6 a7 h7 a8 h8 a9 h9 a10 h10 hc a b e w x g q o)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h10.read_unread,
    View.ld_unit_zero (S := S512x1024) hz2, View.ld_unit_zero (S := S1x1024) hz2, View.ld_unit_zero (S := S1x512x2304) hz3]
  rfl

theorem out_A_7 (hc : cond0_0 i) : out0_A_7 c i a1 h1 a2 h2 a3 h3 a4 h4 a5 h5 a6 h6 a7 h7 a8 h8 a9 h9 a10 h10 hc a b e w x g q = rowsGrad a b e w x g q := by
  unfold out0_A_7
  rw [View.read_writes_eq_canon _ _ _ (cover0_A_7 c i a1 h1 a2 h2 a3 h3 a4 h4 a5 h5 a6 h6 a7 h7 a8 h8 a9 h9 a10 h10 hc a b e w x g q)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1x512x2304) hz3]
  rfl

theorem out_A_8 (hc : cond0_0 i) : out0_A_8 c i a1 h1 a2 h2 a3 h3 a4 h4 a5 h5 a6 h6 a7 h7 a8 h8 a9 h9 a10 h10 hc a b e w x g q = truncf .bf16 (rowsGrad a b e w x g q) bitsLt_bf16_f32 := by
  unfold out0_A_8
  rw [View.read_writes_eq_canon _ _ _ (cover0_A_8 c i a1 h1 a2 h2 a3 h3 a4 h4 a5 h5 a6 h6 a7 h7 a8 h8 a9 h9 a10 h10 hc a b e w x g q)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1x512x2304) hz3]
  rfl

theorem out_A_9 (hc : cond0_0 i) : out0_A_9 c i a1 h1 a2 h2 a3 h3 a4 h4 a5 h5 a6 h6 a7 h7 a8 h8 a9 h9 a10 h10 hc a b e w x g q = gainGrad a b e w x k0_pay2 := by
  unfold out0_A_9
  rw [View.read_writes_eq_canon _ _ _ (cover0_A_9 c i a1 h1 a2 h2 a3 h3 a4 h4 a5 h5 a6 h6 a7 h7 a8 h8 a9 h9 a10 h10 hc a b e w x g q)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread,
    View.ld_unit_zero (S := S512x1024) hz2, View.ld_unit_zero (S := S1x1024) hz2, View.ld_unit_zero (S := S1x512x2304) hz3]
  rfl

end Cert.Kernel7Ideal.Body
end
-- ==== Proof.Rows.lean ====
module

public import proofs.«01_k».proof.Proof.NormTile

/-! Blocks of rows: a column spread over the rows, a row's sum and its normalisation's scale. -/

@[expose] public section

noncomputable section

namespace Cert.Rows

open Idealize.ShloMosaic Idealize.ShloMosaic.ValueIdx Cert.Norm Cert.Band
open Cert.Kernel2Ideal.Body (add_cols add_rows)

variable {M : Nat}

/-- A column of one number for each row. -/
theorem col_apply (u : FVec Ideal ⟨2, ![M, 1]⟩ .f32) (h : Shape.Broadcasts ⟨2, ![M, 1]⟩ ⟨2, ![M, 1024]⟩) (p : Fin M) (k : Fin 1024) :
    broadcastTo ⟨2, ![M, 1024]⟩ u h (ix2 p k) = u (ix2 p 0) :=
  broadcastTo_apply u _ (ix2 p k) (ix2 p 0) fun a => by
    match a with
    | ⟨0, _⟩ =>
      show p.val = if M = 1 then 0 else p.val
      have := p.isLt
      split <;> omega
    | ⟨1, _⟩ => rfl

variable {v : FVec Ideal ⟨2, ![M, 1024]⟩ .f32} {X : Fin M → Fin 1024 → EReal} (hv : ∀ p k, v (ix2 p k) = X p k)
  (hr : Shape.Reduces ⟨2, ![M, 1024]⟩ [1] ⟨1, ![M]⟩) (hs : Shape.ShapeCasts ⟨1, ![M]⟩ ⟨2, ![M, 1]⟩)
  (hφ : FKind.Formats .f32) (hacc : (0x00000000#32 : BitVec 32) = FKind.add.neutral .f32 hφ)

include hv in
/-- The rows' sums, standing up. -/
theorem sum_apply (p : Fin M) : shapeCast ⟨2, ![M, 1]⟩ (multiReduction .add [1] ⟨1, ![M]⟩ v 0x00000000#32 hr hφ hacc) hs (ix2 p 0) = ∑ k, X p k := by
  refine (shapeCast_apply _ _ (ix2 p 0) (ix1 p) (by rw [Shape.rowMajor_val_one, Shape.rowMajor_val_two]; show p.val = p.val * 1 + 0; omega)).trans ?_
  exact (add_cols (m := M) (n := 1024) v _ _ _ p).trans (Finset.sum_congr rfl fun k _ => hv p k)

include hv in
/-- Their means. -/
theorem mean_apply (p : Fin M) : divf (shapeCast ⟨2, ![M, 1]⟩ (multiReduction .add [1] ⟨1, ![M]⟩ v 0x00000000#32 hr hφ hacc) hs)
    (broadcast ⟨2, ![M, 1]⟩ (Scalar.ofBits (F := Ideal) .f32 0x44800000#32)) (ix2 p 0) = Ideal.div (∑ k, X p k) ((1024 : ℝ) : EReal) :=
  congrArg₂ Ideal.div (sum_apply hv hr hs hφ hacc p) len_word

include hv in
/-- The normalisation's scale. -/
theorem scale_apply (p : Fin M) : rsqrt (addf (divf (shapeCast ⟨2, ![M, 1]⟩ (multiReduction .add [1] ⟨1, ![M]⟩ (mulf v v) 0x00000000#32 hr hφ hacc) hs)
    (broadcast ⟨2, ![M, 1]⟩ (Scalar.ofBits (F := Ideal) .f32 0x44800000#32))) (broadcast ⟨2, ![M, 1]⟩ (Scalar.ofBits (F := Ideal) .f32 0x358637BD#32))) (ix2 p 0) = rs (X p) := by
  unfold Norm.rs Norm.ms
  refine congrArg Ideal.rsqrt ?_
  refine congrArg₂ (fun a b : EReal => a + b) (mean_apply (v := mulf v v) (X := fun p k => X p k * X p k) (fun p k => ?_) hr hs hφ hacc p) eps_word
  rw [← hv]; rfl

end Cert.Rows
end
-- ==== Proof.MixTile.lean ====
module

public import proofs.«01_k».proof.Proof.MixMath
public import proofs.«01_k».proof.Proof.MixBody
public import proofs.«01_k».proof.Proof.Rows

/-! What one grid point computes. -/

@[expose] public section

noncomputable section

namespace Cert.Kernel7Ideal.Body

open Cert.Kernel7Ideal Cert.Kernel7Ideal.Gen Cert.Norm Cert.Band
open Cert.Mix (ra rb re)
open Idealize.ShloMosaic Idealize.ShloMosaic.ValueIdx

variable {a : Vec Ideal S1x512x2304 .bf16} {b : Vec Ideal S3x512x512 .f32} {e : Vec Ideal S2x512x1024 .bf16} {w : Vec Ideal S5888x1024 .bf16} {x : Vec Ideal S512x1024 .f32}
  {g : Vec Ideal S1x1024 .f32} {q : Vec Ideal S512x1024 .f32} {o : Vec Ideal S1x1024 .f32}
variable {A : Fin 512 → Fin 2304 → EReal} {B : Fin 512 → Fin 3 → Fin 512 → EReal} {E : Fin 512 → Fin 2 → Fin 1024 → EReal} {W : Fin 5888 → Fin 1024 → EReal}
  {X Q H : Fin 512 → Fin 1024 → EReal} {G : Fin 1024 → EReal}

/-! ## The pieces -/

theorem b0_apply (p : Fin 512) (l : Fin 512) : b0 b (ix3 0 p l) = b (ix3 0 p l) :=
  View.ld_unit_apply_of _ _ _ _ _ _ fun c => by
    match c with
    | ⟨0, _⟩ => rfl
    | ⟨1, _⟩ => show p.val = 0 + p.val; omega
    | ⟨2, _⟩ => show l.val = 0 + l.val; omega

theorem b1_apply (p : Fin 512) (l : Fin 512) : b1 b (ix3 0 p l) = b (ix3 1 p l) :=
  View.ld_unit_apply_of _ _ _ _ _ _ fun c => by
    match c with
    | ⟨0, _⟩ => rfl
    | ⟨1, _⟩ => show p.val = 0 + p.val; omega
    | ⟨2, _⟩ => show l.val = 0 + l.val; omega

theorem b2_apply (p : Fin 512) (l : Fin 512) : b2 b (ix3 0 p l) = b (ix3 2 p l) :=
  View.ld_unit_apply_of _ _ _ _ _ _ fun c => by
    match c with
    | ⟨0, _⟩ => rfl
    | ⟨1, _⟩ => show p.val = 0 + p.val; omega
    | ⟨2, _⟩ => show l.val = 0 + l.val; omega

theorem e0_apply (p : Fin 512) (l : Fin 1024) : e0 e (ix3 0 p l) = e (ix3 0 p l) :=
  View.ld_unit_apply_of _ _ _ _ _ _ fun c => by
    match c with
    | ⟨0, _⟩ => rfl
    | ⟨1, _⟩ => show p.val = 0 + p.val; omega
    | ⟨2, _⟩ => show l.val = 0 + l.val; omega

theorem e1_apply (p : Fin 512) (l : Fin 1024) : e1 e (ix3 0 p l) = e (ix3 1 p l) :=
  View.ld_unit_apply_of _ _ _ _ _ _ fun c => by
    match c with
    | ⟨0, _⟩ => rfl
    | ⟨1, _⟩ => show p.val = 0 + p.val; omega
    | ⟨2, _⟩ => show l.val = 0 + l.val; omega

theorem w0_apply (l : Fin 2304) (k : Fin 1024) : w0 w (ix2 l k) = w (ix2 (ra l) k) :=
  View.ld_unit_apply_of _ _ _ _ _ _ fun c => by
    match c with
    | ⟨0, _⟩ => show l.val = 0 + l.val; omega
    | ⟨1, _⟩ => show k.val = 0 + k.val; omega

theorem w1_apply (l : Fin 512) (k : Fin 1024) : w1 w (ix2 l k) = w (ix2 (rb 0 l) k) :=
  View.ld_unit_apply_of _ _ _ _ _ _ fun c => by
    match c with
    | ⟨0, _⟩ => show 2304 + 0 * 512 + l.val = 2304 + l.val; omega
    | ⟨1, _⟩ => show k.val = 0 + k.val; omega

theorem w2_apply (l : Fin 512) (k : Fin 1024) : w2 w (ix2 l k) = w (ix2 (rb 1 l) k) :=
  View.ld_unit_apply_of _ _ _ _ _ _ fun c => by
    match c with
    | ⟨0, _⟩ => show 2304 + 1 * 512 + l.val = 2816 + l.val; omega
    | ⟨1, _⟩ => show k.val = 0 + k.val; omega

theorem w3_apply (l : Fin 512) (k : Fin 1024) : w3 w (ix2 l k) = w (ix2 (rb 2 l) k) :=
  View.ld_unit_apply_of _ _ _ _ _ _ fun c => by
    match c with
    | ⟨0, _⟩ => show 2304 + 2 * 512 + l.val = 3328 + l.val; omega
    | ⟨1, _⟩ => show k.val = 0 + k.val; omega

theorem w4_apply (l : Fin 1024) (k : Fin 1024) : w4 w (ix2 l k) = w (ix2 (re 0 l) k) :=
  View.ld_unit_apply_of _ _ _ _ _ _ fun c => by
    match c with
    | ⟨0, _⟩ => show 3840 + 0 * 1024 + l.val = 3840 + l.val; omega
    | ⟨1, _⟩ => show k.val = 0 + k.val; omega

theorem w5_apply (l : Fin 1024) (k : Fin 1024) : w5 w (ix2 l k) = w (ix2 (re 1 l) k) :=
  View.ld_unit_apply_of _ _ _ _ _ _ fun c => by
    match c with
    | ⟨0, _⟩ => show 3840 + 1 * 1024 + l.val = 4864 + l.val; omega
    | ⟨1, _⟩ => show k.val = 0 + k.val; omega

/-- A product of a slab's rows with a run of the weight's. -/
theorem product {K : ℕ} (u : FVec Ideal ⟨2, ![512, K]⟩ .bf16) (v : FVec Ideal ⟨2, ![K, 1024]⟩ .bf16) {U : Fin K → EReal} {Y : Fin K → EReal} (p : Fin 512) (k : Fin 1024)
    (hu : ∀ l, u (ix2 p l) = U l) (hv : ∀ l, v (ix2 l k) = Y l) :
    FloatOps.matmul (F := Ideal) (φ₁ := .bf16) (φ₂ := .bf16) (DotDims.plain 512 K 1024) none u v (constant ⟨2, ![512, 1024]⟩ .f32 0x00000000#32) (ix2 p k) = ∑ l, U l * Y l := by
  refine (Ideal.matmul_plain_apply (M := 512) (K := K) (N := 1024) none _ _ _ p k).trans ?_
  refine (congrArg (· + _) zero_word).trans ?_
  rw [zero_add]
  exact Finset.sum_congr rfl fun l _ => congrArg₂ (fun a b : EReal => a * b) (hu l) (hv l)

section
variable (ha : ∀ p l, a (ix3 0 p l) = A p l) (hb : ∀ s p l, b (ix3 s p l) = B p s l) (he : ∀ s p l, e (ix3 s p l) = E p s l) (hw : ∀ r k, w (ix2 r k) = W r k)

include ha hb he hw in
theorem six_apply (p : Fin 512) (k : Fin 1024) : six a b e w (ix2 p k) = Cert.Mix.dh (A p) (B p) (E p) W k := by
  unfold six four k0_pay5 k0_pay4 k0_pay3 Cert.Mix.dh
  refine congrArg₂ (fun a b : EReal => a + b) (congrArg₂ (fun a b : EReal => a + b) (congrArg₂ (fun a b : EReal => a + b) (congrArg₂ (fun a b : EReal => a + b)
    (congrArg₂ (fun a b : EReal => a + b) ?_ ?_) ?_) ?_) ?_) ?_
  · exact product (K := 2304) _ _ p k (fun l => (shapeCast_1ab_ab_apply _ _ p l).trans (ha p l)) (fun l => (w0_apply l k).trans (hw _ k))
  · exact product (K := 512) _ _ p k (fun l => (shapeCast_1ab_ab_apply _ _ p l).trans ((b0_apply p l).trans (hb 0 p l))) (fun l => (w1_apply l k).trans (hw _ k))
  · exact product (K := 512) _ _ p k (fun l => (shapeCast_1ab_ab_apply _ _ p l).trans ((b1_apply p l).trans (hb 1 p l))) (fun l => (w2_apply l k).trans (hw _ k))
  · exact product (K := 512) _ _ p k (fun l => (shapeCast_1ab_ab_apply _ _ p l).trans ((b2_apply p l).trans (hb 2 p l))) (fun l => (w3_apply l k).trans (hw _ k))
  · exact product (K := 1024) _ _ p k (fun l => (shapeCast_1ab_ab_apply _ _ p l).trans ((e0_apply p l).trans (he 0 p l))) (fun l => (w4_apply l k).trans (hw _ k))
  · exact product (K := 1024) _ _ p k (fun l => (shapeCast_1ab_ab_apply _ _ p l).trans ((e1_apply p l).trans (he 1 p l))) (fun l => (w5_apply l k).trans (hw _ k))

end

/-! ## The normalisation -/

variable (hh : ∀ p k, six a b e w (ix2 p k) = H p k) (hx : ∀ p k, x (ix2 p k) = X p k) (hg : ∀ k, g (ix2 0 k) = G k) (hq : ∀ p k, q (ix2 p k) = Q p k)

include hx in
theorem pay6 (p : Fin 512) : k0_pay6 x (ix2 p 0) = rs (X p) := Rows.scale_apply hx _ _ _ _ p

include hx in
theorem pay7 (p : Fin 512) (k : Fin 1024) : k0_pay7 x (ix2 p k) = X p k * rs (X p) := by
  rw [← pay6 hx, ← hx]
  exact congrArg (x (ix2 p k) * ·) (Rows.col_apply _ _ p k)

include hh hx hg hq in
theorem rowsGrad_apply (p : Fin 512) (k : Fin 1024) : rowsGrad a b e w x g q (ix2 p k) = dx (X p) G (H p) (Q p) k := by
  have hgain : ∀ p k, mulf (F := Ideal) (φ := .f32) (six a b e w) (broadcastTo S512x1024 (shapeCast S1x1024 g shapeCasts_S1x1024_S1x1024) broadcasts_S1x1024_S512x1024) (ix2 p k) = H p k * G k := fun p k => by
    rw [← hh, ← hg]
    refine congrArg (six a b e w (ix2 p k) * ·) ?_
    rw [shapeCast_self]
    exact broadcastTo_1b_ab_apply g _ p k
  unfold dx
  rw [← hq, ← hgain, ← pay7 hx, ← pay6 hx]
  unfold rowsGrad k0_pay8
  refine congrArg (q (ix2 p k) + ·) ?_
  refine congrArg₂ (fun a b : EReal => a * b) (Rows.col_apply _ _ p k) ?_
  refine congrArg₂ (fun y z : EReal => y - z) rfl ?_
  refine congrArg (k0_pay7 x (ix2 p k) * ·) ((Rows.col_apply _ _ p k).trans (Rows.mean_apply (X := fun p k => X p k * k0_pay6 x (ix2 p 0) * (H p k * G k)) (fun p k => ?_) _ _ _ _ p))
  exact congrArg₂ (fun a b : EReal => a * b) ((pay7 hx p k).trans (by rw [pay6 hx])) (hgain p k)

include hh hx in
theorem gainGrad_apply (k : Fin 1024) : gainGrad a b e w x o (ix2 0 k) = o (ix2 0 k) + ∑ p, H p k * (X p k * rs (X p)) := by
  unfold gainGrad k0_pay1
  refine congrArg₂ (fun a b : EReal => a + b) (by rw [shapeCast_self]) ?_
  refine (shapeCast_a_1a_apply _ _ 0 k).trans ?_
  refine (Cert.Kernel2Ideal.Body.add_rows (m := 512) (n := 1024) _ _ _ _ k).trans (Finset.sum_congr rfl fun p _ => ?_)
  rw [← hh, ← pay7 hx]
  rfl

end Cert.Kernel7Ideal.Body
end
-- ==== Proof.MixRef.lean ====
module

public import proofs.«01_k».proof.Proof.MixMath
public import proofs.«01_k».proof.Proof.NormRef
public import proofs.«01_k».proof.Proof.Gen.Reference7Ideal.Read
public import Idealize.ShloMosaic.Lib.Pipeline.Value

/-! The reference's gradients at an element, as products and sums. -/

@[expose] public section

noncomputable section

namespace Cert.Reference7Ideal.Mix

open Cert.Reference7Ideal Cert.Reference7Ideal.Gen Cert.Reference7Ideal.Read Cert.Norm Cert.Band Cert.Mix
open Cert.Reference2Ideal.Norm (one_axis total)
open Idealize.ShloMosaic Idealize.ShloMosaic.ValueIdx

variable {x0 : (⟨S1x4096x2304, .bf16⟩ : BufTy).Contents (Elt Ideal)} {x1 : (⟨S3x4096x512, .f32⟩ : BufTy).Contents (Elt Ideal)}
  {x2 : (⟨S2x4096x1024, .bf16⟩ : BufTy).Contents (Elt Ideal)} {x3 : (⟨S5888x1024, .bf16⟩ : BufTy).Contents (Elt Ideal)}
  {x4 : (⟨S4096x1024, .f32⟩ : BufTy).Contents (Elt Ideal)} {x5 : (⟨S1024, .f32⟩ : BufTy).Contents (Elt Ideal)} {x6 : (⟨S4096x1024, .f32⟩ : BufTy).Contents (Elt Ideal)}

/-! ## The product -/

/-- A column that falls in a given piece. -/
theorem piece {n : ℕ} (xs : List ((s : Shape) × (s.Idx → EReal))) (h : Shape.Concatenates (xs.map (·.1)) S4096x5888 1) (i : Fin 4096) (j : Fin 5888) (k : ℕ) (hk : k < xs.length)
    (u : (⟨2, ![4096, n]⟩ : Shape).Idx → EReal) (hu : xs[k] = ⟨⟨2, ![4096, n]⟩, u⟩) (pre : ℕ)
    (hpre : (((xs.take k).map (·.1)).map fun s => if h : s.rank = S4096x5888.rank then s.size ((1 : Fin S4096x5888.rank).cast h.symm) else 0).sum = pre)
    (l : Fin n) (hl : pre + l.val = j.val) : concatenate S4096x5888 1 xs h (ix2 i j) = u (ix2 i l) :=
  concatenate_apply_piece 1 xs h _ k hk _ u hu rfl pre hpre (ix2 i l) (fun b hb => by match b with | ⟨0, _⟩ => rfl | ⟨1, _⟩ => exact absurd rfl hb) hl

theorem beside_a (i : Fin 4096) (l : Fin 2304) : val_main_v34 (F := Ideal) x0 x1 x2 (ix2 i (ra l)) = x0 (ix3 0 i l) := by
  unfold val_main_v34
  refine (piece _ _ i (ra l) 0 (by simp) _ rfl 0 rfl l (by show 0 + l.val = l.val; omega)).trans ?_
  rw [val_main_v21_apply, val_main_v20_apply, val_main_v19_apply]
  refine congrArg x0 (funext fun a => Fin.ext ?_)
  match a with
  | ⟨0, _⟩ => rfl
  | ⟨1, _⟩ => show (i.val * 2304 + l.val) / 2304 % 4096 = i.val; omega
  | ⟨2, _⟩ => show (i.val * 2304 + l.val) % 2304 = l.val; omega

theorem beside_b (i : Fin 4096) (s : Fin 3) (l : Fin 512) : val_main_v34 (F := Ideal) x0 x1 x2 (ix2 i (rb s l)) = x1 (ix3 s i l) := by
  unfold val_main_v34
  obtain rfl | rfl | rfl : s = 0 ∨ s = 1 ∨ s = 2 := by omega
  · refine (piece _ _ i (rb 0 l) 1 (by simp) _ rfl 2304 rfl l (by show 2304 + l.val = 2304 + 0 * 512 + l.val; omega)).trans ?_
    rw [val_main_v23_apply, val_main_v22_apply]
    refine congrArg x1 (funext fun a => Fin.ext ?_)
    match a with
    | ⟨0, _⟩ => rfl
    | ⟨1, _⟩ => show (i.val * 512 + l.val) / 512 % 4096 = i.val; omega
    | ⟨2, _⟩ => show (i.val * 512 + l.val) % 512 = l.val; omega
  · refine (piece _ _ i (rb 1 l) 2 (by simp) _ rfl 2816 rfl l (by show 2816 + l.val = 2304 + 1 * 512 + l.val; omega)).trans ?_
    rw [val_main_v25_apply, val_main_v24_apply]
    refine congrArg x1 (funext fun a => Fin.ext ?_)
    match a with
    | ⟨0, _⟩ => rfl
    | ⟨1, _⟩ => show (i.val * 512 + l.val) / 512 % 4096 = i.val; omega
    | ⟨2, _⟩ => show (i.val * 512 + l.val) % 512 = l.val; omega
  · refine (piece _ _ i (rb 2 l) 3 (by simp) _ rfl 3328 rfl l (by show 3328 + l.val = 2304 + 2 * 512 + l.val; omega)).trans ?_
    rw [val_main_v27_apply, val_main_v26_apply]
    refine congrArg x1 (funext fun a => Fin.ext ?_)
    match a with
    | ⟨0, _⟩ => rfl
    | ⟨1, _⟩ => show (i.val * 512 + l.val) / 512 % 4096 = i.val; omega
    | ⟨2, _⟩ => show (i.val * 512 + l.val) % 512 = l.val; omega

theorem beside_e (i : Fin 4096) (s : Fin 2) (l : Fin 1024) : val_main_v34 (F := Ideal) x0 x1 x2 (ix2 i (re s l)) = x2 (ix3 s i l) := by
  unfold val_main_v34
  obtain rfl | rfl : s = 0 ∨ s = 1 := by omega
  · refine (piece _ _ i (re 0 l) 4 (by simp) _ rfl 3840 rfl l (by show 3840 + l.val = 3840 + 0 * 1024 + l.val; omega)).trans ?_
    rw [val_main_v32_apply, val_main_v29_apply, val_main_v28_apply]
    refine congrArg x2 (funext fun a => Fin.ext ?_)
    match a with
    | ⟨0, _⟩ => rfl
    | ⟨1, _⟩ => show (i.val * 1024 + l.val) / 1024 % 4096 = i.val; omega
    | ⟨2, _⟩ => show (i.val * 1024 + l.val) % 1024 = l.val; omega
  · refine (piece _ _ i (re 1 l) 5 (by simp) _ rfl 4864 rfl l (by show 4864 + l.val = 3840 + 1 * 1024 + l.val; omega)).trans ?_
    rw [val_main_v33_apply, val_main_v31_apply, val_main_v30_apply]
    refine congrArg x2 (funext fun a => Fin.ext ?_)
    match a with
    | ⟨0, _⟩ => rfl
    | ⟨1, _⟩ => show (i.val * 1024 + l.val) / 1024 % 4096 = i.val; omega
    | ⟨2, _⟩ => show (i.val * 1024 + l.val) % 1024 = l.val; omega

variable {A : Fin 4096 → Fin 2304 → EReal} {B : Fin 4096 → Fin 3 → Fin 512 → EReal} {E : Fin 4096 → Fin 2 → Fin 1024 → EReal} {W : Fin 5888 → Fin 1024 → EReal}
  {X Q H : Fin 4096 → Fin 1024 → EReal} {G : Fin 1024 → EReal}

theorem inner (ha : ∀ i l, x0 (ix3 0 i l) = A i l) (hb : ∀ s i l, x1 (ix3 s i l) = B i s l) (he : ∀ s i l, x2 (ix3 s i l) = E i s l) (hw : ∀ r k, x3 (ix2 r k) = W r k)
    (i : Fin 4096) (k : Fin 1024) : val_main_v35 (F := Ideal) x0 x1 x2 x3 (ix2 i k) = Cert.Mix.dh (A i) (B i) (E i) W k := by
  have hl : ∀ r, val_main_v34 (F := Ideal) x0 x1 x2 (lidx_main_v35 (ix2 i k) r) = val_main_v34 (F := Ideal) x0 x1 x2 (ix2 i r) := fun r =>
    congrArg (val_main_v34 (F := Ideal) x0 x1 x2) (Shape.idx_ext₂ rfl rfl)
  have hr : ∀ r, val_main_v1 (F := Ideal) x3 (ridx_main_v35 (ix2 i k) r) = W r k := fun r => by
    rw [val_main_v1_apply, val_main_v0_apply]
    refine Eq.trans ?_ (hw r k)
    exact congrArg x3 (Shape.idx_ext₂ rfl rfl)
  rw [val_main_v35_apply]
  refine (sum_runs _).trans ?_
  unfold Cert.Mix.dh
  simp only [hl, hr, beside_a, beside_b, beside_e, ha, hb, he]

/-! ## What follows it -/

variable (hh : ∀ i k, val_main_v35 (F := Ideal) x0 x1 x2 x3 (ix2 i k) = H i k)
  (hx : ∀ i k, x4 (ix2 i k) = X i k) (hg : ∀ k, x5 (ix1 k) = G k) (hq : ∀ i k, x6 (ix2 i k) = Q i k)

include hx in
theorem scale (i : Fin 4096) : val_main_v9 (F := Ideal) x4 (ix2 i 0) = rs (X i) := Cert.Reference2Ideal.Norm.scale hx i

include hx in
theorem normed (i : Fin 4096) (k : Fin 1024) : val_main_v14 (F := Ideal) x4 (ix2 i k) = X i k * rs (X i) := Cert.Reference2Ideal.Norm.normed hx i k

include hx in
theorem slope (i : Fin 4096) : val_main_v12 (F := Ideal) x4 (ix2 i 0) = ((-(1 / 2) : ℝ) : EReal) * Ideal.div (rs (X i)) (ms (X i)) := Cert.Reference2Ideal.Norm.slope hx i

include hh hg in
theorem gained (i : Fin 4096) (k : Fin 1024) : val_main_v40 (F := Ideal) x0 x1 x2 x3 x5 (ix2 i k) = H i k * G k := by
  rw [val_main_v40_apply, hh, val_main_v39_apply, val_main_v15_apply, ← hg]
  exact congrArg (fun j => H i k * x5 j) (one_axis rfl)

include hh hx hg in
theorem mixed (i : Fin 4096) : val_main_v44 (F := Ideal) x0 x1 x2 x3 x4 x5 (ix2 i 0) = ∑ j, X i j * (H i j * G j) := by
  rw [val_main_v44_apply, val_main_v43_apply, val_main_cst_5_apply]
  refine total zero_word fun j => ?_
  rw [val_main_v42_apply, ← gained hh hg, ← hx]
  exact congrArg (fun y => x4 y * val_main_v40 (F := Ideal) x0 x1 x2 x3 x5 y) (Shape.idx_ext₂ (by show i.val * 1 + 0 = i.val; omega) rfl)

include hh hx hg in
theorem partial_ (i : Fin 4096) (k : Fin 1024) : val_main_v52 (F := Ideal) x0 x1 x2 x3 x4 x5 (ix2 i k) = part (X i) G (H i) := by
  rw [val_main_v52_apply, val_main_v51_apply, val_main_cst_7_apply, zero_word, zero_add, Fin.sum_univ_one, val_main_v50_apply, val_main_v49_apply, val_main_cst_6_apply, val_main_v48_apply]
  unfold part
  refine congrArg₂ Ideal.div ?_ len_word
  rw [← mixed hh hx hg, ← slope hx]
  exact congrArg (fun j => val_main_v44 (F := Ideal) x0 x1 x2 x3 x4 x5 j * val_main_v12 (F := Ideal) x4 j) (Shape.idx_ext₂ rfl rfl)

include hh hx hg hq in
theorem rows_apply (i : Fin 4096) (k : Fin 1024) : val_main_v56 (F := Ideal) x0 x1 x2 x3 x4 x5 x6 (ix2 i k) = dx (X i) G (H i) (Q i) k := by
  rw [← dx_eq]
  unfold dx'
  rw [val_main_v56_apply, val_main_v54_apply, val_main_v55_apply, val_main_v47_apply, val_main_v53_apply, val_main_v46_apply, gained hh hg, partial_ hh hx hg,
    val_main_v45_apply, hx, hq, ← scale hx]
  refine congrArg (fun j => Q i k + H i k * G k * val_main_v9 (F := Ideal) x4 j + X i k * part (X i) G (H i) + part (X i) G (H i) * X i k) ?_
  exact Shape.idx_ext₂ rfl rfl

include hh hx in
theorem gain_apply (k : Fin 1024) : val_main_v58 (F := Ideal) x0 x1 x2 x3 x4 (ix2 0 k) = ∑ i, X i k * rs (X i) * H i k := by
  rw [val_main_v58_apply, val_main_v41_apply, val_main_cst_4_apply, zero_word, zero_add, Fin.sum_univ_one, val_main_v38_apply, val_main_v37_apply, val_main_cst_3_apply]
  refine total zero_word fun i => ?_
  rw [val_main_v36_apply, ← normed hx, ← hh]
  refine congrArg (fun y => val_main_v14 (F := Ideal) x4 y * val_main_v35 (F := Ideal) x0 x1 x2 x3 y) (Shape.idx_ext₂ rfl ?_)
  show _ = k.val
  simp

end Cert.Reference7Ideal.Mix
end
-- ==== Proof.Mix.lean ====
module

public import proofs.«01_k».proof.Proof.MixTile
public import proofs.«01_k».proof.Proof.MixRef

/-! The gradient of the mixer's normalisation: every block of the kernel's results is the reference's. -/

@[expose] public section

noncomputable section

namespace Cert.Kernel7Ideal.Mix

open Cert.Kernel7Ideal Cert.Kernel7Ideal.Gen Cert.Kernel7Ideal.Body Cert.Norm Cert.Band
open Idealize.ShloMosaic Idealize.ShloMosaic.TcCoe Idealize.ShloMosaic.ValueIdx Idealize.SL.Sem
open Idealize.ShloMosaic.Pipeline (Dat)

/-- Row `p` of the block numbered `t`. -/
def at_ (t : ℕ) (p : Fin 512) : Fin 4096 := ⟨(t * 512 + p.val) % 4096, by omega⟩

theorem at_val (t : Fin cfg0.N) (p : Fin 512) : (at_ t.val p).val = t.val * 512 + p.val := by
  have := t.isLt
  have : cfg0.N = 8 := N_0
  show (t.val * 512 + p.val) % 4096 = _
  omega

theorem index0 : ∀ t : Fin cfg0.N, win0_0.index t 0 = 0 ∧ win0_0.index t 1 = t.val ∧ win0_0.index t 2 = 0 := (by decide +kernel : ∀ t : Fin grid0.N, _)
theorem index1 : ∀ t : Fin cfg0.N, win0_1.index t 0 = 0 ∧ win0_1.index t 1 = t.val ∧ win0_1.index t 2 = 0 := (by decide +kernel : ∀ t : Fin grid0.N, _)
theorem index2 : ∀ t : Fin cfg0.N, win0_2.index t 0 = 0 ∧ win0_2.index t 1 = t.val ∧ win0_2.index t 2 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)
theorem index8 : ∀ t : Fin cfg0.N, win0_8.index t 0 = t.val ∧ win0_8.index t 1 = 0 := (by decide +kernel : ∀ t : Fin grid0.N, _)
theorem index9 : ∀ t : Fin cfg0.N, win0_9.index t 0 = 0 ∧ win0_9.index t 1 = 0 := (by decide +kernel : ∀ t : Fin grid0.N, _)

theorem emb0 (t : Fin cfg0.N) (s : Fin 1) (p : Fin 512) (l : Fin 2304) :
    (win0_0.rect t).emb ((ix3 s p l : S1x512x2304.Idx)) = (ix3 s (at_ t.val p) l : S1x4096x2304.Idx) := by
  refine funext fun a => Fin.ext ?_
  refine (Pipeline.Window.rect_emb_val win0_0 t (ix3 s p l : S1x512x2304.Idx) a).trans ?_
  match a with
  | ⟨0, _⟩ => rw [show win0_0.index t ⟨0, _⟩ = _ from (index0 t).1]; show 0 * 1 + s.val = s.val; omega
  | ⟨1, _⟩ => rw [show win0_0.index t ⟨1, _⟩ = _ from (index0 t).2.1]; exact (at_val t p).symm
  | ⟨2, _⟩ => rw [show win0_0.index t ⟨2, _⟩ = _ from (index0 t).2.2]; show 0 * 2304 + l.val = l.val; omega

theorem emb1 (t : Fin cfg0.N) (s : Fin 3) (p : Fin 512) (l : Fin 512) :
    (win0_1.rect t).emb ((ix3 s p l : S3x512x512.Idx)) = (ix3 s (at_ t.val p) l : S3x4096x512.Idx) := by
  refine funext fun a => Fin.ext ?_
  refine (Pipeline.Window.rect_emb_val win0_1 t (ix3 s p l : S3x512x512.Idx) a).trans ?_
  match a with
  | ⟨0, _⟩ => rw [show win0_1.index t ⟨0, _⟩ = _ from (index1 t).1]; show 0 * 3 + s.val = s.val; omega
  | ⟨1, _⟩ => rw [show win0_1.index t ⟨1, _⟩ = _ from (index1 t).2.1]; exact (at_val t p).symm
  | ⟨2, _⟩ => rw [show win0_1.index t ⟨2, _⟩ = _ from (index1 t).2.2]; show 0 * 512 + l.val = l.val; omega

theorem emb2 (t : Fin cfg0.N) (s : Fin 2) (p : Fin 512) (l : Fin 1024) :
    (win0_2.rect t).emb ((ix3 s p l : S2x512x1024.Idx)) = (ix3 s (at_ t.val p) l : S2x4096x1024.Idx) := by
  refine funext fun a => Fin.ext ?_
  refine (Pipeline.Window.rect_emb_val win0_2 t (ix3 s p l : S2x512x1024.Idx) a).trans ?_
  match a with
  | ⟨0, _⟩ => rw [show win0_2.index t ⟨0, _⟩ = _ from (index2 t).1]; show 0 * 2 + s.val = s.val; omega
  | ⟨1, _⟩ => rw [show win0_2.index t ⟨1, _⟩ = _ from (index2 t).2.1]; exact (at_val t p).symm
  | ⟨2, _⟩ => rw [show win0_2.index t ⟨2, _⟩ = _ from (index2 t).2.2]; show 0 * 1024 + l.val = l.val; omega

theorem emb3 (t : Fin cfg0.N) (r : Fin 5888) (k : Fin 1024) : (win0_3.rect t).emb ((ix2 r k : S5888x1024.Idx)) = (ix2 r k : S5888x1024.Idx) := by
  refine Shape.idx_ext₂ ?_ ?_
  · refine (Pipeline.Window.rect_emb_val win0_3 t (ix2 r k : S5888x1024.Idx) 0).trans ?_
    rw [(index3 t).1]; show 0 * 5888 + r.val = r.val; omega
  · refine (Pipeline.Window.rect_emb_val win0_3 t (ix2 r k : S5888x1024.Idx) 1).trans ?_
    rw [(index3 t).2]; show 0 * 1024 + k.val = k.val; omega

theorem emb4 (t : Fin cfg0.N) (p : Fin 512) (k : Fin 1024) : (win0_4.rect t).emb ((ix2 p k : S512x1024.Idx)) = (ix2 (at_ t.val p) k : S4096x1024.Idx) := by
  refine Shape.idx_ext₂ ?_ ?_
  · refine (Pipeline.Window.rect_emb_val win0_4 t (ix2 p k : S512x1024.Idx) 0).trans ?_
    rw [(index4 t).1]; exact (at_val t p).symm
  · refine (Pipeline.Window.rect_emb_val win0_4 t (ix2 p k : S512x1024.Idx) 1).trans ?_
    rw [(index4 t).2]; show 0 * 1024 + k.val = k.val; omega

theorem emb5 (t : Fin cfg0.N) (k : Fin 1024) : (win0_5.rect t).emb ((ix2 0 k : S1x1024.Idx)) = (ix2 0 k : S1x1024.Idx) := by
  refine Shape.idx_ext₂ ?_ ?_
  · refine (Pipeline.Window.rect_emb_val win0_5 t (ix2 0 k : S1x1024.Idx) 0).trans ?_
    rw [(index5 t).1]; rfl
  · refine (Pipeline.Window.rect_emb_val win0_5 t (ix2 0 k : S1x1024.Idx) 1).trans ?_
    rw [(index5 t).2]; show 0 * 1024 + k.val = k.val; omega

theorem emb6 (t : Fin cfg0.N) (p : Fin 512) (k : Fin 1024) : (win0_6.rect t).emb ((ix2 p k : S512x1024.Idx)) = (ix2 (at_ t.val p) k : S4096x1024.Idx) := by
  refine Shape.idx_ext₂ ?_ ?_
  · refine (Pipeline.Window.rect_emb_val win0_6 t (ix2 p k : S512x1024.Idx) 0).trans ?_
    rw [(index6 t).1]; exact (at_val t p).symm
  · refine (Pipeline.Window.rect_emb_val win0_6 t (ix2 p k : S512x1024.Idx) 1).trans ?_
    rw [(index6 t).2]; show 0 * 1024 + k.val = k.val; omega

theorem emb7 (t : Fin cfg0.N) (p : Fin 512) (k : Fin 1024) : (win0_7.rect t).emb ((ix2 p k : S512x1024.Idx)) = (ix2 (at_ t.val p) k : S4096x1024.Idx) := by
  refine Shape.idx_ext₂ ?_ ?_
  · refine (Pipeline.Window.rect_emb_val win0_7 t (ix2 p k : S512x1024.Idx) 0).trans ?_
    rw [(index7 t).1]; exact (at_val t p).symm
  · refine (Pipeline.Window.rect_emb_val win0_7 t (ix2 p k : S512x1024.Idx) 1).trans ?_
    rw [(index7 t).2]; show 0 * 1024 + k.val = k.val; omega

theorem emb8 (t : Fin cfg0.N) (p : Fin 512) (k : Fin 1024) : (win0_8.rect t).emb ((ix2 p k : S512x1024.Idx)) = (ix2 (at_ t.val p) k : S4096x1024.Idx) := by
  refine Shape.idx_ext₂ ?_ ?_
  · refine (Pipeline.Window.rect_emb_val win0_8 t (ix2 p k : S512x1024.Idx) 0).trans ?_
    rw [(index8 t).1]; exact (at_val t p).symm
  · refine (Pipeline.Window.rect_emb_val win0_8 t (ix2 p k : S512x1024.Idx) 1).trans ?_
    rw [(index8 t).2]; show 0 * 1024 + k.val = k.val; omega

theorem emb9 (t : Fin cfg0.N) (k : Fin 1024) : (win0_9.rect t).emb ((ix2 0 k : S1x1024.Idx)) = (ix2 0 k : S1x1024.Idx) := by
  refine Shape.idx_ext₂ ?_ ?_
  · refine (Pipeline.Window.rect_emb_val win0_9 t (ix2 0 k : S1x1024.Idx) 0).trans ?_
    rw [(index9 t).1]; rfl
  · refine (Pipeline.Window.rect_emb_val win0_9 t (ix2 0 k : S1x1024.Idx) 1).trans ?_
    rw [(index9 t).2]; show 0 * 1024 + k.val = k.val; omega

theorem read0 (t : Fin cfg0.N) (Z : S1x4096x2304.Idx → EReal) (s : Fin 1) (p : Fin 512) (l : Fin 2304) :
    ((cfg0.win 0).blk t).view.read (Elt Ideal) Z (ix3 s p l : S1x512x2304.Idx) = Z (ix3 s (at_ t.val p) l) := congrArg Z (emb0 t s p l)
theorem read1 (t : Fin cfg0.N) (Z : S3x4096x512.Idx → EReal) (s : Fin 3) (p : Fin 512) (l : Fin 512) :
    ((cfg0.win 1).blk t).view.read (Elt Ideal) Z (ix3 s p l : S3x512x512.Idx) = Z (ix3 s (at_ t.val p) l) := congrArg Z (emb1 t s p l)
theorem read2 (t : Fin cfg0.N) (Z : S2x4096x1024.Idx → EReal) (s : Fin 2) (p : Fin 512) (l : Fin 1024) :
    ((cfg0.win 2).blk t).view.read (Elt Ideal) Z (ix3 s p l : S2x512x1024.Idx) = Z (ix3 s (at_ t.val p) l) := congrArg Z (emb2 t s p l)
theorem read3 (t : Fin cfg0.N) (Z : S5888x1024.Idx → EReal) (r : Fin 5888) (k : Fin 1024) :
    ((cfg0.win 3).blk t).view.read (Elt Ideal) Z (ix2 r k : S5888x1024.Idx) = Z (ix2 r k) := congrArg Z (emb3 t r k)
theorem read4 (t : Fin cfg0.N) (Z : S4096x1024.Idx → EReal) (p : Fin 512) (k : Fin 1024) :
    ((cfg0.win 4).blk t).view.read (Elt Ideal) Z (ix2 p k : S512x1024.Idx) = Z (ix2 (at_ t.val p) k) := congrArg Z (emb4 t p k)
theorem read6 (t : Fin cfg0.N) (Z : S4096x1024.Idx → EReal) (p : Fin 512) (k : Fin 1024) :
    ((cfg0.win 6).blk t).view.read (Elt Ideal) Z (ix2 p k : S512x1024.Idx) = Z (ix2 (at_ t.val p) k) := congrArg Z (emb6 t p k)
theorem put7 (t : Fin cfg0.N) (Z : S4096x1024.Idx → EReal) (p : Fin 512) (k : Fin 1024) :
    ((cfg0.win 7).blk t).view.read (Elt Ideal) Z (ix2 p k : S512x1024.Idx) = Z (ix2 (at_ t.val p) k) := congrArg Z (emb7 t p k)
theorem put8 (t : Fin cfg0.N) (Z : S4096x1024.Idx → EReal) (p : Fin 512) (k : Fin 1024) :
    ((cfg0.win 8).blk t).view.read (Elt Ideal) Z (ix2 p k : S512x1024.Idx) = Z (ix2 (at_ t.val p) k) := congrArg Z (emb8 t p k)
theorem read5 (t : Fin cfg0.N) (Z : S1x1024.Idx → EReal) (k : Fin 1024) :
    ((cfg0.win 5).blk t).view.read (Elt Ideal) Z (ix2 0 k : S1x1024.Idx) = Z (ix2 0 k) := congrArg Z (emb5 t k)
theorem put9 (t : Fin cfg0.N) (Z : S1x1024.Idx → EReal) (k : Fin 1024) :
    ((cfg0.win 9).blk t).view.read (Elt Ideal) Z (ix2 0 k : S1x1024.Idx) = Z (ix2 0 k) := congrArg Z (emb9 t k)
theorem cut7 (t : Fin cfg0.N) (x : Vec Ideal S512x1024 .f32) : (cfg0.win 7).cut (grid0.coords t) x = x := rfl
theorem cut8 (t : Fin cfg0.N) (x : Vec Ideal S512x1024 .bf16) : (cfg0.win 8).cut (grid0.coords t) x = x := rfl
theorem cut9 (t : Fin cfg0.N) (x : Vec Ideal S1x1024 .f32) : (cfg0.win 9).cut (grid0.coords t) x = x := rfl

variable (m : (ℓ : Loc nD τ sig) → Buf (Elt Ideal) ℓ) (c : Dev nD)

theorem V_gain : V m c main_v0 = shapeCast S1x1024 (m ((c : Thread nD τ).loc main_arg5)) shapeCasts_S1024_S1x1024 := by
  unfold V
  simp only [hostOps0]
  after_results_simp <;> rfl

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl
theorem blk2 (t : Fin cfg0.N) : iblk m c 2 t = ((cfg0.win 2).blk t).view.read (Elt Ideal) (m ((c : Thread nD τ).loc main_arg2)) := by
  rw [← V_main_arg2 m c]; rfl
theorem blk3 (t : Fin cfg0.N) : iblk m c 3 t = ((cfg0.win 3).blk t).view.read (Elt Ideal) (m ((c : Thread nD τ).loc main_arg3)) := by
  rw [← V_main_arg3 m c]; rfl
theorem blk4 (t : Fin cfg0.N) : iblk m c 4 t = ((cfg0.win 4).blk t).view.read (Elt Ideal) (m ((c : Thread nD τ).loc main_arg4)) := by
  rw [← V_main_arg4 m c]; rfl
theorem blk6 (t : Fin cfg0.N) : iblk m c 6 t = ((cfg0.win 6).blk t).view.read (Elt Ideal) (m ((c : Thread nD τ).loc main_arg6)) := by
  rw [← V_main_arg6 m c]; rfl
theorem blk5 (t : Fin cfg0.N) : iblk m c 5 t = ((cfg0.win 5).blk t).view.read (Elt Ideal) (shapeCast S1x1024 (m ((c : Thread nD τ).loc main_arg5)) shapeCasts_S1024_S1x1024) := by
  rw [← V_gain m c]; rfl

/-! ## What the blocks hold after each point -/

theorem outs7 (t : Fin cfg0.N) : (outsAt0 m c t.val t.isLt).1 = rowsGrad (iblk m c 0 t) (iblk m c 1 t) (iblk m c 2 t) (iblk m c 3 t) (iblk m c 4 t) (iblk m c 5 t) (iblk m c 6 t) := by
  by_cases h : t.val % 8 = 0
  · rw [outsAt0_A m c t h]; dsimp only; rw [out_A_7]
  · rw [outsAt0_B m c t h]; dsimp only; rw [out_B_7]

theorem outs8 (t : Fin cfg0.N) : (outsAt0 m c t.val t.isLt).2.1
    = truncf .bf16 (rowsGrad (iblk m c 0 t) (iblk m c 1 t) (iblk m c 2 t) (iblk m c 3 t) (iblk m c 4 t) (iblk m c 5 t) (iblk m c 6 t)) bitsLt_bf16_f32 := by
  by_cases h : t.val % 8 = 0
  · rw [outsAt0_A m c t h]; dsimp only; rw [out_A_8]
  · rw [outsAt0_B m c t h]; dsimp only; rw [out_B_8]

theorem outs9_zero (h : 0 < cfg0.N) : (outsAt0 m c 0 h).2.2 = gainGrad (iblk m c 0 ⟨0, h⟩) (iblk m c 1 ⟨0, h⟩) (iblk m c 2 ⟨0, h⟩) (iblk m c 3 ⟨0, h⟩) (iblk m c 4 ⟨0, h⟩) (k0_pay2 (F := Ideal)) := by
  rw [show outsAt0 m c 0 h = _ from outsAt0_A m c ⟨0, h⟩ rfl]; dsimp only; rw [out_A_9]

theorem outs9_succ (n : ℕ) (h : n + 1 < cfg0.N) : (outsAt0 m c (n + 1) h).2.2
    = gainGrad (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.2 := by
  have hN : cfg0.N = 8 := N_0
  have hB : ¬(⟨n + 1, h⟩ : Fin cfg0.N).val % 8 = 0 := by dsimp only; omega
  rw [show outsAt0 m c (n + 1) h = _ from outsAt0_B m c ⟨n + 1, h⟩ hB]; dsimp only; rw [out_B_9]; rfl

/-- Every row is a row of one block. -/
theorem sum_blocks (f : Fin 4096 → EReal) : (∑ s ∈ Finset.range 8, ∑ p : Fin 512, f (at_ s p)) = ∑ i, f i := by
  rw [Finset.sum_range]
  refine (Fintype.sum_prod_type' (fun (s : Fin 8) (p : Fin 512) => f (at_ s.val p))).symm.trans ?_
  refine Fintype.sum_equiv (finProdFinEquiv (m := 8) (n := 512)) _ (fun i : Fin 4096 => f i) fun sp => congrArg f (Fin.ext ?_)
  show (sp.1.val * 512 + sp.2.val) % 4096 = sp.2.val + 512 * sp.1.val
  omega

/-- The arguments by their indices. -/
def A (i : Fin 4096) (l : Fin 2304) : EReal := m ((c : Thread nD τ).loc main_arg0) (ix3 0 i l : S1x4096x2304.Idx)
def B (i : Fin 4096) (s : Fin 3) (l : Fin 512) : EReal := m ((c : Thread nD τ).loc main_arg1) (ix3 s i l : S3x4096x512.Idx)
def E (i : Fin 4096) (s : Fin 2) (l : Fin 1024) : EReal := m ((c : Thread nD τ).loc main_arg2) (ix3 s i l : S2x4096x1024.Idx)
def W (r : Fin 5888) (k : Fin 1024) : EReal := m ((c : Thread nD τ).loc main_arg3) (ix2 r k : S5888x1024.Idx)
def X (i : Fin 4096) (k : Fin 1024) : EReal := m ((c : Thread nD τ).loc main_arg4) (ix2 i k : S4096x1024.Idx)
def G (k : Fin 1024) : EReal := m ((c : Thread nD τ).loc main_arg5) (ix1 k : S1024.Idx)
def Q (i : Fin 4096) (k : Fin 1024) : EReal := m ((c : Thread nD τ).loc main_arg6) (ix2 i k : S4096x1024.Idx)

/-- The gradient that reaches the normalised rows. -/
def H (i : Fin 4096) : Fin 1024 → EReal := Cert.Mix.dh (A m c i) (B m c i) (E m c i) (W m c)

theorem entry0 (t : Fin cfg0.N) (p : Fin 512) (l : Fin 2304) : iblk m c 0 t (ix3 0 p l : S1x512x2304.Idx) = A m c (at_ t.val p) l :=
  (congrFun (blk0 m c t) _).trans (read0 t _ 0 p l)
theorem entry1 (t : Fin cfg0.N) (s : Fin 3) (p : Fin 512) (l : Fin 512) : iblk m c 1 t (ix3 s p l : S3x512x512.Idx) = B m c (at_ t.val p) s l :=
  (congrFun (blk1 m c t) _).trans (read1 t _ s p l)
theorem entry2 (t : Fin cfg0.N) (s : Fin 2) (p : Fin 512) (l : Fin 1024) : iblk m c 2 t (ix3 s p l : S2x512x1024.Idx) = E m c (at_ t.val p) s l :=
  (congrFun (blk2 m c t) _).trans (read2 t _ s p l)
theorem entry3 (t : Fin cfg0.N) (r : Fin 5888) (k : Fin 1024) : iblk m c 3 t (ix2 r k : S5888x1024.Idx) = W m c r k :=
  (congrFun (blk3 m c t) _).trans (read3 t _ r k)
theorem entry4 (t : Fin cfg0.N) (p : Fin 512) (k : Fin 1024) : iblk m c 4 t (ix2 p k : S512x1024.Idx) = X m c (at_ t.val p) k :=
  (congrFun (blk4 m c t) _).trans (read4 t _ p k)
theorem entry5 (t : Fin cfg0.N) (k : Fin 1024) : iblk m c 5 t (ix2 0 k : S1x1024.Idx) = G m c k :=
  (congrFun (blk5 m c t) _).trans ((read5 t _ k).trans (shapeCast_a_1a_apply _ _ 0 k))
theorem entry6 (t : Fin cfg0.N) (p : Fin 512) (k : Fin 1024) : iblk m c 6 t (ix2 p k : S512x1024.Idx) = Q m c (at_ t.val p) k :=
  (congrFun (blk6 m c t) _).trans (read6 t _ p k)

theorem entryH (t : Fin cfg0.N) (p : Fin 512) (k : Fin 1024) : six (iblk m c 0 t) (iblk m c 1 t) (iblk m c 2 t) (iblk m c 3 t) (ix2 p k) = H m c (at_ t.val p) k :=
  six_apply (A := fun p => A m c (at_ t.val p)) (B := fun p => B m c (at_ t.val p)) (E := fun p => E m c (at_ t.val p))
    (entry0 m c t) (entry1 m c t) (entry2 m c t) (entry3 m c t) p k

theorem tile (t : Fin cfg0.N) (p : Fin 512) (k : Fin 1024) : rowsGrad (iblk m c 0 t) (iblk m c 1 t) (iblk m c 2 t) (iblk m c 3 t) (iblk m c 4 t) (iblk m c 5 t) (iblk m c 6 t) (ix2 p k)
    = dx (X m c (at_ t.val p)) (G m c) (H m c (at_ t.val p)) (Q m c (at_ t.val p)) k :=
  rowsGrad_apply (H := fun p => H m c (at_ t.val p)) (X := fun p => X m c (at_ t.val p)) (Q := fun p => Q m c (at_ t.val p))
    (entryH m c t) (entry4 m c t) (entry5 m c t) (entry6 m c t) p k

theorem chain (k : Fin 1024) : ∀ (n : ℕ) (h : n < cfg0.N), (outsAt0 m c n h).2.2 (ix2 0 k)
    = ∑ s ∈ Finset.range (n + 1), ∑ p, H m c (at_ s p) k * (X m c (at_ s p) k * Norm.rs (X m c (at_ s p)))
  | 0, h => by
    rw [outs9_zero m c h]
    refine (gainGrad_apply (H := fun p => H m c (at_ 0 p)) (X := fun p => X m c (at_ 0 p)) (entryH m c ⟨0, h⟩) (entry4 m c ⟨0, h⟩) k).trans ?_
    rw [Finset.sum_range_one]
    refine (congrArg (· + _) zero_word).trans ?_
    rw [zero_add]
  | n + 1, h => by
    rw [outs9_succ m c n h]
    refine (gainGrad_apply (H := fun p => H m c (at_ (n + 1) p)) (X := fun p => X m c (at_ (n + 1) p)) (entryH m c ⟨n + 1, h⟩) (entry4 m c ⟨n + 1, h⟩) k).trans ?_
    rw [chain k n, Finset.sum_range_succ _ (n + 1)]

/-! ## The arrays -/

/-- The reference's results. -/
def rows : S4096x1024.Idx → EReal := Cert.Reference7Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def rows' : S4096x1024.Idx → EReal := Cert.Reference7Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def gain : S1x1024.Idx → EReal := Cert.Reference7Ideal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem ref_inner (i : Fin 4096) (k : Fin 1024) : Cert.Reference7Ideal.Read.val_main_v35 (F := Ideal) (m ((c : Thread nD τ).loc main_arg0)) (m ((c : Thread nD τ).loc main_arg1)) (m ((c : Thread nD τ).loc main_arg2)) (m ((c : Thread nD τ).loc main_arg3)) (ix2 i k) = H m c i k :=
  Cert.Reference7Ideal.Mix.inner (A := A m c) (B := B m c) (E := E m c) (W := W m c) (fun _ _ => rfl) (fun _ _ _ => rfl) (fun _ _ _ => rfl) (fun _ _ => rfl) i k

theorem rows_apply (i : Fin 4096) (k : Fin 1024) : rows m c (ix2 i k) = dx (X m c i) (G m c) (H m c i) (Q m c i) k :=
  Cert.Reference7Ideal.Mix.rows_apply (H := H m c) (X := X m c) (G := G m c) (Q := Q m c) (ref_inner m c) (fun _ _ => rfl) (fun _ => rfl) (fun _ _ => rfl) i k

theorem rows'_eq : rows' m c = rows m c := rfl

theorem gain_apply (k : Fin 1024) : gain m c (ix2 0 k) = ∑ i, X m c i k * Norm.rs (X m c i) * H m c i k :=
  Cert.Reference7Ideal.Mix.gain_apply (H := H m c) (X := X m c) (ref_inner m c) (fun _ _ => rfl) k

theorem flushed7 (t : Fin cfg0.N) : (dats m 0 c).flushed 7 t = ((cfg0.win 7).blk t).view.read (Elt Ideal) (rows m c) := by
  rw [Value.flushed7, outs7]
  refine funext fun (y : S512x1024.Idx) => ?_
  obtain ⟨p, k, rfl⟩ : ∃ (p : Fin 512) (k : Fin 1024), y = ix2 p k := ⟨y 0, y 1, Shape.idx_ext₂ rfl rfl⟩
  refine Eq.trans ?_ (put7 t (rows m c) p k).symm
  refine (congrFun (cut7 t _) _).trans ?_
  rw [rows_apply]
  exact tile m c t p k

theorem flushed8 (t : Fin cfg0.N) : (dats m 0 c).flushed 8 t = ((cfg0.win 8).blk t).view.read (Elt Ideal) (rows' m c) := by
  rw [Value.flushed8, outs8, rows'_eq]
  refine funext fun (y : S512x1024.Idx) => ?_
  obtain ⟨p, k, rfl⟩ : ∃ (p : Fin 512) (k : Fin 1024), y = ix2 p k := ⟨y 0, y 1, Shape.idx_ext₂ rfl rfl⟩
  refine Eq.trans ?_ (put8 t (rows m c) p k).symm
  refine (congrFun (cut8 t _) _).trans ?_
  rw [rows_apply]
  exact tile m c t p k

theorem flushed9 (t : Fin cfg0.N) (hf : (cfg0.win 9).flush t = true) : (dats m 0 c).flushed 9 t = ((cfg0.win 9).blk t).view.read (Elt Ideal) (gain m c) := by
  have h7 : t.val = 7 := by
    have hN : cfg0.N = 8 := N_0
    have := (flush0_9 t).mp hf
    have := t.isLt
    omega
  rw [Value.flushed9]
  refine funext fun (y : S1x1024.Idx) => ?_
  obtain ⟨k, rfl⟩ : ∃ (k : Fin 1024), y = ix2 0 k := ⟨y 1, Shape.idx_ext₂ (by have : (y 0).val < 1 := (y 0).isLt; show (y 0).val = 0; omega) rfl⟩
  refine Eq.trans ?_ (put9 t (gain m c) k).symm
  refine (congrFun (cut9 t _) _).trans ?_
  rw [gain_apply, chain m c k t.val t.isLt, h7, sum_blocks fun i => H m c i k * (X m c i k * Norm.rs (X m c i))]
  exact Finset.sum_congr rfl fun i _ => mul_comm _ _

/-- Every element lies in some point's block. -/
theorem covered7 (i : S4096x1024.Idx) : ∃ s : Fin cfg0.N, (win0_7.index s 0 * 512 ≤ (i 0).val ∧ (i 0).val < win0_7.index s 0 * 512 + 512)
    ∧ (win0_7.index s 1 * 1024 ≤ (i 1).val ∧ (i 1).val < win0_7.index s 1 * 1024 + 1024) := by
  have h0 : (i 0).val < 4096 := (i 0).isLt
  have h1 : (i 1).val < 1024 := (i 1).isLt
  have hN : cfg0.N = 8 := N_0
  refine ⟨⟨(i 0).val / 512, by omega⟩, ?_⟩
  rw [(index7 _).1, (index7 _).2]
  dsimp only
  omega

theorem covered8 (i : S4096x1024.Idx) : ∃ s : Fin cfg0.N, (win0_8.index s 0 * 512 ≤ (i 0).val ∧ (i 0).val < win0_8.index s 0 * 512 + 512)
    ∧ (win0_8.index s 1 * 1024 ≤ (i 1).val ∧ (i 1).val < win0_8.index s 1 * 1024 + 1024) := by
  have h0 : (i 0).val < 4096 := (i 0).isLt
  have h1 : (i 1).val < 1024 := (i 1).isLt
  have hN : cfg0.N = 8 := N_0
  refine ⟨⟨(i 0).val / 512, by omega⟩, ?_⟩
  rw [(index8 _).1, (index8 _).2]
  dsimp only
  omega

theorem covered9 (i : S1x1024.Idx) : ∃ s : Fin cfg0.N, (cfg0.win 9).flush s = true ∧ (win0_9.index s 0 * 1 ≤ (i 0).val ∧ (i 0).val < win0_9.index s 0 * 1 + 1)
    ∧ (win0_9.index s 1 * 1024 ≤ (i 1).val ∧ (i 1).val < win0_9.index s 1 * 1024 + 1024) := by
  have h0 : (i 0).val < 1 := (i 0).isLt
  have h1 : (i 1).val < 1024 := (i 1).isLt
  have hN : cfg0.N = 8 := N_0
  refine ⟨⟨7, by omega⟩, (flush0_9 _).mpr rfl, ?_⟩
  rw [(index9 _).1, (index9 _).2]
  omega

theorem final7 : (dats m 0 c).arrAt 7 cfg0.N = rows m c :=
  (dats m 0 c).arrAt_eq_of_cover 7 (rows m c) (fun t _ => flushed7 m c t) fun i => by
    obtain ⟨s, hs⟩ := covered7 i
    refine ⟨s, flush0_7 s, ?_⟩
    show i ∈ ((View.whole main_v1_0).slice (win0_7.rect s)).set
    rw [View.set_slice_whole, Rect.mem_set_unit]
    intro a
    match a with
    | ⟨0, _⟩ => exact hs.1
    | ⟨1, _⟩ => exact hs.2

theorem final8 : (dats m 0 c).arrAt 8 cfg0.N = rows' m c :=
  (dats m 0 c).arrAt_eq_of_cover 8 (rows' m c) (fun t _ => flushed8 m c t) fun i => by
    obtain ⟨s, hs⟩ := covered8 i
    refine ⟨s, flush0_8 s, ?_⟩
    show i ∈ ((View.whole main_v1_1).slice (win0_8.rect s)).set
    rw [View.set_slice_whole, Rect.mem_set_unit]
    intro a
    match a with
    | ⟨0, _⟩ => exact hs.1
    | ⟨1, _⟩ => exact hs.2

theorem final9 : (dats m 0 c).arrAt 9 cfg0.N = gain m c :=
  (dats m 0 c).arrAt_eq_of_cover 9 (gain m c) (flushed9 m c) fun i => by
    obtain ⟨s, hf, hs⟩ := covered9 i
    refine ⟨s, hf, ?_⟩
    show i ∈ ((View.whole main_v1_2).slice (win0_9.rect s)).set
    rw [View.set_slice_whole, Rect.mem_set_unit]
    intro a
    match a with
    | ⟨0, _⟩ => exact hs.1
    | ⟨1, _⟩ => exact hs.2

end Cert.Kernel7Ideal.Mix
end
-- ==== Proof.MixClaim.lean ====
module

public import proofs.«01_k».proof.Defs
public import proofs.«01_k».proof.Proof.Mix
public import proofs.«01_k».proof.Proof.Gen.Reference7Ideal.Run

/-! The gradient of the mixer's normalisation and its reference end with the same arrays. -/

@[expose] public section

noncomputable section

namespace Cert.MixClaim

open Idealize.ShloMosaic Idealize.ShloMosaic.TcCoe Idealize.SL.Sem
open Cert.Kernel7Ideal.Mix

instance : Cert.Reference7Ideal.Facts := Cert.Reference7Ideal.Gen.facts
instance : Cert.Kernel7Ideal.Facts := Cert.Kernel7Ideal.Gen.facts

theorem algebraic : Cert.algebraic_Kernel7Ideal_Reference7Ideal := by
  intro m g m' g' _ hagree
  refine ⟨fun c => rows m c, fun c => rows' m c, fun c => gain m c, ?_, ?_⟩
  · refine (θ_run Cert.Kernel7Ideal.defs _ _).mono (fun _ h c => ?_) (Cert.Kernel7Ideal.Value.run_blocks m g)
    exact ⟨(h c).1.trans (final7 m c), (h c).2.1.trans (final8 m c), (h c).2.2.1.trans (final9 m c), (h c).2.2.2⟩
  · refine (θ_run Cert.Reference7Ideal.defs _ _).mono (fun r h c => ?_) (Cert.Reference7Ideal.Value.run (F := Ideal) m' g')
    obtain ⟨e0, e1, e2, e3, e4, e5, e6⟩ := hagree c
    refine ⟨(h c).1.trans ((Cert.Reference7Ideal.Read.val_main_v56_eq m' c).trans ?_), (h c).2.1.trans ((Cert.Reference7Ideal.Read.val_main_v57_eq m' c).trans ?_),
      (h c).2.2.1.trans ((Cert.Reference7Ideal.Read.val_main_v58_eq _ _ _ _ _).trans ?_), (h c).2.2.2⟩
    · rw [e0, e1, e2, e3, e4, e5, e6]; rfl
    · rw [e0, e1, e2, e3, e4, e5, e6]; rfl
    · rw [e0, e1, e2, e3, e4]; rfl

end Cert.MixClaim
end
-- ==== Proof.Down.lean ====
module

public import proofs.«01_k».proof.Proof.Rows
public import proofs.«01_k».proof.Proof.Gate
public import proofs.«01_k».proof.Proof.Gen.Kernel8Ideal.Value
public import proofs.«01_k».proof.Proof.Gen.Reference8Ideal.Run
public import proofs.«01_k».proof.Proof.Gen.Reference8Ideal.Read

/-! The feed-forward layer's second half: half a product added to the rows, and the rows normalised. -/

@[expose] public section

noncomputable section

namespace Cert.Kernel8Ideal.Down

open Cert.Kernel8Ideal Cert.Kernel8Ideal.Gen Cert.Reference8Ideal.Read Cert.Band Cert.Norm
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def row (t : Fin cfg0.N) (p : Fin 512) : Fin 4096 := ⟨t.val * 512 + p.val, by have := t.isLt; have : cfg0.N = 8 := N_0; omega⟩

theorem at0 : ∀ t : Fin cfg0.N, win0_0.index t 0 = 0 ∧ win0_0.index t 1 = t.val ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = t.val ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)

theorem emb0 (t : Fin cfg0.N) (p : Fin 512) (l : Fin 2816) :
    (win0_0.rect t).emb ((ix3 0 p l : S1x512x2816.Idx)) = (ix3 0 (row t p) l : S1x4096x2816.Idx) := by
  refine funext fun a => Fin.ext ?_
  refine (Pipeline.Window.rect_emb_val win0_0 t (ix3 0 p l : S1x512x2816.Idx) a).trans ?_
  match a with
  | ⟨0, _⟩ => rw [show win0_0.index t ⟨0, _⟩ = _ from (at0 t).1]; rfl
  | ⟨1, _⟩ => rw [show win0_0.index t ⟨1, _⟩ = _ from (at0 t).2.1]; rfl
  | ⟨2, _⟩ => rw [show win0_0.index t ⟨2, _⟩ = _ from (at0 t).2.2]; show 0 * 2816 + l.val = l.val; omega

theorem emb1 (t : Fin cfg0.N) (l : Fin 2816) (k : Fin 1024) :
    (win0_1.rect t).emb ((ix3 0 l k : S1x2816x1024.Idx)) = (ix3 0 l k : S1x2816x1024.Idx) := by
  refine funext fun a => Fin.ext ?_
  refine (Pipeline.Window.rect_emb_val win0_1 t (ix3 0 l k : S1x2816x1024.Idx) a).trans ?_
  match a with
  | ⟨0, _⟩ => rw [show win0_1.index t ⟨0, _⟩ = _ from (at1 t).1]; rfl
  | ⟨1, _⟩ => rw [show win0_1.index t ⟨1, _⟩ = _ from (at1 t).2.1]; show 0 * 2816 + l.val = l.val; omega
  | ⟨2, _⟩ => rw [show win0_1.index t ⟨2, _⟩ = _ from (at1 t).2.2]; show 0 * 1024 + k.val = k.val; omega

theorem emb2 (t : Fin cfg0.N) (p : Fin 512) (k : Fin 1024) : (win0_2.rect t).emb ((ix2 p k : S512x1024.Idx)) = (ix2 (row t p) k : S4096x1024.Idx) := by
  refine Shape.idx_ext₂ ?_ ?_
  · refine (Pipeline.Window.rect_emb_val win0_2 t (ix2 p k : S512x1024.Idx) 0).trans ?_
    rw [(at2 t).1]; rfl
  · refine (Pipeline.Window.rect_emb_val win0_2 t (ix2 p k : S512x1024.Idx) 1).trans ?_
    rw [(at2 t).2]; show 0 * 1024 + k.val = k.val; omega

theorem emb3 (t : Fin cfg0.N) (k : Fin 1024) : (win0_3.rect t).emb ((ix2 0 k : S1x1024.Idx)) = (ix2 0 k : S1x1024.Idx) := by
  refine Shape.idx_ext₂ ?_ ?_
  · refine (Pipeline.Window.rect_emb_val win0_3 t (ix2 0 k : S1x1024.Idx) 0).trans ?_
    rw [(at3 t).1]; rfl
  · refine (Pipeline.Window.rect_emb_val win0_3 t (ix2 0 k : S1x1024.Idx) 1).trans ?_
    rw [(at3 t).2]; show 0 * 1024 + k.val = k.val; omega

theorem emb4 (t : Fin cfg0.N) (p : Fin 512) (k : Fin 1024) : (win0_4.rect t).emb ((ix2 p k : S512x1024.Idx)) = (ix2 (row t p) k : S4096x1024.Idx) := by
  refine Shape.idx_ext₂ ?_ ?_
  · refine (Pipeline.Window.rect_emb_val win0_4 t (ix2 p k : S512x1024.Idx) 0).trans ?_
    rw [(at4 t).1]; rfl
  · refine (Pipeline.Window.rect_emb_val win0_4 t (ix2 p k : S512x1024.Idx) 1).trans ?_
    rw [(at4 t).2]; show 0 * 1024 + k.val = k.val; omega

theorem emb5 (t : Fin cfg0.N) (p : Fin 512) (k : Fin 1024) : (win0_5.rect t).emb ((ix2 p k : S512x1024.Idx)) = (ix2 (row t p) k : S4096x1024.Idx) := by
  refine Shape.idx_ext₂ ?_ ?_
  · refine (Pipeline.Window.rect_emb_val win0_5 t (ix2 p k : S512x1024.Idx) 0).trans ?_
    rw [(at5 t).1]; rfl
  · refine (Pipeline.Window.rect_emb_val win0_5 t (ix2 p k : S512x1024.Idx) 1).trans ?_
    rw [(at5 t).2]; show 0 * 1024 + k.val = k.val; omega

/-! ## What a block holds -/

section Block
variable (x : Vec Ideal S1x512x2816 .bf16) (w : Vec Ideal S1x2816x1024 .bf16) (r : Vec Ideal S512x1024 .f32) (g : Vec Ideal S1x1024 .f32) (p : Fin 512) (k : Fin 1024)

/-- The block's rows with half the product added. -/
def sumAt (p : Fin 512) (k : Fin 1024) : EReal := r (ix2 p k) + ((1 / 2 : ℝ) : EReal) * ∑ l : Fin 2816, x (ix3 0 p l) * w (ix3 0 l k)

theorem pay1_apply (p : Fin 512) (k : Fin 1024) : k0_pay1 x w r (ix2 p k) = sumAt x w r p k := by
  unfold k0_pay1 sumAt
  refine congrArg (r (ix2 p k) + ·) ?_
  rw [mul_comm]
  refine congrArg₂ (fun a b : EReal => a * b) ?_ plus_half_word
  refine (Ideal.matmul_plain_apply (M := 512) (K := 2816) (N := 1024) none _ _ _ p k).trans ?_
  refine (congrArg (· + _) zero_word).trans ?_
  rw [zero_add]
  refine Finset.sum_congr rfl fun l _ => congrArg₂ (fun a b : EReal => a * b) ?_ ?_
  · exact shapeCast_1ab_ab_apply _ _ p l
  · exact shapeCast_1ab_ab_apply _ _ l k

theorem out4_apply : out0_4 x w r g (ix2 p k) = sumAt x w r p k := by
  unfold out0_4
  rw [View.canon_cons_unit_zero (S := S512x1024) hz2, View.ld_unit_zero (S := S1x512x2816) hz3, View.ld_unit_zero (S := S1x2816x1024) hz3, View.ld_unit_zero (S := S512x1024) hz2]
  exact pay1_apply x w r p k

theorem out5_apply : out0_5 x w r g (ix2 p k) = sumAt x w r p k * Norm.rs (sumAt x w r p) * g (ix2 0 k) := by
  unfold out0_5
  rw [View.canon_cons_unit_zero (S := S512x1024) hz2, View.ld_unit_zero (S := S1x512x2816) hz3, View.ld_unit_zero (S := S1x2816x1024) hz3, View.ld_unit_zero (S := S512x1024) hz2,
    View.ld_unit_zero (S := S1x1024) hz2]
  unfold k0_pay2
  refine congrArg₂ (fun a b : EReal => a * b) (congrArg₂ (fun a b : EReal => a * b) (pay1_apply x w r p k) ?_) ?_
  · exact (Rows.col_apply _ _ p k).trans (Rows.scale_apply (v := k0_pay1 x w r) (pay1_apply x w r) _ _ _ _ p)
  · rw [shapeCast_self]
    exact broadcastTo_1b_ab_apply g _ p k

end Block

/-! ## The reference at an element -/

variable (A : (⟨S4096x2816, .bf16⟩ : BufTy).Contents (Elt Ideal)) (W : (⟨S2816x1024, .bf16⟩ : BufTy).Contents (Elt Ideal))
  (R : (⟨S4096x1024, .f32⟩ : BufTy).Contents (Elt Ideal)) (G : (⟨S1024, .f32⟩ : BufTy).Contents (Elt Ideal))

/-- The reference's two results. -/
def sums : S4096x1024.Idx → EReal := val_main_v5 (F := Ideal) A W R
def normed : S4096x1024.Idx → EReal := val_main_v19 (F := Ideal) A W R G

/-- A row with half its product added. -/
def sumOf (i : Fin 4096) (k : Fin 1024) : EReal := R (ix2 i k) + ((1 / 2 : ℝ) : EReal) * ∑ l : Fin 2816, A (ix2 i l) * W (ix2 l k)

theorem sums_apply (i : Fin 4096) (k : Fin 1024) : sums A W R (ix2 i k) = sumOf A W R i k := by
  unfold sums sumOf
  rw [val_main_v5_apply, val_main_v4_apply, val_main_v3_apply, val_main_cst_apply, plus_half_word]
  refine congrArg (fun z : EReal => R (ix2 i k) + ((1 / 2 : ℝ) : EReal) * z) ((val_main_v2_apply A W _).trans (Finset.sum_congr rfl fun l _ => ?_))
  rw [val_main_v0_apply, val_main_v1_apply]
  exact congrArg₂ (fun a b : EReal => a * b) (congrArg A (Shape.idx_ext₂ rfl rfl)) (congrArg W (Shape.idx_ext₂ rfl rfl))

theorem ref_scale (i : Fin 4096) : val_main_v13 (F := Ideal) A W R (ix2 i 0) = Norm.rs (sumOf A W R i) := by
  rw [val_main_v13_apply, val_main_v12_apply, val_main_v10_apply, val_main_v8_apply, val_main_v9_apply, val_main_v11_apply, val_main_cst_1_apply, val_main_cst_2_apply,
    val_main_v7_apply, val_main_cst_0_apply]
  unfold Norm.rs Norm.ms
  refine congrArg Ideal.rsqrt (congrArg₂ (fun a b : EReal => a + b) (congrArg₂ Ideal.div ?_ len_word) eps_word)
  refine (congrArg (· + _) zero_word).trans ?_
  rw [zero_add]
  refine Finset.sum_congr rfl fun k _ => ?_
  rw [val_main_v6_apply, ← sums_apply]
  exact congrArg (fun j => sums A W R j * sums A W R j) (Shape.idx_ext₂ rfl rfl)

theorem normed_apply (i : Fin 4096) (k : Fin 1024) : normed A W R G (ix2 i k) = sumOf A W R i k * Norm.rs (sumOf A W R i) * G (ix1 k) := by
  unfold normed
  rw [val_main_v19_apply, val_main_v18_apply, val_main_v15_apply, val_main_v14_apply, val_main_v17_apply, val_main_v16_apply, ← sums_apply, ← ref_scale]
  refine congrArg₂ (fun a b : EReal => a * b) (congrArg (fun j => sums A W R (ix2 i k) * val_main_v13 (F := Ideal) A W R j) (Shape.idx_ext₂ rfl rfl)) ?_
  exact congrArg G (funext fun a => Fin.ext (by match a with | ⟨0, _⟩ => rfl))

/-! ## The kernel's arrays are the reference's -/

theorem read0 (t : Fin cfg0.N) (Z : S1x4096x2816.Idx → EReal) (p : Fin 512) (l : Fin 2816) :
    ((cfg0.win 0).blk t).view.read (Elt Ideal) Z (ix3 0 p l : S1x512x2816.Idx) = Z (ix3 0 (row t p) l) := congrArg Z (emb0 t p l)
theorem read1 (t : Fin cfg0.N) (Z : S1x2816x1024.Idx → EReal) (l : Fin 2816) (k : Fin 1024) :
    ((cfg0.win 1).blk t).view.read (Elt Ideal) Z (ix3 0 l k : S1x2816x1024.Idx) = Z (ix3 0 l k) := congrArg Z (emb1 t l k)
theorem read2 (t : Fin cfg0.N) (Z : S4096x1024.Idx → EReal) (p : Fin 512) (k : Fin 1024) :
    ((cfg0.win 2).blk t).view.read (Elt Ideal) Z (ix2 p k : S512x1024.Idx) = Z (ix2 (row t p) k) := congrArg Z (emb2 t p k)
theorem read3 (t : Fin cfg0.N) (Z : S1x1024.Idx → EReal) (k : Fin 1024) :
    ((cfg0.win 3).blk t).view.read (Elt Ideal) Z (ix2 0 k : S1x1024.Idx) = Z (ix2 0 k) := congrArg Z (emb3 t k)
theorem put4 (t : Fin cfg0.N) (Z : S4096x1024.Idx → EReal) (p : Fin 512) (k : Fin 1024) :
    ((cfg0.win 4).blk t).view.read (Elt Ideal) Z (ix2 p k : S512x1024.Idx) = Z (ix2 (row t p) k) := congrArg Z (emb4 t p k)
theorem put5 (t : Fin cfg0.N) (Z : S4096x1024.Idx → EReal) (p : Fin 512) (k : Fin 1024) :
    ((cfg0.win 5).blk t).view.read (Elt Ideal) Z (ix2 p k : S512x1024.Idx) = Z (ix2 (row t p) k) := congrArg Z (emb5 t p k)
theorem cut4 (t : Fin cfg0.N) (x : Vec Ideal S512x1024 .f32) : (cfg0.win 4).cut (grid0.coords t) x = x := rfl
theorem cut5 (t : Fin cfg0.N) (x : Vec Ideal S512x1024 .bf16) : (cfg0.win 5).cut (grid0.coords t) x = x := rfl

variable (m : (ℓ : Loc nD τ sig) → Buf (Elt Ideal) ℓ) (c : Dev nD)

theorem V_act : V m c main_v0 = broadcastInDim S1x4096x2816 ![1, 2] bcast_S4096x2816_S1x4096x2816_1_2 (m ((c : Thread nD τ).loc main_arg0)) := by
  unfold V
  simp only [hostOps0]
  after_results_simp <;> rfl
theorem V_weight : V m c main_v1 = broadcastInDim S1x2816x1024 ![1, 2] bcast_S2816x1024_S1x2816x1024_1_2 (m ((c : Thread nD τ).loc main_arg1)) := by
  unfold V
  simp only [hostOps0]
  after_results_simp <;> rfl
theorem V_gain : V m c main_v2 = shapeCast S1x1024 (m ((c : Thread nD τ).loc main_arg3)) shapeCasts_S1024_S1x1024 := by
  unfold V
  simp only [hostOps0]
  after_results_simp <;> rfl

theorem blk0 (t : Fin cfg0.N) : iblk m c 0 t
    = ((cfg0.win 0).blk t).view.read (Elt Ideal) (broadcastInDim S1x4096x2816 ![1, 2] bcast_S4096x2816_S1x4096x2816_1_2 (m ((c : Thread nD τ).loc main_arg0))) := by
  rw [← V_act m c]; rfl
theorem blk1 (t : Fin cfg0.N) : iblk m c 1 t
    = ((cfg0.win 1).blk t).view.read (Elt Ideal) (broadcastInDim S1x2816x1024 ![1, 2] bcast_S2816x1024_S1x2816x1024_1_2 (m ((c : Thread nD τ).loc main_arg1))) := by
  rw [← V_weight m c]; rfl
theorem blk2 (t : Fin cfg0.N) : iblk m c 2 t = ((cfg0.win 2).blk t).view.read (Elt Ideal) (m ((c : Thread nD τ).loc main_arg2)) := by
  rw [← V_main_arg2 m c]; rfl
theorem blk3 (t : Fin cfg0.N) : iblk m c 3 t = ((cfg0.win 3).blk t).view.read (Elt Ideal) (shapeCast S1x1024 (m ((c : Thread nD τ).loc main_arg3)) shapeCasts_S1024_S1x1024) := by
  rw [← V_gain m c]; rfl

theorem sum_eq (t : Fin cfg0.N) (p : Fin 512) : sumAt (iblk m c 0 t) (iblk m c 1 t) (iblk m c 2 t) p
    = sumOf (m ((c : Thread nD τ).loc main_arg0)) (m ((c : Thread nD τ).loc main_arg1)) (m ((c : Thread nD τ).loc main_arg2)) (row t p) := by
  refine funext fun k => ?_
  unfold sumAt sumOf
  refine congrArg₂ (fun a b : EReal => a + ((1 / 2 : ℝ) : EReal) * b) ((congrFun (blk2 m c t) _).trans (read2 t _ p k))
    (Finset.sum_congr rfl fun l _ => congrArg₂ (fun a b : EReal => a * b) ?_ ?_)
  · exact (congrFun (blk0 m c t) _).trans ((read0 t _ p l).trans (congrArg (m ((c : Thread nD τ).loc main_arg0)) (Shape.idx_ext₂ rfl rfl)))
  · exact (congrFun (blk1 m c t) _).trans ((read1 t _ l k).trans (congrArg (m ((c : Thread nD τ).loc main_arg1)) (Shape.idx_ext₂ rfl rfl)))

theorem gain_eq (t : Fin cfg0.N) (k : Fin 1024) : iblk m c 3 t (ix2 0 k : S1x1024.Idx) = m ((c : Thread nD τ).loc main_arg3) (ix1 k : S1024.Idx) :=
  (congrFun (blk3 m c t) _).trans ((read3 t _ k).trans (shapeCast_a_1a_apply _ _ 0 k))

/-- The two arrays the kernel must end with. -/
def sumArr : S4096x1024.Idx → EReal := sums (m ((c : Thread nD τ).loc main_arg0)) (m ((c : Thread nD τ).loc main_arg1)) (m ((c : Thread nD τ).loc main_arg2))
def normArr : S4096x1024.Idx → EReal :=
  normed (m ((c : Thread nD τ).loc main_arg0)) (m ((c : Thread nD τ).loc main_arg1)) (m ((c : Thread nD τ).loc main_arg2)) (m ((c : Thread nD τ).loc main_arg3))

theorem flushed4 (t : Fin cfg0.N) : (dats m 0 c).flushed 4 t = ((cfg0.win 4).blk t).view.read (Elt Ideal) (sumArr m c) := by
  rw [Value.flushed4]
  refine funext fun (y : S512x1024.Idx) => ?_
  obtain ⟨p, k, rfl⟩ : ∃ (p : Fin 512) (k : Fin 1024), y = ix2 p k := ⟨y 0, y 1, Shape.idx_ext₂ rfl rfl⟩
  refine Eq.trans ?_ (put4 t (sumArr m c) p k).symm
  refine (congrFun (cut4 t _) _).trans ?_
  refine (out4_apply _ _ _ _ p k).trans ?_
  rw [sum_eq]
  exact (sums_apply _ _ _ _ k).symm

theorem flushed5 (t : Fin cfg0.N) : (dats m 0 c).flushed 5 t = ((cfg0.win 5).blk t).view.read (Elt Ideal) (normArr m c) := by
  rw [Value.flushed5]
  refine funext fun (y : S512x1024.Idx) => ?_
  obtain ⟨p, k, rfl⟩ : ∃ (p : Fin 512) (k : Fin 1024), y = ix2 p k := ⟨y 0, y 1, Shape.idx_ext₂ rfl rfl⟩
  refine Eq.trans ?_ (put5 t (normArr m c) p k).symm
  refine (congrFun (cut5 t _) _).trans ?_
  refine (out5_apply _ _ _ _ p k).trans ?_
  rw [sum_eq, gain_eq]
  exact (normed_apply _ _ _ _ _ k).symm

theorem covered4 (i : S4096x1024.Idx) : ∃ s : Fin cfg0.N, (win0_4.index s 0 * 512 ≤ (i 0).val ∧ (i 0).val < win0_4.index s 0 * 512 + 512)
    ∧ (win0_4.index s 1 * 1024 ≤ (i 1).val ∧ (i 1).val < win0_4.index s 1 * 1024 + 1024) := by
  have h0 : (i 0).val < 4096 := (i 0).isLt
  have h1 : (i 1).val < 1024 := (i 1).isLt
  have hN : cfg0.N = 8 := N_0
  refine ⟨⟨(i 0).val / 512, by omega⟩, ?_⟩
  rw [(at4 _).1, (at4 _).2]
  dsimp only
  omega

theorem covered5 (i : S4096x1024.Idx) : ∃ s : Fin cfg0.N, (win0_5.index s 0 * 512 ≤ (i 0).val ∧ (i 0).val < win0_5.index s 0 * 512 + 512)
    ∧ (win0_5.index s 1 * 1024 ≤ (i 1).val ∧ (i 1).val < win0_5.index s 1 * 1024 + 1024) := by
  obtain ⟨s, hs⟩ := covered4 i
  refine ⟨s, ?_⟩
  rw [(at5 _).1, (at5 _).2, ← (at4 s).1]
  rw [(at4 s).2] at hs
  exact hs

theorem final4 : (dats m 0 c).arrAt 4 cfg0.N = sumArr m c :=
  (dats m 0 c).arrAt_eq_of_cover 4 (sumArr m c) (fun t _ => flushed4 m c t) fun i => by
    obtain ⟨s, hs⟩ := covered4 i
    refine ⟨s, flush0_4 s, ?_⟩
    show i ∈ ((View.whole main_v3_0).slice (win0_4.rect s)).set
    rw [View.set_slice_whole, Rect.mem_set_unit]
    intro a
    match a with
    | ⟨0, _⟩ => exact hs.1
    | ⟨1, _⟩ => exact hs.2

theorem final5 : (dats m 0 c).arrAt 5 cfg0.N = normArr m c :=
  (dats m 0 c).arrAt_eq_of_cover 5 (normArr m c) (fun t _ => flushed5 m c t) fun i => by
    obtain ⟨s, hs⟩ := covered5 i
    refine ⟨s, flush0_5 s, ?_⟩
    show i ∈ ((View.whole main_v3_1).slice (win0_5.rect s)).set
    rw [View.set_slice_whole, Rect.mem_set_unit]
    intro a
    match a with
    | ⟨0, _⟩ => exact hs.1
    | ⟨1, _⟩ => exact hs.2

end Cert.Kernel8Ideal.Down
end
-- ==== Proof.DownClaim.lean ====
module

public import proofs.«01_k».proof.Defs
public import proofs.«01_k».proof.Proof.Down
public import proofs.«01_k».proof.Proof.Gen.Kernel8Ideal.Frame

/-! The feed-forward layer's second half and its reference end with the same two arrays. -/

@[expose] public section

noncomputable section

namespace Cert.Down

open Idealize.ShloMosaic Idealize.ShloMosaic.TcCoe Idealize.SL.Sem
open Cert.Kernel8Ideal.Down

instance : Cert.Reference8Ideal.Facts := Cert.Reference8Ideal.Gen.facts
instance : Cert.Kernel8Ideal.Facts := Cert.Kernel8Ideal.Gen.facts

theorem algebraic : Cert.algebraic_Kernel8Ideal_Reference8Ideal := by
  intro m g m' g' _ hagree
  refine ⟨fun c => sumArr m c, fun c => normArr m c, ?_, ?_⟩
  · refine (θ_run Cert.Kernel8Ideal.defs _ _).mono (fun _ h c => ?_) (Cert.Kernel8Ideal.Value.run_blocks m g)
    exact ⟨(h c).1.trans (final4 m c), (h c).2.1.trans (final5 m c), (h c).2.2⟩
  · refine (θ_run Cert.Reference8Ideal.defs _ _).mono (fun r h c => ?_) (Cert.Reference8Ideal.Value.run (F := Ideal) m' g')
    obtain ⟨e0, e1, e2, e3⟩ := hagree c
    refine ⟨(h c).1.trans ((Cert.Reference8Ideal.Read.val_main_v5_eq _ _ _).trans ?_), (h c).2.1.trans ((Cert.Reference8Ideal.Read.val_main_v19_eq _ _ _ _).trans ?_), (h c).2.2⟩
    · rw [e0, e1, e2]; rfl
    · rw [e0, e1, e2, e3]; rfl

end Cert.Down
end
-- ==== Proof.Merge.lean ====
module

public import proofs.«01_k».proof.Proof.Gate
public import proofs.«01_k».proof.Proof.Gen.Kernel9Ideal.Value
public import proofs.«01_k».proof.Proof.Gen.Reference9Ideal.Run
public import proofs.«01_k».proof.Proof.Gen.Reference9Ideal.Read

/-! The gradient of the two gated branches: one product per block, times the gates and times their slopes. -/

@[expose] public section

noncomputable section

namespace Cert.Kernel9Ideal.Merge

open Cert.Kernel9Ideal Cert.Kernel9Ideal.Gen Cert.Reference9Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Row `p` of point `t`'s block, its column `k`, and the two gates' columns for that one. -/
def row (t : Fin cfg0.N) (p : Fin 2048) : Fin 4096 := ⟨t.val / 4 * 2048 + p.val, by have := t.isLt; have : cfg0.N = 8 := N_0; omega⟩
def col (t : Fin cfg0.N) (k : Fin 256) : Fin 1024 := ⟨t.val % 4 * 256 + k.val, by omega⟩
def gateA (k : Fin 1024) : Fin 5888 := ⟨3840 + k.val, by omega⟩
def gateB (k : Fin 1024) : Fin 5888 := ⟨4864 + k.val, by omega⟩
def colA (t : Fin cfg0.N) (k : Fin 256) : Fin 5888 := gateA (col t k)
def colB (t : Fin cfg0.N) (k : Fin 256) : Fin 5888 := gateB (col t k)

theorem at0 : ∀ t : Fin cfg0.N, win0_0.index t 0 = t.val / 4 ∧ win0_0.index t 1 = 0 := (by decide +kernel : ∀ t : Fin grid0.N, _)
theorem at1 : ∀ t : Fin cfg0.N, win0_1.index t 0 = t.val % 4 ∧ win0_1.index t 1 = 0 := (by decide +kernel : ∀ t : Fin grid0.N, _)
theorem at2 : ∀ t : Fin cfg0.N, win0_2.index t 0 = t.val / 4 ∧ win0_2.index t 1 = t.val % 4 := (by decide +kernel : ∀ t : Fin grid0.N, _)
theorem at3 : ∀ t : Fin cfg0.N, win0_3.index t 0 = t.val / 4 ∧ win0_3.index t 1 = t.val % 4 := (by decide +kernel : ∀ t : Fin grid0.N, _)
theorem at4 : ∀ t : Fin cfg0.N, win0_4.index t 0 = t.val / 4 ∧ win0_4.index t 1 = 15 + t.val % 4 := (by decide +kernel : ∀ t : Fin grid0.N, _)
theorem at5 : ∀ t : Fin cfg0.N, win0_5.index t 0 = t.val / 4 ∧ win0_5.index t 1 = 19 + t.val % 4 := (by decide +kernel : ∀ t : Fin grid0.N, _)
theorem at6 : ∀ t : Fin cfg0.N, win0_6.index t 0 = t.val / 4 ∧ win0_6.index t 1 = t.val % 4 := (by decide +kernel : ∀ t : Fin grid0.N, _)
theorem at7 : ∀ t : Fin cfg0.N, win0_7.index t 0 = t.val / 4 ∧ win0_7.index t 1 = t.val % 4 := (by decide +kernel : ∀ t : Fin grid0.N, _)
theorem at8 : ∀ t : Fin cfg0.N, win0_8.index t 0 = 0 ∧ win0_8.index t 1 = t.val / 4 ∧ win0_8.index t 2 = t.val % 4 := (by decide +kernel : ∀ t : Fin grid0.N, _)

theorem emb0 (t : Fin cfg0.N) (p : Fin 2048) (j : Fin 1024) :
    (win0_0.rect t).emb ((ix2 p j : S2048x1024.Idx)) = (ix2 (row t p) j : S4096x1024.Idx) := by
  refine Shape.idx_ext₂ ?_ ?_
  · refine (Pipeline.Window.rect_emb_val win0_0 t (ix2 p j : S2048x1024.Idx) 0).trans ?_
    rw [(at0 t).1]; rfl
  · refine (Pipeline.Window.rect_emb_val win0_0 t (ix2 p j : S2048x1024.Idx) 1).trans ?_
    rw [(at0 t).2]; show 0 * 1024 + j.val = j.val; omega

theorem emb1 (t : Fin cfg0.N) (k : Fin 256) (j : Fin 1024) :
    (win0_1.rect t).emb ((ix2 k j : S256x1024.Idx)) = (ix2 (col t k) j : S1024x1024.Idx) := by
  refine Shape.idx_ext₂ ?_ ?_
  · refine (Pipeline.Window.rect_emb_val win0_1 t (ix2 k j : S256x1024.Idx) 0).trans ?_
    rw [(at1 t).1]; rfl
  · refine (Pipeline.Window.rect_emb_val win0_1 t (ix2 k j : S256x1024.Idx) 1).trans ?_
    rw [(at1 t).2]; show 0 * 1024 + j.val = j.val; omega

theorem emb2 (t : Fin cfg0.N) (p : Fin 2048) (k : Fin 256) :
    (win0_2.rect t).emb ((ix2 p k : S2048x256.Idx)) = (ix2 (row t p) (col t k) : S4096x1024.Idx) := by
  refine Shape.idx_ext₂ ?_ ?_
  · refine (Pipeline.Window.rect_emb_val win0_2 t (ix2 p k : S2048x256.Idx) 0).trans ?_
    rw [(at2 t).1]; rfl
  · refine (Pipeline.Window.rect_emb_val win0_2 t (ix2 p k : S2048x256.Idx) 1).trans ?_
    rw [(at2 t).2]; rfl

theorem emb3 (t : Fin cfg0.N) (p : Fin 2048) (k : Fin 256) :
    (win0_3.rect t).emb ((ix2 p k : S2048x256.Idx)) = (ix2 (row t p) (col t k) : S4096x1024.Idx) := by
  refine Shape.idx_ext₂ ?_ ?_
  · refine (Pipeline.Window.rect_emb_val win0_3 t (ix2 p k : S2048x256.Idx) 0).trans ?_
    rw [(at3 t).1]; rfl
  · refine (Pipeline.Window.rect_emb_val win0_3 t (ix2 p k : S2048x256.Idx) 1).trans ?_
    rw [(at3 t).2]; rfl

theorem emb4 (t : Fin cfg0.N) (p : Fin 2048) (k : Fin 256) :
    (win0_4.rect t).emb ((ix2 p k : S2048x256.Idx)) = (ix2 (row t p) (colA t k) : S4096x5888.Idx) := by
  refine Shape.idx_ext₂ ?_ ?_
  · refine (Pipeline.Window.rect_emb_val win0_4 t (ix2 p k : S2048x256.Idx) 0).trans ?_
    rw [(at4 t).1]; rfl
  · refine (Pipeline.Window.rect_emb_val win0_4 t (ix2 p k : S2048x256.Idx) 1).trans ?_
    rw [(at4 t).2]; show (15 + t.val % 4) * 256 + k.val = 3840 + (t.val % 4 * 256 + k.val); omega

theorem emb5 (t : Fin cfg0.N) (p : Fin 2048) (k : Fin 256) :
    (win0_5.rect t).emb ((ix2 p k : S2048x256.Idx)) = (ix2 (row t p) (colB t k) : S4096x5888.Idx) := by
  refine Shape.idx_ext₂ ?_ ?_
  · refine (Pipeline.Window.rect_emb_val win0_5 t (ix2 p k : S2048x256.Idx) 0).trans ?_
    rw [(at5 t).1]; rfl
  · refine (Pipeline.Window.rect_emb_val win0_5 t (ix2 p k : S2048x256.Idx) 1).trans ?_
    rw [(at5 t).2]; show (19 + t.val % 4) * 256 + k.val = 4864 + (t.val % 4 * 256 + k.val); omega

theorem emb6 (t : Fin cfg0.N) (p : Fin 2048) (k : Fin 256) :
    (win0_6.rect t).emb ((ix2 p k : S2048x256.Idx)) = (ix2 (row t p) (col t k) : S4096x1024.Idx) := by
  refine Shape.idx_ext₂ ?_ ?_
  · refine (Pipeline.Window.rect_emb_val win0_6 t (ix2 p k : S2048x256.Idx) 0).trans ?_
    rw [(at6 t).1]; rfl
  · refine (Pipeline.Window.rect_emb_val win0_6 t (ix2 p k : S2048x256.Idx) 1).trans ?_
    rw [(at6 t).2]; rfl

theorem emb7 (t : Fin cfg0.N) (p : Fin 2048) (k : Fin 256) :
    (win0_7.rect t).emb ((ix2 p k : S2048x256.Idx)) = (ix2 (row t p) (col t k) : S4096x1024.Idx) := by
  refine Shape.idx_ext₂ ?_ ?_
  · refine (Pipeline.Window.rect_emb_val win0_7 t (ix2 p k : S2048x256.Idx) 0).trans ?_
    rw [(at7 t).1]; rfl
  · refine (Pipeline.Window.rect_emb_val win0_7 t (ix2 p k : S2048x256.Idx) 1).trans ?_
    rw [(at7 t).2]; rfl

theorem emb8 (t : Fin cfg0.N) (s : Fin 2) (p : Fin 2048) (k : Fin 256) :
    (win0_8.rect t).emb ((ix3 s p k : S2x2048x256.Idx)) = (ix3 s (row t p) (col t k) : S2x4096x1024.Idx) := by
  refine funext fun a => Fin.ext ?_
  refine (Pipeline.Window.rect_emb_val win0_8 t (ix3 s p k : S2x2048x256.Idx) a).trans ?_
  match a with
  | ⟨0, _⟩ => rw [show win0_8.index t ⟨0, _⟩ = _ from (at8 t).1]; show 0 * 2 + s.val = s.val; omega
  | ⟨1, _⟩ => rw [show win0_8.index t ⟨1, _⟩ = _ from (at8 t).2.1]; rfl
  | ⟨2, _⟩ => rw [show win0_8.index t ⟨2, _⟩ = _ from (at8 t).2.2]; rfl

/-! ## What a block holds -/

section Block
variable (x : Vec Ideal S2048x1024 .bf16) (w : Vec Ideal S256x1024 .bf16) (a b : Vec Ideal S2048x256 .bf16) (u v : Vec Ideal S2048x256 .f32) (p : Fin 2048) (k : Fin 256)

/-- The block's product. -/
def dm : EReal := ∑ j : Fin 1024, x (ix2 p j) * w (ix2 k j)

theorem pay2_apply : k0_pay2 x w (ix2 p k) = dm x w p k := by
  show FloatOps.matmul (F := Ideal) (φ₁ := .bf16) (φ₂ := .bf16) (lasts dot_S2048x1024_S256x1024_S2048x256_1_1_0_0_n_n_wf) none x w (constant S2048x256 .f32 0x00000000#32) (ix2 p k) = _
  rw [lasts_apply]
  show FloatOps.ofBits (F := Ideal) .f32 0x00000000#32 + _ = _
  rw [zero_word, zero_add]
  rfl

theorem out6_apply : out0_6 x w a b u v (ix2 p k) = dm x w p k * Ideal.logistic (u (ix2 p k)) := by
  unfold out0_6
  rw [View.canon_cons_unit_zero (S := S2048x256) hz2, View.ld_unit_zero (S := S2048x1024) hz2, View.ld_unit_zero (S := S256x1024) hz2, View.ld_unit_zero (S := S2048x256) hz2,
    ← pay2_apply]; rfl

theorem out7_apply : out0_7 x w a b u v (ix2 p k) = dm x w p k * Ideal.logistic (v (ix2 p k)) := by
  unfold out0_7
  rw [View.canon_cons_unit_zero (S := S2048x256) hz2, View.ld_unit_zero (S := S2048x1024) hz2, View.ld_unit_zero (S := S256x1024) hz2, View.ld_unit_zero (S := S2048x256) hz2,
    ← pay2_apply]; rfl

theorem out8_zero : out0_8 x w a b u v (ix3 0 p k)
    = dm x w p k * a (ix2 p k) * Ideal.logistic (u (ix2 p k)) * (1 - Ideal.logistic (u (ix2 p k))) := by
  unfold out0_8
  rw [View.ld_unit_zero (S := S2048x1024) hz2, View.ld_unit_zero (S := S256x1024) hz2]
  simp only [View.ld_unit_zero (S := S2048x256) hz2]
  refine (slabs_zero _ _ _ _ p k).trans ?_
  unfold k0_pay7
  refine (shapeCast_ab_1ab_apply _ _ 0 p k).trans ?_
  rw [← pay2_apply, ← one_word']; rfl

theorem out8_one : out0_8 x w a b u v (ix3 1 p k)
    = dm x w p k * b (ix2 p k) * Ideal.logistic (v (ix2 p k)) * (1 - Ideal.logistic (v (ix2 p k))) := by
  unfold out0_8
  rw [View.ld_unit_zero (S := S2048x1024) hz2, View.ld_unit_zero (S := S256x1024) hz2]
  simp only [View.ld_unit_zero (S := S2048x256) hz2]
  refine (slabs_one _ _ _ _ p k).trans ?_
  unfold k0_pay1 k0_pay8
  refine (shapeCast_ab_1ab_apply _ _ 0 p k).trans ?_
  rw [← pay2_apply, ← one_word']; rfl

end Block

/-! ## The reference at an element -/

variable (X : (⟨S4096x1024, .bf16⟩ : BufTy).Contents (Elt Ideal)) (W : (⟨S1024x1024, .bf16⟩ : BufTy).Contents (Elt Ideal))
  (A B : (⟨S4096x1024, .bf16⟩ : BufTy).Contents (Elt Ideal)) (P : (⟨S4096x5888, .f32⟩ : BufTy).Contents (Elt Ideal)) (i : Fin 4096) (k : Fin 1024)

/-- The product with the transposed weight, and the two gates. -/
def prod : EReal := ∑ j : Fin 1024, X (ix2 i j) * W (ix2 k j)
def sA : EReal := Ideal.logistic (P (ix2 i (gateA k)))
def sB : EReal := Ideal.logistic (P (ix2 i (gateB k)))

theorem ref_prod : val_main_v29 (F := Ideal) X W (ix2 i k) = prod X W i k := by
  refine (val_main_v29_apply X W _).trans (Finset.sum_congr rfl fun j _ => ?_)
  rw [val_main_v28_apply, val_main_v26_apply]
  exact congrArg₂ (fun a b : EReal => a * b) (congrArg X (Shape.idx_ext₂ rfl rfl)) (congrArg W (Shape.idx_ext₂ rfl rfl))

theorem ref_sA : val_main_v10 (F := Ideal) P (ix2 i k) = sA P i k := by
  rw [val_main_v10_apply, val_main_v9_apply, val_main_cst_0_apply, val_main_v8_apply, val_main_v7_apply, val_main_cst_apply, one_word', val_main_v6_apply, val_main_v5_apply,
    val_main_v3_apply, val_main_v0_apply]
  exact congrArg (fun j => Ideal.logistic (P j)) (Shape.idx_ext₂ (by simp) (by show _ = 3840 + k.val; simp))

theorem ref_sB : val_main_v20 (F := Ideal) P (ix2 i k) = sB P i k := by
  rw [val_main_v20_apply, val_main_v19_apply, val_main_cst_3_apply, val_main_v18_apply, val_main_v17_apply, val_main_cst_2_apply, one_word', val_main_v16_apply, val_main_v15_apply,
    val_main_v4_apply, val_main_v0_apply]
  exact congrArg (fun j => Ideal.logistic (P j)) (Shape.idx_ext₂ (by simp) (by show _ = 4864 + k.val; simp; show 3840 + (1024 + k.val) = 4864 + k.val; omega))

/-- The reference's three results. -/
def dza : S4096x1024.Idx → EReal := val_main_v36 (F := Ideal) X W P
def dzb : S4096x1024.Idx → EReal := val_main_v37 (F := Ideal) X W P
def dlog : S2x4096x1024.Idx → EReal := val_main_v41 (F := Ideal) X W A B P

theorem dza_apply : dza X W P (ix2 i k) = prod X W i k * sA P i k := by
  unfold dza
  rw [val_main_v36_apply, val_main_v33_apply, ref_sA, ref_prod]
  exact mul_comm _ _

theorem dzb_apply : dzb X W P (ix2 i k) = prod X W i k * sB P i k := by
  unfold dzb
  rw [val_main_v37_apply, val_main_v30_apply, ref_sB, ref_prod]
  exact mul_comm _ _

theorem dlog_zero : dlog X W A B P (ix3 0 i k) = prod X W i k * A (ix2 i k) * sA P i k * (1 - sA P i k) := by
  unfold dlog
  rw [val_main_v41_apply]
  unfold val_main_v40
  refine (concatenate_pair_apply_left (t := S2x4096x1024) (s₁ := Cert.Reference9Ideal.S1x4096x1024) (s₂ := Cert.Reference9Ideal.S1x4096x1024) 0 _ _
    _ (ix3 0 i k) rfl (ix3 0 i k)
    (fun b => by match b with | ⟨0, _⟩ => rfl | ⟨1, _⟩ => rfl | ⟨2, _⟩ => rfl)).trans ?_
  rw [val_main_v38_apply, show idx_main_v38 (ix3 0 i k) = ix2 i k from Shape.idx_ext₂ rfl rfl, val_main_v35_apply, val_main_v34_apply, val_main_v13_apply,
    val_main_v12_apply, val_main_v11_apply, val_main_cst_1_apply, one_word', val_main_v1_apply, ref_sA, ref_prod]
  exact (mul_assoc _ _ _).symm

theorem dlog_one : dlog X W A B P (ix3 1 i k) = prod X W i k * B (ix2 i k) * sB P i k * (1 - sB P i k) := by
  unfold dlog
  rw [val_main_v41_apply]
  unfold val_main_v40
  refine (concatenate_pair_apply_right (t := S2x4096x1024) (s₁ := Cert.Reference9Ideal.S1x4096x1024) (s₂ := Cert.Reference9Ideal.S1x4096x1024) 0 _ _
    _ (ix3 1 i k) rfl rfl (ix3 0 i k)
    (fun b hb => by match b with | ⟨0, _⟩ => exact absurd rfl hb | ⟨1, _⟩ => rfl | ⟨2, _⟩ => rfl) rfl).trans ?_
  rw [val_main_v39_apply, show idx_main_v39 (ix3 0 i k) = ix2 i k from Shape.idx_ext₂ rfl rfl, val_main_v32_apply, val_main_v31_apply, val_main_v23_apply,
    val_main_v22_apply, val_main_v21_apply, val_main_cst_4_apply, one_word', val_main_v2_apply, ref_sB, ref_prod]
  exact (mul_assoc _ _ _).symm

/-! ## The kernel's arrays are the reference's -/

theorem read0 (t : Fin cfg0.N) (p : Fin 2048) (j : Fin 1024) :
    ((cfg0.win 0).blk t).view.read (Elt Ideal) X (ix2 p j : S2048x1024.Idx) = X (ix2 (row t p) j) := congrArg X (emb0 t p j)
theorem read1 (t : Fin cfg0.N) (k : Fin 256) (j : Fin 1024) :
    ((cfg0.win 1).blk t).view.read (Elt Ideal) W (ix2 k j : S256x1024.Idx) = W (ix2 (col t k) j) := congrArg W (emb1 t k j)
theorem read2 (t : Fin cfg0.N) (p : Fin 2048) (k : Fin 256) :
    ((cfg0.win 2).blk t).view.read (Elt Ideal) A (ix2 p k : S2048x256.Idx) = A (ix2 (row t p) (col t k)) := congrArg A (emb2 t p k)
theorem read3 (t : Fin cfg0.N) (p : Fin 2048) (k : Fin 256) :
    ((cfg0.win 3).blk t).view.read (Elt Ideal) B (ix2 p k : S2048x256.Idx) = B (ix2 (row t p) (col t k)) := congrArg B (emb3 t p k)
theorem read4 (t : Fin cfg0.N) (p : Fin 2048) (k : Fin 256) :
    ((cfg0.win 4).blk t).view.read (Elt Ideal) P (ix2 p k : S2048x256.Idx) = P (ix2 (row t p) (gateA (col t k))) := congrArg P (emb4 t p k)
theorem read5 (t : Fin cfg0.N) (p : Fin 2048) (k : Fin 256) :
    ((cfg0.win 5).blk t).view.read (Elt Ideal) P (ix2 p k : S2048x256.Idx) = P (ix2 (row t p) (gateB (col t k))) := congrArg P (emb5 t p k)
theorem put6 (t : Fin cfg0.N) (Z : S4096x1024.Idx → EReal) (p : Fin 2048) (k : Fin 256) :
    ((cfg0.win 6).blk t).view.read (Elt Ideal) Z (ix2 p k : S2048x256.Idx) = Z (ix2 (row t p) (col t k)) := congrArg Z (emb6 t p k)
theorem put7 (t : Fin cfg0.N) (Z : S4096x1024.Idx → EReal) (p : Fin 2048) (k : Fin 256) :
    ((cfg0.win 7).blk t).view.read (Elt Ideal) Z (ix2 p k : S2048x256.Idx) = Z (ix2 (row t p) (col t k)) := congrArg Z (emb7 t p k)
theorem put8 (t : Fin cfg0.N) (Z : S2x4096x1024.Idx → EReal) (s : Fin 2) (p : Fin 2048) (k : Fin 256) :
    ((cfg0.win 8).blk t).view.read (Elt Ideal) Z (ix3 s p k : S2x2048x256.Idx) = Z (ix3 s (row t p) (col t k)) := congrArg Z (emb8 t s p k)
theorem cut6 (t : Fin cfg0.N) (x : Vec Ideal S2048x256 .bf16) : (cfg0.win 6).cut (grid0.coords t) x = x := rfl
theorem cut7 (t : Fin cfg0.N) (x : Vec Ideal S2048x256 .bf16) : (cfg0.win 7).cut (grid0.coords t) x = x := rfl
theorem cut8 (t : Fin cfg0.N) (x : Vec Ideal S2x2048x256 .bf16) : (cfg0.win 8).cut (grid0.coords t) x = x := rfl

theorem dm_eq (t : Fin cfg0.N) (p : Fin 2048) (k : Fin 256) :
    dm (((cfg0.win 0).blk t).view.read (Elt Ideal) X) (((cfg0.win 1).blk t).view.read (Elt Ideal) W) p k = prod X W (row t p) (col t k) :=
  Finset.sum_congr rfl fun j _ => congrArg₂ (fun a b : EReal => a * b) (read0 X t p j) (read1 W t k j)

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := rfl
theorem blk1 (t : Fin cfg0.N) : iblk m c 1 t = ((cfg0.win 1).blk t).view.read (Elt Ideal) (m ((c : Thread nD τ).loc main_arg1)) := rfl
theorem blk2 (t : Fin cfg0.N) : iblk m c 2 t = ((cfg0.win 2).blk t).view.read (Elt Ideal) (m ((c : Thread nD τ).loc main_arg2)) := rfl
theorem blk3 (t : Fin cfg0.N) : iblk m c 3 t = ((cfg0.win 3).blk t).view.read (Elt Ideal) (m ((c : Thread nD τ).loc main_arg3)) := rfl
theorem blk4 (t : Fin cfg0.N) : iblk m c 4 t = ((cfg0.win 4).blk t).view.read (Elt Ideal) (m ((c : Thread nD τ).loc main_arg4)) := rfl
theorem blk5 (t : Fin cfg0.N) : iblk m c 5 t = ((cfg0.win 5).blk t).view.read (Elt Ideal) (m ((c : Thread nD τ).loc main_arg4)) := rfl

/-- The three arrays the kernel must end with. -/
def arrA : S4096x1024.Idx → EReal := dza (m ((c : Thread nD τ).loc main_arg0)) (m ((c : Thread nD τ).loc main_arg1)) (m ((c : Thread nD τ).loc main_arg4))
def arrB : S4096x1024.Idx → EReal := dzb (m ((c : Thread nD τ).loc main_arg0)) (m ((c : Thread nD τ).loc main_arg1)) (m ((c : Thread nD τ).loc main_arg4))
def arrL : S2x4096x1024.Idx → EReal := dlog (m ((c : Thread nD τ).loc main_arg0)) (m ((c : Thread nD τ).loc main_arg1)) (m ((c : Thread nD τ).loc main_arg2)) (m ((c : Thread nD τ).loc main_arg3)) (m ((c : Thread nD τ).loc main_arg4))

theorem flushed6 (t : Fin cfg0.N) : (dats m 0 c).flushed 6 t = ((cfg0.win 6).blk t).view.read (Elt Ideal) (arrA m c) := by
  rw [Value.flushed6, blk0, blk1, blk2, blk3, blk4, blk5]
  refine funext fun (y : S2048x256.Idx) => ?_
  obtain ⟨p, k, rfl⟩ : ∃ (p : Fin 2048) (k : Fin 256), y = ix2 p k := ⟨y 0, y 1, Shape.idx_ext₂ rfl rfl⟩
  refine Eq.trans ?_ (put6 t (arrA m c) p k).symm
  refine (congrFun (cut6 t _) _).trans ?_
  refine (out6_apply _ _ _ _ _ _ p k).trans (Eq.trans ?_ (dza_apply _ _ _ _ _).symm)
  rw [dm_eq, read4]; rfl

theorem flushed7 (t : Fin cfg0.N) : (dats m 0 c).flushed 7 t = ((cfg0.win 7).blk t).view.read (Elt Ideal) (arrB m c) := by
  rw [Value.flushed7, blk0, blk1, blk2, blk3, blk4, blk5]
  refine funext fun (y : S2048x256.Idx) => ?_
  obtain ⟨p, k, rfl⟩ : ∃ (p : Fin 2048) (k : Fin 256), y = ix2 p k := ⟨y 0, y 1, Shape.idx_ext₂ rfl rfl⟩
  refine Eq.trans ?_ (put7 t (arrB m c) p k).symm
  refine (congrFun (cut7 t _) _).trans ?_
  refine (out7_apply _ _ _ _ _ _ p k).trans (Eq.trans ?_ (dzb_apply _ _ _ _ _).symm)
  rw [dm_eq, read5]; rfl

theorem flushed8 (t : Fin cfg0.N) : (dats m 0 c).flushed 8 t = ((cfg0.win 8).blk t).view.read (Elt Ideal) (arrL m c) := by
  rw [Value.flushed8, blk0, blk1, blk2, blk3, blk4, blk5]
  refine funext fun (y : S2x2048x256.Idx) => ?_
  obtain ⟨s, p, k, rfl⟩ : ∃ (s : Fin 2) (p : Fin 2048) (k : Fin 256), y = ix3 s p k :=
    ⟨y 0, y 1, y 2, funext fun a => by match a with | ⟨0, _⟩ => rfl | ⟨1, _⟩ => rfl | ⟨2, _⟩ => rfl⟩
  refine Eq.trans ?_ (put8 t (arrL m c) s p k).symm
  refine (congrFun (cut8 t _) _).trans ?_
  obtain rfl | rfl : s = 0 ∨ s = 1 := by omega
  · refine (out8_zero _ _ _ _ _ _ p k).trans (Eq.trans ?_ (dlog_zero _ _ _ _ _ _ _).symm)
    rw [dm_eq, read2, read4]; rfl
  · refine (out8_one _ _ _ _ _ _ p k).trans (Eq.trans ?_ (dlog_one _ _ _ _ _ _ _).symm)
    rw [dm_eq, read3, read5]; rfl

/-- Every row and column lie in some point's block. -/
theorem covered (i : Fin 4096) (k : Fin 1024) : ∃ s : Fin cfg0.N, (s.val / 4 * 2048 ≤ i.val ∧ i.val < s.val / 4 * 2048 + 2048)
    ∧ (s.val % 4 * 256 ≤ k.val ∧ k.val < s.val % 4 * 256 + 256) := by
  have h0 := i.isLt
  have h1 := k.isLt
  have hN : cfg0.N = 8 := N_0
  refine ⟨⟨i.val / 2048 * 4 + k.val / 256, by omega⟩, ?_⟩
  dsimp only
  omega

theorem final6 : (dats m 0 c).arrAt 6 cfg0.N = arrA m c :=
  (dats m 0 c).arrAt_eq_of_cover 6 (arrA m c) (fun t _ => flushed6 m c t) fun i => by
    obtain ⟨s, hs⟩ := covered (i 0) (i 1)
    refine ⟨s, flush0_6 s, ?_⟩
    show i ∈ ((View.whole main_v0_0).slice (win0_6.rect s)).set
    rw [View.set_slice_whole, Rect.mem_set_unit]
    intro a
    match a with
    | ⟨0, _⟩ => show win0_6.index s 0 * 2048 ≤ _ ∧ _ < win0_6.index s 0 * 2048 + 2048; rw [(at6 s).1]; exact hs.1
    | ⟨1, _⟩ => show win0_6.index s 1 * 256 ≤ _ ∧ _ < win0_6.index s 1 * 256 + 256; rw [(at6 s).2]; exact hs.2

theorem final7 : (dats m 0 c).arrAt 7 cfg0.N = arrB m c :=
  (dats m 0 c).arrAt_eq_of_cover 7 (arrB m c) (fun t _ => flushed7 m c t) fun i => by
    obtain ⟨s, hs⟩ := covered (i 0) (i 1)
    refine ⟨s, flush0_7 s, ?_⟩
    show i ∈ ((View.whole main_v0_1).slice (win0_7.rect s)).set
    rw [View.set_slice_whole, Rect.mem_set_unit]
    intro a
    match a with
    | ⟨0, _⟩ => show win0_7.index s 0 * 2048 ≤ _ ∧ _ < win0_7.index s 0 * 2048 + 2048; rw [(at7 s).1]; exact hs.1
    | ⟨1, _⟩ => show win0_7.index s 1 * 256 ≤ _ ∧ _ < win0_7.index s 1 * 256 + 256; rw [(at7 s).2]; exact hs.2

theorem final8 : (dats m 0 c).arrAt 8 cfg0.N = arrL m c :=
  (dats m 0 c).arrAt_eq_of_cover 8 (arrL m c) (fun t _ => flushed8 m c t) fun i => by
    obtain ⟨s, hs⟩ := covered (i 1) (i 2)
    refine ⟨s, flush0_8 s, ?_⟩
    show i ∈ ((View.whole main_v0_2).slice (win0_8.rect s)).set
    rw [View.set_slice_whole, Rect.mem_set_unit]
    intro a
    match a with
    | ⟨0, _⟩ =>
      show win0_8.index s 0 * 2 ≤ (i 0).val ∧ (i 0).val < win0_8.index s 0 * 2 + 2
      have h0 : (i 0).val < 2 := (i 0).isLt
      rw [(at8 s).1]; omega
    | ⟨1, _⟩ => show win0_8.index s 1 * 2048 ≤ _ ∧ _ < win0_8.index s 1 * 2048 + 2048; rw [(at8 s).2.1]; exact hs.1
    | ⟨2, _⟩ => show win0_8.index s 2 * 256 ≤ _ ∧ _ < win0_8.index s 2 * 256 + 256; rw [(at8 s).2.2]; exact hs.2

end Cert.Kernel9Ideal.Merge
end
-- ==== Proof.MergeClaim.lean ====
module

public import proofs.«01_k».proof.Defs
public import proofs.«01_k».proof.Proof.Merge
public import proofs.«01_k».proof.Proof.Gen.Kernel9Ideal.Frame

/-! The gated branches' gradient and its reference end with the same three arrays. -/

@[expose] public section

noncomputable section

namespace Cert.Merge

open Idealize.ShloMosaic Idealize.ShloMosaic.TcCoe Idealize.SL.Sem
open Cert.Kernel9Ideal.Merge

instance : Cert.Reference9Ideal.Facts := Cert.Reference9Ideal.Gen.facts
instance : Cert.Kernel9Ideal.Facts := Cert.Kernel9Ideal.Gen.facts

theorem algebraic : Cert.algebraic_Kernel9Ideal_Reference9Ideal := by
  intro m g m' g' _ hagree
  refine ⟨fun c => arrA m c, fun c => arrB m c, fun c => arrL m c, ?_, ?_⟩
  · refine (θ_run Cert.Kernel9Ideal.defs _ _).mono (fun _ h c => ?_) (Cert.Kernel9Ideal.Value.run_blocks m g)
    exact ⟨(h c).1.trans (final6 m c), (h c).2.1.trans (final7 m c), (h c).2.2.1.trans (final8 m c), (h c).2.2.2⟩
  · refine (θ_run Cert.Reference9Ideal.defs _ _).mono (fun r h c => ?_) (Cert.Reference9Ideal.Value.run (F := Ideal) m' g')
    obtain ⟨e0, e1, e2, e3, e4⟩ := hagree c
    refine ⟨(h c).1.trans ((Cert.Reference9Ideal.Read.val_main_v36_eq _ _ _).trans ?_), (h c).2.1.trans ((Cert.Reference9Ideal.Read.val_main_v37_eq _ _ _).trans ?_),
      (h c).2.2.1.trans ((Cert.Reference9Ideal.Read.val_main_v41_eq _ _ _ _ _).trans ?_), (h c).2.2.2⟩
    · rw [e0, e1, e4]; rfl
    · rw [e0, e1, e4]; rfl
    · rw [e0, e1, e2, e3, e4]; rfl

end Cert.Merge
end
-- ==== Proof.OutWeight.lean ====
module

public import proofs.«01_k».proof.Proof.DownWeight
public import proofs.«01_k».proof.Proof.Gate
public import proofs.«01_k».proof.Proof.Gen.Kernel10Ideal.Value
public import proofs.«01_k».proof.Proof.Gen.Reference10Ideal.Run
public import proofs.«01_k».proof.Proof.Gen.Reference10Ideal.Read

/-! The gradient of the output projection's weight: one product per block of its rows. -/

@[expose] public section

noncomputable section

namespace Cert.Kernel10Ideal.OutWeight

open Cert.Kernel10Ideal Cert.Kernel10Ideal.Gen Cert.Reference10Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def low (t : Fin cfg0.N) (p : Fin 512) : Fin 1024 := ⟨t.val * 512 + p.val, by have := t.isLt; have : cfg0.N = 2 := N_0; omega⟩

theorem at0 : ∀ t : Fin cfg0.N, win0_0.index t 0 = 0 ∧ win0_0.index t 1 = 0 ∧ win0_0.index t 2 = t.val := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 512) :
    (win0_0.rect t).emb ((ix3 0 k p : S1x4096x512.Idx)) = (ix3 0 k (low t p) : S1x4096x1024.Idx) := by
  refine funext fun a => Fin.ext ?_
  refine (Pipeline.Window.rect_emb_val win0_0 t (ix3 0 k p : S1x4096x512.Idx) a).trans ?_
  match a with
  | ⟨0, _⟩ => rw [show win0_0.index t ⟨0, _⟩ = _ from (at0 t).1]; rfl
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

theorem emb2 (t : Fin cfg0.N) (p : Fin 512) (j : Fin 1024) :
    (win0_2.rect t).emb ((ix2 p j : S512x1024.Idx)) = (ix2 (low t p) j : S1024x1024.Idx) := by
  refine Shape.idx_ext₂ ?_ ?_
  · refine (Pipeline.Window.rect_emb_val win0_2 t (ix2 p j : S512x1024.Idx) 0).trans ?_
    rw [(at2 t).1]; rfl
  · refine (Pipeline.Window.rect_emb_val win0_2 t (ix2 p j : S512x1024.Idx) 1).trans ?_
    rw [(at2 t).2]; show 0 * 1024 + j.val = j.val; omega

/-! ## What a block holds -/

theorem out_apply (x : Vec Ideal S1x4096x512 .bf16) (y : Vec Ideal S4096x1024 .bf16) (p : Fin 512) (j : Fin 1024) :
    out0_2 x y (ix2 p j) = ∑ k : Fin 4096, x (ix3 0 k p) * y (ix2 k j) := by
  unfold out0_2
  rw [View.canon_cons_unit_zero (S := S512x1024) hz2, View.ld_unit_zero (S := S1x4096x512) hz3, View.ld_unit_zero (S := S4096x1024) hz2]
  show FloatOps.matmul (F := Ideal) (firsts dot_S4096x512_S4096x1024_S512x1024_0_0_1_1_n_n_wf) none (shapeCast S4096x512 x shapeCasts_S1x4096x512_S4096x512) y
    (constant S512x1024 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  rw [shapeCast_1ab_ab_apply]

/-! ## The reference at an element -/

variable (X Y : (⟨S4096x1024, .bf16⟩ : BufTy).Contents (Elt Ideal))

/-- The reference's result. -/
def dw : S1024x1024.Idx → EReal := val_main_v6 (F := Ideal) X Y

theorem dw_apply (l : Fin 1024) (j : Fin 1024) : dw X Y (ix2 l j) = ∑ k : Fin 4096, X (ix2 k l) * Y (ix2 k j) := by
  unfold dw
  rw [val_main_v6_apply, val_main_v5_apply]
  refine (val_main_v4_apply X Y _).trans (Finset.sum_congr rfl fun k _ => ?_)
  rw [val_main_v3_apply, val_main_v1_apply]
  refine (mul_comm _ _).trans (congrArg₂ (fun a b : EReal => a * b) ?_ ?_)
  · exact congrArg X (Shape.idx_ext₂ rfl rfl)
  · exact congrArg Y (Shape.idx_ext₂ rfl rfl)

/-! ## The kernel's array is the reference's -/

theorem read0 (t : Fin cfg0.N) (Z : S1x4096x1024.Idx → EReal) (k : Fin 4096) (p : Fin 512) :
    ((cfg0.win 0).blk t).view.read (Elt Ideal) Z (ix3 0 k p : S1x4096x512.Idx) = Z (ix3 0 k (low t p)) := congrArg Z (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (Z : S1024x1024.Idx → EReal) (p : Fin 512) (j : Fin 1024) :
    ((cfg0.win 2).blk t).view.read (Elt Ideal) Z (ix2 p j : S512x1024.Idx) = Z (ix2 (low t p) j) := congrArg Z (emb2 t p j)
theorem cut2 (t : Fin cfg0.N) (x : Vec Ideal S512x1024 .bf16) : (cfg0.win 2).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl

theorem blk0 (t : Fin cfg0.N) : iblk m c 0 t = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t = ((cfg0.win 1).blk t).view.read (Elt Ideal) (m ((c : Thread nD τ).loc main_arg1)) := by
  rw [← V_main_arg1 m c]; rfl

theorem one_apply (Z : S4096x1024.Idx → EReal) (k : Fin 4096) (l : Fin 1024) :
    (broadcastInDim S1x4096x1024 ![1, 2] bcast_S4096x1024_S1x4096x1024_1_2 Z) (ix3 0 k l) = Z (ix2 k l) :=
  congrArg Z (Shape.idx_ext₂ rfl rfl)

theorem flushed (t : Fin cfg0.N) : (dats m 0 c).flushed 2 t
    = ((cfg0.win 2).blk t).view.read (Elt Ideal) (dw (m ((c : Thread nD τ).loc main_arg0)) (m ((c : Thread nD τ).loc main_arg1))) := by
  rw [Value.flushed2, blk0, blk1]
  generalize m ((c : Thread nD τ).loc main_arg0) = X
  generalize m ((c : Thread nD τ).loc main_arg1) = Y
  refine funext fun (y : S512x1024.Idx) => ?_
  obtain ⟨p, j, rfl⟩ : ∃ (p : Fin 512) (j : Fin 1024), y = ix2 p j := ⟨y 0, y 1, Shape.idx_ext₂ rfl rfl⟩
  refine Eq.trans ?_ (put2 t (dw X Y) p j).symm
  refine (congrFun (cut2 t _) _).trans ?_
  rw [dw_apply]
  refine (out_apply _ _ p j).trans (Finset.sum_congr rfl fun k _ => ?_)
  exact congrArg₂ (fun a b : EReal => a * b) ((read0 t _ k p).trans (one_apply X k _)) (read1 Y t k j)

theorem covered (i : S1024x1024.Idx) : ∃ s : Fin cfg0.N, (win0_2.index s 0 * 512 ≤ (i 0).val ∧ (i 0).val < win0_2.index s 0 * 512 + 512)
    ∧ (win0_2.index s 1 * 1024 ≤ (i 1).val ∧ (i 1).val < win0_2.index s 1 * 1024 + 1024) := by
  have h0 : (i 0).val < 1024 := (i 0).isLt
  have h1 : (i 1).val < 1024 := (i 1).isLt
  have hN : cfg0.N = 2 := N_0
  refine ⟨⟨(i 0).val / 512, by omega⟩, ?_⟩
  rw [(at2 _).1, (at2 _).2]
  dsimp only
  omega

theorem final : (dats m 0 c).arrAt 2 cfg0.N = dw (m ((c : Thread nD τ).loc main_arg0)) (m ((c : Thread nD τ).loc main_arg1)) :=
  (dats m 0 c).arrAt_eq_of_cover 2 (dw (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v1).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel10Ideal.OutWeight
end
-- ==== Proof.OutWeightClaim.lean ====
module

public import proofs.«01_k».proof.Defs
public import proofs.«01_k».proof.Proof.OutWeight
public import proofs.«01_k».proof.Proof.Gen.Kernel10Ideal.Frame

/-! The output weight gradient's kernel and its reference end with the same array. -/

@[expose] public section

noncomputable section

namespace Cert.OutWeight

open Idealize.ShloMosaic Idealize.ShloMosaic.TcCoe Idealize.SL.Sem
open Cert.Kernel10Ideal.OutWeight

instance : Cert.Reference10Ideal.Facts := Cert.Reference10Ideal.Gen.facts
instance : Cert.Kernel10Ideal.Facts := Cert.Kernel10Ideal.Gen.facts

theorem algebraic : Cert.algebraic_Kernel10Ideal_Reference10Ideal := by
  intro m g m' g' _ hagree
  refine ⟨fun c => dw (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)), Cert.Kernel10Ideal.OutWeight.run m g, ?_⟩
  refine (θ_run Cert.Reference10Ideal.defs _ _).mono (fun r h c => ?_) (Cert.Reference10Ideal.Value.run (F := Ideal) m' g')
  obtain ⟨e0, e1⟩ := hagree c
  refine ⟨(h c).1.trans ((Cert.Reference10Ideal.Read.val_main_v6_eq _ _).trans ?_), (h c).2⟩
  rw [e0, e1]; rfl

end Cert.OutWeight
end
-- ==== Proof.Out.lean ====
module

public import proofs.«01_k».proof.Proof.Rows
public import proofs.«01_k».proof.Proof.Gate
public import proofs.«01_k».proof.Proof.Gen.Kernel11Ideal.Value
public import proofs.«01_k».proof.Proof.Gen.Reference11Ideal.Run
public import proofs.«01_k».proof.Proof.Gen.Reference11Ideal.Read

/-! The mixer's last call: a product added to the rows, and the rows normalised. -/

@[expose] public section

noncomputable section

namespace Cert.Kernel11Ideal.Out

open Cert.Kernel11Ideal Cert.Kernel11Ideal.Gen Cert.Reference11Ideal.Read Cert.Band Cert.Norm
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def row (t : Fin cfg0.N) (p : Fin 1024) : Fin 4096 := ⟨t.val * 1024 + p.val, by have := t.isLt; have : cfg0.N = 4 := N_0; omega⟩

theorem at0 : ∀ t : Fin cfg0.N, win0_0.index t 0 = 0 ∧ win0_0.index t 1 = t.val ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = 0 ∧ win0_3.index t 1 = 0 := (by decide +kernel : ∀ t : Fin grid0.N, _)
theorem at4 : ∀ t : Fin cfg0.N, win0_4.index t 0 = t.val ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)

theorem emb0 (t : Fin cfg0.N) (p : Fin 1024) (l : Fin 1024) :
    (win0_0.rect t).emb ((ix3 0 p l : S1x1024x1024.Idx)) = (ix3 0 (row t p) l : S1x4096x1024.Idx) := by
  refine funext fun a => Fin.ext ?_
  refine (Pipeline.Window.rect_emb_val win0_0 t (ix3 0 p l : S1x1024x1024.Idx) a).trans ?_
  match a with
  | ⟨0, _⟩ => rw [show win0_0.index t ⟨0, _⟩ = _ from (at0 t).1]; rfl
  | ⟨1, _⟩ => rw [show win0_0.index t ⟨1, _⟩ = _ from (at0 t).2.1]; rfl
  | ⟨2, _⟩ => rw [show win0_0.index t ⟨2, _⟩ = _ from (at0 t).2.2]; show 0 * 1024 + l.val = l.val; omega

theorem emb1 (t : Fin cfg0.N) (l : Fin 1024) (k : Fin 1024) :
    (win0_1.rect t).emb ((ix3 0 l k : S1x1024x1024.Idx)) = (ix3 0 l k : S1x1024x1024.Idx) := by
  refine funext fun a => Fin.ext ?_
  refine (Pipeline.Window.rect_emb_val win0_1 t (ix3 0 l k : S1x1024x1024.Idx) a).trans ?_
  match a with
  | ⟨0, _⟩ => rw [show win0_1.index t ⟨0, _⟩ = _ from (at1 t).1]; rfl
  | ⟨1, _⟩ => rw [show win0_1.index t ⟨1, _⟩ = _ from (at1 t).2.1]; show 0 * 1024 + l.val = l.val; omega
  | ⟨2, _⟩ => rw [show win0_1.index t ⟨2, _⟩ = _ from (at1 t).2.2]; show 0 * 1024 + k.val = k.val; omega

theorem emb2 (t : Fin cfg0.N) (p : Fin 1024) (k : Fin 1024) : (win0_2.rect t).emb ((ix2 p k : S1024x1024.Idx)) = (ix2 (row t p) k : S4096x1024.Idx) := by
  refine Shape.idx_ext₂ ?_ ?_
  · refine (Pipeline.Window.rect_emb_val win0_2 t (ix2 p k : S1024x1024.Idx) 0).trans ?_
    rw [(at2 t).1]; rfl
  · refine (Pipeline.Window.rect_emb_val win0_2 t (ix2 p k : S1024x1024.Idx) 1).trans ?_
    rw [(at2 t).2]; show 0 * 1024 + k.val = k.val; omega

theorem emb3 (t : Fin cfg0.N) (k : Fin 1024) : (win0_3.rect t).emb ((ix2 0 k : S1x1024.Idx)) = (ix2 0 k : S1x1024.Idx) := by
  refine Shape.idx_ext₂ ?_ ?_
  · refine (Pipeline.Window.rect_emb_val win0_3 t (ix2 0 k : S1x1024.Idx) 0).trans ?_
    rw [(at3 t).1]; rfl
  · refine (Pipeline.Window.rect_emb_val win0_3 t (ix2 0 k : S1x1024.Idx) 1).trans ?_
    rw [(at3 t).2]; show 0 * 1024 + k.val = k.val; omega

theorem emb4 (t : Fin cfg0.N) (p : Fin 1024) (k : Fin 1024) : (win0_4.rect t).emb ((ix2 p k : S1024x1024.Idx)) = (ix2 (row t p) k : S4096x1024.Idx) := by
  refine Shape.idx_ext₂ ?_ ?_
  · refine (Pipeline.Window.rect_emb_val win0_4 t (ix2 p k : S1024x1024.Idx) 0).trans ?_
    rw [(at4 t).1]; rfl
  · refine (Pipeline.Window.rect_emb_val win0_4 t (ix2 p k : S1024x1024.Idx) 1).trans ?_
    rw [(at4 t).2]; show 0 * 1024 + k.val = k.val; omega

theorem emb5 (t : Fin cfg0.N) (p : Fin 1024) (k : Fin 1024) : (win0_5.rect t).emb ((ix2 p k : S1024x1024.Idx)) = (ix2 (row t p) k : S4096x1024.Idx) := by
  refine Shape.idx_ext₂ ?_ ?_
  · refine (Pipeline.Window.rect_emb_val win0_5 t (ix2 p k : S1024x1024.Idx) 0).trans ?_
    rw [(at5 t).1]; rfl
  · refine (Pipeline.Window.rect_emb_val win0_5 t (ix2 p k : S1024x1024.Idx) 1).trans ?_
    rw [(at5 t).2]; show 0 * 1024 + k.val = k.val; omega

/-! ## What a block holds -/

section Block
variable (x : Vec Ideal S1x1024x1024 .bf16) (w : Vec Ideal S1x1024x1024 .bf16) (r : Vec Ideal S1024x1024 .f32) (g : Vec Ideal S1x1024 .f32) (p : Fin 1024) (k : Fin 1024)

/-- The block's rows with the product added. -/
def sumAt (p : Fin 1024) (k : Fin 1024) : EReal := r (ix2 p k) + ∑ l : Fin 1024, x (ix3 0 p l) * w (ix3 0 l k)

theorem pay1_apply (p : Fin 1024) (k : Fin 1024) : k0_pay1 x w r (ix2 p k) = sumAt x w r p k := by
  unfold k0_pay1 sumAt
  refine congrArg (r (ix2 p k) + ·) ?_
  refine (Ideal.matmul_plain_apply (M := 1024) (K := 1024) (N := 1024) none _ _ _ p k).trans ?_
  refine (congrArg (· + _) zero_word).trans ?_
  rw [zero_add]
  refine Finset.sum_congr rfl fun l _ => congrArg₂ (fun a b : EReal => a * b) ?_ ?_
  · exact shapeCast_1ab_ab_apply _ _ p l
  · exact shapeCast_1ab_ab_apply _ _ l k

theorem out4_apply : out0_4 x w r g (ix2 p k) = sumAt x w r p k := by
  unfold out0_4
  rw [View.canon_cons_unit_zero (S := S1024x1024) hz2, View.ld_unit_zero (S := S1x1024x1024) hz3, View.ld_unit_zero (S := S1x1024x1024) hz3, View.ld_unit_zero (S := S1024x1024) hz2]
  exact pay1_apply x w r p k

theorem out5_apply : out0_5 x w r g (ix2 p k) = sumAt x w r p k * Norm.rs (sumAt x w r p) * g (ix2 0 k) := by
  unfold out0_5
  rw [View.canon_cons_unit_zero (S := S1024x1024) hz2, View.ld_unit_zero (S := S1x1024x1024) hz3, View.ld_unit_zero (S := S1x1024x1024) hz3, View.ld_unit_zero (S := S1024x1024) hz2,
    View.ld_unit_zero (S := S1x1024) hz2]
  unfold k0_pay2
  refine congrArg₂ (fun a b : EReal => a * b) (congrArg₂ (fun a b : EReal => a * b) (pay1_apply x w r p k) ?_) ?_
  · exact (Rows.col_apply _ _ p k).trans (Rows.scale_apply (v := k0_pay1 x w r) (pay1_apply x w r) _ _ _ _ p)
  · rw [shapeCast_self]
    exact broadcastTo_1b_ab_apply g _ p k

end Block

/-! ## The reference at an element -/

variable (A : (⟨S4096x1024, .bf16⟩ : BufTy).Contents (Elt Ideal)) (W : (⟨S1024x1024, .bf16⟩ : BufTy).Contents (Elt Ideal))
  (R : (⟨S4096x1024, .f32⟩ : BufTy).Contents (Elt Ideal)) (G : (⟨S1024, .f32⟩ : BufTy).Contents (Elt Ideal))

/-- The reference's two results. -/
def sums : S4096x1024.Idx → EReal := val_main_v3 (F := Ideal) A W R
def normed : S4096x1024.Idx → EReal := val_main_v17 (F := Ideal) A W R G

/-- A row with its product added. -/
def sumOf (i : Fin 4096) (k : Fin 1024) : EReal := R (ix2 i k) + ∑ l : Fin 1024, A (ix2 i l) * W (ix2 l k)

theorem sums_apply (i : Fin 4096) (k : Fin 1024) : sums A W R (ix2 i k) = sumOf A W R i k := by
  unfold sums sumOf
  rw [val_main_v3_apply]
  refine congrArg (fun z : EReal => R (ix2 i k) + z) ((val_main_v2_apply A W _).trans (Finset.sum_congr rfl fun l _ => ?_))
  rw [val_main_v0_apply, val_main_v1_apply]
  exact congrArg₂ (fun a b : EReal => a * b) (congrArg A (Shape.idx_ext₂ rfl rfl)) (congrArg W (Shape.idx_ext₂ rfl rfl))

theorem ref_scale (i : Fin 4096) : val_main_v11 (F := Ideal) A W R (ix2 i 0) = Norm.rs (sumOf A W R i) := by
  rw [val_main_v11_apply, val_main_v10_apply, val_main_v8_apply, val_main_v6_apply, val_main_v7_apply, val_main_v9_apply, val_main_cst_0_apply, val_main_cst_1_apply,
    val_main_v5_apply, val_main_cst_apply]
  unfold Norm.rs Norm.ms
  refine congrArg Ideal.rsqrt (congrArg₂ (fun a b : EReal => a + b) (congrArg₂ Ideal.div ?_ len_word) eps_word)
  refine (congrArg (· + _) zero_word).trans ?_
  rw [zero_add]
  refine Finset.sum_congr rfl fun k _ => ?_
  rw [val_main_v4_apply, ← sums_apply]
  exact congrArg (fun j => sums A W R j * sums A W R j) (Shape.idx_ext₂ rfl rfl)

theorem normed_apply (i : Fin 4096) (k : Fin 1024) : normed A W R G (ix2 i k) = sumOf A W R i k * Norm.rs (sumOf A W R i) * G (ix1 k) := by
  unfold normed
  rw [val_main_v17_apply, val_main_v16_apply, val_main_v13_apply, val_main_v12_apply, val_main_v15_apply, val_main_v14_apply, ← sums_apply, ← ref_scale]
  refine congrArg₂ (fun a b : EReal => a * b) (congrArg (fun j => sums A W R (ix2 i k) * val_main_v11 (F := Ideal) A W R j) (Shape.idx_ext₂ rfl rfl)) ?_
  exact congrArg G (funext fun a => Fin.ext (by match a with | ⟨0, _⟩ => rfl))

/-! ## The kernel's arrays are the reference's -/

theorem read0 (t : Fin cfg0.N) (Z : S1x4096x1024.Idx → EReal) (p : Fin 1024) (l : Fin 1024) :
    ((cfg0.win 0).blk t).view.read (Elt Ideal) Z (ix3 0 p l : S1x1024x1024.Idx) = Z (ix3 0 (row t p) l) := congrArg Z (emb0 t p l)
theorem read1 (t : Fin cfg0.N) (Z : S1x1024x1024.Idx → EReal) (l : Fin 1024) (k : Fin 1024) :
    ((cfg0.win 1).blk t).view.read (Elt Ideal) Z (ix3 0 l k : S1x1024x1024.Idx) = Z (ix3 0 l k) := congrArg Z (emb1 t l k)
theorem read2 (t : Fin cfg0.N) (Z : S4096x1024.Idx → EReal) (p : Fin 1024) (k : Fin 1024) :
    ((cfg0.win 2).blk t).view.read (Elt Ideal) Z (ix2 p k : S1024x1024.Idx) = Z (ix2 (row t p) k) := congrArg Z (emb2 t p k)
theorem read3 (t : Fin cfg0.N) (Z : S1x1024.Idx → EReal) (k : Fin 1024) :
    ((cfg0.win 3).blk t).view.read (Elt Ideal) Z (ix2 0 k : S1x1024.Idx) = Z (ix2 0 k) := congrArg Z (emb3 t k)
theorem put4 (t : Fin cfg0.N) (Z : S4096x1024.Idx → EReal) (p : Fin 1024) (k : Fin 1024) :
    ((cfg0.win 4).blk t).view.read (Elt Ideal) Z (ix2 p k : S1024x1024.Idx) = Z (ix2 (row t p) k) := congrArg Z (emb4 t p k)
theorem put5 (t : Fin cfg0.N) (Z : S4096x1024.Idx → EReal) (p : Fin 1024) (k : Fin 1024) :
    ((cfg0.win 5).blk t).view.read (Elt Ideal) Z (ix2 p k : S1024x1024.Idx) = Z (ix2 (row t p) k) := congrArg Z (emb5 t p k)
theorem cut4 (t : Fin cfg0.N) (x : Vec Ideal S1024x1024 .f32) : (cfg0.win 4).cut (grid0.coords t) x = x := rfl
theorem cut5 (t : Fin cfg0.N) (x : Vec Ideal S1024x1024 .bf16) : (cfg0.win 5).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl
theorem V_weight : V m c main_v1 = broadcastInDim S1x1024x1024 ![1, 2] bcast_S1024x1024_S1x1024x1024_1_2 (m ((c : Thread nD τ).loc main_arg1)) := by
  unfold V
  simp only [hostOps0]
  after_results_simp <;> rfl
theorem V_gain : V m c main_v2 = shapeCast S1x1024 (m ((c : Thread nD τ).loc main_arg3)) shapeCasts_S1024_S1x1024 := by
  unfold V
  simp only [hostOps0]
  after_results_simp <;> rfl

theorem blk0 (t : Fin cfg0.N) : iblk m c 0 t
    = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t
    = ((cfg0.win 1).blk t).view.read (Elt Ideal) (broadcastInDim S1x1024x1024 ![1, 2] bcast_S1024x1024_S1x1024x1024_1_2 (m ((c : Thread nD τ).loc main_arg1))) := by
  rw [← V_weight m c]; rfl
theorem blk2 (t : Fin cfg0.N) : iblk m c 2 t = ((cfg0.win 2).blk t).view.read (Elt Ideal) (m ((c : Thread nD τ).loc main_arg2)) := by
  rw [← V_main_arg2 m c]; rfl
theorem blk3 (t : Fin cfg0.N) : iblk m c 3 t = ((cfg0.win 3).blk t).view.read (Elt Ideal) (shapeCast S1x1024 (m ((c : Thread nD τ).loc main_arg3)) shapeCasts_S1024_S1x1024) := by
  rw [← V_gain m c]; rfl

theorem sum_eq (t : Fin cfg0.N) (p : Fin 1024) : sumAt (iblk m c 0 t) (iblk m c 1 t) (iblk m c 2 t) p
    = sumOf (m ((c : Thread nD τ).loc main_arg0)) (m ((c : Thread nD τ).loc main_arg1)) (m ((c : Thread nD τ).loc main_arg2)) (row t p) := by
  refine funext fun k => ?_
  unfold sumAt sumOf
  refine congrArg₂ (fun a b : EReal => a + b) ((congrFun (blk2 m c t) _).trans (read2 t _ p k))
    (Finset.sum_congr rfl fun l _ => congrArg₂ (fun a b : EReal => a * b) ?_ ?_)
  · exact (congrFun (blk0 m c t) _).trans ((read0 t _ p l).trans (congrArg (m ((c : Thread nD τ).loc main_arg0)) (Shape.idx_ext₂ rfl rfl)))
  · exact (congrFun (blk1 m c t) _).trans ((read1 t _ l k).trans (congrArg (m ((c : Thread nD τ).loc main_arg1)) (Shape.idx_ext₂ rfl rfl)))

theorem gain_eq (t : Fin cfg0.N) (k : Fin 1024) : iblk m c 3 t (ix2 0 k : S1x1024.Idx) = m ((c : Thread nD τ).loc main_arg3) (ix1 k : S1024.Idx) :=
  (congrFun (blk3 m c t) _).trans ((read3 t _ k).trans (shapeCast_a_1a_apply _ _ 0 k))

/-- The two arrays the kernel must end with. -/
def sumArr : S4096x1024.Idx → EReal := sums (m ((c : Thread nD τ).loc main_arg0)) (m ((c : Thread nD τ).loc main_arg1)) (m ((c : Thread nD τ).loc main_arg2))
def normArr : S4096x1024.Idx → EReal :=
  normed (m ((c : Thread nD τ).loc main_arg0)) (m ((c : Thread nD τ).loc main_arg1)) (m ((c : Thread nD τ).loc main_arg2)) (m ((c : Thread nD τ).loc main_arg3))

theorem flushed4 (t : Fin cfg0.N) : (dats m 0 c).flushed 4 t = ((cfg0.win 4).blk t).view.read (Elt Ideal) (sumArr m c) := by
  rw [Value.flushed4]
  refine funext fun (y : S1024x1024.Idx) => ?_
  obtain ⟨p, k, rfl⟩ : ∃ (p : Fin 1024) (k : Fin 1024), y = ix2 p k := ⟨y 0, y 1, Shape.idx_ext₂ rfl rfl⟩
  refine Eq.trans ?_ (put4 t (sumArr m c) p k).symm
  refine (congrFun (cut4 t _) _).trans ?_
  refine (out4_apply _ _ _ _ p k).trans ?_
  rw [sum_eq]
  exact (sums_apply _ _ _ _ k).symm

theorem flushed5 (t : Fin cfg0.N) : (dats m 0 c).flushed 5 t = ((cfg0.win 5).blk t).view.read (Elt Ideal) (normArr m c) := by
  rw [Value.flushed5]
  refine funext fun (y : S1024x1024.Idx) => ?_
  obtain ⟨p, k, rfl⟩ : ∃ (p : Fin 1024) (k : Fin 1024), y = ix2 p k := ⟨y 0, y 1, Shape.idx_ext₂ rfl rfl⟩
  refine Eq.trans ?_ (put5 t (normArr m c) p k).symm
  refine (congrFun (cut5 t _) _).trans ?_
  refine (out5_apply _ _ _ _ p k).trans ?_
  rw [sum_eq, gain_eq]
  exact (normed_apply _ _ _ _ _ k).symm

theorem covered4 (i : S4096x1024.Idx) : ∃ s : Fin cfg0.N, (win0_4.index s 0 * 1024 ≤ (i 0).val ∧ (i 0).val < win0_4.index s 0 * 1024 + 1024)
    ∧ (win0_4.index s 1 * 1024 ≤ (i 1).val ∧ (i 1).val < win0_4.index s 1 * 1024 + 1024) := by
  have h0 : (i 0).val < 4096 := (i 0).isLt
  have h1 : (i 1).val < 1024 := (i 1).isLt
  have hN : cfg0.N = 4 := N_0
  refine ⟨⟨(i 0).val / 1024, by omega⟩, ?_⟩
  rw [(at4 _).1, (at4 _).2]
  dsimp only
  omega

theorem covered5 (i : S4096x1024.Idx) : ∃ s : Fin cfg0.N, (win0_5.index s 0 * 1024 ≤ (i 0).val ∧ (i 0).val < win0_5.index s 0 * 1024 + 1024)
    ∧ (win0_5.index s 1 * 1024 ≤ (i 1).val ∧ (i 1).val < win0_5.index s 1 * 1024 + 1024) := by
  obtain ⟨s, hs⟩ := covered4 i
  refine ⟨s, ?_⟩
  rw [(at5 _).1, (at5 _).2, ← (at4 s).1]
  rw [(at4 s).2] at hs
  exact hs

theorem final4 : (dats m 0 c).arrAt 4 cfg0.N = sumArr m c :=
  (dats m 0 c).arrAt_eq_of_cover 4 (sumArr m c) (fun t _ => flushed4 m c t) fun i => by
    obtain ⟨s, hs⟩ := covered4 i
    refine ⟨s, flush0_4 s, ?_⟩
    show i ∈ ((View.whole main_v3_0).slice (win0_4.rect s)).set
    rw [View.set_slice_whole, Rect.mem_set_unit]
    intro a
    match a with
    | ⟨0, _⟩ => exact hs.1
    | ⟨1, _⟩ => exact hs.2

theorem final5 : (dats m 0 c).arrAt 5 cfg0.N = normArr m c :=
  (dats m 0 c).arrAt_eq_of_cover 5 (normArr m c) (fun t _ => flushed5 m c t) fun i => by
    obtain ⟨s, hs⟩ := covered5 i
    refine ⟨s, flush0_5 s, ?_⟩
    show i ∈ ((View.whole main_v3_1).slice (win0_5.rect s)).set
    rw [View.set_slice_whole, Rect.mem_set_unit]
    intro a
    match a with
    | ⟨0, _⟩ => exact hs.1
    | ⟨1, _⟩ => exact hs.2

end Cert.Kernel11Ideal.Out
end
-- ==== Proof.OutClaim.lean ====
module

public import proofs.«01_k».proof.Defs
public import proofs.«01_k».proof.Proof.Out
public import proofs.«01_k».proof.Proof.Gen.Kernel11Ideal.Frame

/-! The mixer's last call and its reference end with the same two arrays. -/

@[expose] public section

noncomputable section

namespace Cert.Out

open Idealize.ShloMosaic Idealize.ShloMosaic.TcCoe Idealize.SL.Sem
open Cert.Kernel11Ideal.Out

instance : Cert.Reference11Ideal.Facts := Cert.Reference11Ideal.Gen.facts
instance : Cert.Kernel11Ideal.Facts := Cert.Kernel11Ideal.Gen.facts

theorem algebraic : Cert.algebraic_Kernel11Ideal_Reference11Ideal := by
  intro m g m' g' _ hagree
  refine ⟨fun c => sumArr m c, fun c => normArr m c, ?_, ?_⟩
  · refine (θ_run Cert.Kernel11Ideal.defs _ _).mono (fun _ h c => ?_) (Cert.Kernel11Ideal.Value.run_blocks m g)
    exact ⟨(h c).1.trans (final4 m c), (h c).2.1.trans (final5 m c), (h c).2.2⟩
  · refine (θ_run Cert.Reference11Ideal.defs _ _).mono (fun r h c => ?_) (Cert.Reference11Ideal.Value.run (F := Ideal) m' g')
    obtain ⟨e0, e1, e2, e3⟩ := hagree c
    refine ⟨(h c).1.trans ((Cert.Reference11Ideal.Read.val_main_v3_eq _ _ _).trans ?_), (h c).2.1.trans ((Cert.Reference11Ideal.Read.val_main_v17_eq _ _ _ _).trans ?_), (h c).2.2⟩
    · rw [e0, e1, e2]; rfl
    · rw [e0, e1, e2, e3]; rfl

end Cert.Out
end
-- ==== Proof.Sum.lean ====
module

public import proofs.«01_k».proof.Proof.Gate
public import proofs.«01_k».proof.Proof.Gen.Kernel12Ideal.Value
public import proofs.«01_k».proof.Proof.Gen.Reference12Ideal.Run
public import proofs.«01_k».proof.Proof.Gen.Reference12Ideal.Read

/-! The gated sum of the two branches: two products per block, each times its gate. -/

@[expose] public section

noncomputable section

namespace Cert.Kernel12Ideal.Sum

open Cert.Kernel12Ideal Cert.Kernel12Ideal.Gen Cert.Reference12Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Row `p` of point `t`'s block, its column `k`, and the two gates' columns for that one. -/
def row (t : Fin cfg0.N) (p : Fin 2048) : Fin 4096 := ⟨t.val / 4 * 2048 + p.val, by have := t.isLt; have : cfg0.N = 8 := N_0; omega⟩
def col (t : Fin cfg0.N) (k : Fin 256) : Fin 1024 := ⟨t.val % 4 * 256 + k.val, by omega⟩
def gateA (k : Fin 1024) : Fin 5888 := ⟨3840 + k.val, by omega⟩
def gateB (k : Fin 1024) : Fin 5888 := ⟨4864 + k.val, by omega⟩

theorem at0 : ∀ t : Fin cfg0.N, win0_0.index t 0 = t.val / 4 ∧ win0_0.index t 1 = 0 := (by decide +kernel : ∀ t : Fin grid0.N, _)
theorem at1 : ∀ t : Fin cfg0.N, win0_1.index t 0 = t.val / 4 ∧ win0_1.index t 1 = 0 := (by decide +kernel : ∀ t : Fin grid0.N, _)
theorem at2 : ∀ t : Fin cfg0.N, win0_2.index t 0 = t.val / 4 ∧ win0_2.index t 1 = 15 + t.val % 4 := (by decide +kernel : ∀ t : Fin grid0.N, _)
theorem at3 : ∀ t : Fin cfg0.N, win0_3.index t 0 = t.val / 4 ∧ win0_3.index t 1 = 19 + t.val % 4 := (by decide +kernel : ∀ t : Fin grid0.N, _)
theorem at4 : ∀ t : Fin cfg0.N, win0_4.index t 0 = t.val % 4 ∧ win0_4.index t 1 = 0 := (by decide +kernel : ∀ t : Fin grid0.N, _)
theorem at5 : ∀ t : Fin cfg0.N, win0_5.index t 0 = t.val % 4 ∧ win0_5.index t 1 = 0 := (by decide +kernel : ∀ t : Fin grid0.N, _)
theorem at6 : ∀ t : Fin cfg0.N, win0_6.index t 0 = t.val / 4 ∧ win0_6.index t 1 = t.val % 4 := (by decide +kernel : ∀ t : Fin grid0.N, _)
theorem at7 : ∀ t : Fin cfg0.N, win0_7.index t 0 = t.val / 4 ∧ win0_7.index t 1 = t.val % 4 := (by decide +kernel : ∀ t : Fin grid0.N, _)
theorem at8 : ∀ t : Fin cfg0.N, win0_8.index t 0 = t.val / 4 ∧ win0_8.index t 1 = t.val % 4 := (by decide +kernel : ∀ t : Fin grid0.N, _)

theorem emb0 (t : Fin cfg0.N) (p : Fin 2048) (k : Fin 256) :
    (win0_0.rect t).emb ((ix2 p k : S2048x256.Idx)) = (ix2 (row t p) k : S4096x256.Idx) := by
  refine Shape.idx_ext₂ ?_ ?_
  · refine (Pipeline.Window.rect_emb_val win0_0 t (ix2 p k : S2048x256.Idx) 0).trans ?_
    rw [(at0 t).1]; rfl
  · refine (Pipeline.Window.rect_emb_val win0_0 t (ix2 p k : S2048x256.Idx) 1).trans ?_
    rw [(at0 t).2]; show 0 * 256 + k.val = k.val; omega

theorem emb1 (t : Fin cfg0.N) (p : Fin 2048) (k : Fin 512) :
    (win0_1.rect t).emb ((ix2 p k : S2048x512.Idx)) = (ix2 (row t p) k : S4096x512.Idx) := by
  refine Shape.idx_ext₂ ?_ ?_
  · refine (Pipeline.Window.rect_emb_val win0_1 t (ix2 p k : S2048x512.Idx) 0).trans ?_
    rw [(at1 t).1]; rfl
  · refine (Pipeline.Window.rect_emb_val win0_1 t (ix2 p k : S2048x512.Idx) 1).trans ?_
    rw [(at1 t).2]; show 0 * 512 + k.val = k.val; omega

theorem emb2 (t : Fin cfg0.N) (p : Fin 2048) (k : Fin 256) :
    (win0_2.rect t).emb ((ix2 p k : S2048x256.Idx)) = (ix2 (row t p) (gateA (col t k)) : S4096x5888.Idx) := by
  refine Shape.idx_ext₂ ?_ ?_
  · refine (Pipeline.Window.rect_emb_val win0_2 t (ix2 p k : S2048x256.Idx) 0).trans ?_
    rw [(at2 t).1]; rfl
  · refine (Pipeline.Window.rect_emb_val win0_2 t (ix2 p k : S2048x256.Idx) 1).trans ?_
    rw [(at2 t).2]; show (15 + t.val % 4) * 256 + k.val = 3840 + (t.val % 4 * 256 + k.val); omega

theorem emb3 (t : Fin cfg0.N) (p : Fin 2048) (k : Fin 256) :
    (win0_3.rect t).emb ((ix2 p k : S2048x256.Idx)) = (ix2 (row t p) (gateB (col t k)) : S4096x5888.Idx) := by
  refine Shape.idx_ext₂ ?_ ?_
  · refine (Pipeline.Window.rect_emb_val win0_3 t (ix2 p k : S2048x256.Idx) 0).trans ?_
    rw [(at3 t).1]; rfl
  · refine (Pipeline.Window.rect_emb_val win0_3 t (ix2 p k : S2048x256.Idx) 1).trans ?_
    rw [(at3 t).2]; show (19 + t.val % 4) * 256 + k.val = 4864 + (t.val % 4 * 256 + k.val); omega

theorem emb4 (t : Fin cfg0.N) (p : Fin 256) (k : Fin 256) :
    (win0_4.rect t).emb ((ix2 p k : S256x256.Idx)) = (ix2 (col t p) k : S1024x256.Idx) := by
  refine Shape.idx_ext₂ ?_ ?_
  · refine (Pipeline.Window.rect_emb_val win0_4 t (ix2 p k : S256x256.Idx) 0).trans ?_
    rw [(at4 t).1]; rfl
  · refine (Pipeline.Window.rect_emb_val win0_4 t (ix2 p k : S256x256.Idx) 1).trans ?_
    rw [(at4 t).2]; show 0 * 256 + k.val = k.val; omega

theorem emb5 (t : Fin cfg0.N) (p : Fin 256) (k : Fin 512) :
    (win0_5.rect t).emb ((ix2 p k : S256x512.Idx)) = (ix2 (col t p) k : S1024x512.Idx) := by
  refine Shape.idx_ext₂ ?_ ?_
  · refine (Pipeline.Window.rect_emb_val win0_5 t (ix2 p k : S256x512.Idx) 0).trans ?_
    rw [(at5 t).1]; rfl
  · refine (Pipeline.Window.rect_emb_val win0_5 t (ix2 p k : S256x512.Idx) 1).trans ?_
    rw [(at5 t).2]; show 0 * 512 + k.val = k.val; omega

theorem emb6 (t : Fin cfg0.N) (p : Fin 2048) (k : Fin 256) :
    (win0_6.rect t).emb ((ix2 p k : S2048x256.Idx)) = (ix2 (row t p) (col t k) : S4096x1024.Idx) := by
  refine Shape.idx_ext₂ ?_ ?_
  · refine (Pipeline.Window.rect_emb_val win0_6 t (ix2 p k : S2048x256.Idx) 0).trans ?_
    rw [(at6 t).1]; rfl
  · refine (Pipeline.Window.rect_emb_val win0_6 t (ix2 p k : S2048x256.Idx) 1).trans ?_
    rw [(at6 t).2]; rfl

theorem emb7 (t : Fin cfg0.N) (p : Fin 2048) (k : Fin 256) :
    (win0_7.rect t).emb ((ix2 p k : S2048x256.Idx)) = (ix2 (row t p) (col t k) : S4096x1024.Idx) := by
  refine Shape.idx_ext₂ ?_ ?_
  · refine (Pipeline.Window.rect_emb_val win0_7 t (ix2 p k : S2048x256.Idx) 0).trans ?_
    rw [(at7 t).1]; rfl
  · refine (Pipeline.Window.rect_emb_val win0_7 t (ix2 p k : S2048x256.Idx) 1).trans ?_
    rw [(at7 t).2]; rfl

theorem emb8 (t : Fin cfg0.N) (p : Fin 2048) (k : Fin 256) :
    (win0_8.rect t).emb ((ix2 p k : S2048x256.Idx)) = (ix2 (row t p) (col t k) : S4096x1024.Idx) := by
  refine Shape.idx_ext₂ ?_ ?_
  · refine (Pipeline.Window.rect_emb_val win0_8 t (ix2 p k : S2048x256.Idx) 0).trans ?_
    rw [(at8 t).1]; rfl
  · refine (Pipeline.Window.rect_emb_val win0_8 t (ix2 p k : S2048x256.Idx) 1).trans ?_
    rw [(at8 t).2]; rfl

/-! ## What a block holds -/

section Block
variable (x : Vec Ideal S2048x256 .f32) (y : Vec Ideal S2048x512 .f32) (u v : Vec Ideal S2048x256 .f32) (a : Vec Ideal S256x256 .bf16) (b : Vec Ideal S256x512 .bf16)
  (p : Fin 2048) (k : Fin 256)

/-- The block's two products. -/
def za : EReal := ∑ j : Fin 256, x (ix2 p j) * a (ix2 k j)
def zb : EReal := ∑ j : Fin 512, y (ix2 p j) * b (ix2 k j)

theorem pay1_apply : k0_pay1 x a (ix2 p k) = za x a p k := by
  show FloatOps.matmul (F := Ideal) (φ₁ := .bf16) (φ₂ := .bf16) (lasts dot_S2048x256_S256x256_S2048x256_1_1_0_0_n_n_wf) none x a (constant S2048x256 .f32 0x00000000#32) (ix2 p k) = _
  rw [lasts_apply]
  show FloatOps.ofBits (F := Ideal) .f32 0x00000000#32 + _ = _
  rw [zero_word, zero_add]
  rfl

theorem pay2_apply : k0_pay2 y b (ix2 p k) = zb y b p k := by
  show FloatOps.matmul (F := Ideal) (φ₁ := .bf16) (φ₂ := .bf16) (lasts dot_S2048x512_S256x512_S2048x256_1_1_0_0_n_n_wf) none y b (constant S2048x256 .f32 0x00000000#32) (ix2 p k) = _
  rw [lasts_apply]
  show FloatOps.ofBits (F := Ideal) .f32 0x00000000#32 + _ = _
  rw [zero_word, zero_add]
  rfl

theorem out6_apply : out0_6 x y u v a b (ix2 p k) = Ideal.logistic (u (ix2 p k)) * za x a p k + Ideal.logistic (v (ix2 p k)) * zb y b p k := by
  unfold out0_6
  rw [View.canon_cons_unit_zero (S := S2048x256) hz2, View.ld_unit_zero (S := S2048x512) hz2, View.ld_unit_zero (S := S256x256) hz2, View.ld_unit_zero (S := S256x512) hz2]
  simp only [View.ld_unit_zero (S := S2048x256) hz2]
  rw [← pay1_apply, ← pay2_apply]; rfl

theorem out7_apply : out0_7 x y u v a b (ix2 p k) = za x a p k := by
  unfold out0_7
  rw [View.canon_cons_unit_zero (S := S2048x256) hz2, View.ld_unit_zero (S := S2048x256) hz2, View.ld_unit_zero (S := S256x256) hz2, ← pay1_apply]; rfl

theorem out8_apply : out0_8 x y u v a b (ix2 p k) = zb y b p k := by
  unfold out0_8
  rw [View.canon_cons_unit_zero (S := S2048x256) hz2, View.ld_unit_zero (S := S2048x512) hz2, View.ld_unit_zero (S := S256x512) hz2, ← pay2_apply]; rfl

end Block

/-! ## The reference at an element -/

variable (X : (⟨S4096x256, .f32⟩ : BufTy).Contents (Elt Ideal)) (Y : (⟨S4096x512, .f32⟩ : BufTy).Contents (Elt Ideal))
  (P : (⟨S4096x5888, .f32⟩ : BufTy).Contents (Elt Ideal)) (A : (⟨S1024x256, .bf16⟩ : BufTy).Contents (Elt Ideal))
  (B : (⟨S1024x512, .bf16⟩ : BufTy).Contents (Elt Ideal)) (i : Fin 4096) (k : Fin 1024)

/-- The products with the transposed weights, and the two gates. -/
def pA : EReal := ∑ j : Fin 256, X (ix2 i j) * A (ix2 k j)
def pB : EReal := ∑ j : Fin 512, Y (ix2 i j) * B (ix2 k j)
def sA : EReal := Ideal.logistic (P (ix2 i (gateA k)))
def sB : EReal := Ideal.logistic (P (ix2 i (gateB k)))

theorem ref_pA : val_main_v2 (F := Ideal) X A (ix2 i k) = pA X A i k := by
  refine (val_main_v2_apply X A _).trans (Finset.sum_congr rfl fun j _ => ?_)
  rw [val_main_v1_apply, val_main_v0_apply]
  exact congrArg₂ (fun a b : EReal => a * b) (congrArg X (Shape.idx_ext₂ rfl rfl)) (congrArg A (Shape.idx_ext₂ rfl rfl))

theorem ref_pB : val_main_v5 (F := Ideal) Y B (ix2 i k) = pB Y B i k := by
  refine (val_main_v5_apply Y B _).trans (Finset.sum_congr rfl fun j _ => ?_)
  rw [val_main_v4_apply, val_main_v3_apply]
  exact congrArg₂ (fun a b : EReal => a * b) (congrArg Y (Shape.idx_ext₂ rfl rfl)) (congrArg B (Shape.idx_ext₂ rfl rfl))

theorem ref_sA : val_main_v13 (F := Ideal) P (ix2 i k) = sA P i k := by
  rw [val_main_v13_apply, val_main_v12_apply, val_main_cst_0_apply, val_main_v11_apply, val_main_v10_apply, val_main_cst_apply, one_word', val_main_v9_apply, val_main_v8_apply,
    val_main_v7_apply, val_main_v6_apply]
  exact congrArg (fun j => Ideal.logistic (P j)) (Shape.idx_ext₂ (by simp) (by show _ = 3840 + k.val; simp))

theorem ref_sB : val_main_v21 (F := Ideal) P (ix2 i k) = sB P i k := by
  rw [val_main_v21_apply, val_main_v20_apply, val_main_cst_2_apply, val_main_v19_apply, val_main_v18_apply, val_main_cst_1_apply, one_word', val_main_v17_apply, val_main_v16_apply,
    val_main_v15_apply, val_main_v6_apply]
  exact congrArg (fun j => Ideal.logistic (P j)) (Shape.idx_ext₂ (by simp) (by show _ = 4864 + k.val; simp; show 3840 + (1024 + k.val) = 4864 + k.val; omega))

/-- The reference's three results. -/
def merged : S4096x1024.Idx → EReal := val_main_v24 (F := Ideal) X Y P A B
def left : S4096x1024.Idx → EReal := val_main_v25 (F := Ideal) X A
def right : S4096x1024.Idx → EReal := val_main_v26 (F := Ideal) Y B

theorem merged_apply : merged X Y P A B (ix2 i k) = sA P i k * pA X A i k + sB P i k * pB Y B i k := by
  unfold merged
  rw [val_main_v24_apply, val_main_v23_apply, val_main_v14_apply, val_main_v22_apply, ref_sA, ref_sB, ref_pA, ref_pB]; rfl

theorem left_apply : left X A (ix2 i k) = pA X A i k := by
  unfold left
  rw [val_main_v25_apply, ref_pA]; rfl

theorem right_apply : right Y B (ix2 i k) = pB Y B i k := by
  unfold right
  rw [val_main_v26_apply, ref_pB]; rfl

/-! ## The kernel's arrays are the reference's -/

theorem read0 (t : Fin cfg0.N) (p : Fin 2048) (k : Fin 256) :
    ((cfg0.win 0).blk t).view.read (Elt Ideal) X (ix2 p k : S2048x256.Idx) = X (ix2 (row t p) k) := congrArg X (emb0 t p k)
theorem read1 (t : Fin cfg0.N) (p : Fin 2048) (k : Fin 512) :
    ((cfg0.win 1).blk t).view.read (Elt Ideal) Y (ix2 p k : S2048x512.Idx) = Y (ix2 (row t p) k) := congrArg Y (emb1 t p k)
theorem read2 (t : Fin cfg0.N) (p : Fin 2048) (k : Fin 256) :
    ((cfg0.win 2).blk t).view.read (Elt Ideal) P (ix2 p k : S2048x256.Idx) = P (ix2 (row t p) (gateA (col t k))) := congrArg P (emb2 t p k)
theorem read3 (t : Fin cfg0.N) (p : Fin 2048) (k : Fin 256) :
    ((cfg0.win 3).blk t).view.read (Elt Ideal) P (ix2 p k : S2048x256.Idx) = P (ix2 (row t p) (gateB (col t k))) := congrArg P (emb3 t p k)
theorem read4 (t : Fin cfg0.N) (p : Fin 256) (k : Fin 256) :
    ((cfg0.win 4).blk t).view.read (Elt Ideal) A (ix2 p k : S256x256.Idx) = A (ix2 (col t p) k) := congrArg A (emb4 t p k)
theorem read5 (t : Fin cfg0.N) (p : Fin 256) (k : Fin 512) :
    ((cfg0.win 5).blk t).view.read (Elt Ideal) B (ix2 p k : S256x512.Idx) = B (ix2 (col t p) k) := congrArg B (emb5 t p k)
theorem put6 (t : Fin cfg0.N) (Z : S4096x1024.Idx → EReal) (p : Fin 2048) (k : Fin 256) :
    ((cfg0.win 6).blk t).view.read (Elt Ideal) Z (ix2 p k : S2048x256.Idx) = Z (ix2 (row t p) (col t k)) := congrArg Z (emb6 t p k)
theorem cut6 (t : Fin cfg0.N) (x : Vec Ideal S2048x256 .bf16) : (cfg0.win 6).cut (grid0.coords t) x = x := rfl
theorem put7 (t : Fin cfg0.N) (Z : S4096x1024.Idx → EReal) (p : Fin 2048) (k : Fin 256) :
    ((cfg0.win 7).blk t).view.read (Elt Ideal) Z (ix2 p k : S2048x256.Idx) = Z (ix2 (row t p) (col t k)) := congrArg Z (emb7 t p k)
theorem cut7 (t : Fin cfg0.N) (x : Vec Ideal S2048x256 .bf16) : (cfg0.win 7).cut (grid0.coords t) x = x := rfl
theorem put8 (t : Fin cfg0.N) (Z : S4096x1024.Idx → EReal) (p : Fin 2048) (k : Fin 256) :
    ((cfg0.win 8).blk t).view.read (Elt Ideal) Z (ix2 p k : S2048x256.Idx) = Z (ix2 (row t p) (col t k)) := congrArg Z (emb8 t p k)
theorem cut8 (t : Fin cfg0.N) (x : Vec Ideal S2048x256 .bf16) : (cfg0.win 8).cut (grid0.coords t) x = x := rfl

theorem za_eq (t : Fin cfg0.N) (p : Fin 2048) (k : Fin 256) :
    za (((cfg0.win 0).blk t).view.read (Elt Ideal) X) (((cfg0.win 4).blk t).view.read (Elt Ideal) A) p k = pA X A (row t p) (col t k) :=
  Finset.sum_congr rfl fun j _ => congrArg₂ (fun a b : EReal => a * b) (read0 X t p j) (read4 A t k j)

theorem zb_eq (t : Fin cfg0.N) (p : Fin 2048) (k : Fin 256) :
    zb (((cfg0.win 1).blk t).view.read (Elt Ideal) Y) (((cfg0.win 5).blk t).view.read (Elt Ideal) B) p k = pB Y B (row t p) (col t k) :=
  Finset.sum_congr rfl fun j _ => congrArg₂ (fun a b : EReal => a * b) (read1 Y t p j) (read5 B t k j)

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := rfl
theorem blk1 (t : Fin cfg0.N) : iblk m c 1 t = ((cfg0.win 1).blk t).view.read (Elt Ideal) (m ((c : Thread nD τ).loc main_arg1)) := rfl
theorem blk2 (t : Fin cfg0.N) : iblk m c 2 t = ((cfg0.win 2).blk t).view.read (Elt Ideal) (m ((c : Thread nD τ).loc main_arg2)) := rfl
theorem blk3 (t : Fin cfg0.N) : iblk m c 3 t = ((cfg0.win 3).blk t).view.read (Elt Ideal) (m ((c : Thread nD τ).loc main_arg2)) := rfl
theorem blk4 (t : Fin cfg0.N) : iblk m c 4 t = ((cfg0.win 4).blk t).view.read (Elt Ideal) (m ((c : Thread nD τ).loc main_arg3)) := rfl
theorem blk5 (t : Fin cfg0.N) : iblk m c 5 t = ((cfg0.win 5).blk t).view.read (Elt Ideal) (m ((c : Thread nD τ).loc main_arg4)) := rfl

/-- The three arrays the kernel must end with. -/
def arrM : S4096x1024.Idx → EReal := merged (m ((c : Thread nD τ).loc main_arg0)) (m ((c : Thread nD τ).loc main_arg1)) (m ((c : Thread nD τ).loc main_arg2)) (m ((c : Thread nD τ).loc main_arg3)) (m ((c : Thread nD τ).loc main_arg4))
def arrA : S4096x1024.Idx → EReal := left (m ((c : Thread nD τ).loc main_arg0)) (m ((c : Thread nD τ).loc main_arg3))
def arrB : S4096x1024.Idx → EReal := right (m ((c : Thread nD τ).loc main_arg1)) (m ((c : Thread nD τ).loc main_arg4))

theorem flushed6 (t : Fin cfg0.N) : (dats m 0 c).flushed 6 t = ((cfg0.win 6).blk t).view.read (Elt Ideal) (arrM m c) := by
  rw [Value.flushed6, blk0, blk1, blk2, blk3, blk4, blk5]
  refine funext fun (y : S2048x256.Idx) => ?_
  obtain ⟨p, k, rfl⟩ : ∃ (p : Fin 2048) (k : Fin 256), y = ix2 p k := ⟨y 0, y 1, Shape.idx_ext₂ rfl rfl⟩
  refine Eq.trans ?_ (put6 t (arrM m c) p k).symm
  refine (congrFun (cut6 t _) _).trans ?_
  refine (out6_apply _ _ _ _ _ _ p k).trans (Eq.trans ?_ (merged_apply _ _ _ _ _ _ _).symm)
  rw [za_eq, zb_eq, read2, read3]; rfl

theorem flushed7 (t : Fin cfg0.N) : (dats m 0 c).flushed 7 t = ((cfg0.win 7).blk t).view.read (Elt Ideal) (arrA m c) := by
  rw [Value.flushed7, blk0, blk1, blk2, blk3, blk4, blk5]
  refine funext fun (y : S2048x256.Idx) => ?_
  obtain ⟨p, k, rfl⟩ : ∃ (p : Fin 2048) (k : Fin 256), y = ix2 p k := ⟨y 0, y 1, Shape.idx_ext₂ rfl rfl⟩
  refine Eq.trans ?_ (put7 t (arrA m c) p k).symm
  refine (congrFun (cut7 t _) _).trans ?_
  refine (out7_apply _ _ _ _ _ _ p k).trans (Eq.trans ?_ (left_apply _ _ _ _).symm)
  rw [za_eq]

theorem flushed8 (t : Fin cfg0.N) : (dats m 0 c).flushed 8 t = ((cfg0.win 8).blk t).view.read (Elt Ideal) (arrB m c) := by
  rw [Value.flushed8, blk0, blk1, blk2, blk3, blk4, blk5]
  refine funext fun (y : S2048x256.Idx) => ?_
  obtain ⟨p, k, rfl⟩ : ∃ (p : Fin 2048) (k : Fin 256), y = ix2 p k := ⟨y 0, y 1, Shape.idx_ext₂ rfl rfl⟩
  refine Eq.trans ?_ (put8 t (arrB m c) p k).symm
  refine (congrFun (cut8 t _) _).trans ?_
  refine (out8_apply _ _ _ _ _ _ p k).trans (Eq.trans ?_ (right_apply _ _ _ _).symm)
  rw [zb_eq]

/-- Every row and column lie in some point's block. -/
theorem covered (i : Fin 4096) (k : Fin 1024) : ∃ s : Fin cfg0.N, (s.val / 4 * 2048 ≤ i.val ∧ i.val < s.val / 4 * 2048 + 2048)
    ∧ (s.val % 4 * 256 ≤ k.val ∧ k.val < s.val % 4 * 256 + 256) := by
  have h0 := i.isLt
  have h1 := k.isLt
  have hN : cfg0.N = 8 := N_0
  refine ⟨⟨i.val / 2048 * 4 + k.val / 256, by omega⟩, ?_⟩
  dsimp only
  omega

theorem final6 : (dats m 0 c).arrAt 6 cfg0.N = arrM m c :=
  (dats m 0 c).arrAt_eq_of_cover 6 (arrM m c) (fun t _ => flushed6 m c t) fun i => by
    obtain ⟨s, hs⟩ := covered (i 0) (i 1)
    refine ⟨s, flush0_6 s, ?_⟩
    show i ∈ ((View.whole main_v0_0).slice (win0_6.rect s)).set
    rw [View.set_slice_whole, Rect.mem_set_unit]
    intro a
    match a with
    | ⟨0, _⟩ => show win0_6.index s 0 * 2048 ≤ _ ∧ _ < win0_6.index s 0 * 2048 + 2048; rw [(at6 s).1]; exact hs.1
    | ⟨1, _⟩ => show win0_6.index s 1 * 256 ≤ _ ∧ _ < win0_6.index s 1 * 256 + 256; rw [(at6 s).2]; exact hs.2

theorem final7 : (dats m 0 c).arrAt 7 cfg0.N = arrA m c :=
  (dats m 0 c).arrAt_eq_of_cover 7 (arrA m c) (fun t _ => flushed7 m c t) fun i => by
    obtain ⟨s, hs⟩ := covered (i 0) (i 1)
    refine ⟨s, flush0_7 s, ?_⟩
    show i ∈ ((View.whole main_v0_1).slice (win0_7.rect s)).set
    rw [View.set_slice_whole, Rect.mem_set_unit]
    intro a
    match a with
    | ⟨0, _⟩ => show win0_7.index s 0 * 2048 ≤ _ ∧ _ < win0_7.index s 0 * 2048 + 2048; rw [(at7 s).1]; exact hs.1
    | ⟨1, _⟩ => show win0_7.index s 1 * 256 ≤ _ ∧ _ < win0_7.index s 1 * 256 + 256; rw [(at7 s).2]; exact hs.2

theorem final8 : (dats m 0 c).arrAt 8 cfg0.N = arrB m c :=
  (dats m 0 c).arrAt_eq_of_cover 8 (arrB m c) (fun t _ => flushed8 m c t) fun i => by
    obtain ⟨s, hs⟩ := covered (i 0) (i 1)
    refine ⟨s, flush0_8 s, ?_⟩
    show i ∈ ((View.whole main_v0_2).slice (win0_8.rect s)).set
    rw [View.set_slice_whole, Rect.mem_set_unit]
    intro a
    match a with
    | ⟨0, _⟩ => show win0_8.index s 0 * 2048 ≤ _ ∧ _ < win0_8.index s 0 * 2048 + 2048; rw [(at8 s).1]; exact hs.1
    | ⟨1, _⟩ => show win0_8.index s 1 * 256 ≤ _ ∧ _ < win0_8.index s 1 * 256 + 256; rw [(at8 s).2]; exact hs.2

end Cert.Kernel12Ideal.Sum
end
-- ==== Proof.SumClaim.lean ====
module

public import proofs.«01_k».proof.Defs
public import proofs.«01_k».proof.Proof.Sum
public import proofs.«01_k».proof.Proof.Gen.Kernel12Ideal.Frame

/-! The gated branches' sum and its reference end with the same three arrays. -/

@[expose] public section

noncomputable section

namespace Cert.Sum

open Idealize.ShloMosaic Idealize.ShloMosaic.TcCoe Idealize.SL.Sem
open Cert.Kernel12Ideal.Sum

instance : Cert.Reference12Ideal.Facts := Cert.Reference12Ideal.Gen.facts
instance : Cert.Kernel12Ideal.Facts := Cert.Kernel12Ideal.Gen.facts

theorem algebraic : Cert.algebraic_Kernel12Ideal_Reference12Ideal := by
  intro m g m' g' _ hagree
  refine ⟨fun c => arrM m c, fun c => arrA m c, fun c => arrB m c, ?_, ?_⟩
  · refine (θ_run Cert.Kernel12Ideal.defs _ _).mono (fun _ h c => ?_) (Cert.Kernel12Ideal.Value.run_blocks m g)
    exact ⟨(h c).1.trans (final6 m c), (h c).2.1.trans (final7 m c), (h c).2.2.1.trans (final8 m c), (h c).2.2.2⟩
  · refine (θ_run Cert.Reference12Ideal.defs _ _).mono (fun r h c => ?_) (Cert.Reference12Ideal.Value.run (F := Ideal) m' g')
    obtain ⟨e0, e1, e2, e3, e4⟩ := hagree c
    refine ⟨(h c).1.trans ((Cert.Reference12Ideal.Read.val_main_v24_eq _ _ _ _ _).trans ?_), (h c).2.1.trans ((Cert.Reference12Ideal.Read.val_main_v25_eq _ _).trans ?_),
      (h c).2.2.1.trans ((Cert.Reference12Ideal.Read.val_main_v26_eq _ _).trans ?_), (h c).2.2.2⟩
    · rw [e0, e1, e2, e3, e4]; rfl
    · rw [e0, e3]; rfl
    · rw [e1, e4]; rfl

end Cert.Sum
end
-- ==== Proof.Turn.lean ====
module

public import proofs.«01_k».proof.Proof.Gen.Kernel13Ideal.Value
public import Idealize.ShloMosaic.Lib.Tactic

/-! What one grid point leaves in the block of projections. -/

@[expose] public section

noncomputable section

namespace Cert.Kernel13Ideal.Body

open Cert.Kernel13Ideal Cert.Kernel13Ideal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

variable (x : Vec F S1024x1024 .bf16) (w : Vec F S2944x1024 .bf16) (cs : Vec F S1024x128 .f32) (sn : Vec F S1024x128 .f32)

variable (c : Dev nD) (i : grid0.Coords) (a2 : Memref sig .tc .vmem S1024x1024 .bf16) (h2 : a2.IsWhole) (a3 : Memref sig .tc .vmem S2944x1024 .bf16) (h3 : a3.IsWhole)
  (a4 : Memref sig .tc .vmem S1024x128 .f32) (h4 : a4.IsWhole) (a5 : Memref sig .tc .vmem S1024x128 .f32) (h5 : a5.IsWhole) (a6 : Memref sig .tc .vmem S1024x2944 .f32) (h6 : a6.IsWhole)

theorem out_B_4 (hc : ¬cond0_0 i) : out0_B_4 c i a2 h2 a3 h3 a4 h4 a5 h5 a6 h6 hc x w cs sn = k0_pay1 x w := by
  unfold out0_B_4
  rw [View.read_writes_eq_canon _ _ _ (cover0_B_4 c i a2 h2 a3 h3 a4 h4 a5 h5 a6 h6 hc x w cs sn)]
  unfold kernelRun0_B
  dsimp only
  sl_unfold_words
  rw [View.canon_unit_zero hz]
  simp only [View.readAt_eq_ld, h2.read_unread, h3.read_unread, View.ld_unit_zero (S := S1024x1024) hz, View.ld_unit_zero (S := S2944x1024) hz]

/-- The block's first store, and one more store: a band of columns turned, of what the block holds so far. -/
def whole : List (View.Piece (Elt F) S1024x2944 .f32) := [⟨Rect.unit (s := S1024x2944) ![0, 0] S1024x2944.size inb_S1024x2944_S1024x2944_0_0, k0_pay1 x w⟩]
def push (o : Nat) (inb : ∀ a, (![0, o] : Fin 2 → Nat) a + S1024x128.size a ≤ S1024x2944.size a) (L : List (View.Piece (Elt F) S1024x2944 .f32)) :
    List (View.Piece (Elt F) S1024x2944 .f32) :=
  ⟨Rect.unit (s := S1024x2944) ![0, o] S1024x128.size inb, k0_pay8 cs sn (a6.view.readCov L (Rect.unit (s := S1024x2944) ![0, o] S1024x128.size inb).toLoadRect)⟩ :: L

/-- All the stores of a block of projections to be turned. -/
def stores : List (View.Piece (Elt F) S1024x2944 .f32) :=
  push cs sn a6 1408 inb_S1024x2944_S1024x128_0_1408 (push cs sn a6 1280 inb_S1024x2944_S1024x128_0_1280 (push cs sn a6 1152 inb_S1024x2944_S1024x128_0_1152 (push cs sn a6 1024 inb_S1024x2944_S1024x128_0_1024 (push cs sn a6 896 inb_S1024x2944_S1024x128_0_896 (push cs sn a6 768 inb_S1024x2944_S1024x128_0_768 (push cs sn a6 640 inb_S1024x2944_S1024x128_0_640 (push cs sn a6 512 inb_S1024x2944_S1024x128_0_512 (push cs sn a6 384 inb_S1024x2944_S1024x128_0_384 (push cs sn a6 256 inb_S1024x2944_S1024x128_0_256 (push cs sn a6 128 inb_S1024x2944_S1024x128_0_128 (push cs sn a6 0 inb_S1024x2944_S1024x128_0_0 (whole x w))))))))))))

theorem out_A_4 (hc : cond0_0 i) : out0_A_4 c i a2 h2 a3 h3 a4 h4 a5 h5 a6 h6 hc x w cs sn = View.canon (stores x w cs sn a6) := by
  unfold out0_A_4
  rw [View.read_writes_eq_canon _ _ _ (cover0_A_4 c i a2 h2 a3 h3 a4 h4 a5 h5 a6 h6 hc x w cs sn)]
  refine congrArg View.canon ?_
  unfold kernelRun0_A
  dsimp only
  sl_unfold_words
  simp only [View.readAt_eq_ld, h2.read_unread, h3.read_unread, h4.read_unread, h5.read_unread, View.ld_unit_zero (S := S1024x1024) hz, View.ld_unit_zero (S := S2944x1024) hz, View.ld_unit_zero (S := S1024x128) hz]
  rfl

end Cert.Kernel13Ideal.Body
end
-- ==== Proof.TurnValue.lean ====
module

public import proofs.«01_k».proof.Proof.Turn
public import proofs.«01_k».proof.Proof.Norm
public import Idealize.ShloMosaic.Lib.KernelVsHost

/-! What a block of projections holds, element by element: the product, with the first columns of the first half turned in pairs. -/

@[expose] public section

noncomputable section

namespace Cert.Kernel13Ideal.Body

open Cert.Kernel13Ideal Cert.Kernel13Ideal.Gen
open Idealize.ShloMosaic Idealize.ShloMosaic.TcCoe Idealize.ShloMosaic.ValueIdx Idealize.SL.Sem

/-- The column a column is turned with: the other half of its head. -/
def mate (n : ℕ) : ℕ := if n % 64 < 32 then n + 32 else n - 32

theorem mate_lt {n : ℕ} (h : n < 2944) : mate n < 2944 := by unfold mate; split <;> omega
theorem mate_lt' {n : ℕ} (h : n < 128) : mate n < 128 := by unfold mate; split <;> omega

theorem mask_row (p : Fin 1024) (q : Fin 128) : k0_pay7 (ix2 p q) = k0_pay7 (ix2 0 q) := rfl
theorem mask_col : ∀ q : Fin 128, k0_pay7 (ix2 0 q) = if q.val % 64 < 32 then 1#1 else 0#1 := by decide +kernel

theorem cast_same (x : S1024x128.Idx → EReal) : shapeCast S1024x128 x shapeCasts_S1024x128_S1024x128 = x := by
  rw [shapeCast_self]

variable (P : S1024x2944.Idx → EReal) (cs sn : S1024x128.Idx → EReal)

/-- A band of 128 columns turned. -/
theorem pay8_apply (v : S1024x128.Idx → EReal) (p : Fin 1024) (q : Fin 128) :
    k0_pay8 (F := Ideal) cs sn v (ix2 p q) = v (ix2 p q) * cs (ix2 p q) + v (ix2 p ⟨mate q.val, mate_lt' q.isLt⟩) * sn (ix2 p q) := by
  unfold k0_pay8 k0_pay5 k0_pay6
  simp only [cast_same]
  show v (ix2 p q) * cs (ix2 p q) + (Scalar.select (k0_pay7 (ix2 p q)) (dynamicRotate 1 96#32 none v rotates_S1024x128_d1 (ix2 p q)) (dynamicRotate 1 32#32 none v rotates_S1024x128_d1 (ix2 p q))) * sn (ix2 p q) = _
  refine congrArg (fun z : EReal => v (ix2 p q) * cs (ix2 p q) + z * sn (ix2 p q)) ?_
  have hq := q.isLt
  rw [mask_row, mask_col]
  unfold Scalar.select
  by_cases h : q.val % 64 < 32
  · rw [if_pos h]
    refine (if_pos rfl).trans ?_
    refine dynamicRotate_apply 1 _ v _ _ _ fun b => ?_
    match b with
    | ⟨0, _⟩ => rfl
    | ⟨1, _⟩ =>
      show mate q.val = (q.val + 128 - 96) % 128
      unfold mate; rw [if_pos h]; omega
  · rw [if_neg h]
    refine (if_neg (by decide)).trans ?_
    refine dynamicRotate_apply 1 _ v _ _ _ fun b => ?_
    match b with
    | ⟨0, _⟩ => rfl
    | ⟨1, _⟩ =>
      show mate q.val = (q.val + 128 - 32) % 128
      unfold mate; rw [if_neg h]; omega

/-- A column's place in its band. -/
def place (n : Fin 2944) : Fin 128 := ⟨n.val % 128, Nat.mod_lt _ (by omega)⟩
/-- A column turned with its mate. -/
def turned (p : Fin 1024) (n : Fin 2944) : EReal :=
  P (ix2 p n) * cs (ix2 p (place n)) + P (ix2 p ⟨mate n.val, mate_lt n.isLt⟩) * sn (ix2 p (place n))
/-- The first `k` bands turned. -/
def part (k : ℕ) : S1024x2944.Idx → EReal := fun y => if (y 1).val < 128 * k then turned P cs sn (y 0) (y 1) else P y

theorem canon_push (a6 : Memref sig .tc .vmem S1024x2944 .f32) (k : ℕ) (hk : k < 12) (o : ℕ) (ho : o = 128 * k)
    (inb : ∀ a, (![0, o] : Fin 2 → Nat) a + S1024x128.size a ≤ S1024x2944.size a) (L : List (View.Piece (Elt Ideal) S1024x2944 .f32))
    (hL : View.canon L = part P cs sn k) : View.canon (push (F := Ideal) cs sn a6 o inb L) = part P cs sn (k + 1) := by
  subst ho
  refine funext fun (y : S1024x2944.Idx) => ?_
  obtain ⟨p, n, rfl⟩ : ∃ (p : Fin 1024) (n : Fin 2944), y = ix2 p n := ⟨y 0, y 1, Shape.idx_ext₂ rfl rfl⟩
  unfold push
  by_cases h : 128 * k ≤ n.val ∧ n.val < 128 * k + 128
  · obtain ⟨q, hq⟩ : ∃ q : Fin 128, n.val = 128 * k + q.val := ⟨⟨n.val - 128 * k, by omega⟩, by show n.val = 128 * k + (n.val - 128 * k); omega⟩
    have he : ∀ r : Fin 128, ∀ h' : 128 * k + r.val < 2944, (Rect.unit (s := S1024x2944) ![0, 128 * k] S1024x128.size inb).emb (ix2 p r : S1024x128.Idx) = (ix2 p ⟨128 * k + r.val, h'⟩ : S1024x2944.Idx) := fun r h' => by
      refine Shape.idx_ext₂ ?_ ?_
      · show 0 + 1 * p.val = p.val; omega
      · show 128 * k + 1 * r.val = 128 * k + r.val; omega
    have hb : ∀ r : Fin 128, 128 * k + r.val < 2944 := fun r => by have := r.isLt; omega
    have hv : ∀ r : Fin 128, a6.view.readCov L (Rect.unit (s := S1024x2944) ![0, 128 * k] S1024x128.size inb).toLoadRect (ix2 p r : S1024x128.Idx) = P (ix2 p ⟨128 * k + r.val, hb r⟩) := fun r => by
      rw [View.readCov_eq_canon', hL]
      refine (congrArg (part P cs sn k) ?_).trans (if_neg (by show ¬ 128 * k + r.val < 128 * k; omega) : part P cs sn k (ix2 p ⟨128 * k + r.val, hb r⟩) = _)
      refine Shape.idx_ext₂ ?_ ?_
      · show 0 + 1 * p.val = p.val; omega
      · show 128 * k + 1 * r.val = 128 * k + r.val; omega
    obtain rfl : n = ⟨128 * k + q.val, hb q⟩ := Fin.ext hq
    rw [← he q (hb q), View.canon_cons_emb, he q (hb q)]
    have hql := q.isLt
    refine (pay8_apply cs sn _ p q).trans ?_
    rw [hv, hv]
    refine Eq.trans ?_ (if_pos (by show 128 * k + q.val < 128 * (k + 1); omega)).symm
    show _ = turned P cs sn p ⟨128 * k + q.val, hb q⟩
    unfold turned
    rw [show place ⟨128 * k + q.val, hb q⟩ = q from Fin.ext (by show (128 * k + q.val) % 128 = q.val; omega)]
    rw [show (⟨128 * k + mate q.val, hb ⟨mate q.val, mate_lt' q.isLt⟩⟩ : Fin 2944) = ⟨mate (128 * k + q.val), mate_lt (hb q)⟩ from Fin.ext (by
      show 128 * k + mate q.val = mate (128 * k + q.val); unfold mate; split <;> split <;> omega)]
  · rw [View.canon_cons_of_not_mem _ _ (by
      rw [Rect.mem_set_unit]; intro hm; exact h ⟨(hm 1).1, (hm 1).2⟩), hL]
    have h1 : (ix2 p n : S1024x2944.Idx) 1 = n := rfl
    unfold part
    rw [h1]
    by_cases h2 : n.val < 128 * k
    · rw [if_pos h2, if_pos (by omega)]
    · rw [if_neg h2, if_neg (by omega)]

theorem canon_stores (x : Vec Ideal S1024x1024 .bf16) (w : Vec Ideal S2944x1024 .bf16) (a6 : Memref sig .tc .vmem S1024x2944 .f32) :
    View.canon (stores (F := Ideal) x w cs sn a6) = part (k0_pay1 (F := Ideal) x w) cs sn 12 := by
  unfold stores
  have h0 : View.canon (whole (F := Ideal) x w) = part (k0_pay1 (F := Ideal) x w) cs sn 0 := by
    unfold whole
    rw [View.canon_unit_zero hz]
    exact funext fun y => (if_neg (by omega)).symm
  exact canon_push _ cs sn a6 11 (by omega) _ rfl _ _ <| canon_push _ cs sn a6 10 (by omega) _ rfl _ _ <| canon_push _ cs sn a6 9 (by omega) _ rfl _ _ <|
    canon_push _ cs sn a6 8 (by omega) _ rfl _ _ <| canon_push _ cs sn a6 7 (by omega) _ rfl _ _ <| canon_push _ cs sn a6 6 (by omega) _ rfl _ _ <|
    canon_push _ cs sn a6 5 (by omega) _ rfl _ _ <| canon_push _ cs sn a6 4 (by omega) _ rfl _ _ <| canon_push _ cs sn a6 3 (by omega) _ rfl _ _ <|
    canon_push _ cs sn a6 2 (by omega) _ rfl _ _ <| canon_push _ cs sn a6 1 (by omega) _ rfl _ _ <| canon_push _ cs sn a6 0 (by omega) _ rfl _ _ h0

end Cert.Kernel13Ideal.Body
end
-- ==== Proof.TurnRef.lean ====
module

public import proofs.«01_k».proof.Proof.Gen.Reference13Ideal.Run
public import proofs.«01_k».proof.Proof.Gen.Reference13Ideal.Read

/-! The reference of the projection with its first columns turned, element by element. -/

@[expose] public section

noncomputable section

namespace Cert.TurnRef

open Cert.Reference13Ideal Cert.Reference13Ideal.Gen Cert.Reference13Ideal.Read
open Idealize.ShloMosaic Idealize.ShloMosaic.TcCoe Idealize.ShloMosaic.ValueIdx

variable (X : (⟨S4096x1024, .bf16⟩ : BufTy).Contents (Elt Ideal)) (W : (⟨S5888x1024, .bf16⟩ : BufTy).Contents (Elt Ideal))

/-- The reference's result; its product, and the cosines and sines it turns with. -/
def turnedAll : S4096x5888.Idx → EReal := val_main_v42 (F := Ideal) X W
def prod (r : Fin 4096) (n : Fin 5888) : EReal := ∑ k : Fin 1024, X (ix2 r k) * W (ix2 n k)
def cosine (s : Fin 2048) (q : Fin 32) : EReal := val_main_v19 (F := Ideal) (ix2 s q)
def sine (s : Fin 2048) (q : Fin 32) : EReal := val_main_v21 (F := Ideal) (ix2 s q)

theorem prod_apply (r : Fin 4096) (n : Fin 5888) : val_main_v3 (F := Ideal) X W (ix2 r n) = prod X W r n := by
  refine (val_main_v3_apply X W _).trans (Finset.sum_congr rfl fun k _ => ?_)
  rw [val_main_v0_apply, val_main_v2_apply, val_main_v1_apply]
  refine congrArg₂ (fun a b : EReal => a * b) ?_ ?_
  · exact congrArg X (Shape.idx_ext₂ rfl rfl)
  · exact congrArg W (Shape.idx_ext₂ rfl rfl)

/-- A head's column of the product. -/
theorem head (b : Fin 2) (s : Fin 2048) (h : Fin 24) (q : Fin 64) (r : Fin 4096) (n : Fin 5888) (hr : r.val = b.val * 2048 + s.val) (hn : n.val = h.val * 64 + q.val) :
    val_main_v5 (F := Ideal) X W (ix4 b s h q) = prod X W r n := by
  have := b.isLt; have := s.isLt; have := h.isLt; have := q.isLt
  rw [val_main_v5_apply, val_main_v4_apply, ← prod_apply]
  refine congrArg (val_main_v3 (F := Ideal) X W) (Shape.idx_ext₂ ?_ ?_)
  · show (((b.val * 2048 + s.val) * 24 + h.val) * 64 + q.val) / 1536 = r.val; omega
  · show (((b.val * 2048 + s.val) * 24 + h.val) * 64 + q.val) % 1536 = n.val; omega

variable (b : Fin 2) (s : Fin 2048) (h : Fin 24) (q : Fin 32) (r : Fin 4096) (n n' : Fin 5888) (hr : r.val = b.val * 2048 + s.val)
  (hn : n.val = h.val * 64 + q.val) (hn' : n'.val = h.val * 64 + (32 + q.val))
include hr hn hn'

theorem fst_apply : val_main_v31 (F := Ideal) X W (ix4 b s h q) = prod X W r n * cosine s q - prod X W r n' * sine s q := by
  rw [val_main_v31_apply, val_main_v27_apply, val_main_v30_apply, val_main_v23_apply, val_main_v24_apply, val_main_v26_apply, val_main_v25_apply, val_main_v20_apply,
    val_main_v29_apply, val_main_v28_apply, val_main_v22_apply]
  have e1 : val_main_v5 (F := Ideal) X W (idx_main_v23 (ix4 b s h q)) = prod X W r n :=
    (congrArg (val_main_v5 (F := Ideal) X W) (funext fun a => Fin.ext (by match a with | ⟨0, _⟩ => rfl | ⟨1, _⟩ => rfl | ⟨2, _⟩ => rfl | ⟨3, _⟩ => rfl))).trans
      (head X W b s h ⟨q.val, by have := q.isLt; omega⟩ r n hr hn)
  have e2 : val_main_v5 (F := Ideal) X W (idx_main_v24 (ix4 b s h q)) = prod X W r n' :=
    (congrArg (val_main_v5 (F := Ideal) X W) (funext fun a => Fin.ext (by match a with | ⟨0, _⟩ => rfl | ⟨1, _⟩ => rfl | ⟨2, _⟩ => rfl | ⟨3, _⟩ => rfl))).trans
      (head X W b s h ⟨32 + q.val, by have := q.isLt; omega⟩ r n' hr hn')
  rw [e1, e2]
  refine congrArg₂ (fun a b : EReal => a - b) (congrArg (fun z : EReal => prod X W r n * z) ?_) (congrArg (fun z : EReal => prod X W r n' * z) ?_)
  · exact congrArg (val_main_v19 (F := Ideal)) (Shape.idx_ext₂ rfl rfl)
  · exact congrArg (val_main_v21 (F := Ideal)) (Shape.idx_ext₂ rfl rfl)

theorem snd_apply : val_main_v38 (F := Ideal) X W (ix4 b s h q) = prod X W r n' * cosine s q + prod X W r n * sine s q := by
  rw [val_main_v38_apply, val_main_v34_apply, val_main_v37_apply, val_main_v23_apply, val_main_v24_apply, val_main_v33_apply, val_main_v32_apply, val_main_v20_apply,
    val_main_v36_apply, val_main_v35_apply, val_main_v22_apply]
  have e1 : val_main_v5 (F := Ideal) X W (idx_main_v23 (ix4 b s h q)) = prod X W r n :=
    (congrArg (val_main_v5 (F := Ideal) X W) (funext fun a => Fin.ext (by match a with | ⟨0, _⟩ => rfl | ⟨1, _⟩ => rfl | ⟨2, _⟩ => rfl | ⟨3, _⟩ => rfl))).trans
      (head X W b s h ⟨q.val, by have := q.isLt; omega⟩ r n hr hn)
  have e2 : val_main_v5 (F := Ideal) X W (idx_main_v24 (ix4 b s h q)) = prod X W r n' :=
    (congrArg (val_main_v5 (F := Ideal) X W) (funext fun a => Fin.ext (by match a with | ⟨0, _⟩ => rfl | ⟨1, _⟩ => rfl | ⟨2, _⟩ => rfl | ⟨3, _⟩ => rfl))).trans
      (head X W b s h ⟨32 + q.val, by have := q.isLt; omega⟩ r n' hr hn')
  rw [e1, e2]
  refine congrArg₂ (fun a b : EReal => a + b) (congrArg (fun z : EReal => prod X W r n' * z) ?_) (congrArg (fun z : EReal => prod X W r n * z) ?_)
  · exact congrArg (val_main_v19 (F := Ideal)) (Shape.idx_ext₂ rfl rfl)
  · exact congrArg (val_main_v21 (F := Ideal)) (Shape.idx_ext₂ rfl rfl)

theorem turned_fst : turnedAll X W (ix2 r n) = prod X W r n * cosine s q - prod X W r n' * sine s q := by
  have := b.isLt; have := s.isLt; have := h.isLt; have := q.isLt
  unfold turnedAll val_main_v42
  have hl : n.val < 1536 := by omega
  refine (concatenate_pair_apply_left (t := S4096x5888) (s₁ := S4096x1536) (s₂ := S4096x4352) 1 _ _ _ (ix2 r n) rfl (ix2 r ⟨n.val, hl⟩ : S4096x1536.Idx)
    (fun a => by match a with | ⟨0, _⟩ => rfl | ⟨1, _⟩ => rfl)).trans ?_
  rw [val_main_v40_apply]
  unfold val_main_v39
  refine (concatenate_pair_apply_left (t := S2x2048x24x64) (s₁ := S2x2048x24x32) (s₂ := S2x2048x24x32) 3 _ _ _ _ rfl (ix4 b s h q)
    (fun a => ?_)).trans (fst_apply X W b s h q r n n' hr hn hn')
  match a with
  | ⟨0, _⟩ => show b.val = (r.val * 1536 + n.val) / 3145728; omega
  | ⟨1, _⟩ => show s.val = (r.val * 1536 + n.val) / 1536 % 2048; omega
  | ⟨2, _⟩ => show h.val = (r.val * 1536 + n.val) / 64 % 24; omega
  | ⟨3, _⟩ => show q.val = (r.val * 1536 + n.val) % 64; omega

theorem turned_snd : turnedAll X W (ix2 r n') = prod X W r n' * cosine s q + prod X W r n * sine s q := by
  have := b.isLt; have := s.isLt; have := h.isLt; have := q.isLt
  unfold turnedAll val_main_v42
  have hl : n'.val < 1536 := by omega
  refine (concatenate_pair_apply_left (t := S4096x5888) (s₁ := S4096x1536) (s₂ := S4096x4352) 1 _ _ _ (ix2 r n') rfl (ix2 r ⟨n'.val, hl⟩ : S4096x1536.Idx)
    (fun a => by match a with | ⟨0, _⟩ => rfl | ⟨1, _⟩ => rfl)).trans ?_
  rw [val_main_v40_apply]
  unfold val_main_v39
  refine (concatenate_pair_apply_right (t := S2x2048x24x64) (s₁ := S2x2048x24x32) (s₂ := S2x2048x24x32) 3 _ _ _ _ rfl rfl (ix4 b s h q)
    (fun a ha => ?_) (by show q.val + 32 = (r.val * 1536 + n'.val) % 64; omega)).trans (snd_apply X W b s h q r n n' hr hn hn')
  match a with
  | ⟨0, _⟩ => show b.val = (r.val * 1536 + n'.val) / 3145728; omega
  | ⟨1, _⟩ => show s.val = (r.val * 1536 + n'.val) / 1536 % 2048; omega
  | ⟨2, _⟩ => show h.val = (r.val * 1536 + n'.val) / 64 % 24; omega
  | ⟨3, _⟩ => exact absurd rfl ha

omit hr hn hn'
theorem turned_rest (hn : 1536 ≤ n.val) : turnedAll X W (ix2 r n) = prod X W r n := by
  have := n.isLt
  unfold turnedAll val_main_v42
  refine (concatenate_pair_apply_right (t := S4096x5888) (s₁ := S4096x1536) (s₂ := S4096x4352) 1 _ _ _ (ix2 r n) rfl rfl (ix2 r ⟨n.val - 1536, by omega⟩ : S4096x4352.Idx)
    (fun a ha => by match a with | ⟨0, _⟩ => rfl | ⟨1, _⟩ => exact absurd rfl ha) (by show n.val - 1536 + 1536 = n.val; omega)).trans ?_
  rw [val_main_v41_apply, ← prod_apply]
  exact congrArg (val_main_v3 (F := Ideal) X W) (Shape.idx_ext₂ rfl (by show 1536 + (n.val - 1536) = n.val; omega))

end Cert.TurnRef
end
-- ==== Proof.TurnRun.lean ====
module

public import proofs.«01_k».proof.Proof.TurnValue
public import proofs.«01_k».proof.Proof.TurnRef
public import proofs.«01_k».proof.Proof.Gate
public import proofs.«01_k».proof.Proof.Coe

/-! The projection with its first columns turned: every block is the reference's. -/

@[expose] public section

noncomputable section

namespace Cert.Kernel13Ideal.TurnRun

open Cert.Kernel13Ideal Cert.Kernel13Ideal.Gen Cert.Kernel13Ideal.Body Cert.TurnRef Cert.Band Cert.Norm Cert.Gate
open Idealize.ShloMosaic Idealize.ShloMosaic.TcCoe Idealize.ShloMosaic.ValueIdx Idealize.SL.Sem
open Idealize.ShloMosaic.Pipeline (Dat)

/-- Row `p` and column `j` of point `t`'s block in the result, and row `p`'s place in its sequence. -/
def row (t : Fin cfg0.N) (p : Fin 1024) : Fin 4096 := ⟨t.val % 4 * 1024 + p.val, by omega⟩
def col (t : Fin cfg0.N) (j : Fin 2944) : Fin 5888 := ⟨t.val / 4 * 2944 + j.val, by have := t.isLt; have : cfg0.N = 8 := N_0; omega⟩
def pos (t : Fin cfg0.N) (p : Fin 1024) : Fin 2048 := ⟨t.val % 2 * 1024 + p.val, by omega⟩

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val / 4 ∧ win0_1.index t 1 = 0 := (by decide +kernel : ∀ t : Fin grid0.N, _)
theorem at2 : ∀ t : Fin cfg0.N, win0_2.index t 0 = t.val % 2 ∧ win0_2.index t 1 = 0 := (by decide +kernel : ∀ t : Fin grid0.N, _)
theorem at3 : ∀ t : Fin cfg0.N, win0_3.index t 0 = t.val % 2 ∧ win0_3.index t 1 = 0 := (by decide +kernel : ∀ t : Fin grid0.N, _)
theorem at4 : ∀ t : Fin cfg0.N, win0_4.index t 0 = t.val % 4 ∧ win0_4.index t 1 = t.val / 4 := (by decide +kernel : ∀ t : Fin grid0.N, _)

theorem emb0 (t : Fin cfg0.N) (p : Fin 1024) (k : Fin 1024) : (win0_0.rect t).emb ((ix2 p k : S1024x1024.Idx)) = (ix2 (row t p) k : S4096x1024.Idx) := by
  refine Shape.idx_ext₂ ?_ ?_
  · refine (Pipeline.Window.rect_emb_val win0_0 t (ix2 p k : S1024x1024.Idx) 0).trans ?_
    rw [(at0 t).1]; rfl
  · refine (Pipeline.Window.rect_emb_val win0_0 t (ix2 p k : S1024x1024.Idx) 1).trans ?_
    rw [(at0 t).2]; show 0 * 1024 + k.val = k.val; omega

theorem emb1 (t : Fin cfg0.N) (j : Fin 2944) (k : Fin 1024) : (win0_1.rect t).emb ((ix2 j k : S2944x1024.Idx)) = (ix2 (col t j) k : S5888x1024.Idx) := by
  refine Shape.idx_ext₂ ?_ ?_
  · refine (Pipeline.Window.rect_emb_val win0_1 t (ix2 j k : S2944x1024.Idx) 0).trans ?_
    rw [(at1 t).1]; rfl
  · refine (Pipeline.Window.rect_emb_val win0_1 t (ix2 j k : S2944x1024.Idx) 1).trans ?_
    rw [(at1 t).2]; show 0 * 1024 + k.val = k.val; omega

theorem emb2 (t : Fin cfg0.N) (p : Fin 1024) (q : Fin 128) : (win0_2.rect t).emb ((ix2 p q : S1024x128.Idx)) = (ix2 (pos t p) q : S2048x128.Idx) := by
  refine Shape.idx_ext₂ ?_ ?_
  · refine (Pipeline.Window.rect_emb_val win0_2 t (ix2 p q : S1024x128.Idx) 0).trans ?_
    rw [(at2 t).1]; rfl
  · refine (Pipeline.Window.rect_emb_val win0_2 t (ix2 p q : S1024x128.Idx) 1).trans ?_
    rw [(at2 t).2]; show 0 * 128 + q.val = q.val; omega

theorem emb3 (t : Fin cfg0.N) (p : Fin 1024) (q : Fin 128) : (win0_3.rect t).emb ((ix2 p q : S1024x128.Idx)) = (ix2 (pos t p) q : S2048x128.Idx) := by
  refine Shape.idx_ext₂ ?_ ?_
  · refine (Pipeline.Window.rect_emb_val win0_3 t (ix2 p q : S1024x128.Idx) 0).trans ?_
    rw [(at3 t).1]; rfl
  · refine (Pipeline.Window.rect_emb_val win0_3 t (ix2 p q : S1024x128.Idx) 1).trans ?_
    rw [(at3 t).2]; show 0 * 128 + q.val = q.val; omega

theorem emb4 (t : Fin cfg0.N) (p : Fin 1024) (j : Fin 2944) : (win0_4.rect t).emb ((ix2 p j : S1024x2944.Idx)) = (ix2 (row t p) (col t j) : S4096x5888.Idx) := by
  refine Shape.idx_ext₂ ?_ ?_
  · refine (Pipeline.Window.rect_emb_val win0_4 t (ix2 p j : S1024x2944.Idx) 0).trans ?_
    rw [(at4 t).1]; rfl
  · refine (Pipeline.Window.rect_emb_val win0_4 t (ix2 p j : S1024x2944.Idx) 1).trans ?_
    rw [(at4 t).2]; rfl

/-! ## What a block holds -/

theorem prod_block (x : Vec Ideal S1024x1024 .bf16) (w : Vec Ideal S2944x1024 .bf16) (p : Fin 1024) (j : Fin 2944) :
    k0_pay1 (F := Ideal) x w (ix2 p j) = ∑ k : Fin 1024, x (ix2 p k) * w (ix2 j k) := by
  show FloatOps.matmul (F := Ideal) (lasts dot_S1024x1024_S2944x1024_S1024x2944_1_1_0_0_n_n_wf) none x w (constant S1024x2944 .f32 0x00000000#32) (ix2 p j) = _
  rw [lasts_apply]
  show FloatOps.ofBits (F := Ideal) .f32 0x00000000#32 + _ = _
  rw [zero_word, zero_add]

/-! ## The tables -/

/-- Four tables of 32 columns side by side. -/
def four (u v w z : S2048x32.Idx → EReal) : S2048x128.Idx → EReal :=
  concatenate S2048x128 1 [⟨S2048x32, u⟩, ⟨S2048x32, v⟩, ⟨S2048x32, w⟩, ⟨S2048x32, z⟩] concatenates_S2048x32_S2048x32_S2048x32_S2048x32_S2048x128_d1

theorem piece (xs : List ((s : Shape) × (s.Idx → EReal))) (h : Shape.Concatenates (xs.map (·.1)) S2048x128 1) (i : Fin 2048) (j : Fin 128) (k : ℕ) (hk : k < xs.length)
    (u : S2048x32.Idx → EReal) (hu : xs[k] = ⟨S2048x32, u⟩) (pre : ℕ)
    (hpre : (((xs.take k).map (·.1)).map fun s => if h : s.rank = S2048x128.rank then s.size ((1 : Fin S2048x128.rank).cast h.symm) else 0).sum = pre)
    (l : Fin 32) (hl : pre + l.val = j.val) : concatenate S2048x128 1 xs h (ix2 i j) = u (ix2 i l) :=
  concatenate_apply_piece 1 xs h _ k hk _ u hu rfl pre hpre (ix2 i l) (fun b hb => by match b with | ⟨0, _⟩ => rfl | ⟨1, _⟩ => exact absurd rfl hb) hl

theorem four_fst (u v : S2048x32.Idx → EReal) (i : Fin 2048) (j : Fin 128) (q : Fin 32) (hq : j.val % 32 = q.val) (h : j.val % 64 < 32) : four u v u v (ix2 i j) = u (ix2 i q) := by
  have := j.isLt; have := q.isLt
  unfold four
  rcases (show 0 + q.val = j.val ∨ 64 + q.val = j.val by omega) with e | e
  · exact piece _ _ i j 0 (by simp) _ rfl 0 rfl q e
  · exact piece _ _ i j 2 (by simp) _ rfl 64 rfl q e
theorem four_snd (u v : S2048x32.Idx → EReal) (i : Fin 2048) (j : Fin 128) (q : Fin 32) (hq : j.val % 32 = q.val) (h : ¬j.val % 64 < 32) : four u v u v (ix2 i j) = v (ix2 i q) := by
  have := j.isLt; have := q.isLt
  unfold four
  rcases (show 32 + q.val = j.val ∨ 96 + q.val = j.val by omega) with e | e
  · exact piece _ _ i j 1 (by simp) _ rfl 32 rfl q e
  · exact piece _ _ i j 3 (by simp) _ rfl 96 rfl q e

/-- The cosines, the sines, and the sines with their sign changed. -/
def cosT : S2048x32.Idx → EReal := Cert.Reference13Ideal.Read.val_main_v19 (F := Ideal)
def sinT : S2048x32.Idx → EReal := Cert.Reference13Ideal.Read.val_main_v21 (F := Ideal)
def negT : S2048x32.Idx → EReal := fun i => - sinT i

variable (m : (ℓ : Loc nD τ sig) → Buf (Elt Ideal) ℓ) (c : Dev nD)

theorem V_cos : V m c main_v15 = four cosT cosT cosT cosT := by
  unfold V
  simp only [hostOps0]
  after_results_simp <;> rfl
theorem V_sin : V m c main_v18 = four negT sinT negT sinT := by
  unfold V
  simp only [hostOps0]
  after_results_simp <;> rfl

/-! ## The kernel's array is the reference's -/

variable (X : (⟨S4096x1024, .bf16⟩ : BufTy).Contents (Elt Ideal)) (W : (⟨S5888x1024, .bf16⟩ : BufTy).Contents (Elt Ideal))

theorem read0 (t : Fin cfg0.N) (p k : Fin 1024) : ((cfg0.win 0).blk t).view.read (Elt Ideal) X (ix2 p k : S1024x1024.Idx) = X (ix2 (row t p) k) := congrArg X (emb0 t p k)
theorem read1 (t : Fin cfg0.N) (j : Fin 2944) (k : Fin 1024) : ((cfg0.win 1).blk t).view.read (Elt Ideal) W (ix2 j k : S2944x1024.Idx) = W (ix2 (col t j) k) := congrArg W (emb1 t j k)
theorem read2 (t : Fin cfg0.N) (T : S2048x128.Idx → EReal) (p : Fin 1024) (q : Fin 128) : ((cfg0.win 2).blk t).view.read (Elt Ideal) T (ix2 p q : S1024x128.Idx) = T (ix2 (pos t p) q) := congrArg T (emb2 t p q)
theorem read3 (t : Fin cfg0.N) (T : S2048x128.Idx → EReal) (p : Fin 1024) (q : Fin 128) : ((cfg0.win 3).blk t).view.read (Elt Ideal) T (ix2 p q : S1024x128.Idx) = T (ix2 (pos t p) q) := congrArg T (emb3 t p q)
theorem put4 (t : Fin cfg0.N) (Z : S4096x5888.Idx → EReal) (p : Fin 1024) (j : Fin 2944) :
    ((cfg0.win 4).blk t).view.read (Elt Ideal) Z (ix2 p j : S1024x2944.Idx) = Z (ix2 (row t p) (col t j)) := congrArg Z (emb4 t p j)
theorem cut4 (t : Fin cfg0.N) (x : Vec Ideal S1024x2944 .f32) : (cfg0.win 4).cut (grid0.coords t) x = x := rfl

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl
theorem blk2 (t : Fin cfg0.N) : iblk m c 2 t = ((cfg0.win 2).blk t).view.read (Elt Ideal) (four cosT cosT cosT cosT) := by
  rw [← V_cos m c]; rfl
theorem blk3 (t : Fin cfg0.N) : iblk m c 3 t = ((cfg0.win 3).blk t).view.read (Elt Ideal) (four negT sinT negT sinT) := by
  rw [← V_sin m c]; rfl

theorem block_apply (t : Fin cfg0.N) (p : Fin 1024) (j : Fin 2944) :
    k0_pay1 (F := Ideal) (((cfg0.win 0).blk t).view.read (Elt Ideal) X) (((cfg0.win 1).blk t).view.read (Elt Ideal) W) (ix2 p j) = prod X W (row t p) (col t j) :=
  (prod_block _ _ p j).trans (Finset.sum_congr rfl fun k _ => congrArg₂ (fun a b : EReal => a * b) (read0 X t p k) (read1 W t j k))

/-- A turned element. -/
theorem turned_block (t : Fin cfg0.N) (ht : t.val < 4) (p : Fin 1024) (j : Fin 2944) (hj : j.val < 1536) :
    turned (k0_pay1 (F := Ideal) (((cfg0.win 0).blk t).view.read (Elt Ideal) X) (((cfg0.win 1).blk t).view.read (Elt Ideal) W))
      (((cfg0.win 2).blk t).view.read (Elt Ideal) (four cosT cosT cosT cosT)) (((cfg0.win 3).blk t).view.read (Elt Ideal) (four negT sinT negT sinT)) p j
      = turnedAll X W (ix2 (row t p) (col t j)) := by
  have hp := p.isLt
  have hr : (row t p).val = (⟨t.val / 2, by omega⟩ : Fin 2).val * 2048 + (pos t p).val := by
    show t.val % 4 * 1024 + p.val = t.val / 2 * 2048 + (t.val % 2 * 1024 + p.val); omega
  have hc : ∀ l : Fin 2944, (col t l).val = l.val := fun l => by show t.val / 4 * 2944 + l.val = l.val; omega
  unfold turned
  rw [block_apply, block_apply]
  by_cases h : j.val % 64 < 32
  · refine Eq.trans ?_ (turned_fst X W ⟨t.val / 2, by omega⟩ (pos t p) ⟨j.val / 64, by omega⟩ ⟨j.val % 32, Nat.mod_lt _ (by omega)⟩ (row t p) (col t j) (col t ⟨mate j.val, mate_lt j.isLt⟩) hr
      (by rw [hc]; show j.val = j.val / 64 * 64 + j.val % 32; omega)
      (by rw [hc]; show mate j.val = j.val / 64 * 64 + (32 + j.val % 32); unfold mate; rw [if_pos h]; omega)).symm
    rw [sub_eq_add_neg, ← mul_neg]
    refine congrArg₂ (fun a b : EReal => a + b) (congrArg (fun z : EReal => prod X W (row t p) (col t j) * z) ?_) (congrArg (fun z : EReal => prod X W (row t p) (col t ⟨mate j.val, mate_lt j.isLt⟩) * z) ?_)
    · refine (read2 t _ p (place j)).trans (four_fst cosT cosT _ _ ⟨j.val % 32, Nat.mod_lt _ (by omega)⟩ ?_ ?_)
      · show j.val % 128 % 32 = j.val % 32; omega
      · show j.val % 128 % 64 < 32; omega
    · refine (read3 t _ p (place j)).trans (four_fst negT sinT _ _ ⟨j.val % 32, Nat.mod_lt _ (by omega)⟩ ?_ ?_)
      · show j.val % 128 % 32 = j.val % 32; omega
      · show j.val % 128 % 64 < 32; omega
  · refine Eq.trans ?_ (turned_snd X W ⟨t.val / 2, by omega⟩ (pos t p) ⟨j.val / 64, by omega⟩ ⟨j.val % 32, Nat.mod_lt _ (by omega)⟩ (row t p) (col t ⟨mate j.val, mate_lt j.isLt⟩) (col t j) hr
      (by rw [hc]; show mate j.val = j.val / 64 * 64 + j.val % 32; unfold mate; rw [if_neg h]; omega)
      (by rw [hc]; show j.val = j.val / 64 * 64 + (32 + j.val % 32); omega)).symm
    refine congrArg₂ (fun a b : EReal => a + b) (congrArg (fun z : EReal => prod X W (row t p) (col t j) * z) ?_) (congrArg (fun z : EReal => prod X W (row t p) (col t ⟨mate j.val, mate_lt j.isLt⟩) * z) ?_)
    · refine (read2 t _ p (place j)).trans (four_snd cosT cosT _ _ ⟨j.val % 32, Nat.mod_lt _ (by omega)⟩ ?_ ?_)
      · show j.val % 128 % 32 = j.val % 32; omega
      · show ¬j.val % 128 % 64 < 32; omega
    · refine (read3 t _ p (place j)).trans (four_snd negT sinT _ _ ⟨j.val % 32, Nat.mod_lt _ (by omega)⟩ ?_ ?_)
      · show j.val % 128 % 32 = j.val % 32; omega
      · show ¬j.val % 128 % 64 < 32; omega

theorem flushed (t : Fin cfg0.N) : (dats m 0 c).flushed 4 t
    = ((cfg0.win 4).blk t).view.read (Elt Ideal) (turnedAll (m ((c : Thread nD τ).loc main_arg0)) (m ((c : Thread nD τ).loc main_arg1))) := by
  by_cases ht : t.val < 4
  · rw [Value.flushed4_A m c t ht, out_A_4, canon_stores, blk0, blk1, blk2, blk3]
    generalize m ((c : Thread nD τ).loc main_arg0) = X
    generalize m ((c : Thread nD τ).loc main_arg1) = W
    refine funext fun (y : S1024x2944.Idx) => ?_
    obtain ⟨p, j, rfl⟩ : ∃ (p : Fin 1024) (j : Fin 2944), y = ix2 p j := ⟨y 0, y 1, Shape.idx_ext₂ rfl rfl⟩
    refine Eq.trans ?_ (put4 t (turnedAll X W) p j).symm
    refine (congrFun (cut4 t _) _).trans ?_
    by_cases hj : j.val < 1536
    · exact (if_pos hj).trans (turned_block X W t ht p j hj)
    · refine (if_neg hj).trans ((block_apply X W t p j).trans (turned_rest X W _ _ ?_).symm)
      show 1536 ≤ t.val / 4 * 2944 + j.val; omega
  · rw [Value.flushed4_B m c t ht, out_B_4, blk0, blk1]
    generalize m ((c : Thread nD τ).loc main_arg0) = X
    generalize m ((c : Thread nD τ).loc main_arg1) = W
    refine funext fun (y : S1024x2944.Idx) => ?_
    obtain ⟨p, j, rfl⟩ : ∃ (p : Fin 1024) (j : Fin 2944), y = ix2 p j := ⟨y 0, y 1, Shape.idx_ext₂ rfl rfl⟩
    refine Eq.trans ?_ (put4 t (turnedAll X W) p j).symm
    refine (congrFun (cut4 t _) _).trans ((block_apply X W t p j).trans (turned_rest X W _ _ ?_).symm)
    show 1536 ≤ t.val / 4 * 2944 + j.val; omega

theorem spot (r : Fin 4096) (n : Fin 5888) : ∃ (t : Fin cfg0.N) (p : Fin 1024) (j : Fin 2944), r = row t p ∧ n = col t j := by
  have hN : cfg0.N = 8 := N_0
  have hr := r.isLt
  have hn := n.isLt
  have ht : n.val / 2944 * 4 + r.val / 1024 < cfg0.N := by omega
  refine ⟨⟨n.val / 2944 * 4 + r.val / 1024, ht⟩, ⟨r.val % 1024, Nat.mod_lt _ (by omega)⟩, ⟨n.val % 2944, Nat.mod_lt _ (by omega)⟩, Fin.ext ?_, Fin.ext ?_⟩
  · unfold row
    dsimp only
    omega
  · unfold col
    dsimp only
    omega

theorem final : (dats m 0 c).arrAt 4 cfg0.N = turnedAll (m ((c : Thread nD τ).loc main_arg0)) (m ((c : Thread nD τ).loc main_arg1)) := by
  refine funext fun (i : S4096x5888.Idx) => ?_
  obtain ⟨r, n, rfl⟩ : ∃ (r : Fin 4096) (n : Fin 5888), i = ix2 r n := ⟨i 0, i 1, Shape.idx_ext₂ rfl rfl⟩
  obtain ⟨t, p, j, rfl, rfl⟩ := spot r n
  refine (put4 t ((dats m 0 c).arrAt 4 cfg0.N) p j).symm.trans (Eq.trans ?_ (put4 t (turnedAll (m ((c : Thread nD τ).loc main_arg0)) (m ((c : Thread nD τ).loc main_arg1))) p j))
  exact congrFun ((Value.blocks4 m c t (flush0_4 t)).trans (flushed m c t)) _

theorem run (g : Dev nD → PrngReg) : θ_run defs (onTc (τ := τ) (main (F := Ideal))) ⟨m, fun _ => 0, g⟩ (fun r => ∀ c : Dev nD,
      r.2.mem ((c.tc : Thread nD τ).loc main_v19) = turnedAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel13Ideal.TurnRun
end
-- ==== Proof.TurnClaim.lean ====
module

public import proofs.«01_k».proof.Defs
public import proofs.«01_k».proof.Proof.TurnRun
public import proofs.«01_k».proof.Proof.Gen.Kernel13Ideal.Frame

/-! The turned projection's kernel and its reference end with the same array. -/

@[expose] public section

noncomputable section

namespace Cert.Turn

open Idealize.ShloMosaic Idealize.ShloMosaic.TcCoe Idealize.SL.Sem
open Cert.Kernel13Ideal.TurnRun

instance : Cert.Reference13Ideal.Facts := Cert.Reference13Ideal.Gen.facts
instance : Cert.Kernel13Ideal.Facts := Cert.Kernel13Ideal.Gen.facts

theorem algebraic : Cert.algebraic_Kernel13Ideal_Reference13Ideal := by
  intro m g m' g' _ hagree
  refine ⟨fun c => Cert.TurnRef.turnedAll (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1)), Cert.Kernel13Ideal.TurnRun.run m g, ?_⟩
  refine (θ_run Cert.Reference13Ideal.defs _ _).mono (fun r h c => ?_) (Cert.Reference13Ideal.Value.run (F := Ideal) m' g')
  obtain ⟨e0, e1⟩ := hagree c
  refine ⟨(h c).1.trans ((Cert.Reference13Ideal.Read.val_main_v42_eq _ _).trans ?_), (h c).2⟩
  rw [e0, e1]; rfl

end Cert.Turn
end
-- ==== Proof.BranchA.lean ====
module

public import proofs.«01_k».proof.Proof.Rows
public import proofs.«01_k».proof.Proof.Gen.Kernel14Ideal.Value
public import proofs.«01_k».proof.Proof.Gen.Reference14Ideal.Run
public import proofs.«01_k».proof.Proof.Gen.Reference14Ideal.Read

/-! The gradient of the first branch's input: one product per block of rows. -/

@[expose] public section

noncomputable section

namespace Cert.Kernel14Ideal.BranchA

open Cert.Kernel14Ideal Cert.Kernel14Ideal.Gen Cert.Reference14Ideal.Read Cert.Band Cert.Norm
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def row (t : Fin cfg0.N) (p : Fin 1024) : Fin 4096 := ⟨t.val * 1024 + p.val, by have := t.isLt; have : cfg0.N = 4 := N_0; omega⟩

theorem at0 : ∀ t : Fin cfg0.N, win0_0.index t 0 = 0 ∧ win0_0.index t 1 = t.val ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (p : Fin 1024) (l : Fin 1024) :
    (win0_0.rect t).emb ((ix3 0 p l : S1x1024x1024.Idx)) = (ix3 0 (row t p) l : S1x4096x1024.Idx) := by
  refine funext fun a => Fin.ext ?_
  refine (Pipeline.Window.rect_emb_val win0_0 t (ix3 0 p l : S1x1024x1024.Idx) a).trans ?_
  match a with
  | ⟨0, _⟩ => rw [show win0_0.index t ⟨0, _⟩ = _ from (at0 t).1]; rfl
  | ⟨1, _⟩ => rw [show win0_0.index t ⟨1, _⟩ = _ from (at0 t).2.1]; rfl
  | ⟨2, _⟩ => rw [show win0_0.index t ⟨2, _⟩ = _ from (at0 t).2.2]; show 0 * 1024 + l.val = l.val; omega

theorem emb1 (t : Fin cfg0.N) (l : Fin 1024) (k : Fin 256) :
    (win0_1.rect t).emb ((ix3 0 l k : S1x1024x256.Idx)) = (ix3 0 l k : S1x1024x256.Idx) := by
  refine funext fun a => Fin.ext ?_
  refine (Pipeline.Window.rect_emb_val win0_1 t (ix3 0 l k : S1x1024x256.Idx) a).trans ?_
  match a with
  | ⟨0, _⟩ => rw [show win0_1.index t ⟨0, _⟩ = _ from (at1 t).1]; rfl
  | ⟨1, _⟩ => rw [show win0_1.index t ⟨1, _⟩ = _ from (at1 t).2.1]; show 0 * 1024 + l.val = l.val; omega
  | ⟨2, _⟩ => rw [show win0_1.index t ⟨2, _⟩ = _ from (at1 t).2.2]; show 0 * 256 + k.val = k.val; omega

theorem emb2 (t : Fin cfg0.N) (p : Fin 1024) (k : Fin 256) : (win0_2.rect t).emb ((ix2 p k : S1024x256.Idx)) = (ix2 (row t p) k : S4096x256.Idx) := by
  refine Shape.idx_ext₂ ?_ ?_
  · refine (Pipeline.Window.rect_emb_val win0_2 t (ix2 p k : S1024x256.Idx) 0).trans ?_
    rw [(at2 t).1]; rfl
  · refine (Pipeline.Window.rect_emb_val win0_2 t (ix2 p k : S1024x256.Idx) 1).trans ?_
    rw [(at2 t).2]; show 0 * 256 + k.val = k.val; omega

/-! ## What a block holds -/

theorem out_apply (x : Vec Ideal S1x1024x1024 .bf16) (w : Vec Ideal S1x1024x256 .bf16) (p : Fin 1024) (k : Fin 256) :
    out0_2 x w (ix2 p k) = ∑ l : Fin 1024, x (ix3 0 p l) * w (ix3 0 l k) := by
  unfold out0_2
  rw [View.canon_cons_unit_zero (S := S1024x256) hz2, View.ld_unit_zero (S := S1x1024x1024) hz3, View.ld_unit_zero (S := S1x1024x256) hz3]
  unfold k0_pay1
  refine (Ideal.matmul_plain_apply (M := 1024) (K := 1024) (N := 256) none _ _ _ p k).trans ?_
  refine (congrArg (· + _) zero_word).trans ?_
  rw [zero_add]
  refine Finset.sum_congr rfl fun l _ => congrArg₂ (fun a b : EReal => a * b) ?_ ?_
  · exact shapeCast_1ab_ab_apply _ _ p l
  · exact shapeCast_1ab_ab_apply _ _ l k

/-! ## The reference at an element -/

variable (A : (⟨S4096x1024, .bf16⟩ : BufTy).Contents (Elt Ideal)) (W : (⟨S1024x256, .bf16⟩ : BufTy).Contents (Elt Ideal))

/-- The reference's result. -/
def dy : S4096x256.Idx → EReal := val_main_v5 (F := Ideal) A W

theorem dy_apply (i : Fin 4096) (k : Fin 256) : dy A W (ix2 i k) = ∑ l : Fin 1024, A (ix2 i l) * W (ix2 l k) := by
  unfold dy
  refine (val_main_v5_apply A W _).trans (Finset.sum_congr rfl fun l _ => ?_)
  rw [val_main_v4_apply, val_main_v2_apply, val_main_v1_apply]
  exact congrArg₂ (fun a b : EReal => a * b) (congrArg A (Shape.idx_ext₂ rfl rfl)) (congrArg W (Shape.idx_ext₂ rfl rfl))

/-! ## The kernel's array is the reference's -/

theorem read0 (t : Fin cfg0.N) (Z : S1x4096x1024.Idx → EReal) (p : Fin 1024) (l : Fin 1024) :
    ((cfg0.win 0).blk t).view.read (Elt Ideal) Z (ix3 0 p l : S1x1024x1024.Idx) = Z (ix3 0 (row t p) l) := congrArg Z (emb0 t p l)
theorem read1 (t : Fin cfg0.N) (Z : S1x1024x256.Idx → EReal) (l : Fin 1024) (k : Fin 256) :
    ((cfg0.win 1).blk t).view.read (Elt Ideal) Z (ix3 0 l k : S1x1024x256.Idx) = Z (ix3 0 l k) := congrArg Z (emb1 t l k)
theorem put2 (t : Fin cfg0.N) (Z : S4096x256.Idx → EReal) (p : Fin 1024) (k : Fin 256) :
    ((cfg0.win 2).blk t).view.read (Elt Ideal) Z (ix2 p k : S1024x256.Idx) = Z (ix2 (row t p) k) := congrArg Z (emb2 t p k)
theorem cut2 (t : Fin cfg0.N) (x : Vec Ideal S1024x256 .f32) : (cfg0.win 2).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl
theorem V_weight : V m c main_v1 = broadcastInDim S1x1024x256 ![1, 2] bcast_S1024x256_S1x1024x256_1_2 (m ((c : Thread nD τ).loc main_arg1)) := by
  unfold V
  simp only [hostOps0]
  after_results_simp <;> rfl

theorem blk0 (t : Fin cfg0.N) : iblk m c 0 t
    = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t
    = ((cfg0.win 1).blk t).view.read (Elt Ideal) (broadcastInDim S1x1024x256 ![1, 2] bcast_S1024x256_S1x1024x256_1_2 (m ((c : Thread nD τ).loc main_arg1))) := by
  rw [← V_weight m c]; rfl

theorem flushed (t : Fin cfg0.N) : (dats m 0 c).flushed 2 t
    = ((cfg0.win 2).blk t).view.read (Elt Ideal) (dy (m ((c : Thread nD τ).loc main_arg0)) (m ((c : Thread nD τ).loc main_arg1))) := by
  rw [Value.flushed2]
  refine funext fun (y : S1024x256.Idx) => ?_
  obtain ⟨p, k, rfl⟩ : ∃ (p : Fin 1024) (k : Fin 256), y = ix2 p k := ⟨y 0, y 1, Shape.idx_ext₂ rfl rfl⟩
  refine Eq.trans ?_ (put2 t (dy (m ((c : Thread nD τ).loc main_arg0)) (m ((c : Thread nD τ).loc main_arg1))) p k).symm
  refine (congrFun (cut2 t _) _).trans ?_
  refine (out_apply _ _ p k).trans (Eq.trans ?_ (dy_apply _ _ _ k).symm)
  refine Finset.sum_congr rfl fun l _ => congrArg₂ (fun a b : EReal => a * b) ?_ ?_
  · exact (congrFun (blk0 m c t) _).trans ((read0 t _ p l).trans (congrArg (m ((c : Thread nD τ).loc main_arg0)) (Shape.idx_ext₂ rfl rfl)))
  · exact (congrFun (blk1 m c t) _).trans ((read1 t _ l k).trans (congrArg (m ((c : Thread nD τ).loc main_arg1)) (Shape.idx_ext₂ rfl rfl)))

theorem covered (i : S4096x256.Idx) : ∃ s : Fin cfg0.N, (win0_2.index s 0 * 1024 ≤ (i 0).val ∧ (i 0).val < win0_2.index s 0 * 1024 + 1024)
    ∧ (win0_2.index s 1 * 256 ≤ (i 1).val ∧ (i 1).val < win0_2.index s 1 * 256 + 256) := by
  have h0 : (i 0).val < 4096 := (i 0).isLt
  have h1 : (i 1).val < 256 := (i 1).isLt
  have hN : cfg0.N = 4 := N_0
  refine ⟨⟨(i 0).val / 1024, by omega⟩, ?_⟩
  rw [(at2 _).1, (at2 _).2]
  dsimp only
  omega

theorem final : (dats m 0 c).arrAt 2 cfg0.N = dy (m ((c : Thread nD τ).loc main_arg0)) (m ((c : Thread nD τ).loc main_arg1)) :=
  (dats m 0 c).arrAt_eq_of_cover 2 (dy (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v2).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v2) = dy (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel14Ideal.BranchA
end
-- ==== Proof.BranchAClaim.lean ====
module

public import proofs.«01_k».proof.Defs
public import proofs.«01_k».proof.Proof.BranchA
public import proofs.«01_k».proof.Proof.Gen.Kernel14Ideal.Frame

/-! The first branch's input gradient's kernel and its reference end with the same array. -/

@[expose] public section

noncomputable section

namespace Cert.BranchA

open Idealize.ShloMosaic Idealize.ShloMosaic.TcCoe Idealize.SL.Sem
open Cert.Kernel14Ideal.BranchA

instance : Cert.Reference14Ideal.Facts := Cert.Reference14Ideal.Gen.facts
instance : Cert.Kernel14Ideal.Facts := Cert.Kernel14Ideal.Gen.facts

theorem algebraic : Cert.algebraic_Kernel14Ideal_Reference14Ideal := by
  intro m g m' g' _ hagree
  refine ⟨fun c => dy (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)), Cert.Kernel14Ideal.BranchA.run m g, ?_⟩
  refine (θ_run Cert.Reference14Ideal.defs _ _).mono (fun r h c => ?_) (Cert.Reference14Ideal.Value.run (F := Ideal) m' g')
  obtain ⟨e0, e1⟩ := hagree c
  refine ⟨(h c).1.trans ((Cert.Reference14Ideal.Read.val_main_v5_eq _ _).trans ?_), (h c).2⟩
  rw [e0, e1]; rfl

end Cert.BranchA
end
-- ==== Proof.BranchB.lean ====
module

public import proofs.«01_k».proof.Proof.Rows
public import proofs.«01_k».proof.Proof.Gen.Kernel15Ideal.Value
public import proofs.«01_k».proof.Proof.Gen.Reference15Ideal.Run
public import proofs.«01_k».proof.Proof.Gen.Reference15Ideal.Read

/-! The gradient of the second branch's input: one product per block of rows. -/

@[expose] public section

noncomputable section

namespace Cert.Kernel15Ideal.BranchB

open Cert.Kernel15Ideal Cert.Kernel15Ideal.Gen Cert.Reference15Ideal.Read Cert.Band Cert.Norm
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def row (t : Fin cfg0.N) (p : Fin 1024) : Fin 4096 := ⟨t.val * 1024 + p.val, by have := t.isLt; have : cfg0.N = 4 := N_0; omega⟩

theorem at0 : ∀ t : Fin cfg0.N, win0_0.index t 0 = 0 ∧ win0_0.index t 1 = t.val ∧ win0_0.index t 2 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (p : Fin 1024) (l : Fin 1024) :
    (win0_0.rect t).emb ((ix3 0 p l : S1x1024x1024.Idx)) = (ix3 0 (row t p) l : S1x4096x1024.Idx) := by
  refine funext fun a => Fin.ext ?_
  refine (Pipeline.Window.rect_emb_val win0_0 t (ix3 0 p l : S1x1024x1024.Idx) a).trans ?_
  match a with
  | ⟨0, _⟩ => rw [show win0_0.index t ⟨0, _⟩ = _ from (at0 t).1]; rfl
  | ⟨1, _⟩ => rw [show win0_0.index t ⟨1, _⟩ = _ from (at0 t).2.1]; rfl
  | ⟨2, _⟩ => rw [show win0_0.index t ⟨2, _⟩ = _ from (at0 t).2.2]; show 0 * 1024 + l.val = l.val; omega

theorem emb1 (t : Fin cfg0.N) (l : Fin 1024) (k : Fin 512) :
    (win0_1.rect t).emb ((ix3 0 l k : S1x1024x512.Idx)) = (ix3 0 l k : S1x1024x512.Idx) := by
  refine funext fun a => Fin.ext ?_
  refine (Pipeline.Window.rect_emb_val win0_1 t (ix3 0 l k : S1x1024x512.Idx) a).trans ?_
  match a with
  | ⟨0, _⟩ => rw [show win0_1.index t ⟨0, _⟩ = _ from (at1 t).1]; rfl
  | ⟨1, _⟩ => rw [show win0_1.index t ⟨1, _⟩ = _ from (at1 t).2.1]; show 0 * 1024 + l.val = l.val; omega
  | ⟨2, _⟩ => rw [show win0_1.index t ⟨2, _⟩ = _ from (at1 t).2.2]; show 0 * 512 + k.val = k.val; omega

theorem emb2 (t : Fin cfg0.N) (p : Fin 1024) (k : Fin 512) : (win0_2.rect t).emb ((ix2 p k : S1024x512.Idx)) = (ix2 (row t p) k : S4096x512.Idx) := by
  refine Shape.idx_ext₂ ?_ ?_
  · refine (Pipeline.Window.rect_emb_val win0_2 t (ix2 p k : S1024x512.Idx) 0).trans ?_
    rw [(at2 t).1]; rfl
  · refine (Pipeline.Window.rect_emb_val win0_2 t (ix2 p k : S1024x512.Idx) 1).trans ?_
    rw [(at2 t).2]; show 0 * 512 + k.val = k.val; omega

/-! ## What a block holds -/

theorem out_apply (x : Vec Ideal S1x1024x1024 .bf16) (w : Vec Ideal S1x1024x512 .bf16) (p : Fin 1024) (k : Fin 512) :
    out0_2 x w (ix2 p k) = ∑ l : Fin 1024, x (ix3 0 p l) * w (ix3 0 l k) := by
  unfold out0_2
  rw [View.canon_cons_unit_zero (S := S1024x512) hz2, View.ld_unit_zero (S := S1x1024x1024) hz3, View.ld_unit_zero (S := S1x1024x512) hz3]
  unfold k0_pay1
  refine (Ideal.matmul_plain_apply (M := 1024) (K := 1024) (N := 512) none _ _ _ p k).trans ?_
  refine (congrArg (· + _) zero_word).trans ?_
  rw [zero_add]
  refine Finset.sum_congr rfl fun l _ => congrArg₂ (fun a b : EReal => a * b) ?_ ?_
  · exact shapeCast_1ab_ab_apply _ _ p l
  · exact shapeCast_1ab_ab_apply _ _ l k

/-! ## The reference at an element -/

variable (A : (⟨S4096x1024, .bf16⟩ : BufTy).Contents (Elt Ideal)) (W : (⟨S1024x512, .bf16⟩ : BufTy).Contents (Elt Ideal))

/-- The reference's result. -/
def dy : S4096x512.Idx → EReal := val_main_v5 (F := Ideal) A W

theorem dy_apply (i : Fin 4096) (k : Fin 512) : dy A W (ix2 i k) = ∑ l : Fin 1024, A (ix2 i l) * W (ix2 l k) := by
  unfold dy
  refine (val_main_v5_apply A W _).trans (Finset.sum_congr rfl fun l _ => ?_)
  rw [val_main_v4_apply, val_main_v2_apply, val_main_v1_apply]
  exact congrArg₂ (fun a b : EReal => a * b) (congrArg A (Shape.idx_ext₂ rfl rfl)) (congrArg W (Shape.idx_ext₂ rfl rfl))

/-! ## The kernel's array is the reference's -/

theorem read0 (t : Fin cfg0.N) (Z : S1x4096x1024.Idx → EReal) (p : Fin 1024) (l : Fin 1024) :
    ((cfg0.win 0).blk t).view.read (Elt Ideal) Z (ix3 0 p l : S1x1024x1024.Idx) = Z (ix3 0 (row t p) l) := congrArg Z (emb0 t p l)
theorem read1 (t : Fin cfg0.N) (Z : S1x1024x512.Idx → EReal) (l : Fin 1024) (k : Fin 512) :
    ((cfg0.win 1).blk t).view.read (Elt Ideal) Z (ix3 0 l k : S1x1024x512.Idx) = Z (ix3 0 l k) := congrArg Z (emb1 t l k)
theorem put2 (t : Fin cfg0.N) (Z : S4096x512.Idx → EReal) (p : Fin 1024) (k : Fin 512) :
    ((cfg0.win 2).blk t).view.read (Elt Ideal) Z (ix2 p k : S1024x512.Idx) = Z (ix2 (row t p) k) := congrArg Z (emb2 t p k)
theorem cut2 (t : Fin cfg0.N) (x : Vec Ideal S1024x512 .f32) : (cfg0.win 2).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl
theorem V_weight : V m c main_v1 = broadcastInDim S1x1024x512 ![1, 2] bcast_S1024x512_S1x1024x512_1_2 (m ((c : Thread nD τ).loc main_arg1)) := by
  unfold V
  simp only [hostOps0]
  after_results_simp <;> rfl

theorem blk0 (t : Fin cfg0.N) : iblk m c 0 t
    = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t
    = ((cfg0.win 1).blk t).view.read (Elt Ideal) (broadcastInDim S1x1024x512 ![1, 2] bcast_S1024x512_S1x1024x512_1_2 (m ((c : Thread nD τ).loc main_arg1))) := by
  rw [← V_weight m c]; rfl

theorem flushed (t : Fin cfg0.N) : (dats m 0 c).flushed 2 t
    = ((cfg0.win 2).blk t).view.read (Elt Ideal) (dy (m ((c : Thread nD τ).loc main_arg0)) (m ((c : Thread nD τ).loc main_arg1))) := by
  rw [Value.flushed2]
  refine funext fun (y : S1024x512.Idx) => ?_
  obtain ⟨p, k, rfl⟩ : ∃ (p : Fin 1024) (k : Fin 512), y = ix2 p k := ⟨y 0, y 1, Shape.idx_ext₂ rfl rfl⟩
  refine Eq.trans ?_ (put2 t (dy (m ((c : Thread nD τ).loc main_arg0)) (m ((c : Thread nD τ).loc main_arg1))) p k).symm
  refine (congrFun (cut2 t _) _).trans ?_
  refine (out_apply _ _ p k).trans (Eq.trans ?_ (dy_apply _ _ _ k).symm)
  refine Finset.sum_congr rfl fun l _ => congrArg₂ (fun a b : EReal => a * b) ?_ ?_
  · exact (congrFun (blk0 m c t) _).trans ((read0 t _ p l).trans (congrArg (m ((c : Thread nD τ).loc main_arg0)) (Shape.idx_ext₂ rfl rfl)))
  · exact (congrFun (blk1 m c t) _).trans ((read1 t _ l k).trans (congrArg (m ((c : Thread nD τ).loc main_arg1)) (Shape.idx_ext₂ rfl rfl)))

theorem covered (i : S4096x512.Idx) : ∃ s : Fin cfg0.N, (win0_2.index s 0 * 1024 ≤ (i 0).val ∧ (i 0).val < win0_2.index s 0 * 1024 + 1024)
    ∧ (win0_2.index s 1 * 512 ≤ (i 1).val ∧ (i 1).val < win0_2.index s 1 * 512 + 512) := by
  have h0 : (i 0).val < 4096 := (i 0).isLt
  have h1 : (i 1).val < 512 := (i 1).isLt
  have hN : cfg0.N = 4 := N_0
  refine ⟨⟨(i 0).val / 1024, by omega⟩, ?_⟩
  rw [(at2 _).1, (at2 _).2]
  dsimp only
  omega

theorem final : (dats m 0 c).arrAt 2 cfg0.N = dy (m ((c : Thread nD τ).loc main_arg0)) (m ((c : Thread nD τ).loc main_arg1)) :=
  (dats m 0 c).arrAt_eq_of_cover 2 (dy (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v2).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v2) = dy (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel15Ideal.BranchB
end
-- ==== Proof.BranchBClaim.lean ====
module

public import proofs.«01_k».proof.Defs
public import proofs.«01_k».proof.Proof.BranchB
public import proofs.«01_k».proof.Proof.Gen.Kernel15Ideal.Frame

/-! The second branch's input gradient's kernel and its reference end with the same array. -/

@[expose] public section

noncomputable section

namespace Cert.BranchB

open Idealize.ShloMosaic Idealize.ShloMosaic.TcCoe Idealize.SL.Sem
open Cert.Kernel15Ideal.BranchB

instance : Cert.Reference15Ideal.Facts := Cert.Reference15Ideal.Gen.facts
instance : Cert.Kernel15Ideal.Facts := Cert.Kernel15Ideal.Gen.facts

theorem algebraic : Cert.algebraic_Kernel15Ideal_Reference15Ideal := by
  intro m g m' g' _ hagree
  refine ⟨fun c => dy (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1)), Cert.Kernel15Ideal.BranchB.run m g, ?_⟩
  refine (θ_run Cert.Reference15Ideal.defs _ _).mono (fun r h c => ?_) (Cert.Reference15Ideal.Value.run (F := Ideal) m' g')
  obtain ⟨e0, e1⟩ := hagree c
  refine ⟨(h c).1.trans ((Cert.Reference15Ideal.Read.val_main_v5_eq _ _).trans ?_), (h c).2⟩
  rw [e0, e1]; rfl

end Cert.BranchB
end
-- ==== Proof.WeightA.lean ====
module

public import proofs.«01_k».proof.Proof.DownWeight
public import proofs.«01_k».proof.Proof.Gate
public import proofs.«01_k».proof.Proof.Gen.Kernel16Ideal.Value
public import proofs.«01_k».proof.Proof.Gen.Reference16Ideal.Run
public import proofs.«01_k».proof.Proof.Gen.Reference16Ideal.Read

/-! The gradient of the first branch's weight: one product per block of its rows. -/

@[expose] public section

noncomputable section

namespace Cert.Kernel16Ideal.WeightA

open Cert.Kernel16Ideal Cert.Kernel16Ideal.Gen Cert.Reference16Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def low (t : Fin cfg0.N) (p : Fin 512) : Fin 1024 := ⟨t.val * 512 + p.val, by have := t.isLt; have : cfg0.N = 2 := N_0; omega⟩

theorem at0 : ∀ t : Fin cfg0.N, win0_0.index t 0 = 0 ∧ win0_0.index t 1 = 0 ∧ win0_0.index t 2 = t.val := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 512) :
    (win0_0.rect t).emb ((ix3 0 k p : S1x4096x512.Idx)) = (ix3 0 k (low t p) : S1x4096x1024.Idx) := by
  refine funext fun a => Fin.ext ?_
  refine (Pipeline.Window.rect_emb_val win0_0 t (ix3 0 k p : S1x4096x512.Idx) a).trans ?_
  match a with
  | ⟨0, _⟩ => rw [show win0_0.index t ⟨0, _⟩ = _ from (at0 t).1]; rfl
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 256) :
    (win0_1.rect t).emb ((ix2 k j : S4096x256.Idx)) = (ix2 k j : S4096x256.Idx) := by
  refine Shape.idx_ext₂ ?_ ?_
  · refine (Pipeline.Window.rect_emb_val win0_1 t (ix2 k j : S4096x256.Idx) 0).trans ?_
    rw [(at1 t).1]; show 0 * 4096 + k.val = k.val; omega
  · refine (Pipeline.Window.rect_emb_val win0_1 t (ix2 k j : S4096x256.Idx) 1).trans ?_
    rw [(at1 t).2]; show 0 * 256 + j.val = j.val; omega

theorem emb2 (t : Fin cfg0.N) (p : Fin 512) (j : Fin 256) :
    (win0_2.rect t).emb ((ix2 p j : S512x256.Idx)) = (ix2 (low t p) j : S1024x256.Idx) := by
  refine Shape.idx_ext₂ ?_ ?_
  · refine (Pipeline.Window.rect_emb_val win0_2 t (ix2 p j : S512x256.Idx) 0).trans ?_
    rw [(at2 t).1]; rfl
  · refine (Pipeline.Window.rect_emb_val win0_2 t (ix2 p j : S512x256.Idx) 1).trans ?_
    rw [(at2 t).2]; show 0 * 256 + j.val = j.val; omega

/-! ## What a block holds -/

theorem out_apply (x : Vec Ideal S1x4096x512 .bf16) (y : Vec Ideal S4096x256 .f32) (p : Fin 512) (j : Fin 256) :
    out0_2 x y (ix2 p j) = ∑ k : Fin 4096, x (ix3 0 k p) * y (ix2 k j) := by
  unfold out0_2
  rw [View.canon_cons_unit_zero (S := S512x256) hz2, View.ld_unit_zero (S := S1x4096x512) hz3, View.ld_unit_zero (S := S4096x256) hz2]
  show FloatOps.matmul (F := Ideal) (firsts dot_S4096x512_S4096x256_S512x256_0_0_1_1_n_n_wf) none (shapeCast S4096x512 x shapeCasts_S1x4096x512_S4096x512) (truncf .bf16 y bitsLt_bf16_f32)
    (constant S512x256 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  rw [shapeCast_1ab_ab_apply]; rfl

/-! ## The reference at an element -/

variable (X : (⟨S4096x1024, .bf16⟩ : BufTy).Contents (Elt Ideal)) (Y : (⟨S4096x256, .f32⟩ : BufTy).Contents (Elt Ideal))

/-- The reference's result. -/
def dw : S1024x256.Idx → EReal := val_main_v7 (F := Ideal) X Y

theorem dw_apply (l : Fin 1024) (j : Fin 256) : dw X Y (ix2 l j) = ∑ k : Fin 4096, X (ix2 k l) * Y (ix2 k j) := by
  unfold dw
  rw [val_main_v7_apply]
  refine (val_main_v6_apply X Y _).trans ((val_main_v5_apply X Y _).trans ?_)
  refine (val_main_v4_apply X Y _).trans (Finset.sum_congr rfl fun k _ => ?_)
  rw [val_main_v3_apply]
  refine congrArg₂ (fun a b : EReal => a * b) ?_ ?_
  · exact congrArg X (Shape.idx_ext₂ rfl rfl)
  · exact congrArg Y (Shape.idx_ext₂ rfl rfl)

/-! ## The kernel's array is the reference's -/

theorem read0 (t : Fin cfg0.N) (Z : S1x4096x1024.Idx → EReal) (k : Fin 4096) (p : Fin 512) :
    ((cfg0.win 0).blk t).view.read (Elt Ideal) Z (ix3 0 k p : S1x4096x512.Idx) = Z (ix3 0 k (low t p)) := congrArg Z (emb0 t k p)
theorem read1 (t : Fin cfg0.N) (k : Fin 4096) (j : Fin 256) :
    ((cfg0.win 1).blk t).view.read (Elt Ideal) Y (ix2 k j : S4096x256.Idx) = Y (ix2 k j) := congrArg Y (emb1 t k j)
theorem put2 (t : Fin cfg0.N) (Z : S1024x256.Idx → EReal) (p : Fin 512) (j : Fin 256) :
    ((cfg0.win 2).blk t).view.read (Elt Ideal) Z (ix2 p j : S512x256.Idx) = Z (ix2 (low t p) j) := congrArg Z (emb2 t p j)
theorem cut2 (t : Fin cfg0.N) (x : Vec Ideal S512x256 .bf16) : (cfg0.win 2).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl

theorem blk0 (t : Fin cfg0.N) : iblk m c 0 t = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t = ((cfg0.win 1).blk t).view.read (Elt Ideal) (m ((c : Thread nD τ).loc main_arg1)) := by
  rw [← V_main_arg1 m c]; rfl

theorem one_apply (Z : S4096x1024.Idx → EReal) (k : Fin 4096) (l : Fin 1024) :
    (broadcastInDim S1x4096x1024 ![1, 2] bcast_S4096x1024_S1x4096x1024_1_2 Z) (ix3 0 k l) = Z (ix2 k l) :=
  congrArg Z (Shape.idx_ext₂ rfl rfl)

theorem flushed (t : Fin cfg0.N) : (dats m 0 c).flushed 2 t
    = ((cfg0.win 2).blk t).view.read (Elt Ideal) (dw (m ((c : Thread nD τ).loc main_arg0)) (m ((c : Thread nD τ).loc main_arg1))) := by
  rw [Value.flushed2, blk0, blk1]
  generalize m ((c : Thread nD τ).loc main_arg0) = X
  generalize m ((c : Thread nD τ).loc main_arg1) = Y
  refine funext fun (y : S512x256.Idx) => ?_
  obtain ⟨p, j, rfl⟩ : ∃ (p : Fin 512) (j : Fin 256), y = ix2 p j := ⟨y 0, y 1, Shape.idx_ext₂ rfl rfl⟩
  refine Eq.trans ?_ (put2 t (dw X Y) p j).symm
  refine (congrFun (cut2 t _) _).trans ?_
  rw [dw_apply]
  refine (out_apply _ _ p j).trans (Finset.sum_congr rfl fun k _ => ?_)
  exact congrArg₂ (fun a b : EReal => a * b) ((read0 t _ k p).trans (one_apply X k _)) (read1 Y t k j)

theorem covered (i : S1024x256.Idx) : ∃ s : Fin cfg0.N, (win0_2.index s 0 * 512 ≤ (i 0).val ∧ (i 0).val < win0_2.index s 0 * 512 + 512)
    ∧ (win0_2.index s 1 * 256 ≤ (i 1).val ∧ (i 1).val < win0_2.index s 1 * 256 + 256) := by
  have h0 : (i 0).val < 1024 := (i 0).isLt
  have h1 : (i 1).val < 256 := (i 1).isLt
  have hN : cfg0.N = 2 := N_0
  refine ⟨⟨(i 0).val / 512, by omega⟩, ?_⟩
  rw [(at2 _).1, (at2 _).2]
  dsimp only
  omega

theorem final : (dats m 0 c).arrAt 2 cfg0.N = dw (m ((c : Thread nD τ).loc main_arg0)) (m ((c : Thread nD τ).loc main_arg1)) :=
  (dats m 0 c).arrAt_eq_of_cover 2 (dw (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v1).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel16Ideal.WeightA
end
-- ==== Proof.WeightAClaim.lean ====
module

public import proofs.«01_k».proof.Defs
public import proofs.«01_k».proof.Proof.WeightA
public import proofs.«01_k».proof.Proof.Gen.Kernel16Ideal.Frame

/-! The first branch's weight gradient's kernel and its reference end with the same array. -/

@[expose] public section

noncomputable section

namespace Cert.WeightA

open Idealize.ShloMosaic Idealize.ShloMosaic.TcCoe Idealize.SL.Sem
open Cert.Kernel16Ideal.WeightA

instance : Cert.Reference16Ideal.Facts := Cert.Reference16Ideal.Gen.facts
instance : Cert.Kernel16Ideal.Facts := Cert.Kernel16Ideal.Gen.facts

theorem algebraic : Cert.algebraic_Kernel16Ideal_Reference16Ideal := by
  intro m g m' g' _ hagree
  refine ⟨fun c => dw (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1)), Cert.Kernel16Ideal.WeightA.run m g, ?_⟩
  refine (θ_run Cert.Reference16Ideal.defs _ _).mono (fun r h c => ?_) (Cert.Reference16Ideal.Value.run (F := Ideal) m' g')
  obtain ⟨e0, e1⟩ := hagree c
  refine ⟨(h c).1.trans ((Cert.Reference16Ideal.Read.val_main_v7_eq _ _).trans ?_), (h c).2⟩
  rw [e0, e1]; rfl

end Cert.WeightA
end
-- ==== Proof.WeightB.lean ====
module

public import proofs.«01_k».proof.Proof.DownWeight
public import proofs.«01_k».proof.Proof.Gate
public import proofs.«01_k».proof.Proof.Gen.Kernel17Ideal.Value
public import proofs.«01_k».proof.Proof.Gen.Reference17Ideal.Run
public import proofs.«01_k».proof.Proof.Gen.Reference17Ideal.Read

/-! The gradient of the second branch's weight: one product per block of its rows. -/

@[expose] public section

noncomputable section

namespace Cert.Kernel17Ideal.WeightB

open Cert.Kernel17Ideal Cert.Kernel17Ideal.Gen Cert.Reference17Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def low (t : Fin cfg0.N) (p : Fin 512) : Fin 1024 := ⟨t.val * 512 + p.val, by have := t.isLt; have : cfg0.N = 2 := N_0; omega⟩

theorem at0 : ∀ t : Fin cfg0.N, win0_0.index t 0 = 0 ∧ win0_0.index t 1 = 0 ∧ win0_0.index t 2 = t.val := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 512) :
    (win0_0.rect t).emb ((ix3 0 k p : S1x4096x512.Idx)) = (ix3 0 k (low t p) : S1x4096x1024.Idx) := by
  refine funext fun a => Fin.ext ?_
  refine (Pipeline.Window.rect_emb_val win0_0 t (ix3 0 k p : S1x4096x512.Idx) a).trans ?_
  match a with
  | ⟨0, _⟩ => rw [show win0_0.index t ⟨0, _⟩ = _ from (at0 t).1]; rfl
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 512) :
    (win0_1.rect t).emb ((ix2 k j : S4096x512.Idx)) = (ix2 k j : S4096x512.Idx) := by
  refine Shape.idx_ext₂ ?_ ?_
  · refine (Pipeline.Window.rect_emb_val win0_1 t (ix2 k j : S4096x512.Idx) 0).trans ?_
    rw [(at1 t).1]; show 0 * 4096 + k.val = k.val; omega
  · refine (Pipeline.Window.rect_emb_val win0_1 t (ix2 k j : S4096x512.Idx) 1).trans ?_
    rw [(at1 t).2]; show 0 * 512 + j.val = j.val; omega

theorem emb2 (t : Fin cfg0.N) (p : Fin 512) (j : Fin 512) :
    (win0_2.rect t).emb ((ix2 p j : S512x512.Idx)) = (ix2 (low t p) j : S1024x512.Idx) := by
  refine Shape.idx_ext₂ ?_ ?_
  · refine (Pipeline.Window.rect_emb_val win0_2 t (ix2 p j : S512x512.Idx) 0).trans ?_
    rw [(at2 t).1]; rfl
  · refine (Pipeline.Window.rect_emb_val win0_2 t (ix2 p j : S512x512.Idx) 1).trans ?_
    rw [(at2 t).2]; show 0 * 512 + j.val = j.val; omega

/-! ## What a block holds -/

theorem out_apply (x : Vec Ideal S1x4096x512 .bf16) (y : Vec Ideal S4096x512 .f32) (p : Fin 512) (j : Fin 512) :
    out0_2 x y (ix2 p j) = ∑ k : Fin 4096, x (ix3 0 k p) * y (ix2 k j) := by
  unfold out0_2
  rw [View.canon_cons_unit_zero (S := S512x512) hz2, View.ld_unit_zero (S := S1x4096x512) hz3, View.ld_unit_zero (S := S4096x512) hz2]
  show FloatOps.matmul (F := Ideal) (firsts dot_S4096x512_S4096x512_S512x512_0_0_1_1_n_n_wf) none (shapeCast S4096x512 x shapeCasts_S1x4096x512_S4096x512) (truncf .bf16 y bitsLt_bf16_f32)
    (constant S512x512 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  rw [shapeCast_1ab_ab_apply]; rfl

/-! ## The reference at an element -/

variable (X : (⟨S4096x1024, .bf16⟩ : BufTy).Contents (Elt Ideal)) (Y : (⟨S4096x512, .f32⟩ : BufTy).Contents (Elt Ideal))

/-- The reference's result. -/
def dw : S1024x512.Idx → EReal := val_main_v7 (F := Ideal) X Y

theorem dw_apply (l : Fin 1024) (j : Fin 512) : dw X Y (ix2 l j) = ∑ k : Fin 4096, X (ix2 k l) * Y (ix2 k j) := by
  unfold dw
  rw [val_main_v7_apply]
  refine (val_main_v6_apply X Y _).trans ((val_main_v5_apply X Y _).trans ?_)
  refine (val_main_v4_apply X Y _).trans (Finset.sum_congr rfl fun k _ => ?_)
  rw [val_main_v3_apply]
  refine congrArg₂ (fun a b : EReal => a * b) ?_ ?_
  · exact congrArg X (Shape.idx_ext₂ rfl rfl)
  · exact congrArg Y (Shape.idx_ext₂ rfl rfl)

/-! ## The kernel's array is the reference's -/

theorem read0 (t : Fin cfg0.N) (Z : S1x4096x1024.Idx → EReal) (k : Fin 4096) (p : Fin 512) :
    ((cfg0.win 0).blk t).view.read (Elt Ideal) Z (ix3 0 k p : S1x4096x512.Idx) = Z (ix3 0 k (low t p)) := congrArg Z (emb0 t k p)
theorem read1 (t : Fin cfg0.N) (k : Fin 4096) (j : Fin 512) :
    ((cfg0.win 1).blk t).view.read (Elt Ideal) Y (ix2 k j : S4096x512.Idx) = Y (ix2 k j) := congrArg Y (emb1 t k j)
theorem put2 (t : Fin cfg0.N) (Z : S1024x512.Idx → EReal) (p : Fin 512) (j : Fin 512) :
    ((cfg0.win 2).blk t).view.read (Elt Ideal) Z (ix2 p j : S512x512.Idx) = Z (ix2 (low t p) j) := congrArg Z (emb2 t p j)
theorem cut2 (t : Fin cfg0.N) (x : Vec Ideal S512x512 .bf16) : (cfg0.win 2).cut (grid0.coords t) x = x := rfl

variable (m : (ℓ : Loc nD τ sig) → Buf (Elt Ideal) ℓ) (c : Dev nD)

theorem V_act : V m c main_v0 = broadcastInDim S1x4096x1024 ![1, 2] bcast_S4096x1024_S1x4096x1024_1_2 (m ((c : Thread nD τ).loc main_arg0)) := by
  unfold V
  simp only [hostOps0]
  after_results_simp <;> rfl

theorem blk0 (t : Fin cfg0.N) : iblk m c 0 t = ((cfg0.win 0).blk t).view.read (Elt Ideal) (broadcastInDim S1x4096x1024 ![1, 2] bcast_S4096x1024_S1x4096x1024_1_2 (m ((c : Thread nD τ).loc main_arg0))) := by
  rw [← V_act m c]; rfl
theorem blk1 (t : Fin cfg0.N) : iblk m c 1 t = ((cfg0.win 1).blk t).view.read (Elt Ideal) (m ((c : Thread nD τ).loc main_arg1)) := by
  rw [← V_main_arg1 m c]; rfl

theorem one_apply (Z : S4096x1024.Idx → EReal) (k : Fin 4096) (l : Fin 1024) :
    (broadcastInDim S1x4096x1024 ![1, 2] bcast_S4096x1024_S1x4096x1024_1_2 Z) (ix3 0 k l) = Z (ix2 k l) :=
  congrArg Z (Shape.idx_ext₂ rfl rfl)

theorem flushed (t : Fin cfg0.N) : (dats m 0 c).flushed 2 t
    = ((cfg0.win 2).blk t).view.read (Elt Ideal) (dw (m ((c : Thread nD τ).loc main_arg0)) (m ((c : Thread nD τ).loc main_arg1))) := by
  rw [Value.flushed2, blk0, blk1]
  generalize m ((c : Thread nD τ).loc main_arg0) = X
  generalize m ((c : Thread nD τ).loc main_arg1) = Y
  refine funext fun (y : S512x512.Idx) => ?_
  obtain ⟨p, j, rfl⟩ : ∃ (p : Fin 512) (j : Fin 512), y = ix2 p j := ⟨y 0, y 1, Shape.idx_ext₂ rfl rfl⟩
  refine Eq.trans ?_ (put2 t (dw X Y) p j).symm
  refine (congrFun (cut2 t _) _).trans ?_
  rw [dw_apply]
  refine (out_apply _ _ p j).trans (Finset.sum_congr rfl fun k _ => ?_)
  exact congrArg₂ (fun a b : EReal => a * b) ((read0 t _ k p).trans (one_apply X k _)) (read1 Y t k j)

theorem covered (i : S1024x512.Idx) : ∃ s : Fin cfg0.N, (win0_2.index s 0 * 512 ≤ (i 0).val ∧ (i 0).val < win0_2.index s 0 * 512 + 512)
    ∧ (win0_2.index s 1 * 512 ≤ (i 1).val ∧ (i 1).val < win0_2.index s 1 * 512 + 512) := by
  have h0 : (i 0).val < 1024 := (i 0).isLt
  have h1 : (i 1).val < 512 := (i 1).isLt
  have hN : cfg0.N = 2 := N_0
  refine ⟨⟨(i 0).val / 512, by omega⟩, ?_⟩
  rw [(at2 _).1, (at2 _).2]
  dsimp only
  omega

theorem final : (dats m 0 c).arrAt 2 cfg0.N = dw (m ((c : Thread nD τ).loc main_arg0)) (m ((c : Thread nD τ).loc main_arg1)) :=
  (dats m 0 c).arrAt_eq_of_cover 2 (dw (m ((c : Thread nD τ).loc main_arg0)) (m ((c : Thread nD τ).loc main_arg1))) (fun t _ => flushed m c t) fun i => by
    obtain ⟨s, hs⟩ := covered i
    refine ⟨s, flush0_2 s, ?_⟩
    show i ∈ ((View.whole main_v1).slice (win0_2.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel17Ideal.WeightB
end
-- ==== Proof.WeightBClaim.lean ====
module

public import proofs.«01_k».proof.Defs
public import proofs.«01_k».proof.Proof.WeightB
public import proofs.«01_k».proof.Proof.Gen.Kernel17Ideal.Frame

/-! The second branch's weight gradient's kernel and its reference end with the same array. -/

@[expose] public section

noncomputable section

namespace Cert.WeightB

open Idealize.ShloMosaic Idealize.ShloMosaic.TcCoe Idealize.SL.Sem
open Cert.Kernel17Ideal.WeightB

instance : Cert.Reference17Ideal.Facts := Cert.Reference17Ideal.Gen.facts
instance : Cert.Kernel17Ideal.Facts := Cert.Kernel17Ideal.Gen.facts

theorem algebraic : Cert.algebraic_Kernel17Ideal_Reference17Ideal := by
  intro m g m' g' _ hagree
  refine ⟨fun c => dw (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1)), Cert.Kernel17Ideal.WeightB.run m g, ?_⟩
  refine (θ_run Cert.Reference17Ideal.defs _ _).mono (fun r h c => ?_) (Cert.Reference17Ideal.Value.run (F := Ideal) m' g')
  obtain ⟨e0, e1⟩ := hagree c
  refine ⟨(h c).1.trans ((Cert.Reference17Ideal.Read.val_main_v7_eq _ _).trans ?_), (h c).2⟩
  rw [e0, e1]; rfl

end Cert.WeightB
end
-- ==== Proof.WeightC.lean ====
module

public import proofs.«01_k».proof.Proof.DownWeight
public import proofs.«01_k».proof.Proof.Gate
public import proofs.«01_k».proof.Proof.Gen.Kernel18Ideal.Value
public import proofs.«01_k».proof.Proof.Gen.Reference18Ideal.Run
public import proofs.«01_k».proof.Proof.Gen.Reference18Ideal.Read
public import Idealize.ShloMosaic.Lib.Tactic

/-! The gradient of the projection's middle rows: one product per block of them, the other rows kept. -/

@[expose] public section

noncomputable section

namespace Cert.Kernel18Ideal.WeightC

open Cert.Kernel18Ideal Cert.Kernel18Ideal.Gen Cert.Reference18Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block among the rows of its third of the gradient, the third, and the row in the result. -/
def third (t : Fin cfg0.N) : Fin 3 := ⟨t.val / 2, by have := t.isLt; have : cfg0.N = 6 := N_0; omega⟩
def inner (t : Fin cfg0.N) (p : Fin 256) : Fin 512 := ⟨t.val % 2 * 256 + p.val, by omega⟩
def low (t : Fin cfg0.N) (p : Fin 256) : Fin 5888 := ⟨(9 + t.val) * 256 + p.val, by have := t.isLt; have : cfg0.N = 6 := N_0; omega⟩

theorem at0 : ∀ t : Fin cfg0.N, win0_0.index t 0 = t.val / 2 ∧ win0_0.index t 1 = 0 ∧ win0_0.index t 2 = t.val % 2 := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = 9 + t.val ∧ win0_2.index t 1 = 0 := (by decide +kernel : ∀ t : Fin grid0.N, _)

theorem emb0 (t : Fin cfg0.N) (k : Fin 4096) (p : Fin 256) :
    (win0_0.rect t).emb ((ix3 0 k p : S1x4096x256.Idx)) = (ix3 (third t) k (inner t p) : S3x4096x512.Idx) := by
  refine funext fun a => Fin.ext ?_
  refine (Pipeline.Window.rect_emb_val win0_0 t (ix3 0 k p : S1x4096x256.Idx) a).trans ?_
  match a with
  | ⟨0, _⟩ => rw [show win0_0.index t ⟨0, _⟩ = _ from (at0 t).1]; show t.val / 2 * 1 + 0 = t.val / 2; omega
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

theorem emb2 (t : Fin cfg0.N) (p : Fin 256) (j : Fin 1024) :
    (win0_2.rect t).emb ((ix2 p j : S256x1024.Idx)) = (ix2 (low t p) j : S5888x1024.Idx) := by
  refine Shape.idx_ext₂ ?_ ?_
  · refine (Pipeline.Window.rect_emb_val win0_2 t (ix2 p j : S256x1024.Idx) 0).trans ?_
    rw [(at2 t).1]; rfl
  · refine (Pipeline.Window.rect_emb_val win0_2 t (ix2 p j : S256x1024.Idx) 1).trans ?_
    rw [(at2 t).2]; show 0 * 1024 + j.val = j.val; omega

/-! ## What a block holds -/

theorem out_A (c : Dev nD) (i : grid0.Coords) (a2 : Memref sig .tc .vmem S1x4096x256 .f32) (h2 : a2.IsWhole) (a3 : Memref sig .tc .vmem S4096x1024 .bf16) (h3 : a3.IsWhole)
    (a5 : Memref sig .tc .vmem S256x1024 .bf16) (h5 : a5.IsWhole) (x : Vec Ideal S1x4096x256 .f32) (y : Vec Ideal S4096x1024 .bf16) :
    out0_A_2 c i a2 h2 a3 h3 a5 h5 x y = k0_pay1 x y := by
  unfold out0_A_2
  rw [View.read_writes_eq_canon _ _ _ (cover0_A_2 c i a2 h2 a3 h3 a5 h5 x y)]
  unfold kernelRun0_A
  dsimp only
  sl_unfold_words
  rw [View.canon_unit_zero hz2]
  simp only [View.readAt_eq_ld, h2.read_unread, h3.read_unread, View.ld_unit_zero (S := S1x4096x256) hz3, View.ld_unit_zero (S := S4096x1024) hz2]

theorem pay_apply (x : Vec Ideal S1x4096x256 .f32) (y : Vec Ideal S4096x1024 .bf16) (p : Fin 256) (j : Fin 1024) :
    k0_pay1 x y (ix2 p j) = ∑ k : Fin 4096, x (ix3 0 k p) * y (ix2 k j) := by
  show FloatOps.matmul (F := Ideal) (firsts dot_S4096x256_S4096x1024_S256x1024_0_0_1_1_n_n_wf) none (truncf .bf16 (shapeCast S4096x256 x shapeCasts_S1x4096x256_S4096x256) bitsLt_bf16_f32) y
    (constant S256x1024 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  refine congrArg (fun a : EReal => a * y (ix2 k j)) ?_
  show shapeCast S4096x256 x shapeCasts_S1x4096x256_S4096x256 (ix2 k p) = _
  rw [shapeCast_1ab_ab_apply]

/-! ## The reference at an element -/

variable (X : (⟨S3x4096x512, .f32⟩ : BufTy).Contents (Elt Ideal)) (Y : (⟨S4096x1024, .bf16⟩ : BufTy).Contents (Elt Ideal)) (Z : (⟨S5888x1024, .bf16⟩ : BufTy).Contents (Elt Ideal))

/-- The reference's result. -/
def dw : S5888x1024.Idx → EReal := val_main_v16 (F := Ideal) X Y Z

/-- A column, or a row, that falls in a given piece. -/
theorem pieceCol {n : ℕ} (xs : List ((s : Shape) × (s.Idx → EReal))) (h : Shape.Concatenates (xs.map (·.1)) Cert.Reference18Ideal.S4096x1536 1) (i : Fin 4096) (j : Fin 1536) (k : ℕ) (hk : k < xs.length)
    (u : (⟨2, ![4096, n]⟩ : Shape).Idx → EReal) (hu : xs[k] = ⟨⟨2, ![4096, n]⟩, u⟩) (pre : ℕ)
    (hpre : (((xs.take k).map (·.1)).map fun s => if h : s.rank = Cert.Reference18Ideal.S4096x1536.rank then s.size ((1 : Fin Cert.Reference18Ideal.S4096x1536.rank).cast h.symm) else 0).sum = pre)
    (l : Fin n) (hl : pre + l.val = j.val) : concatenate Cert.Reference18Ideal.S4096x1536 1 xs h (ix2 i j) = u (ix2 i l) :=
  concatenate_apply_piece 1 xs h _ k hk _ u hu rfl pre hpre (ix2 i l) (fun b hb => by match b with | ⟨0, _⟩ => rfl | ⟨1, _⟩ => exact absurd rfl hb) hl
theorem pieceRow {n : ℕ} (xs : List ((s : Shape) × (s.Idx → EReal))) (h : Shape.Concatenates (xs.map (·.1)) S5888x1024 0) (i : Fin 5888) (j : Fin 1024) (k : ℕ) (hk : k < xs.length)
    (u : (⟨2, ![n, 1024]⟩ : Shape).Idx → EReal) (hu : xs[k] = ⟨⟨2, ![n, 1024]⟩, u⟩) (pre : ℕ)
    (hpre : (((xs.take k).map (·.1)).map fun s => if h : s.rank = S5888x1024.rank then s.size ((0 : Fin S5888x1024.rank).cast h.symm) else 0).sum = pre)
    (l : Fin n) (hl : pre + l.val = i.val) : concatenate S5888x1024 0 xs h (ix2 i j) = u (ix2 l j) :=
  concatenate_apply_piece 0 xs h _ k hk _ u hu rfl pre hpre (ix2 l j) (fun b hb => by match b with | ⟨0, _⟩ => exact absurd rfl hb | ⟨1, _⟩ => rfl) hl

theorem beside0 (i : Fin 4096) (l : Fin 512) (j : Fin 1536) (hj : 0 + l.val = j.val) : val_main_v9 (F := Ideal) X (ix2 i j) = X (ix3 0 i l) := by
  unfold val_main_v9
  have hi := i.isLt
  have hl := l.isLt
  refine (pieceCol _ _ i j 0 (by simp) _ rfl 0 rfl l hj).trans ?_
  rw [val_main_v4_apply, val_main_v3_apply]
  refine congrArg X (funext fun a => Fin.ext ?_)
  match a with
  | ⟨0, _⟩ => rfl
  | ⟨1, _⟩ => show (i.val * 512 + l.val) / 512 % 4096 = i.val; omega
  | ⟨2, _⟩ => show (i.val * 512 + l.val) % 512 = l.val; omega

theorem beside1 (i : Fin 4096) (l : Fin 512) (j : Fin 1536) (hj : 512 + l.val = j.val) : val_main_v9 (F := Ideal) X (ix2 i j) = X (ix3 1 i l) := by
  unfold val_main_v9
  have hi := i.isLt
  have hl := l.isLt
  refine (pieceCol _ _ i j 1 (by simp) _ rfl 512 rfl l hj).trans ?_
  rw [val_main_v6_apply, val_main_v5_apply]
  refine congrArg X (funext fun a => Fin.ext ?_)
  match a with
  | ⟨0, _⟩ => rfl
  | ⟨1, _⟩ => show (i.val * 512 + l.val) / 512 % 4096 = i.val; omega
  | ⟨2, _⟩ => show (i.val * 512 + l.val) % 512 = l.val; omega

theorem beside2 (i : Fin 4096) (l : Fin 512) (j : Fin 1536) (hj : 1024 + l.val = j.val) : val_main_v9 (F := Ideal) X (ix2 i j) = X (ix3 2 i l) := by
  unfold val_main_v9
  have hi := i.isLt
  have hl := l.isLt
  refine (pieceCol _ _ i j 2 (by simp) _ rfl 1024 rfl l hj).trans ?_
  rw [val_main_v8_apply, val_main_v7_apply]
  refine congrArg X (funext fun a => Fin.ext ?_)
  match a with
  | ⟨0, _⟩ => rfl
  | ⟨1, _⟩ => show (i.val * 512 + l.val) / 512 % 4096 = i.val; omega
  | ⟨2, _⟩ => show (i.val * 512 + l.val) % 512 = l.val; omega

theorem beside (i : Fin 4096) (s : Fin 3) (l : Fin 512) (j : Fin 1536) (hj : s.val * 512 + l.val = j.val) : val_main_v9 (F := Ideal) X (ix2 i j) = X (ix3 s i l) := by
  rcases (show s = 0 ∨ s = 1 ∨ s = 2 by omega) with h | h | h
  · subst h; exact beside0 X i l j hj
  · subst h; exact beside1 X i l j hj
  · subst h; exact beside2 X i l j hj

theorem dw_mid (t : Fin cfg0.N) (p : Fin 256) (j : Fin 1024) : dw X Y Z (ix2 (low t p) j) = ∑ k : Fin 4096, X (ix3 (third t) k (inner t p)) * Y (ix2 k j) := by
  have ht : t.val < 6 := t.isLt
  have hp := p.isLt
  unfold dw val_main_v16
  refine (pieceRow _ _ (low t p) j 1 (by simp) _ rfl 2304 rfl ⟨t.val * 256 + p.val, by omega⟩ (by show 2304 + (t.val * 256 + p.val) = (9 + t.val) * 256 + p.val; omega)).trans ?_
  refine (val_main_v13_apply X Y _).trans ((val_main_v12_apply X Y _).trans ((val_main_v11_apply X Y _).trans ?_))
  refine (val_main_v10_apply X Y _).trans (Finset.sum_congr rfl fun k _ => ?_)
  rw [val_main_v1_apply]
  refine congrArg₂ (fun a b : EReal => a * b) ?_ ?_
  · refine Eq.trans (b := val_main_v9 (F := Ideal) X (ix2 k ⟨t.val * 256 + p.val, by omega⟩)) (congrArg (val_main_v9 (F := Ideal) X) (Shape.idx_ext₂ rfl rfl)) (beside X k (third t) (inner t p) ⟨t.val * 256 + p.val, by omega⟩ ?_)
    show t.val / 2 * 512 + (t.val % 2 * 256 + p.val) = t.val * 256 + p.val; omega
  · exact congrArg Y (Shape.idx_ext₂ rfl rfl)

theorem dw_kept (i : Fin 5888) (j : Fin 1024) (h : i.val < 2304 ∨ 3840 ≤ i.val) : dw X Y Z (ix2 i j) = Z (ix2 i j) := by
  have hi := i.isLt
  unfold dw val_main_v16
  rcases h with h | h
  · refine (pieceRow _ _ i j 0 (by simp) _ rfl 0 rfl ⟨i.val, h⟩ (by show 0 + i.val = i.val; omega)).trans ?_
    rw [val_main_v14_apply]
    exact congrArg Z (Shape.idx_ext₂ rfl rfl)
  · refine (pieceRow _ _ i j 2 (by simp) _ rfl 3840 rfl ⟨i.val - 3840, by omega⟩ (by show 3840 + (i.val - 3840) = i.val; omega)).trans ?_
    rw [val_main_v15_apply]
    exact congrArg Z (Shape.idx_ext₂ (by show 3840 + (i.val - 3840) = i.val; omega) rfl)

/-! ## The kernel's array is the reference's -/

theorem read0 (t : Fin cfg0.N) (k : Fin 4096) (p : Fin 256) :
    ((cfg0.win 0).blk t).view.read (Elt Ideal) X (ix3 0 k p : S1x4096x256.Idx) = X (ix3 (third t) k (inner t p)) := congrArg X (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (W : S5888x1024.Idx → EReal) (p : Fin 256) (j : Fin 1024) :
    ((cfg0.win 2).blk t).view.read (Elt Ideal) W (ix2 p j : S256x1024.Idx) = W (ix2 (low t p) j) := congrArg W (emb2 t p j)
theorem cut2 (t : Fin cfg0.N) (x : Vec Ideal S256x1024 .bf16) : (cfg0.win 2).cut (grid0.coords t) x = x := rfl

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl

theorem V_kept : V m c main_v0 = m ((c : Thread nD τ).loc main_arg2) := by
  unfold V
  simp only [hostOps0]
  after_results_simp <;> rfl

theorem flushed (t : Fin cfg0.N) : (dats m 0 c).flushed 2 t
    = ((cfg0.win 2).blk t).view.read (Elt Ideal) (dw (m ((c : Thread nD τ).loc main_arg0)) (m ((c : Thread nD τ).loc main_arg1)) (m ((c : Thread nD τ).loc main_arg2))) := by
  rw [Value.flushed2_A, out_A, blk0, blk1]
  generalize m ((c : Thread nD τ).loc main_arg0) = X
  generalize m ((c : Thread nD τ).loc main_arg1) = Y
  generalize m ((c : Thread nD τ).loc main_arg2) = Z
  refine funext fun (y : S256x1024.Idx) => ?_
  obtain ⟨p, j, rfl⟩ : ∃ (p : Fin 256) (j : Fin 1024), y = ix2 p j := ⟨y 0, y 1, Shape.idx_ext₂ rfl rfl⟩
  refine Eq.trans ?_ (put2 t (dw X Y Z) p j).symm
  refine (congrFun (cut2 t _) _).trans ?_
  rw [dw_mid]
  refine (pay_apply _ _ p j).trans (Finset.sum_congr rfl fun k _ => ?_)
  exact congrArg₂ (fun a b : EReal => a * b) (read0 X t k p) (read1 Y t k j)

theorem mem_blk (s : Fin cfg0.N) (i : S5888x1024.Idx) : i ∈ ((cfg0.win 2).blk s).view.set ↔ (9 + s.val) * 256 ≤ (i 0).val ∧ (i 0).val < (9 + s.val) * 256 + 256 := by
  show i ∈ ((View.whole main_v0).slice (win0_2.rect s)).set ↔ _
  rw [View.set_slice_whole, Rect.mem_set_unit]
  have h1 : (i 1).val < 1024 := (i 1).isLt
  constructor
  · intro h
    have := h 0
    have e : win0_2.index s 0 * 256 ≤ (i 0).val ∧ (i 0).val < win0_2.index s 0 * 256 + 256 := this
    rwa [(at2 s).1] at e
  · intro h a
    match a with
    | ⟨0, _⟩ =>
      show win0_2.index s 0 * 256 ≤ (i 0).val ∧ (i 0).val < win0_2.index s 0 * 256 + 256
      rw [(at2 s).1]; exact h
    | ⟨1, _⟩ =>
      show win0_2.index s 1 * 1024 ≤ (i 1).val ∧ (i 1).val < win0_2.index s 1 * 1024 + 1024
      rw [(at2 s).2, Nat.zero_mul, Nat.zero_add]; exact ⟨Nat.zero_le _, h1⟩

theorem spot (r : Fin 5888) (h : ¬(r.val < 2304 ∨ 3840 ≤ r.val)) : ∃ (t : Fin cfg0.N) (p : Fin 256), r = low t p := by
  have hN : cfg0.N = 6 := N_0
  have ht : r.val / 256 - 9 < cfg0.N := by omega
  have hp : r.val % 256 < 256 := Nat.mod_lt _ (by omega)
  refine ⟨⟨r.val / 256 - 9, ht⟩, ⟨r.val % 256, hp⟩, Fin.ext ?_⟩
  unfold low
  dsimp only
  omega

theorem final : (dats m 0 c).arrAt 2 cfg0.N = dw (m ((c : Thread nD τ).loc main_arg0)) (m ((c : Thread nD τ).loc main_arg1)) (m ((c : Thread nD τ).loc main_arg2)) := by
  refine funext fun (i : S5888x1024.Idx) => ?_
  obtain ⟨r, j, rfl⟩ : ∃ (r : Fin 5888) (j : Fin 1024), i = ix2 r j := ⟨i 0, i 1, Shape.idx_ext₂ rfl rfl⟩
  have hN : cfg0.N = 6 := N_0
  by_cases h : r.val < 2304 ∨ 3840 ≤ r.val
  · refine (Value.entry2 m c (ix2 r j) fun s _ hs => ?_).trans ?_
    · have hs' := (mem_blk s (ix2 r j)).1 hs
      have h0 : (9 + s.val) * 256 ≤ r.val ∧ r.val < (9 + s.val) * 256 + 256 := hs'
      have := s.isLt
      omega
    · refine Eq.trans ?_ (dw_kept _ _ _ r j h).symm
      exact congrFun (V_kept m c) _
  · obtain ⟨t, p, rfl⟩ := spot r h
    refine (put2 t ((dats m 0 c).arrAt 2 cfg0.N) p j).symm.trans (Eq.trans ?_ (put2 t (dw (m ((c : Thread nD τ).loc main_arg0)) (m ((c : Thread nD τ).loc main_arg1)) (m ((c : Thread nD τ).loc main_arg2))) p j))
    exact congrFun ((Value.blocks2 m c t (flush0_2 t)).trans (flushed m c t)) _

theorem run (g : Dev nD → PrngReg) : θ_run defs (onTc (τ := τ) (main (F := Ideal))) ⟨m, fun _ => 0, g⟩ (fun r => ∀ c : Dev nD,
      r.2.mem ((c.tc : Thread nD τ).loc main_v0) = dw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Value.run_blocks m g)

end Cert.Kernel18Ideal.WeightC
end
-- ==== Proof.WeightCClaim.lean ====
module

public import proofs.«01_k».proof.Defs
public import proofs.«01_k».proof.Proof.WeightC
public import proofs.«01_k».proof.Proof.Gen.Kernel18Ideal.Frame

/-! The middle rows' weight gradient kernel and its reference end with the same array. -/

@[expose] public section

noncomputable section

namespace Cert.WeightC

open Idealize.ShloMosaic Idealize.ShloMosaic.TcCoe Idealize.SL.Sem
open Cert.Kernel18Ideal.WeightC

instance : Cert.Reference18Ideal.Facts := Cert.Reference18Ideal.Gen.facts
instance : Cert.Kernel18Ideal.Facts := Cert.Kernel18Ideal.Gen.facts

theorem algebraic : Cert.algebraic_Kernel18Ideal_Reference18Ideal := by
  intro m g m' g' _ hagree
  refine ⟨fun c => dw (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1))
    (m ((c.tc : Thread Cert.Kernel18Ideal.nD Cert.Kernel18Ideal.τ).loc Cert.Kernel18Ideal.main_arg2)), Cert.Kernel18Ideal.WeightC.run m g, ?_⟩
  refine (θ_run Cert.Reference18Ideal.defs _ _).mono (fun r h c => ?_) (Cert.Reference18Ideal.Value.run (F := Ideal) m' g')
  obtain ⟨e0, e1, e2⟩ := hagree c
  refine ⟨(h c).1.trans ((Cert.Reference18Ideal.Read.val_main_v16_eq _ _ _).trans ?_), (h c).2⟩
  rw [e0, e1, e2]; rfl

end Cert.WeightC
end
-- ==== Proof.WeightD.lean ====
module

public import proofs.«01_k».proof.Proof.DownWeight
public import proofs.«01_k».proof.Proof.Gate
public import proofs.«01_k».proof.Proof.Gen.Kernel19Ideal.Value
public import proofs.«01_k».proof.Proof.Gen.Reference19Ideal.Run
public import proofs.«01_k».proof.Proof.Gen.Reference19Ideal.Read
public import Idealize.ShloMosaic.Lib.Tactic

/-! The gradient of the projection's last rows: one product per block of them, the other rows kept. -/

@[expose] public section

noncomputable section

namespace Cert.Kernel19Ideal.WeightD

open Cert.Kernel19Ideal Cert.Kernel19Ideal.Gen Cert.Reference19Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block among the rows of its half of the gradient, the half, and the row in the result. -/
def half (t : Fin cfg0.N) : Fin 2 := ⟨t.val / 4, by have := t.isLt; have : cfg0.N = 8 := N_0; omega⟩
def inner (t : Fin cfg0.N) (p : Fin 256) : Fin 1024 := ⟨t.val % 4 * 256 + p.val, by omega⟩
def low (t : Fin cfg0.N) (p : Fin 256) : Fin 5888 := ⟨(15 + t.val) * 256 + p.val, by have := t.isLt; have : cfg0.N = 8 := N_0; omega⟩

theorem at0 : ∀ t : Fin cfg0.N, win0_0.index t 0 = t.val / 4 ∧ win0_0.index t 1 = 0 ∧ win0_0.index t 2 = t.val % 4 := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = 15 + t.val ∧ win0_2.index t 1 = 0 := (by decide +kernel : ∀ t : Fin grid0.N, _)

theorem emb0 (t : Fin cfg0.N) (k : Fin 4096) (p : Fin 256) :
    (win0_0.rect t).emb ((ix3 0 k p : S1x4096x256.Idx)) = (ix3 (half t) k (inner t p) : S2x4096x1024.Idx) := by
  refine funext fun a => Fin.ext ?_
  refine (Pipeline.Window.rect_emb_val win0_0 t (ix3 0 k p : S1x4096x256.Idx) a).trans ?_
  match a with
  | ⟨0, _⟩ => rw [show win0_0.index t ⟨0, _⟩ = _ from (at0 t).1]; show t.val / 4 * 1 + 0 = t.val / 4; omega
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

theorem emb2 (t : Fin cfg0.N) (p : Fin 256) (j : Fin 1024) :
    (win0_2.rect t).emb ((ix2 p j : S256x1024.Idx)) = (ix2 (low t p) j : S5888x1024.Idx) := by
  refine Shape.idx_ext₂ ?_ ?_
  · refine (Pipeline.Window.rect_emb_val win0_2 t (ix2 p j : S256x1024.Idx) 0).trans ?_
    rw [(at2 t).1]; rfl
  · refine (Pipeline.Window.rect_emb_val win0_2 t (ix2 p j : S256x1024.Idx) 1).trans ?_
    rw [(at2 t).2]; show 0 * 1024 + j.val = j.val; omega

/-! ## What a block holds -/

theorem out_A (c : Dev nD) (i : grid0.Coords) (a2 : Memref sig .tc .vmem S1x4096x256 .bf16) (h2 : a2.IsWhole) (a3 : Memref sig .tc .vmem S4096x1024 .bf16) (h3 : a3.IsWhole)
    (a5 : Memref sig .tc .vmem S256x1024 .bf16) (h5 : a5.IsWhole) (x : Vec Ideal S1x4096x256 .bf16) (y : Vec Ideal S4096x1024 .bf16) :
    out0_A_2 c i a2 h2 a3 h3 a5 h5 x y = k0_pay1 x y := by
  unfold out0_A_2
  rw [View.read_writes_eq_canon _ _ _ (cover0_A_2 c i a2 h2 a3 h3 a5 h5 x y)]
  unfold kernelRun0_A
  dsimp only
  sl_unfold_words
  rw [View.canon_unit_zero hz2]
  simp only [View.readAt_eq_ld, h2.read_unread, h3.read_unread, View.ld_unit_zero (S := S1x4096x256) hz3, View.ld_unit_zero (S := S4096x1024) hz2]

theorem pay_apply (x : Vec Ideal S1x4096x256 .bf16) (y : Vec Ideal S4096x1024 .bf16) (p : Fin 256) (j : Fin 1024) :
    k0_pay1 x y (ix2 p j) = ∑ k : Fin 4096, x (ix3 0 k p) * y (ix2 k j) := by
  show FloatOps.matmul (F := Ideal) (firsts dot_S4096x256_S4096x1024_S256x1024_0_0_1_1_n_n_wf) none (shapeCast S4096x256 x shapeCasts_S1x4096x256_S4096x256) y
    (constant S256x1024 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  refine congrArg (fun a : EReal => a * y (ix2 k j)) ?_
  show shapeCast S4096x256 x shapeCasts_S1x4096x256_S4096x256 (ix2 k p) = _
  rw [shapeCast_1ab_ab_apply]

/-! ## The reference at an element -/

variable (X : (⟨S2x4096x1024, .bf16⟩ : BufTy).Contents (Elt Ideal)) (Y : (⟨S4096x1024, .bf16⟩ : BufTy).Contents (Elt Ideal)) (Z : (⟨S5888x1024, .bf16⟩ : BufTy).Contents (Elt Ideal))

/-- The reference's result. -/
def dw : S5888x1024.Idx → EReal := val_main_v14 (F := Ideal) X Y Z

/-- A column, or a row, that falls in a given piece. -/
theorem pieceCol {n : ℕ} (xs : List ((s : Shape) × (s.Idx → EReal))) (h : Shape.Concatenates (xs.map (·.1)) Cert.Reference19Ideal.S4096x2048 1) (i : Fin 4096) (j : Fin 2048) (k : ℕ) (hk : k < xs.length)
    (u : (⟨2, ![4096, n]⟩ : Shape).Idx → EReal) (hu : xs[k] = ⟨⟨2, ![4096, n]⟩, u⟩) (pre : ℕ)
    (hpre : (((xs.take k).map (·.1)).map fun s => if h : s.rank = Cert.Reference19Ideal.S4096x2048.rank then s.size ((1 : Fin Cert.Reference19Ideal.S4096x2048.rank).cast h.symm) else 0).sum = pre)
    (l : Fin n) (hl : pre + l.val = j.val) : concatenate Cert.Reference19Ideal.S4096x2048 1 xs h (ix2 i j) = u (ix2 i l) :=
  concatenate_apply_piece 1 xs h _ k hk _ u hu rfl pre hpre (ix2 i l) (fun b hb => by match b with | ⟨0, _⟩ => rfl | ⟨1, _⟩ => exact absurd rfl hb) hl
theorem pieceRow {n : ℕ} (xs : List ((s : Shape) × (s.Idx → EReal))) (h : Shape.Concatenates (xs.map (·.1)) S5888x1024 0) (i : Fin 5888) (j : Fin 1024) (k : ℕ) (hk : k < xs.length)
    (u : (⟨2, ![n, 1024]⟩ : Shape).Idx → EReal) (hu : xs[k] = ⟨⟨2, ![n, 1024]⟩, u⟩) (pre : ℕ)
    (hpre : (((xs.take k).map (·.1)).map fun s => if h : s.rank = S5888x1024.rank then s.size ((0 : Fin S5888x1024.rank).cast h.symm) else 0).sum = pre)
    (l : Fin n) (hl : pre + l.val = i.val) : concatenate S5888x1024 0 xs h (ix2 i j) = u (ix2 l j) :=
  concatenate_apply_piece 0 xs h _ k hk _ u hu rfl pre hpre (ix2 l j) (fun b hb => by match b with | ⟨0, _⟩ => exact absurd rfl hb | ⟨1, _⟩ => rfl) hl

theorem beside0 (i : Fin 4096) (l : Fin 1024) (j : Fin 2048) (hj : 0 + l.val = j.val) : val_main_v7 (F := Ideal) X (ix2 i j) = X (ix3 0 i l) := by
  unfold val_main_v7
  have hi := i.isLt
  have hl := l.isLt
  refine (pieceCol _ _ i j 0 (by simp) _ rfl 0 rfl l hj).trans ?_
  rw [val_main_v4_apply, val_main_v3_apply]
  refine congrArg X (funext fun a => Fin.ext ?_)
  match a with
  | ⟨0, _⟩ => rfl
  | ⟨1, _⟩ => show (i.val * 1024 + l.val) / 1024 % 4096 = i.val; omega
  | ⟨2, _⟩ => show (i.val * 1024 + l.val) % 1024 = l.val; omega

theorem beside1 (i : Fin 4096) (l : Fin 1024) (j : Fin 2048) (hj : 1024 + l.val = j.val) : val_main_v7 (F := Ideal) X (ix2 i j) = X (ix3 1 i l) := by
  unfold val_main_v7
  have hi := i.isLt
  have hl := l.isLt
  refine (pieceCol _ _ i j 1 (by simp) _ rfl 1024 rfl l hj).trans ?_
  rw [val_main_v6_apply, val_main_v5_apply]
  refine congrArg X (funext fun a => Fin.ext ?_)
  match a with
  | ⟨0, _⟩ => rfl
  | ⟨1, _⟩ => show (i.val * 1024 + l.val) / 1024 % 4096 = i.val; omega
  | ⟨2, _⟩ => show (i.val * 1024 + l.val) % 1024 = l.val; omega

theorem beside (i : Fin 4096) (s : Fin 2) (l : Fin 1024) (j : Fin 2048) (hj : s.val * 1024 + l.val = j.val) : val_main_v7 (F := Ideal) X (ix2 i j) = X (ix3 s i l) := by
  rcases (show s = 0 ∨ s = 1 by omega) with h | h
  · subst h; exact beside0 X i l j hj
  · subst h; exact beside1 X i l j hj

theorem dw_mid (t : Fin cfg0.N) (p : Fin 256) (j : Fin 1024) : dw X Y Z (ix2 (low t p) j) = ∑ k : Fin 4096, X (ix3 (half t) k (inner t p)) * Y (ix2 k j) := by
  have ht : t.val < 8 := t.isLt
  have hp := p.isLt
  unfold dw val_main_v14
  refine (pieceRow _ _ (low t p) j 1 (by simp) _ rfl 3840 rfl ⟨t.val * 256 + p.val, by omega⟩ (by show 3840 + (t.val * 256 + p.val) = (15 + t.val) * 256 + p.val; omega)).trans ?_
  refine (val_main_v12_apply X Y _).trans ((val_main_v11_apply X Y _).trans ((val_main_v10_apply X Y _).trans ?_))
  refine (val_main_v9_apply X Y _).trans (Finset.sum_congr rfl fun k _ => ?_)
  rw [val_main_v8_apply, val_main_v1_apply]
  refine congrArg₂ (fun a b : EReal => a * b) ?_ ?_
  · refine Eq.trans (b := val_main_v7 (F := Ideal) X (ix2 k ⟨t.val * 256 + p.val, by omega⟩)) (congrArg (val_main_v7 (F := Ideal) X) (Shape.idx_ext₂ rfl rfl)) (beside X k (half t) (inner t p) ⟨t.val * 256 + p.val, by omega⟩ ?_)
    show t.val / 4 * 1024 + (t.val % 4 * 256 + p.val) = t.val * 256 + p.val; omega
  · exact congrArg Y (Shape.idx_ext₂ rfl rfl)

theorem dw_kept (i : Fin 5888) (j : Fin 1024) (h : i.val < 3840) : dw X Y Z (ix2 i j) = Z (ix2 i j) := by
  unfold dw val_main_v14
  refine (pieceRow _ _ i j 0 (by simp) _ rfl 0 rfl ⟨i.val, h⟩ (by show 0 + i.val = i.val; omega)).trans ?_
  rw [val_main_v13_apply]
  exact congrArg Z (Shape.idx_ext₂ rfl rfl)

/-! ## The kernel's array is the reference's -/

theorem read0 (t : Fin cfg0.N) (k : Fin 4096) (p : Fin 256) :
    ((cfg0.win 0).blk t).view.read (Elt Ideal) X (ix3 0 k p : S1x4096x256.Idx) = X (ix3 (half t) k (inner t p)) := congrArg X (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (W : S5888x1024.Idx → EReal) (p : Fin 256) (j : Fin 1024) :
    ((cfg0.win 2).blk t).view.read (Elt Ideal) W (ix2 p j : S256x1024.Idx) = W (ix2 (low t p) j) := congrArg W (emb2 t p j)
theorem cut2 (t : Fin cfg0.N) (x : Vec Ideal S256x1024 .bf16) : (cfg0.win 2).cut (grid0.coords t) x = x := rfl

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl

theorem V_kept : V m c main_v0 = m ((c : Thread nD τ).loc main_arg2) := by
  unfold V
  simp only [hostOps0]
  after_results_simp <;> rfl

theorem flushed (t : Fin cfg0.N) : (dats m 0 c).flushed 2 t
    = ((cfg0.win 2).blk t).view.read (Elt Ideal) (dw (m ((c : Thread nD τ).loc main_arg0)) (m ((c : Thread nD τ).loc main_arg1)) (m ((c : Thread nD τ).loc main_arg2))) := by
  rw [Value.flushed2_A, out_A, blk0, blk1]
  generalize m ((c : Thread nD τ).loc main_arg0) = X
  generalize m ((c : Thread nD τ).loc main_arg1) = Y
  generalize m ((c : Thread nD τ).loc main_arg2) = Z
  refine funext fun (y : S256x1024.Idx) => ?_
  obtain ⟨p, j, rfl⟩ : ∃ (p : Fin 256) (j : Fin 1024), y = ix2 p j := ⟨y 0, y 1, Shape.idx_ext₂ rfl rfl⟩
  refine Eq.trans ?_ (put2 t (dw X Y Z) p j).symm
  refine (congrFun (cut2 t _) _).trans ?_
  rw [dw_mid]
  refine (pay_apply _ _ p j).trans (Finset.sum_congr rfl fun k _ => ?_)
  exact congrArg₂ (fun a b : EReal => a * b) (read0 X t k p) (read1 Y t k j)

theorem mem_blk (s : Fin cfg0.N) (i : S5888x1024.Idx) : i ∈ ((cfg0.win 2).blk s).view.set ↔ (15 + s.val) * 256 ≤ (i 0).val ∧ (i 0).val < (15 + s.val) * 256 + 256 := by
  show i ∈ ((View.whole main_v0).slice (win0_2.rect s)).set ↔ _
  rw [View.set_slice_whole, Rect.mem_set_unit]
  have h1 : (i 1).val < 1024 := (i 1).isLt
  constructor
  · intro h
    have := h 0
    have e : win0_2.index s 0 * 256 ≤ (i 0).val ∧ (i 0).val < win0_2.index s 0 * 256 + 256 := this
    rwa [(at2 s).1] at e
  · intro h a
    match a with
    | ⟨0, _⟩ =>
      show win0_2.index s 0 * 256 ≤ (i 0).val ∧ (i 0).val < win0_2.index s 0 * 256 + 256
      rw [(at2 s).1]; exact h
    | ⟨1, _⟩ =>
      show win0_2.index s 1 * 1024 ≤ (i 1).val ∧ (i 1).val < win0_2.index s 1 * 1024 + 1024
      rw [(at2 s).2, Nat.zero_mul, Nat.zero_add]; exact ⟨Nat.zero_le _, h1⟩

theorem spot (r : Fin 5888) (h : ¬ r.val < 3840) : ∃ (t : Fin cfg0.N) (p : Fin 256), r = low t p := by
  have hN : cfg0.N = 8 := N_0
  have ht : r.val / 256 - 15 < cfg0.N := by omega
  have hp : r.val % 256 < 256 := Nat.mod_lt _ (by omega)
  refine ⟨⟨r.val / 256 - 15, ht⟩, ⟨r.val % 256, hp⟩, Fin.ext ?_⟩
  unfold low
  dsimp only
  omega

theorem final : (dats m 0 c).arrAt 2 cfg0.N = dw (m ((c : Thread nD τ).loc main_arg0)) (m ((c : Thread nD τ).loc main_arg1)) (m ((c : Thread nD τ).loc main_arg2)) := by
  refine funext fun (i : S5888x1024.Idx) => ?_
  obtain ⟨r, j, rfl⟩ : ∃ (r : Fin 5888) (j : Fin 1024), i = ix2 r j := ⟨i 0, i 1, Shape.idx_ext₂ rfl rfl⟩
  have hN : cfg0.N = 8 := N_0
  by_cases h : r.val < 3840
  · refine (Value.entry2 m c (ix2 r j) fun s _ hs => ?_).trans ?_
    · have hs' := (mem_blk s (ix2 r j)).1 hs
      have h0 : (15 + s.val) * 256 ≤ r.val ∧ r.val < (15 + s.val) * 256 + 256 := hs'
      have := s.isLt
      omega
    · refine Eq.trans ?_ (dw_kept _ _ _ r j h).symm
      exact congrFun (V_kept m c) _
  · obtain ⟨t, p, rfl⟩ := spot r h
    refine (put2 t ((dats m 0 c).arrAt 2 cfg0.N) p j).symm.trans (Eq.trans ?_ (put2 t (dw (m ((c : Thread nD τ).loc main_arg0)) (m ((c : Thread nD τ).loc main_arg1)) (m ((c : Thread nD τ).loc main_arg2))) p j))
    exact congrFun ((Value.blocks2 m c t (flush0_2 t)).trans (flushed m c t)) _

theorem run (g : Dev nD → PrngReg) : θ_run defs (onTc (τ := τ) (main (F := Ideal))) ⟨m, fun _ => 0, g⟩ (fun r => ∀ c : Dev nD,
      r.2.mem ((c.tc : Thread nD τ).loc main_v0) = dw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Value.run_blocks m g)

end Cert.Kernel19Ideal.WeightD
end
-- ==== Proof.WeightDClaim.lean ====
module

public import proofs.«01_k».proof.Defs
public import proofs.«01_k».proof.Proof.WeightD
public import proofs.«01_k».proof.Proof.Gen.Kernel19Ideal.Frame

/-! The last rows' weight gradient kernel and its reference end with the same array. -/

@[expose] public section

noncomputable section

namespace Cert.WeightD

open Idealize.ShloMosaic Idealize.ShloMosaic.TcCoe Idealize.SL.Sem
open Cert.Kernel19Ideal.WeightD

instance : Cert.Reference19Ideal.Facts := Cert.Reference19Ideal.Gen.facts
instance : Cert.Kernel19Ideal.Facts := Cert.Kernel19Ideal.Gen.facts

theorem algebraic : Cert.algebraic_Kernel19Ideal_Reference19Ideal := by
  intro m g m' g' _ hagree
  refine ⟨fun c => dw (m ((c.tc : Thread Cert.Kernel19Ideal.nD Cert.Kernel19Ideal.τ).loc Cert.Kernel19Ideal.main_arg0))
    (m ((c.tc : Thread Cert.Kernel19Ideal.nD Cert.Kernel19Ideal.τ).loc Cert.Kernel19Ideal.main_arg1))
    (m ((c.tc : Thread Cert.Kernel19Ideal.nD Cert.Kernel19Ideal.τ).loc Cert.Kernel19Ideal.main_arg2)), Cert.Kernel19Ideal.WeightD.run m g, ?_⟩
  refine (θ_run Cert.Reference19Ideal.defs _ _).mono (fun r h c => ?_) (Cert.Reference19Ideal.Value.run (F := Ideal) m' g')
  obtain ⟨e0, e1, e2⟩ := hagree c
  refine ⟨(h c).1.trans ((Cert.Reference19Ideal.Read.val_main_v14_eq _ _ _).trans ?_), (h c).2⟩
  rw [e0, e1, e2]; rfl

end Cert.WeightD
end
-- ==== Proof.WeightE.lean ====
module

public import proofs.«01_k».proof.Proof.DownWeight
public import proofs.«01_k».proof.Proof.Gate
public import proofs.«01_k».proof.Proof.Gen.Kernel20Ideal.Frame
public import Idealize.ShloMosaic.Lib.Pipeline.Value
public import proofs.«01_k».proof.Proof.Gen.Reference20Ideal.Run
public import proofs.«01_k».proof.Proof.Gen.Reference20Ideal.Read
public import Idealize.ShloMosaic.Lib.Tactic

/-! The gradient of the projection's first rows: one product per block of them, and the slice that keeps these rows. -/

@[expose] public section

noncomputable section

namespace Cert.Kernel20Ideal.WeightE

open Cert.Kernel20Ideal Cert.Kernel20Ideal.Gen Cert.Reference20Ideal.Read Cert.Band Cert.Norm Cert.Gate
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of point `t`'s block. -/
def low (t : Fin cfg0.N) (p : Fin 768) : Fin 2304 := ⟨t.val * 768 + p.val, by have := t.isLt; have : cfg0.N = 3 := N_0; omega⟩

/-- The same row in the array of all rows. -/
def wide (l : Fin 2304) : Fin 5888 := ⟨l.val, by omega⟩

theorem at0 : ∀ t : Fin cfg0.N, win0_0.index t 0 = 0 ∧ win0_0.index t 1 = 0 ∧ win0_0.index t 2 = t.val := (by decide +kernel : ∀ t : Fin grid0.N, _)
theorem at1 : ∀ t : Fin cfg0.N, win0_1.index t 0 = 0 ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)

theorem emb0 (t : Fin cfg0.N) (k : Fin 4096) (p : Fin 768) :
    (win0_0.rect t).emb ((ix3 0 k p : S1x4096x768.Idx)) = (ix3 0 k (low t p) : S1x4096x2304.Idx) := by
  refine funext fun a => Fin.ext ?_
  refine (Pipeline.Window.rect_emb_val win0_0 t (ix3 0 k p : S1x4096x768.Idx) a).trans ?_
  match a with
  | ⟨0, _⟩ => rw [show win0_0.index t ⟨0, _⟩ = _ from (at0 t).1]; rfl
  | ⟨1, _⟩ => rw [show win0_0.index t ⟨1, _⟩ = _ from (at0 t).2.1]; show 0 * 4096 + k.val = k.val; omega
  | ⟨2, _⟩ => rw [show win0_0.index t ⟨2, _⟩ = _ from (at0 t).2.2]; rfl

theorem emb1 (t : Fin cfg0.N) (k : Fin 4096) (j : Fin 1024) :
    (win0_1.rect t).emb ((ix2 k j : S4096x1024.Idx)) = (ix2 k j : S4096x1024.Idx) := by
  refine Shape.idx_ext₂ ?_ ?_
  · refine (Pipeline.Window.rect_emb_val win0_1 t (ix2 k j : S4096x1024.Idx) 0).trans ?_
    rw [(at1 t).1]; show 0 * 4096 + k.val = k.val; omega
  · refine (Pipeline.Window.rect_emb_val win0_1 t (ix2 k j : S4096x1024.Idx) 1).trans ?_
    rw [(at1 t).2]; show 0 * 1024 + j.val = j.val; omega

/-- The three blocks lie inside the array, so that each is written whole. -/
theorem inside : ∀ (t : Fin cfg0.N) (a : Fin 2), (win0_2.xblock (grid0.coords t)).size a = S768x1024.size a := (by decide +kernel : ∀ (t : Fin grid0.N) (a : Fin 2), _)
/-- An element of the block as it is written. -/
def inBlock (t : Fin cfg0.N) (p : Fin 768) (j : Fin 1024) : (win0_2.xblock (grid0.coords t)).Idx := fun a => match a with
  | ⟨0, _⟩ => ⟨p.val, lt_of_lt_of_eq p.isLt (inside t 0).symm⟩
  | ⟨1, _⟩ => ⟨j.val, lt_of_lt_of_eq j.isLt (inside t 1).symm⟩

theorem emb2 (t : Fin cfg0.N) (p : Fin 768) (j : Fin 1024) :
    (win0_2.rect t).emb (inBlock t p j) = (ix2 (wide (low t p)) j : S5888x1024.Idx) := by
  refine Shape.idx_ext₂ ?_ ?_
  · refine (Pipeline.Window.rect_emb_val win0_2 t (inBlock t p j) 0).trans ?_
    rw [(at2 t).1]; rfl
  · refine (Pipeline.Window.rect_emb_val win0_2 t (inBlock t p j) 1).trans ?_
    rw [(at2 t).2]; show 0 * 1024 + j.val = j.val; omega

/-! ## What a block holds -/

theorem out_apply (x : Vec Ideal S1x4096x768 .bf16) (y : Vec Ideal S4096x1024 .bf16) (p : Fin 768) (j : Fin 1024) :
    out0_2 x y (ix2 p j) = ∑ k : Fin 4096, x (ix3 0 k p) * y (ix2 k j) := by
  unfold out0_2
  rw [View.canon_cons_unit_zero (S := S768x1024) hz2, View.ld_unit_zero (S := S1x4096x768) hz3, View.ld_unit_zero (S := S4096x1024) hz2]
  show FloatOps.matmul (F := Ideal) (firsts dot_S4096x768_S4096x1024_S768x1024_0_0_1_1_n_n_wf) none (shapeCast S4096x768 x shapeCasts_S1x4096x768_S4096x768) y
    (constant S768x1024 .f32 0x00000000#32) (ix2 p j) * FloatOps.ofBits (F := Ideal) .f32 0x3F800000#32 = _
  rw [firsts_apply, one_word', mul_one]
  show FloatOps.ofBits (F := Ideal) .f32 0x00000000#32 + _ = _
  rw [zero_word, zero_add]
  refine Finset.sum_congr rfl fun k _ => ?_
  rw [shapeCast_1ab_ab_apply]

/-! ## The reference at an element -/

variable (X : (⟨S1x4096x2304, .bf16⟩ : BufTy).Contents (Elt Ideal)) (Y : (⟨S4096x1024, .bf16⟩ : BufTy).Contents (Elt Ideal))

/-- The reference's result. -/
def dw : S2304x1024.Idx → EReal := val_main_v8 (F := Ideal) X Y

theorem dw_apply (l : Fin 2304) (j : Fin 1024) : dw X Y (ix2 l j) = ∑ k : Fin 4096, X (ix3 0 k l) * Y (ix2 k j) := by
  have hl := l.isLt
  unfold dw
  refine (val_main_v8_apply X Y _).trans ((val_main_v7_apply X Y _).trans ((val_main_v6_apply X Y _).trans ?_))
  refine (val_main_v5_apply X Y _).trans (Finset.sum_congr rfl fun k _ => ?_)
  have hk := k.isLt
  rw [val_main_v1_apply]
  refine congrArg₂ (fun a b : EReal => a * b) ?_ ?_
  · refine (val_main_v4_apply X _).trans ((val_main_v3_apply X _).trans ?_)
    refine congrArg X (funext fun a => Fin.ext ?_)
    match a with
    | ⟨0, _⟩ => rfl
    | ⟨1, _⟩ => show (k.val * 2304 + l.val) / 2304 % 4096 = k.val; omega
    | ⟨2, _⟩ => show (k.val * 2304 + l.val) % 2304 = l.val; omega
  · exact congrArg Y (Shape.idx_ext₂ rfl rfl)

/-! ## The kernel's array is the reference's -/

theorem read0 (t : Fin cfg0.N) (Z : S1x4096x2304.Idx → EReal) (k : Fin 4096) (p : Fin 768) :
    ((cfg0.win 0).blk t).view.read (Elt Ideal) Z (ix3 0 k p : S1x4096x768.Idx) = Z (ix3 0 k (low t p)) := congrArg Z (emb0 t k p)
theorem read1 (t : Fin cfg0.N) (k : Fin 4096) (j : Fin 1024) :
    ((cfg0.win 1).blk t).view.read (Elt Ideal) Y (ix2 k j : S4096x1024.Idx) = Y (ix2 k j) := congrArg Y (emb1 t k j)
theorem put2 (t : Fin cfg0.N) (Z : S5888x1024.Idx → EReal) (p : Fin 768) (j : Fin 1024) :
    ((cfg0.win 2).blk t).view.read (Elt Ideal) Z (inBlock t p j) = Z (ix2 (wide (low t p)) j) := congrArg Z (emb2 t p j)
theorem cut2 (t : Fin cfg0.N) (x : Vec Ideal S768x1024 .bf16) (p : Fin 768) (j : Fin 1024) : (cfg0.win 2).cut (grid0.coords t) x (inBlock t p j) = x (ix2 p j) :=
  congrArg x (Shape.idx_ext₂ rfl rfl)

variable (m : (ℓ : Loc nD τ sig) → Buf (Elt Ideal) ℓ) (c : Dev nD)

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl

theorem flushed (t : Fin cfg0.N) (p : Fin 768) (j : Fin 1024) : (dats m 0 c).flushed 2 t (inBlock t p j)
    = dw (m ((c : Thread nD τ).loc main_arg0)) (m ((c : Thread nD τ).loc main_arg1)) (ix2 (low t p) j) := by
  show (cfg0.win 2).cut (grid0.coords t) ((dats m 0 c).after 2 t) (inBlock t p j) = _
  rw [after0_2, blk0, blk1]
  generalize m ((c : Thread nD τ).loc main_arg0) = X
  generalize m ((c : Thread nD τ).loc main_arg1) = Y
  refine (cut2 t _ p j).trans ?_
  rw [dw_apply]
  refine (out_apply _ _ p j).trans (Finset.sum_congr rfl fun k _ => ?_)
  exact congrArg₂ (fun a b : EReal => a * b) (read0 t _ k p) (read1 Y t k j)

theorem idx_inj : ∀ t t' : Fin cfg0.N, win0_2.index t = win0_2.index t' → t = t' :=
  (by decide +kernel : ∀ t t' : Fin grid0.N, win0_2.index t = win0_2.index t' → t = t')

theorem disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj t t' h)

theorem spot (r : Fin 2304) : ∃ (t : Fin cfg0.N) (p : Fin 768), r = low t p := by
  have hN : cfg0.N = 3 := N_0
  have hr := r.isLt
  refine ⟨⟨r.val / 768, by omega⟩, ⟨r.val % 768, Nat.mod_lt _ (by omega)⟩, Fin.ext ?_⟩
  unfold low
  dsimp only
  omega

theorem final (l : Fin 2304) (j : Fin 1024) : (dats m 0 c).arrAt 2 cfg0.N (ix2 (wide l) j : S5888x1024.Idx)
    = dw (m ((c : Thread nD τ).loc main_arg0)) (m ((c : Thread nD τ).loc main_arg1)) (ix2 l j) := by
  obtain ⟨t, p, rfl⟩ := spot l
  refine (put2 t ((dats m 0 c).arrAt 2 cfg0.N) p j).symm.trans (Eq.trans ?_ (flushed m c t p j))
  exact congrFun ((dats m 0 c).read_blk_arrAt_eq_flushed 2 disjoint cfg0.N t t.isLt (flush0_2 t)) _

/-- What the slice after the call reads: the call's array, cut to its first rows. -/
theorem sliced : Pipeline.afterTail₀ cfgs (dats m) 0 (V0 m) [hostOps1] c main_v1
    = extractStridedSlice S2304x1024 ![0, 0] ((dats m 0 c).arrAt 2 cfg0.N : S5888x1024.Idx → EReal) slices_S5888x1024_S2304x1024_0_0 := by
  have h := Pipeline.withArrays_arr (τ := τ) spec0 launch0.win.arr_inj c (V0 m c) (fun w => (dats m 0 c).arrAt w cfg0.N) 2
  unfold Pipeline.afterTail₀
  simp only [List.flatten_cons, List.flatten_nil, List.append_nil, hostOps1]
  after_results_simp
  exact congrArg (fun z : S5888x1024.Idx → EReal => extractStridedSlice S2304x1024 ![0, 0] z slices_S5888x1024_S2304x1024_0_0) h

theorem kept : Pipeline.afterTail₀ cfgs (dats m) 0 (V0 m) [hostOps1] c main_v1
    = dw (m ((c : Thread nD τ).loc main_arg0)) (m ((c : Thread nD τ).loc main_arg1)) := by
  rw [sliced]
  refine funext fun (y : S2304x1024.Idx) => ?_
  obtain ⟨l, j, rfl⟩ : ∃ (l : Fin 2304) (j : Fin 1024), y = ix2 l j := ⟨y 0, y 1, Shape.idx_ext₂ rfl rfl⟩
  refine Eq.trans ?_ (final m c l j)
  exact extractStridedSlice_apply ![0, 0] _ slices_S5888x1024_S2304x1024_0_0 (ix2 l j) (ix2 (wide l) j) (fun a => match a with
    | ⟨0, _⟩ => by show l.val = 0 + l.val; omega
    | ⟨1, _⟩ => by show j.val = 0 + j.val; omega)

theorem run (g : Dev nD → PrngReg) : θ_run defs (onTc (τ := τ) (main (F := Ideal))) ⟨m, fun _ => 0, g⟩ (fun r => ∀ c : Dev nD,
      r.2.mem ((c.tc : Thread nD τ).loc main_v1) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v1 (Pipeline.mem_restRefs_of main_v1 (by decide) (by decide))).trans (kept m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m g)

end Cert.Kernel20Ideal.WeightE
end
-- ==== Proof.WeightEClaim.lean ====
module

public import proofs.«01_k».proof.Defs
public import proofs.«01_k».proof.Proof.WeightE
public import proofs.«01_k».proof.Proof.Gen.Kernel20Ideal.Frame

/-! The first rows' weight gradient kernel and its reference end with the same array. -/

@[expose] public section

noncomputable section

namespace Cert.WeightE

open Idealize.ShloMosaic Idealize.ShloMosaic.TcCoe Idealize.SL.Sem
open Cert.Kernel20Ideal.WeightE

instance : Cert.Reference20Ideal.Facts := Cert.Reference20Ideal.Gen.facts
instance : Cert.Kernel20Ideal.Facts := Cert.Kernel20Ideal.Gen.facts

theorem algebraic : Cert.algebraic_Kernel20Ideal_Reference20Ideal := by
  intro m g m' g' _ hagree
  refine ⟨fun c => dw (m ((c.tc : Thread Cert.Kernel20Ideal.nD Cert.Kernel20Ideal.τ).loc Cert.Kernel20Ideal.main_arg0))
    (m ((c.tc : Thread Cert.Kernel20Ideal.nD Cert.Kernel20Ideal.τ).loc Cert.Kernel20Ideal.main_arg1)), Cert.Kernel20Ideal.WeightE.run m g, ?_⟩
  refine (θ_run Cert.Reference20Ideal.defs _ _).mono (fun r h c => ?_) (Cert.Reference20Ideal.Value.run (F := Ideal) m' g')
  obtain ⟨e0, e1⟩ := hagree c
  refine ⟨(h c).1.trans ((Cert.Reference20Ideal.Read.val_main_v8_eq _ _).trans ?_), (h c).2⟩
  rw [e0, e1]; rfl

end Cert.WeightE
end
-- ==== Proof.Mixture.lean ====
module

public import proofs.«01_k».proof.Proof.Coe
public import proofs.«01_k».proof.Proof.Gen.Kernel21Ideal.Value
public import proofs.«01_k».proof.Proof.Gen.Reference21Ideal.Run
public import proofs.«01_k».proof.Proof.Gen.Reference21Ideal.Read
public import Idealize.ShloMosaic.Lib.KernelVsHost

/-! The mixture of three groups of heads: at every lane the three outputs, weighted by the softmax of the head's three
    log-sums. Nothing is asked of the arguments. -/

@[expose] public section

noncomputable section

namespace Cert.Kernel21Ideal.Mixture

open Cert.Kernel21Ideal Cert.Kernel21Ideal.Gen Cert.Reference21Ideal.Read Cert.Band
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Row `p` of point `t`'s block. -/
def low (t : Fin cfg0.N) (p : Fin 1024) : Fin 4096 := ⟨t.val * 1024 + p.val, by have := t.isLt; have : cfg0.N = 4 := N_0; omega⟩
/-- The head a lane belongs to. -/
def head (j : Fin 256) : Fin 4 := ⟨j.val / 64, by omega⟩
/-- A lane within its head. -/
def lane (j : Fin 256) : Fin 64 := ⟨j.val % 64, by omega⟩

/-! ## One lane's mixture -/

/-- The greatest of three. -/
def top (l : Fin 3 → EReal) : EReal := max (max (l 0) (l 1)) (l 2)
/-- A log-sum's exponential, the greatest taken off. -/
def part (l : Fin 3 → EReal) (k : Fin 3) : EReal := FloatOps.exp (F := Ideal) (φ := .f32) (l k - top l)
/-- A group's share. -/
def share (l : Fin 3 → EReal) (k : Fin 3) : EReal := Ideal.div (part l k) (part l 0 + part l 1 + part l 2)
/-- The three groups together. -/
def mix (o l : Fin 3 → EReal) : EReal := share l 0 * o 0 + share l 1 * o 1 + share l 2 * o 2

theorem fold_top (l : Fin 3 → EReal) : (Finset.univ : Finset (Fin 3)).fold max (⊥ : EReal) l = top l := by
  apply le_antisymm
  · refine (Finset.fold_max_le _).2 ⟨bot_le, fun k _ => ?_⟩
    unfold top
    match k with
    | ⟨0, _⟩ => exact le_max_of_le_left (le_max_left _ _)
    | ⟨1, _⟩ => exact le_max_of_le_left (le_max_right _ _)
    | ⟨2, _⟩ => exact le_max_right _ _
  · have h : ∀ k : Fin 3, l k ≤ (Finset.univ : Finset (Fin 3)).fold max (⊥ : EReal) l := fun k =>
      (Finset.le_fold_max _).2 (Or.inr ⟨k, Finset.mem_univ k, le_refl _⟩)
    exact max_le (max_le (h 0) (h 1)) (h 2)

/-! ## What a block holds -/

theorem out_apply (o0 o1 o2 l0 l1 l2 : Vec Ideal S1024x256 .f32) (y : S1024x256.Idx) :
    out0_6 o0 o1 o2 l0 l1 l2 y = mix ![o0 y, o1 y, o2 y] ![l0 y, l1 y, l2 y] := by
  unfold out0_6
  rw [View.canon_cons_unit_zero (S := S1024x256) hz2]
  simp only [View.ld_unit_zero (S := S1024x256) hz2]
  unfold k0_pay1
  simp only [shapeCast_self]
  rfl

/-! ## The reference at an element -/

variable (O0 O1 O2 : (⟨S4096x256, .f32⟩ : BufTy).Contents (Elt Ideal)) (L0 L1 L2 : (⟨S4096x4, .f32⟩ : BufTy).Contents (Elt Ideal))

/-- The reference's result. -/
def mixed : S4096x256.Idx → EReal := val_main_v26 (F := Ideal) O0 O1 O2 L0 L1 L2

/-- A head's three log-sums. -/
def logs (i : Fin 4096) (h : Fin 4) : Fin 3 → EReal := ![L0 (ix2 i h), L1 (ix2 i h), L2 (ix2 i h)]
/-- A lane's three outputs. -/
def outs (i : Fin 4096) (j : Fin 256) : Fin 3 → EReal := ![O0 (ix2 i j), O1 (ix2 i j), O2 (ix2 i j)]

theorem piece3 (xs : List ((s : Shape) × (s.Idx → EReal))) (hc : Shape.Concatenates (xs.map (·.1)) Cert.Reference21Ideal.S3x4096x4 0) (q : Fin 3) (i : Fin 4096) (h : Fin 4)
    (k : ℕ) (hk : k < xs.length) (u : Cert.Reference21Ideal.S1x4096x4.Idx → EReal) (hu : xs[k] = ⟨Cert.Reference21Ideal.S1x4096x4, u⟩) (pre : ℕ)
    (hpre : (((xs.take k).map (·.1)).map fun s => if h : s.rank = Cert.Reference21Ideal.S3x4096x4.rank then s.size ((0 : Fin Cert.Reference21Ideal.S3x4096x4.rank).cast h.symm) else 0).sum = pre)
    (hq : pre = q.val) : concatenate Cert.Reference21Ideal.S3x4096x4 0 xs hc (ix3 q i h) = u (ix3 0 i h) :=
  concatenate_apply_piece 0 xs hc _ k hk _ u hu rfl pre hpre (ix3 0 i h)
    (fun b hb => by match b with | ⟨0, _⟩ => exact absurd rfl hb | ⟨1, _⟩ => rfl | ⟨2, _⟩ => rfl) hq
theorem piece4 (xs : List ((s : Shape) × (s.Idx → EReal))) (hc : Shape.Concatenates (xs.map (·.1)) Cert.Reference21Ideal.S3x4096x4x64 0) (q : Fin 3) (i : Fin 4096) (h : Fin 4) (d : Fin 64)
    (k : ℕ) (hk : k < xs.length) (u : Cert.Reference21Ideal.S1x4096x4x64.Idx → EReal) (hu : xs[k] = ⟨Cert.Reference21Ideal.S1x4096x4x64, u⟩) (pre : ℕ)
    (hpre : (((xs.take k).map (·.1)).map fun s => if h : s.rank = Cert.Reference21Ideal.S3x4096x4x64.rank then s.size ((0 : Fin Cert.Reference21Ideal.S3x4096x4x64.rank).cast h.symm) else 0).sum = pre)
    (hq : pre = q.val) : concatenate Cert.Reference21Ideal.S3x4096x4x64 0 xs hc (ix4 q i h d) = u (ix4 0 i h d) :=
  concatenate_apply_piece 0 xs hc _ k hk _ u hu rfl pre hpre (ix4 0 i h d)
    (fun b hb => by match b with | ⟨0, _⟩ => exact absurd rfl hb | ⟨1, _⟩ => rfl | ⟨2, _⟩ => rfl | ⟨3, _⟩ => rfl) hq

theorem val_logs (k : Fin 3) (i : Fin 4096) (h : Fin 4) : val_main_v3 (F := Ideal) L0 L1 L2 (ix3 k i h) = logs L0 L1 L2 i h k := by
  unfold val_main_v3
  match k with
  | ⟨0, _⟩ =>
    refine (piece3 _ _ _ i h 0 (by simp) _ rfl 0 rfl rfl).trans ?_
    exact (val_main_v0_apply _ _).trans (congrArg L0 (Shape.idx_ext₂ rfl rfl))
  | ⟨1, _⟩ =>
    refine (piece3 _ _ _ i h 1 (by simp) _ rfl 1 rfl rfl).trans ?_
    exact (val_main_v1_apply _ _).trans (congrArg L1 (Shape.idx_ext₂ rfl rfl))
  | ⟨2, _⟩ =>
    refine (piece3 _ _ _ i h 2 (by simp) _ rfl 2 rfl rfl).trans ?_
    exact (val_main_v2_apply _ _).trans (congrArg L2 (Shape.idx_ext₂ rfl rfl))

theorem val_outs (k : Fin 3) (i : Fin 4096) (j : Fin 256) :
    val_main_v21 (F := Ideal) O0 O1 O2 (ix4 k i (head j) (lane j)) = outs O0 O1 O2 i j k := by
  have hi := i.isLt
  have hj := j.isLt
  have e0 : ((i.val * 4 + j.val / 64) * 64 + j.val % 64) / 256 = i.val := by omega
  have e1 : ((i.val * 4 + j.val / 64) * 64 + j.val % 64) % 256 = j.val := by omega
  unfold val_main_v21
  match k with
  | ⟨0, _⟩ =>
    refine (piece4 _ _ _ i (head j) (lane j) 0 (by simp) _ rfl 0 rfl rfl).trans ?_
    exact (val_main_v18_apply _ _).trans ((val_main_v15_apply _ _).trans (congrArg O0 (Shape.idx_ext₂ e0 e1)))
  | ⟨1, _⟩ =>
    refine (piece4 _ _ _ i (head j) (lane j) 1 (by simp) _ rfl 1 rfl rfl).trans ?_
    exact (val_main_v19_apply _ _).trans ((val_main_v16_apply _ _).trans (congrArg O1 (Shape.idx_ext₂ e0 e1)))
  | ⟨2, _⟩ =>
    refine (piece4 _ _ _ i (head j) (lane j) 2 (by simp) _ rfl 2 rfl rfl).trans ?_
    exact (val_main_v20_apply _ _).trans ((val_main_v17_apply _ _).trans (congrArg O2 (Shape.idx_ext₂ e0 e1)))

theorem red0 : Cert.Reference21Ideal.S3x4096x4.Reduces [0] Cert.Reference21Ideal.S4096x4 := by decide

theorem val_top (i : Fin 4096) (h : Fin 4) : val_main_v6 (F := Ideal) L0 L1 L2 (ix2 i h) = top (logs L0 L1 L2 i h) := by
  have hf : FKind.Formats .f32 := by decide
  have ha : (0xFF800000#32 : BitVec 32) = FKind.maximumf.neutral .f32 hf := rfl
  rw [val_main_v6_apply, val_main_v5_apply, val_main_cst_0_apply, bot_word]
  refine (max_eq_right bot_le : max (⊥ : EReal) _ = _).trans ?_
  unfold val_main_v4 val_main_cst
  refine (congrFun (hostReduce_maximumf_eq_multiReduction (F := Ideal) (φ := .f32) (val_main_v3 (F := Ideal) L0 L1 L2) 0xFF800000#32
    _ _ red0 hf ha) _).trans ?_
  refine (Ideal.multiReduction_maximumf_single (φ := .f32) _ 0xFF800000#32 red0 hf ha _).trans ?_
  rw [bot_word, ← fold_top]
  refine congrArg (fun f => (Finset.univ : Finset (Fin 3)).fold max (⊥ : EReal) f) (funext fun k => ?_)
  refine Eq.trans ?_ (val_logs L0 L1 L2 k i h)
  show val_main_v3 (F := Ideal) L0 L1 L2 _ = _
  congr 1
  funext x; match x with | ⟨0, _⟩ => rfl | ⟨1, _⟩ => rfl | ⟨2, _⟩ => rfl

theorem val_part (k : Fin 3) (i : Fin 4096) (h : Fin 4) :
    val_main_v10 (F := Ideal) L0 L1 L2 (ix3 k i h) = part (logs L0 L1 L2 i h) k := by
  rw [val_main_v10_apply, val_main_v9_apply, val_logs, val_main_v8_apply, val_main_v7_apply]
  rw [show idx_main_v7 (idx_main_v8 (ix3 k i h)) = ix2 i h from Shape.idx_ext₂ rfl rfl, val_top]
  rfl

theorem val_share (k : Fin 3) (i : Fin 4096) (h : Fin 4) :
    val_main_v14 (F := Ideal) L0 L1 L2 (ix3 k i h) = share (logs L0 L1 L2 i h) k := by
  rw [val_main_v14_apply, val_part, val_main_v13_apply, val_main_v12_apply, val_main_v11_apply, val_main_cst_1_apply, zero_word, zero_add,
    Fin.sum_univ_three]
  have e : ∀ q : Fin 3, val_main_v10 (F := Ideal) L0 L1 L2 (idx_main_v11 (idx_main_v12 (idx_main_v13 (ix3 k i h))) q) = part (logs L0 L1 L2 i h) q := fun q =>
    (congrArg (val_main_v10 (F := Ideal) L0 L1 L2) (funext fun a => by match a with | ⟨0, _⟩ => rfl | ⟨1, _⟩ => rfl | ⟨2, _⟩ => rfl)).trans (val_part L0 L1 L2 q i h)
  rw [e, e, e]
  rfl

theorem mixed_apply (i : Fin 4096) (j : Fin 256) :
    mixed O0 O1 O2 L0 L1 L2 (ix2 i j) = mix (outs O0 O1 O2 i j) (logs L0 L1 L2 i (head j)) := by
  have hi := i.isLt
  have hj := j.isLt
  have e0 : (i.val * 256 + j.val) / 256 = i.val := by omega
  have e1 : (i.val * 256 + j.val) / 64 % 4 = j.val / 64 := by omega
  have e2 : (i.val * 256 + j.val) % 64 = j.val % 64 := by omega
  unfold mixed
  rw [val_main_v26_apply, val_main_v25_apply, val_main_cst_2_apply, zero_word, zero_add, Fin.sum_univ_three]
  have e : ∀ q : Fin 3, val_main_v24 (F := Ideal) O0 O1 O2 L0 L1 L2 (idx_main_v25 (idx_main_v26 (ix2 i j)) q)
      = share (logs L0 L1 L2 i (head j)) q * outs O0 O1 O2 i j q := fun q => by
    rw [show idx_main_v25 (idx_main_v26 (ix2 i j)) q = ix4 q i (head j) (lane j) from funext fun a => Fin.ext (by
      match a with | ⟨0, _⟩ => rfl | ⟨1, _⟩ => exact e0 | ⟨2, _⟩ => exact e1 | ⟨3, _⟩ => exact e2)]
    rw [val_main_v24_apply, val_outs, val_main_v23_apply, val_main_v22_apply]
    rw [show idx_main_v22 (idx_main_v23 (ix4 q i (head j) (lane j))) = ix3 q i (head j) from
      funext fun a => by match a with | ⟨0, _⟩ => rfl | ⟨1, _⟩ => rfl | ⟨2, _⟩ => rfl, val_share]
    rfl
  rw [e, e, e]
  rfl

/-! ## The log-sums on the lanes -/

/-- A number for each row and head, laid on the head's lanes. -/
def spread (x : (⟨S4096x4, .f32⟩ : BufTy).Contents (Elt Ideal)) : (⟨S4096x256, .f32⟩ : BufTy).Contents (Elt Ideal) :=
  shapeCast S4096x256 (broadcastInDim S4096x4x64 ![0, 1, 2] bcast_S4096x4x1_S4096x4x64_0_1_2
    (broadcastInDim S4096x4x1 ![0, 1] bcast_S4096x4_S4096x4x1_0_1 x)) shapeCasts_S4096x4x64_S4096x256

theorem spread_apply (x : (⟨S4096x4, .f32⟩ : BufTy).Contents (Elt Ideal)) (i : Fin 4096) (j : Fin 256) : spread x (ix2 i j) = x (ix2 i (head j)) := by
  have hi := i.isLt
  have hj := j.isLt
  unfold spread
  refine (shapeCast_apply _ shapeCasts_S4096x4x64_S4096x256 (ix2 i j) (ix3 i (head j) (lane j)) ?_).trans (congrArg x (Shape.idx_ext₂ rfl rfl))
  rewrite [Shape.rowMajor_val_three, Shape.rowMajor_val_two]
  show (i.val * 4 + j.val / 64) * 64 + j.val % 64 = i.val * 256 + j.val
  omega

/-! ## The kernel's array is the reference's -/

theorem at0 : ∀ t : Fin cfg0.N, win0_0.index t 0 = t.val ∧ win0_0.index t 1 = 0 := (by decide +kernel : ∀ t : Fin grid0.N, _)
theorem at1 : ∀ t : Fin cfg0.N, win0_1.index t 0 = t.val ∧ win0_1.index t 1 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = t.val ∧ win0_3.index t 1 = 0 := (by decide +kernel : ∀ t : Fin grid0.N, _)
theorem at4 : ∀ t : Fin cfg0.N, win0_4.index t 0 = t.val ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)
theorem at6 : ∀ t : Fin cfg0.N, win0_6.index t 0 = t.val ∧ win0_6.index t 1 = 0 := (by decide +kernel : ∀ t : Fin grid0.N, _)

theorem emb0 (t : Fin cfg0.N) (p : Fin 1024) (j : Fin 256) :
    (win0_0.rect t).emb ((ix2 p j : S1024x256.Idx)) = (ix2 (low t p) j : S4096x256.Idx) := by
  refine Shape.idx_ext₂ ?_ ?_
  · refine (Pipeline.Window.rect_emb_val win0_0 t (ix2 p j : S1024x256.Idx) 0).trans ?_
    rw [(at0 t).1]; rfl
  · refine (Pipeline.Window.rect_emb_val win0_0 t (ix2 p j : S1024x256.Idx) 1).trans ?_
    rw [(at0 t).2]; show 0 * 256 + j.val = j.val; omega
theorem read0 (t : Fin cfg0.N) (Z : S4096x256.Idx → EReal) (p : Fin 1024) (j : Fin 256) :
    ((cfg0.win 0).blk t).view.read (Elt Ideal) Z (ix2 p j : S1024x256.Idx) = Z (ix2 (low t p) j) := congrArg Z (emb0 t p j)

theorem emb1 (t : Fin cfg0.N) (p : Fin 1024) (j : Fin 256) :
    (win0_1.rect t).emb ((ix2 p j : S1024x256.Idx)) = (ix2 (low t p) j : S4096x256.Idx) := by
  refine Shape.idx_ext₂ ?_ ?_
  · refine (Pipeline.Window.rect_emb_val win0_1 t (ix2 p j : S1024x256.Idx) 0).trans ?_
    rw [(at1 t).1]; rfl
  · refine (Pipeline.Window.rect_emb_val win0_1 t (ix2 p j : S1024x256.Idx) 1).trans ?_
    rw [(at1 t).2]; show 0 * 256 + j.val = j.val; omega
theorem read1 (t : Fin cfg0.N) (Z : S4096x256.Idx → EReal) (p : Fin 1024) (j : Fin 256) :
    ((cfg0.win 1).blk t).view.read (Elt Ideal) Z (ix2 p j : S1024x256.Idx) = Z (ix2 (low t p) j) := congrArg Z (emb1 t p j)

theorem emb2 (t : Fin cfg0.N) (p : Fin 1024) (j : Fin 256) :
    (win0_2.rect t).emb ((ix2 p j : S1024x256.Idx)) = (ix2 (low t p) j : S4096x256.Idx) := by
  refine Shape.idx_ext₂ ?_ ?_
  · refine (Pipeline.Window.rect_emb_val win0_2 t (ix2 p j : S1024x256.Idx) 0).trans ?_
    rw [(at2 t).1]; rfl
  · refine (Pipeline.Window.rect_emb_val win0_2 t (ix2 p j : S1024x256.Idx) 1).trans ?_
    rw [(at2 t).2]; show 0 * 256 + j.val = j.val; omega
theorem read2 (t : Fin cfg0.N) (Z : S4096x256.Idx → EReal) (p : Fin 1024) (j : Fin 256) :
    ((cfg0.win 2).blk t).view.read (Elt Ideal) Z (ix2 p j : S1024x256.Idx) = Z (ix2 (low t p) j) := congrArg Z (emb2 t p j)

theorem emb3 (t : Fin cfg0.N) (p : Fin 1024) (j : Fin 256) :
    (win0_3.rect t).emb ((ix2 p j : S1024x256.Idx)) = (ix2 (low t p) j : S4096x256.Idx) := by
  refine Shape.idx_ext₂ ?_ ?_
  · refine (Pipeline.Window.rect_emb_val win0_3 t (ix2 p j : S1024x256.Idx) 0).trans ?_
    rw [(at3 t).1]; rfl
  · refine (Pipeline.Window.rect_emb_val win0_3 t (ix2 p j : S1024x256.Idx) 1).trans ?_
    rw [(at3 t).2]; show 0 * 256 + j.val = j.val; omega
theorem read3 (t : Fin cfg0.N) (Z : S4096x256.Idx → EReal) (p : Fin 1024) (j : Fin 256) :
    ((cfg0.win 3).blk t).view.read (Elt Ideal) Z (ix2 p j : S1024x256.Idx) = Z (ix2 (low t p) j) := congrArg Z (emb3 t p j)

theorem emb4 (t : Fin cfg0.N) (p : Fin 1024) (j : Fin 256) :
    (win0_4.rect t).emb ((ix2 p j : S1024x256.Idx)) = (ix2 (low t p) j : S4096x256.Idx) := by
  refine Shape.idx_ext₂ ?_ ?_
  · refine (Pipeline.Window.rect_emb_val win0_4 t (ix2 p j : S1024x256.Idx) 0).trans ?_
    rw [(at4 t).1]; rfl
  · refine (Pipeline.Window.rect_emb_val win0_4 t (ix2 p j : S1024x256.Idx) 1).trans ?_
    rw [(at4 t).2]; show 0 * 256 + j.val = j.val; omega
theorem read4 (t : Fin cfg0.N) (Z : S4096x256.Idx → EReal) (p : Fin 1024) (j : Fin 256) :
    ((cfg0.win 4).blk t).view.read (Elt Ideal) Z (ix2 p j : S1024x256.Idx) = Z (ix2 (low t p) j) := congrArg Z (emb4 t p j)

theorem emb5 (t : Fin cfg0.N) (p : Fin 1024) (j : Fin 256) :
    (win0_5.rect t).emb ((ix2 p j : S1024x256.Idx)) = (ix2 (low t p) j : S4096x256.Idx) := by
  refine Shape.idx_ext₂ ?_ ?_
  · refine (Pipeline.Window.rect_emb_val win0_5 t (ix2 p j : S1024x256.Idx) 0).trans ?_
    rw [(at5 t).1]; rfl
  · refine (Pipeline.Window.rect_emb_val win0_5 t (ix2 p j : S1024x256.Idx) 1).trans ?_
    rw [(at5 t).2]; show 0 * 256 + j.val = j.val; omega
theorem read5 (t : Fin cfg0.N) (Z : S4096x256.Idx → EReal) (p : Fin 1024) (j : Fin 256) :
    ((cfg0.win 5).blk t).view.read (Elt Ideal) Z (ix2 p j : S1024x256.Idx) = Z (ix2 (low t p) j) := congrArg Z (emb5 t p j)

theorem emb6 (t : Fin cfg0.N) (p : Fin 1024) (j : Fin 256) :
    (win0_6.rect t).emb ((ix2 p j : S1024x256.Idx)) = (ix2 (low t p) j : S4096x256.Idx) := by
  refine Shape.idx_ext₂ ?_ ?_
  · refine (Pipeline.Window.rect_emb_val win0_6 t (ix2 p j : S1024x256.Idx) 0).trans ?_
    rw [(at6 t).1]; rfl
  · refine (Pipeline.Window.rect_emb_val win0_6 t (ix2 p j : S1024x256.Idx) 1).trans ?_
    rw [(at6 t).2]; show 0 * 256 + j.val = j.val; omega
theorem read6 (t : Fin cfg0.N) (Z : S4096x256.Idx → EReal) (p : Fin 1024) (j : Fin 256) :
    ((cfg0.win 6).blk t).view.read (Elt Ideal) Z (ix2 p j : S1024x256.Idx) = Z (ix2 (low t p) j) := congrArg Z (emb6 t p j)

variable (m : (ℓ : Loc nD τ sig) → Buf (Elt Ideal) ℓ) (c : Dev nD)

theorem V_logs0 : V m c main_v2 = spread (m ((c : Thread nD τ).loc main_arg3)) := by
  unfold V
  simp only [hostOps0]
  after_results_simp <;> rfl
theorem V_logs1 : V m c main_v5 = spread (m ((c : Thread nD τ).loc main_arg4)) := by
  unfold V
  simp only [hostOps0]
  after_results_simp <;> rfl
theorem V_logs2 : V m c main_v8 = spread (m ((c : Thread nD τ).loc main_arg5)) := by
  unfold V
  simp only [hostOps0]
  after_results_simp <;> rfl

theorem blk0 (t : Fin cfg0.N) : iblk m c 0 t = ((cfg0.win 0).blk t).view.read (Elt Ideal) (m ((c : Thread nD τ).loc main_arg0)) := by
  rw [← V_main_arg0 m c]; rfl
theorem blk1 (t : Fin cfg0.N) : iblk m c 1 t = ((cfg0.win 1).blk t).view.read (Elt Ideal) (m ((c : Thread nD τ).loc main_arg1)) := by
  rw [← V_main_arg1 m c]; rfl
theorem blk2 (t : Fin cfg0.N) : iblk m c 2 t = ((cfg0.win 2).blk t).view.read (Elt Ideal) (m ((c : Thread nD τ).loc main_arg2)) := by
  rw [← V_main_arg2 m c]; rfl
theorem blk3 (t : Fin cfg0.N) : iblk m c 3 t = ((cfg0.win 3).blk t).view.read (Elt Ideal) (spread (m ((c : Thread nD τ).loc main_arg3))) := by
  rw [← V_logs0 m c]; rfl
theorem blk4 (t : Fin cfg0.N) : iblk m c 4 t = ((cfg0.win 4).blk t).view.read (Elt Ideal) (spread (m ((c : Thread nD τ).loc main_arg4))) := by
  rw [← V_logs1 m c]; rfl
theorem blk5 (t : Fin cfg0.N) : iblk m c 5 t = ((cfg0.win 5).blk t).view.read (Elt Ideal) (spread (m ((c : Thread nD τ).loc main_arg5))) := by
  rw [← V_logs2 m c]; rfl
theorem cut6 (t : Fin cfg0.N) (x : Vec Ideal S1024x256 .f32) : (cfg0.win 6).cut (grid0.coords t) x = x := rfl

theorem flushed (t : Fin cfg0.N) : (dats m 0 c).flushed 6 t
    = ((cfg0.win 6).blk t).view.read (Elt Ideal) (mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) := by
  rw [Value.flushed6, blk0, blk1, blk2, blk3, blk4, blk5]
  generalize m ((c : Thread nD τ).loc main_arg0) = O0
  generalize m ((c : Thread nD τ).loc main_arg1) = O1
  generalize m ((c : Thread nD τ).loc main_arg2) = O2
  generalize m ((c : Thread nD τ).loc main_arg3) = L0
  generalize m ((c : Thread nD τ).loc main_arg4) = L1
  generalize m ((c : Thread nD τ).loc main_arg5) = L2
  refine funext fun (y : S1024x256.Idx) => ?_
  obtain ⟨p, j, rfl⟩ : ∃ (p : Fin 1024) (j : Fin 256), y = ix2 p j := ⟨y 0, y 1, Shape.idx_ext₂ rfl rfl⟩
  refine Eq.trans ?_ (read6 t (mixed O0 O1 O2 L0 L1 L2) p j).symm
  refine (congrFun (cut6 t _) _).trans ?_
  rw [mixed_apply]
  refine (out_apply _ _ _ _ _ _ (ix2 p j)).trans ?_
  unfold outs logs
  rw [read0, read1, read2, read3, read4, read5, spread_apply, spread_apply, spread_apply]

theorem covered (i : S4096x256.Idx) : ∃ s : Fin cfg0.N, (win0_6.index s 0 * 1024 ≤ (i 0).val ∧ (i 0).val < win0_6.index s 0 * 1024 + 1024)
    ∧ (win0_6.index s 1 * 256 ≤ (i 1).val ∧ (i 1).val < win0_6.index s 1 * 256 + 256) := by
  have h0 : (i 0).val < 4096 := (i 0).isLt
  have h1 : (i 1).val < 256 := (i 1).isLt
  have hN : cfg0.N = 4 := N_0
  refine ⟨⟨(i 0).val / 1024, by omega⟩, ?_⟩
  rw [(at6 _).1, (at6 _).2]
  dsimp only
  omega

theorem final : (dats m 0 c).arrAt 6 cfg0.N = mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  (dats m 0 c).arrAt_eq_of_cover 6 (mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) (fun t _ => flushed m c t) fun i => by
    obtain ⟨s, hs⟩ := covered i
    refine ⟨s, flush0_6 s, ?_⟩
    show i ∈ ((View.whole main_v9).slice (win0_6.rect s)).set
    rw [View.set_slice_whole, Rect.mem_set_unit]
    intro a
    match a with
    | ⟨0, _⟩ => exact hs.1
    | ⟨1, _⟩ => exact hs.2

theorem run (g : Dev nD → PrngReg) : θ_run defs (onTc (τ := τ) (main (F := Ideal))) ⟨m, fun _ => 0, g⟩ (fun r => ∀ c : Dev nD,
      r.2.mem ((c.tc : Thread nD τ).loc main_v9) = mixed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m c), (h c).2⟩) (Value.run_blocks m g)

end Cert.Kernel21Ideal.Mixture
end
-- ==== Proof.MixtureClaim.lean ====
module

public import proofs.«01_k».proof.Defs
public import proofs.«01_k».proof.Proof.Mixture
public import proofs.«01_k».proof.Proof.Gen.Kernel21Ideal.Frame

/-! The mixture's kernel and its reference end with the same array. -/

@[expose] public section

noncomputable section

namespace Cert.Mixture

open Idealize.ShloMosaic Idealize.ShloMosaic.TcCoe Idealize.SL.Sem
open Cert.Kernel21Ideal.Mixture

instance : Cert.Reference21Ideal.Facts := Cert.Reference21Ideal.Gen.facts
instance : Cert.Kernel21Ideal.Facts := Cert.Kernel21Ideal.Gen.facts

theorem algebraic : Cert.algebraic_Kernel21Ideal_Reference21Ideal := by
  intro m g m' g' _ hagree
  refine ⟨fun c => mixed (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2))
    (m ((c.tc : Thread Cert.Kernel21Ideal.nD Cert.Kernel21Ideal.τ).loc Cert.Kernel21Ideal.main_arg3))
    (m ((c.tc : Thread Cert.Kernel21Ideal.nD Cert.Kernel21Ideal.τ).loc Cert.Kernel21Ideal.main_arg4))
    (m ((c.tc : Thread Cert.Kernel21Ideal.nD Cert.Kernel21Ideal.τ).loc Cert.Kernel21Ideal.main_arg5)), Cert.Kernel21Ideal.Mixture.run m g, ?_⟩
  refine (θ_run Cert.Reference21Ideal.defs _ _).mono (fun r h c => ?_) (Cert.Reference21Ideal.Value.run (F := Ideal) m' g')
  obtain ⟨e0, e1, e2, e3, e4, e5⟩ := hagree c
  refine ⟨(h c).1.trans ((Cert.Reference21Ideal.Read.val_main_v26_eq _ _).trans ?_), (h c).2⟩
  rw [e0, e1, e2, e3, e4, e5]; rfl

end Cert.Mixture
end
-- ==== Proof.lean ====
module

public import proofs.«01_k».proof.Defs
public import proofs.«01_k».proof.Proof.Run
public import proofs.«01_k».proof.Proof.Algebraic
public import proofs.«01_k».proof.Proof.Stored
public import proofs.«01_k».proof.Proof.NormClaim
public import proofs.«01_k».proof.Proof.UpWeightClaim
public import proofs.«01_k».proof.Proof.DownWeightClaim
public import proofs.«01_k».proof.Proof.DactClaim
public import proofs.«01_k».proof.Proof.GatedClaim
public import proofs.«01_k».proof.Proof.MixClaim
public import proofs.«01_k».proof.Proof.DownClaim
public import proofs.«01_k».proof.Proof.MergeClaim
public import proofs.«01_k».proof.Proof.OutWeightClaim
public import proofs.«01_k».proof.Proof.OutClaim
public import proofs.«01_k».proof.Proof.SumClaim
public import proofs.«01_k».proof.Proof.TurnClaim
public import proofs.«01_k».proof.Proof.BranchAClaim
public import proofs.«01_k».proof.Proof.BranchBClaim
public import proofs.«01_k».proof.Proof.WeightAClaim
public import proofs.«01_k».proof.Proof.WeightBClaim
public import proofs.«01_k».proof.Proof.WeightCClaim
public import proofs.«01_k».proof.Proof.WeightDClaim
public import proofs.«01_k».proof.Proof.WeightEClaim
public import proofs.«01_k».proof.Proof.MixtureClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_finite5
public import proofs.«01_k».proof.Proof.Gen.Pre_finite6
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernelIdeal : Cert.quiescent_KernelIdeal := fun m ρ _ => Cert.KernelIdeal.Body.frame_run (F := Ideal) m ρ

/-- The reference's run leaves its arguments alone; it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

theorem frame_reference17 : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run (F := Ideal) m ρ)

theorem frame_reference18 : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

theorem frame_reference19 : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

theorem frame_reference20 : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

theorem frame_reference21 : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts, Cert.Pre_finite5.Gen.facts, Cert.Pre_finite6.Gen.facts,
  frame_kernel, frame_kernelIdeal, fun m ρ _ => frame_kernelIdeal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ, frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  preserves, Cert.Algebraic.algebraic, trivial, Cert.NormClaim.algebraic, trivial, Cert.UpWeight.algebraic,
  trivial, Cert.DownWeight.algebraic, trivial, Cert.Dact.algebraic, trivial, Cert.Gated.algebraic,
  trivial, Cert.MixClaim.algebraic, trivial, Cert.Down.algebraic, trivial, Cert.Merge.algebraic,
  trivial, Cert.OutWeight.algebraic, trivial, Cert.Out.algebraic, trivial, Cert.Sum.algebraic,
  trivial, Cert.Turn.algebraic, trivial, Cert.BranchA.algebraic, trivial, Cert.BranchB.algebraic, trivial, Cert.WeightA.algebraic,
  trivial, Cert.WeightB.algebraic, trivial, Cert.WeightC.algebraic, trivial, Cert.WeightD.algebraic, trivial, Cert.WeightE.algebraic, trivial, Cert.Mixture.algebraic⟩

end Cert.Proof
end
